-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjRefIdeal (m : (ℓ : Loc Cert.DwProjRefIdeal.nD Cert.DwProjRefIdeal.τ Cert.DwProjRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqRefIdeal (m : (ℓ : Loc Cert.DwUqRefIdeal.nD Cert.DwUqRefIdeal.τ Cert.DwUqRefIdeal.sig) → Buf (Elt Ideal) ℓ) : Prop :=
  True

def Pre_Dqn (m : (ℓ : Loc Cert.Dqn.nD Cert.Dqn.τ Cert.Dqn.sig) → Buf (Elt Bits) ℓ) : Prop :=
  True

def Pre_DqnIdeal (m : (ℓ : Loc Cert.DqnIdeal.nD Cert.DqnIdeal.τ Cert.DqnIdeal.sig) → Buf (Elt Ideal) ℓ) : Prop :=
  True

def Pre_DqnRefIdeal (m : (ℓ : Loc Cert.DqnRefIdeal.nD Cert.DqnRefIdeal.τ Cert.DqnRefIdeal.sig) → Buf (Elt Ideal) ℓ) : Prop :=
  True

def Pre_DwUkv (m : (ℓ : Loc Cert.DwUkv.nD Cert.DwUkv.τ Cert.DwUkv.sig) → Buf (Elt Bits) ℓ) : Prop :=
  True

def Pre_DwUkvIdeal (m : (ℓ : Loc Cert.DwUkvIdeal.nD Cert.DwUkvIdeal.τ Cert.DwUkvIdeal.sig) → Buf (Elt Ideal) ℓ) : Prop :=
  True

def Pre_DwUkvRefIdeal (m : (ℓ : Loc Cert.DwUkvRefIdeal.nD Cert.DwUkvRefIdeal.τ Cert.DwUkvRefIdeal.sig) → Buf (Elt Ideal) ℓ) : Prop :=
  True

def Pre_Dkvn (m : (ℓ : Loc Cert.Dkvn.nD Cert.Dkvn.τ Cert.Dkvn.sig) → Buf (Elt Bits) ℓ) : Prop :=
  True

def Pre_DkvnIdeal (m : (ℓ : Loc Cert.DkvnIdeal.nD Cert.DkvnIdeal.τ Cert.DkvnIdeal.sig) → Buf (Elt Ideal) ℓ) : Prop :=
  True

def Pre_DkvnRefIdeal (m : (ℓ : Loc Cert.DkvnRefIdeal.nD Cert.DkvnRefIdeal.τ Cert.DkvnRefIdeal.sig) → Buf (Elt Ideal) ℓ) : Prop :=
  True

def Pre_DwA (m : (ℓ : Loc Cert.DwA.nD Cert.DwA.τ Cert.DwA.sig) → Buf (Elt Bits) ℓ) : Prop :=
  True

def Pre_DwAIdeal (m : (ℓ : Loc Cert.DwAIdeal.nD Cert.DwAIdeal.τ Cert.DwAIdeal.sig) → Buf (Elt Ideal) ℓ) : Prop :=
  True

def Pre_DwARefIdeal (m : (ℓ : Loc Cert.DwARefIdeal.nD Cert.DwARefIdeal.τ Cert.DwARefIdeal.sig) → Buf (Elt Ideal) ℓ) : Prop :=
  True

def Pre_DwG (m : (ℓ : Loc Cert.DwG.nD Cert.DwG.τ Cert.DwG.sig) → Buf (Elt Bits) ℓ) : Prop :=
  True

def Pre_DwGIdeal (m : (ℓ : Loc Cert.DwGIdeal.nD Cert.DwGIdeal.τ Cert.DwGIdeal.sig) → Buf (Elt Ideal) ℓ) : Prop :=
  True

def Pre_DwGRefIdeal (m : (ℓ : Loc Cert.DwGRefIdeal.nD Cert.DwGRefIdeal.τ Cert.DwGRefIdeal.sig) → Buf (Elt Ideal) ℓ) : Prop :=
  True

def Pre_Dh1A (m : (ℓ : Loc Cert.Dh1A.nD Cert.Dh1A.τ Cert.Dh1A.sig) → Buf (Elt Bits) ℓ) : Prop :=
  True

def Pre_Dh1AIdeal (m : (ℓ : Loc Cert.Dh1AIdeal.nD Cert.Dh1AIdeal.τ Cert.Dh1AIdeal.sig) → Buf (Elt Ideal) ℓ) : Prop :=
  True

def Pre_Dh1ARefIdeal (m : (ℓ : Loc Cert.Dh1ARefIdeal.nD Cert.Dh1ARefIdeal.τ Cert.Dh1ARefIdeal.sig) → Buf (Elt Ideal) ℓ) : Prop :=
  True

def Pre_Dh1G (m : (ℓ : Loc Cert.Dh1G.nD Cert.Dh1G.τ Cert.Dh1G.sig) → Buf (Elt Bits) ℓ) : Prop :=
  True

def Pre_Dh1GIdeal (m : (ℓ : Loc Cert.Dh1GIdeal.nD Cert.Dh1GIdeal.τ Cert.Dh1GIdeal.sig) → Buf (Elt Ideal) ℓ) : Prop :=
  True

def Pre_Dh1GRefIdeal (m : (ℓ : Loc Cert.Dh1GRefIdeal.nD Cert.Dh1GRefIdeal.τ Cert.Dh1GRefIdeal.sig) → Buf (Elt Ideal) ℓ) : Prop :=
  True

def Pre_Za (m : (ℓ : Loc Cert.Za.nD Cert.Za.τ Cert.Za.sig) → Buf (Elt Bits) ℓ) : Prop :=
  True

def Pre_ZaIdeal (m : (ℓ : Loc Cert.ZaIdeal.nD Cert.ZaIdeal.τ Cert.ZaIdeal.sig) → Buf (Elt Ideal) ℓ) : Prop :=
  True

def Pre_ZaRefIdeal (m : (ℓ : Loc Cert.ZaRefIdeal.nD Cert.ZaRefIdeal.τ Cert.ZaRefIdeal.sig) → Buf (Elt Ideal) ℓ) : Prop :=
  True

def Pre_Zg (m : (ℓ : Loc Cert.Zg.nD Cert.Zg.τ Cert.Zg.sig) → Buf (Elt Bits) ℓ) : Prop :=
  True

def Pre_ZgIdeal (m : (ℓ : Loc Cert.ZgIdeal.nD Cert.ZgIdeal.τ Cert.ZgIdeal.sig) → Buf (Elt Ideal) ℓ) : Prop :=
  True

def Pre_ZgRefIdeal (m : (ℓ : Loc Cert.ZgRefIdeal.nD Cert.ZgRefIdeal.τ Cert.ZgRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_finite_inputs [hPre_finite_inputs : Cert.Pre_finite_inputs.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_finite_inputs.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))) = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_finite_inputs [hPre_finite_inputs : Cert.Pre_finite_inputs.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_finite_inputs.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjRefIdeal [hDwProjRefIdeal : Cert.DwProjRefIdeal.Facts] : Prop :=
  ∀ (m : (ℓ : Loc Cert.DwProjRefIdeal.nD Cert.DwProjRefIdeal.τ Cert.DwProjRefIdeal.sig) → Buf (Elt Ideal) ℓ) (g : Dev Cert.DwProjRefIdeal.nD → PrngReg), Pre_DwProjRefIdeal m →
    θ_run (Cert.DwProjRefIdeal.defs (F := Ideal)) (onTc (τ := Cert.DwProjRefIdeal.τ) (Cert.DwProjRefIdeal.main (F := Ideal))) ⟨m, fun _ => 0, g⟩ (fun r => (∀ c : Dev Cert.DwProjRefIdeal.nD,
      r.2.mem ((c.tc : Thread Cert.DwProjRefIdeal.nD Cert.DwProjRefIdeal.τ).loc Cert.DwProjRefIdeal.main_arg0) = m ((c.tc : Thread Cert.DwProjRefIdeal.nD Cert.DwProjRefIdeal.τ).loc Cert.DwProjRefIdeal.main_arg0)
      ∧ r.2.mem ((c.tc : Thread Cert.DwProjRefIdeal.nD Cert.DwProjRefIdeal.τ).loc Cert.DwProjRefIdeal.main_arg1) = m ((c.tc : Thread Cert.DwProjRefIdeal.nD Cert.DwProjRefIdeal.τ).loc Cert.DwProjRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ r.2.sem = fun _ => 0)

def quiescent_DwUqRefIdeal [hDwUqRefIdeal : Cert.DwUqRefIdeal.Facts] : Prop :=
  ∀ (m : (ℓ : Loc Cert.DwUqRefIdeal.nD Cert.DwUqRefIdeal.τ Cert.DwUqRefIdeal.sig) → Buf (Elt Ideal) ℓ) (g : Dev Cert.DwUqRefIdeal.nD → PrngReg), Pre_DwUqRefIdeal m →
    θ_run (Cert.DwUqRefIdeal.defs (F := Ideal)) (onTc (τ := Cert.DwUqRefIdeal.τ) (Cert.DwUqRefIdeal.main (F := Ideal))) ⟨m, fun _ => 0, g⟩ (fun r => (∀ c : Dev Cert.DwUqRefIdeal.nD,
      r.2.mem ((c.tc : Thread Cert.DwUqRefIdeal.nD Cert.DwUqRefIdeal.τ).loc Cert.DwUqRefIdeal.main_arg0) = m ((c.tc : Thread Cert.DwUqRefIdeal.nD Cert.DwUqRefIdeal.τ).loc Cert.DwUqRefIdeal.main_arg0)
      ∧ r.2.mem ((c.tc : Thread Cert.DwUqRefIdeal.nD Cert.DwUqRefIdeal.τ).loc Cert.DwUqRefIdeal.main_arg1) = m ((c.tc : Thread Cert.DwUqRefIdeal.nD Cert.DwUqRefIdeal.τ).loc Cert.DwUqRefIdeal.main_arg1))
      ∧ r.2.sem = fun _ => 0)

def quiescent_Dqn [hDqn : Cert.Dqn.Facts] : Prop :=
  ∀ (m : (ℓ : Loc Cert.Dqn.nD Cert.Dqn.τ Cert.Dqn.sig) → Buf (Elt Bits) ℓ) (g : Dev Cert.Dqn.nD → PrngReg), Pre_Dqn m →
    θ_run (Cert.Dqn.defs (F := Bits)) (onTc (τ := Cert.Dqn.τ) (Cert.Dqn.main (F := Bits))) ⟨m, fun _ => 0, g⟩ (fun r => (∀ c : Dev Cert.Dqn.nD,
      r.2.mem ((c.tc : Thread Cert.Dqn.nD Cert.Dqn.τ).loc Cert.Dqn.main_arg0) = m ((c.tc : Thread Cert.Dqn.nD Cert.Dqn.τ).loc Cert.Dqn.main_arg0)
      ∧ r.2.mem ((c.tc : Thread Cert.Dqn.nD Cert.Dqn.τ).loc Cert.Dqn.main_arg1) = m ((c.tc : Thread Cert.Dqn.nD Cert.Dqn.τ).loc Cert.Dqn.main_arg1))
      ∧ r.2.sem = fun _ => 0)

def quiescent_DqnIdeal [hDqnIdeal : Cert.DqnIdeal.Facts] : Prop :=
  ∀ (m : (ℓ : Loc Cert.DqnIdeal.nD Cert.DqnIdeal.τ Cert.DqnIdeal.sig) → Buf (Elt Ideal) ℓ) (g : Dev Cert.DqnIdeal.nD → PrngReg), Pre_DqnIdeal m →
    θ_run (Cert.DqnIdeal.defs (F := Ideal)) (onTc (τ := Cert.DqnIdeal.τ) (Cert.DqnIdeal.main (F := Ideal))) ⟨m, fun _ => 0, g⟩ (fun r => (∀ c : Dev Cert.DqnIdeal.nD,
      r.2.mem ((c.tc : Thread Cert.DqnIdeal.nD Cert.DqnIdeal.τ).loc Cert.DqnIdeal.main_arg0) = m ((c.tc : Thread Cert.DqnIdeal.nD Cert.DqnIdeal.τ).loc Cert.DqnIdeal.main_arg0)
      ∧ r.2.mem ((c.tc : Thread Cert.DqnIdeal.nD Cert.DqnIdeal.τ).loc Cert.DqnIdeal.main_arg1) = m ((c.tc : Thread Cert.DqnIdeal.nD Cert.DqnIdeal.τ).loc Cert.DqnIdeal.main_arg1))
      ∧ r.2.sem = fun _ => 0)

def quiescent_DqnRefIdeal [hDqnRefIdeal : Cert.DqnRefIdeal.Facts] : Prop :=
  ∀ (m : (ℓ : Loc Cert.DqnRefIdeal.nD Cert.DqnRefIdeal.τ Cert.DqnRefIdeal.sig) → Buf (Elt Ideal) ℓ) (g : Dev Cert.DqnRefIdeal.nD → PrngReg), Pre_DqnRefIdeal m →
    θ_run (Cert.DqnRefIdeal.defs (F := Ideal)) (onTc (τ := Cert.DqnRefIdeal.τ) (Cert.DqnRefIdeal.main (F := Ideal))) ⟨m, fun _ => 0, g⟩ (fun r => (∀ c : Dev Cert.DqnRefIdeal.nD,
      r.2.mem ((c.tc : Thread Cert.DqnRefIdeal.nD Cert.DqnRefIdeal.τ).loc Cert.DqnRefIdeal.main_arg0) = m ((c.tc : Thread Cert.DqnRefIdeal.nD Cert.DqnRefIdeal.τ).loc Cert.DqnRefIdeal.main_arg0)
      ∧ r.2.mem ((c.tc : Thread Cert.DqnRefIdeal.nD Cert.DqnRefIdeal.τ).loc Cert.DqnRefIdeal.main_arg1) = m ((c.tc : Thread Cert.DqnRefIdeal.nD Cert.DqnRefIdeal.τ).loc Cert.DqnRefIdeal.main_arg1))
      ∧ r.2.sem = fun _ => 0)

def quiescent_DwUkv [hDwUkv : Cert.DwUkv.Facts] : Prop :=
  ∀ (m : (ℓ : Loc Cert.DwUkv.nD Cert.DwUkv.τ Cert.DwUkv.sig) → Buf (Elt Bits) ℓ) (g : Dev Cert.DwUkv.nD → PrngReg), Pre_DwUkv m →
    θ_run (Cert.DwUkv.defs (F := Bits)) (onTc (τ := Cert.DwUkv.τ) (Cert.DwUkv.main (F := Bits))) ⟨m, fun _ => 0, g⟩ (fun r => (∀ c : Dev Cert.DwUkv.nD,
      r.2.mem ((c.tc : Thread Cert.DwUkv.nD Cert.DwUkv.τ).loc Cert.DwUkv.main_arg0) = m ((c.tc : Thread Cert.DwUkv.nD Cert.DwUkv.τ).loc Cert.DwUkv.main_arg0)
      ∧ r.2.mem ((c.tc : Thread Cert.DwUkv.nD Cert.DwUkv.τ).loc Cert.DwUkv.main_arg1) = m ((c.tc : Thread Cert.DwUkv.nD Cert.DwUkv.τ).loc Cert.DwUkv.main_arg1))
      ∧ r.2.sem = fun _ => 0)

def quiescent_DwUkvIdeal [hDwUkvIdeal : Cert.DwUkvIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg), Pre_DwUkvIdeal m →
    θ_run (Cert.DwUkvIdeal.defs (F := Ideal)) (onTc (τ := Cert.DwUkvIdeal.τ) (Cert.DwUkvIdeal.main (F := Ideal))) ⟨m, fun _ => 0, g⟩ (fun r => (∀ c : Dev Cert.DwUkvIdeal.nD,
      r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
      ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ r.2.sem = fun _ => 0)

def quiescent_DwUkvRefIdeal [hDwUkvRefIdeal : Cert.DwUkvRefIdeal.Facts] : Prop :=
  ∀ (m : (ℓ : Loc Cert.DwUkvRefIdeal.nD Cert.DwUkvRefIdeal.τ Cert.DwUkvRefIdeal.sig) → Buf (Elt Ideal) ℓ) (g : Dev Cert.DwUkvRefIdeal.nD → PrngReg), Pre_DwUkvRefIdeal m →
    θ_run (Cert.DwUkvRefIdeal.defs (F := Ideal)) (onTc (τ := Cert.DwUkvRefIdeal.τ) (Cert.DwUkvRefIdeal.main (F := Ideal))) ⟨m, fun _ => 0, g⟩ (fun r => (∀ c : Dev Cert.DwUkvRefIdeal.nD,
      r.2.mem ((c.tc : Thread Cert.DwUkvRefIdeal.nD Cert.DwUkvRefIdeal.τ).loc Cert.DwUkvRefIdeal.main_arg0) = m ((c.tc : Thread Cert.DwUkvRefIdeal.nD Cert.DwUkvRefIdeal.τ).loc Cert.DwUkvRefIdeal.main_arg0)
      ∧ r.2.mem ((c.tc : Thread Cert.DwUkvRefIdeal.nD Cert.DwUkvRefIdeal.τ).loc Cert.DwUkvRefIdeal.main_arg1) = m ((c.tc : Thread Cert.DwUkvRefIdeal.nD Cert.DwUkvRefIdeal.τ).loc Cert.DwUkvRefIdeal.main_arg1))
      ∧ r.2.sem = fun _ => 0)

def quiescent_Dkvn [hDkvn : Cert.Dkvn.Facts] : Prop :=
  ∀ (m : (ℓ : Loc Cert.Dkvn.nD Cert.Dkvn.τ Cert.Dkvn.sig) → Buf (Elt Bits) ℓ) (g : Dev Cert.Dkvn.nD → PrngReg), Pre_Dkvn m →
    θ_run (Cert.Dkvn.defs (F := Bits)) (onTc (τ := Cert.Dkvn.τ) (Cert.Dkvn.main (F := Bits))) ⟨m, fun _ => 0, g⟩ (fun r => (∀ c : Dev Cert.Dkvn.nD,
      r.2.mem ((c.tc : Thread Cert.Dkvn.nD Cert.Dkvn.τ).loc Cert.Dkvn.main_arg0) = m ((c.tc : Thread Cert.Dkvn.nD Cert.Dkvn.τ).loc Cert.Dkvn.main_arg0)
      ∧ r.2.mem ((c.tc : Thread Cert.Dkvn.nD Cert.Dkvn.τ).loc Cert.Dkvn.main_arg1) = m ((c.tc : Thread Cert.Dkvn.nD Cert.Dkvn.τ).loc Cert.Dkvn.main_arg1))
      ∧ r.2.sem = fun _ => 0)

def quiescent_DkvnIdeal [hDkvnIdeal : Cert.DkvnIdeal.Facts] : Prop :=
  ∀ (m : (ℓ : Loc Cert.DkvnIdeal.nD Cert.DkvnIdeal.τ Cert.DkvnIdeal.sig) → Buf (Elt Ideal) ℓ) (g : Dev Cert.DkvnIdeal.nD → PrngReg), Pre_DkvnIdeal m →
    θ_run (Cert.DkvnIdeal.defs (F := Ideal)) (onTc (τ := Cert.DkvnIdeal.τ) (Cert.DkvnIdeal.main (F := Ideal))) ⟨m, fun _ => 0, g⟩ (fun r => (∀ c : Dev Cert.DkvnIdeal.nD,
      r.2.mem ((c.tc : Thread Cert.DkvnIdeal.nD Cert.DkvnIdeal.τ).loc Cert.DkvnIdeal.main_arg0) = m ((c.tc : Thread Cert.DkvnIdeal.nD Cert.DkvnIdeal.τ).loc Cert.DkvnIdeal.main_arg0)
      ∧ r.2.mem ((c.tc : Thread Cert.DkvnIdeal.nD Cert.DkvnIdeal.τ).loc Cert.DkvnIdeal.main_arg1) = m ((c.tc : Thread Cert.DkvnIdeal.nD Cert.DkvnIdeal.τ).loc Cert.DkvnIdeal.main_arg1))
      ∧ r.2.sem = fun _ => 0)

def quiescent_DkvnRefIdeal [hDkvnRefIdeal : Cert.DkvnRefIdeal.Facts] : Prop :=
  ∀ (m : (ℓ : Loc Cert.DkvnRefIdeal.nD Cert.DkvnRefIdeal.τ Cert.DkvnRefIdeal.sig) → Buf (Elt Ideal) ℓ) (g : Dev Cert.DkvnRefIdeal.nD → PrngReg), Pre_DkvnRefIdeal m →
    θ_run (Cert.DkvnRefIdeal.defs (F := Ideal)) (onTc (τ := Cert.DkvnRefIdeal.τ) (Cert.DkvnRefIdeal.main (F := Ideal))) ⟨m, fun _ => 0, g⟩ (fun r => (∀ c : Dev Cert.DkvnRefIdeal.nD,
      r.2.mem ((c.tc : Thread Cert.DkvnRefIdeal.nD Cert.DkvnRefIdeal.τ).loc Cert.DkvnRefIdeal.main_arg0) = m ((c.tc : Thread Cert.DkvnRefIdeal.nD Cert.DkvnRefIdeal.τ).loc Cert.DkvnRefIdeal.main_arg0)
      ∧ r.2.mem ((c.tc : Thread Cert.DkvnRefIdeal.nD Cert.DkvnRefIdeal.τ).loc Cert.DkvnRefIdeal.main_arg1) = m ((c.tc : Thread Cert.DkvnRefIdeal.nD Cert.DkvnRefIdeal.τ).loc Cert.DkvnRefIdeal.main_arg1))
      ∧ r.2.sem = fun _ => 0)

def quiescent_DwA [hDwA : Cert.DwA.Facts] : Prop :=
  ∀ (m : (ℓ : Loc Cert.DwA.nD Cert.DwA.τ Cert.DwA.sig) → Buf (Elt Bits) ℓ) (g : Dev Cert.DwA.nD → PrngReg), Pre_DwA m →
    θ_run (Cert.DwA.defs (F := Bits)) (onTc (τ := Cert.DwA.τ) (Cert.DwA.main (F := Bits))) ⟨m, fun _ => 0, g⟩ (fun r => (∀ c : Dev Cert.DwA.nD,
      r.2.mem ((c.tc : Thread Cert.DwA.nD Cert.DwA.τ).loc Cert.DwA.main_arg0) = m ((c.tc : Thread Cert.DwA.nD Cert.DwA.τ).loc Cert.DwA.main_arg0)
      ∧ r.2.mem ((c.tc : Thread Cert.DwA.nD Cert.DwA.τ).loc Cert.DwA.main_arg1) = m ((c.tc : Thread Cert.DwA.nD Cert.DwA.τ).loc Cert.DwA.main_arg1))
      ∧ r.2.sem = fun _ => 0)

def quiescent_DwAIdeal [hDwAIdeal : Cert.DwAIdeal.Facts] : Prop :=
  ∀ (m : (ℓ : Loc Cert.DwAIdeal.nD Cert.DwAIdeal.τ Cert.DwAIdeal.sig) → Buf (Elt Ideal) ℓ) (g : Dev Cert.DwAIdeal.nD → PrngReg), Pre_DwAIdeal m →
    θ_run (Cert.DwAIdeal.defs (F := Ideal)) (onTc (τ := Cert.DwAIdeal.τ) (Cert.DwAIdeal.main (F := Ideal))) ⟨m, fun _ => 0, g⟩ (fun r => (∀ c : Dev Cert.DwAIdeal.nD,
      r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
      ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ r.2.sem = fun _ => 0)

def quiescent_DwARefIdeal [hDwARefIdeal : Cert.DwARefIdeal.Facts] : Prop :=
  ∀ (m : (ℓ : Loc Cert.DwARefIdeal.nD Cert.DwARefIdeal.τ Cert.DwARefIdeal.sig) → Buf (Elt Ideal) ℓ) (g : Dev Cert.DwARefIdeal.nD → PrngReg), Pre_DwARefIdeal m →
    θ_run (Cert.DwARefIdeal.defs (F := Ideal)) (onTc (τ := Cert.DwARefIdeal.τ) (Cert.DwARefIdeal.main (F := Ideal))) ⟨m, fun _ => 0, g⟩ (fun r => (∀ c : Dev Cert.DwARefIdeal.nD,
      r.2.mem ((c.tc : Thread Cert.DwARefIdeal.nD Cert.DwARefIdeal.τ).loc Cert.DwARefIdeal.main_arg0) = m ((c.tc : Thread Cert.DwARefIdeal.nD Cert.DwARefIdeal.τ).loc Cert.DwARefIdeal.main_arg0)
      ∧ r.2.mem ((c.tc : Thread Cert.DwARefIdeal.nD Cert.DwARefIdeal.τ).loc Cert.DwARefIdeal.main_arg1) = m ((c.tc : Thread Cert.DwARefIdeal.nD Cert.DwARefIdeal.τ).loc Cert.DwARefIdeal.main_arg1))
      ∧ r.2.sem = fun _ => 0)

def quiescent_DwG [hDwG : Cert.DwG.Facts] : Prop :=
  ∀ (m : (ℓ : Loc Cert.DwG.nD Cert.DwG.τ Cert.DwG.sig) → Buf (Elt Bits) ℓ) (g : Dev Cert.DwG.nD → PrngReg), Pre_DwG m →
    θ_run (Cert.DwG.defs (F := Bits)) (onTc (τ := Cert.DwG.τ) (Cert.DwG.main (F := Bits))) ⟨m, fun _ => 0, g⟩ (fun r => (∀ c : Dev Cert.DwG.nD,
      r.2.mem ((c.tc : Thread Cert.DwG.nD Cert.DwG.τ).loc Cert.DwG.main_arg0) = m ((c.tc : Thread Cert.DwG.nD Cert.DwG.τ).loc Cert.DwG.main_arg0)
      ∧ r.2.mem ((c.tc : Thread Cert.DwG.nD Cert.DwG.τ).loc Cert.DwG.main_arg1) = m ((c.tc : Thread Cert.DwG.nD Cert.DwG.τ).loc Cert.DwG.main_arg1))
      ∧ r.2.sem = fun _ => 0)

def quiescent_DwGIdeal [hDwGIdeal : Cert.DwGIdeal.Facts] : Prop :=
  ∀ (m : (ℓ : Loc Cert.DwGIdeal.nD Cert.DwGIdeal.τ Cert.DwGIdeal.sig) → Buf (Elt Ideal) ℓ) (g : Dev Cert.DwGIdeal.nD → PrngReg), Pre_DwGIdeal m →
    θ_run (Cert.DwGIdeal.defs (F := Ideal)) (onTc (τ := Cert.DwGIdeal.τ) (Cert.DwGIdeal.main (F := Ideal))) ⟨m, fun _ => 0, g⟩ (fun r => (∀ c : Dev Cert.DwGIdeal.nD,
      r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
      ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ r.2.sem = fun _ => 0)

def quiescent_DwGRefIdeal [hDwGRefIdeal : Cert.DwGRefIdeal.Facts] : Prop :=
  ∀ (m : (ℓ : Loc Cert.DwGRefIdeal.nD Cert.DwGRefIdeal.τ Cert.DwGRefIdeal.sig) → Buf (Elt Ideal) ℓ) (g : Dev Cert.DwGRefIdeal.nD → PrngReg), Pre_DwGRefIdeal m →
    θ_run (Cert.DwGRefIdeal.defs (F := Ideal)) (onTc (τ := Cert.DwGRefIdeal.τ) (Cert.DwGRefIdeal.main (F := Ideal))) ⟨m, fun _ => 0, g⟩ (fun r => (∀ c : Dev Cert.DwGRefIdeal.nD,
      r.2.mem ((c.tc : Thread Cert.DwGRefIdeal.nD Cert.DwGRefIdeal.τ).loc Cert.DwGRefIdeal.main_arg0) = m ((c.tc : Thread Cert.DwGRefIdeal.nD Cert.DwGRefIdeal.τ).loc Cert.DwGRefIdeal.main_arg0)
      ∧ r.2.mem ((c.tc : Thread Cert.DwGRefIdeal.nD Cert.DwGRefIdeal.τ).loc Cert.DwGRefIdeal.main_arg1) = m ((c.tc : Thread Cert.DwGRefIdeal.nD Cert.DwGRefIdeal.τ).loc Cert.DwGRefIdeal.main_arg1))
      ∧ r.2.sem = fun _ => 0)

def quiescent_Dh1A [hDh1A : Cert.Dh1A.Facts] : Prop :=
  ∀ (m : (ℓ : Loc Cert.Dh1A.nD Cert.Dh1A.τ Cert.Dh1A.sig) → Buf (Elt Bits) ℓ) (g : Dev Cert.Dh1A.nD → PrngReg), Pre_Dh1A m →
    θ_run (Cert.Dh1A.defs (F := Bits)) (onTc (τ := Cert.Dh1A.τ) (Cert.Dh1A.main (F := Bits))) ⟨m, fun _ => 0, g⟩ (fun r => (∀ c : Dev Cert.Dh1A.nD,
      r.2.mem ((c.tc : Thread Cert.Dh1A.nD Cert.Dh1A.τ).loc Cert.Dh1A.main_arg0) = m ((c.tc : Thread Cert.Dh1A.nD Cert.Dh1A.τ).loc Cert.Dh1A.main_arg0)
      ∧ r.2.mem ((c.tc : Thread Cert.Dh1A.nD Cert.Dh1A.τ).loc Cert.Dh1A.main_arg1) = m ((c.tc : Thread Cert.Dh1A.nD Cert.Dh1A.τ).loc Cert.Dh1A.main_arg1))
      ∧ r.2.sem = fun _ => 0)

def quiescent_Dh1AIdeal [hDh1AIdeal : Cert.Dh1AIdeal.Facts] : Prop :=
  ∀ (m : (ℓ : Loc Cert.Dh1AIdeal.nD Cert.Dh1AIdeal.τ Cert.Dh1AIdeal.sig) → Buf (Elt Ideal) ℓ) (g : Dev Cert.Dh1AIdeal.nD → PrngReg), Pre_Dh1AIdeal m →
    θ_run (Cert.Dh1AIdeal.defs (F := Ideal)) (onTc (τ := Cert.Dh1AIdeal.τ) (Cert.Dh1AIdeal.main (F := Ideal))) ⟨m, fun _ => 0, g⟩ (fun r => (∀ c : Dev Cert.Dh1AIdeal.nD,
      r.2.mem ((c.tc : Thread Cert.Dh1AIdeal.nD Cert.Dh1AIdeal.τ).loc Cert.Dh1AIdeal.main_arg0) = m ((c.tc : Thread Cert.Dh1AIdeal.nD Cert.Dh1AIdeal.τ).loc Cert.Dh1AIdeal.main_arg0)
      ∧ r.2.mem ((c.tc : Thread Cert.Dh1AIdeal.nD Cert.Dh1AIdeal.τ).loc Cert.Dh1AIdeal.main_arg1) = m ((c.tc : Thread Cert.Dh1AIdeal.nD Cert.Dh1AIdeal.τ).loc Cert.Dh1AIdeal.main_arg1))
      ∧ r.2.sem = fun _ => 0)

def quiescent_Dh1ARefIdeal [hDh1ARefIdeal : Cert.Dh1ARefIdeal.Facts] : Prop :=
  ∀ (m : (ℓ : Loc Cert.Dh1ARefIdeal.nD Cert.Dh1ARefIdeal.τ Cert.Dh1ARefIdeal.sig) → Buf (Elt Ideal) ℓ) (g : Dev Cert.Dh1ARefIdeal.nD → PrngReg), Pre_Dh1ARefIdeal m →
    θ_run (Cert.Dh1ARefIdeal.defs (F := Ideal)) (onTc (τ := Cert.Dh1ARefIdeal.τ) (Cert.Dh1ARefIdeal.main (F := Ideal))) ⟨m, fun _ => 0, g⟩ (fun r => (∀ c : Dev Cert.Dh1ARefIdeal.nD,
      r.2.mem ((c.tc : Thread Cert.Dh1ARefIdeal.nD Cert.Dh1ARefIdeal.τ).loc Cert.Dh1ARefIdeal.main_arg0) = m ((c.tc : Thread Cert.Dh1ARefIdeal.nD Cert.Dh1ARefIdeal.τ).loc Cert.Dh1ARefIdeal.main_arg0)
      ∧ r.2.mem ((c.tc : Thread Cert.Dh1ARefIdeal.nD Cert.Dh1ARefIdeal.τ).loc Cert.Dh1ARefIdeal.main_arg1) = m ((c.tc : Thread Cert.Dh1ARefIdeal.nD Cert.Dh1ARefIdeal.τ).loc Cert.Dh1ARefIdeal.main_arg1))
      ∧ r.2.sem = fun _ => 0)

def quiescent_Dh1G [hDh1G : Cert.Dh1G.Facts] : Prop :=
  ∀ (m : (ℓ : Loc Cert.Dh1G.nD Cert.Dh1G.τ Cert.Dh1G.sig) → Buf (Elt Bits) ℓ) (g : Dev Cert.Dh1G.nD → PrngReg), Pre_Dh1G m →
    θ_run (Cert.Dh1G.defs (F := Bits)) (onTc (τ := Cert.Dh1G.τ) (Cert.Dh1G.main (F := Bits))) ⟨m, fun _ => 0, g⟩ (fun r => (∀ c : Dev Cert.Dh1G.nD,
      r.2.mem ((c.tc : Thread Cert.Dh1G.nD Cert.Dh1G.τ).loc Cert.Dh1G.main_arg0) = m ((c.tc : Thread Cert.Dh1G.nD Cert.Dh1G.τ).loc Cert.Dh1G.main_arg0)
      ∧ r.2.mem ((c.tc : Thread Cert.Dh1G.nD Cert.Dh1G.τ).loc Cert.Dh1G.main_arg1) = m ((c.tc : Thread Cert.Dh1G.nD Cert.Dh1G.τ).loc Cert.Dh1G.main_arg1)
      ∧ r.2.mem ((c.tc : Thread Cert.Dh1G.nD Cert.Dh1G.τ).loc Cert.Dh1G.main_arg2) = m ((c.tc : Thread Cert.Dh1G.nD Cert.Dh1G.τ).loc Cert.Dh1G.main_arg2))
      ∧ r.2.sem = fun _ => 0)

def quiescent_Dh1GIdeal [hDh1GIdeal : Cert.Dh1GIdeal.Facts] : Prop :=
  ∀ (m : (ℓ : Loc Cert.Dh1GIdeal.nD Cert.Dh1GIdeal.τ Cert.Dh1GIdeal.sig) → Buf (Elt Ideal) ℓ) (g : Dev Cert.Dh1GIdeal.nD → PrngReg), Pre_Dh1GIdeal m →
    θ_run (Cert.Dh1GIdeal.defs (F := Ideal)) (onTc (τ := Cert.Dh1GIdeal.τ) (Cert.Dh1GIdeal.main (F := Ideal))) ⟨m, fun _ => 0, g⟩ (fun r => (∀ c : Dev Cert.Dh1GIdeal.nD,
      r.2.mem ((c.tc : Thread Cert.Dh1GIdeal.nD Cert.Dh1GIdeal.τ).loc Cert.Dh1GIdeal.main_arg0) = m ((c.tc : Thread Cert.Dh1GIdeal.nD Cert.Dh1GIdeal.τ).loc Cert.Dh1GIdeal.main_arg0)
      ∧ r.2.mem ((c.tc : Thread Cert.Dh1GIdeal.nD Cert.Dh1GIdeal.τ).loc Cert.Dh1GIdeal.main_arg1) = m ((c.tc : Thread Cert.Dh1GIdeal.nD Cert.Dh1GIdeal.τ).loc Cert.Dh1GIdeal.main_arg1)
      ∧ r.2.mem ((c.tc : Thread Cert.Dh1GIdeal.nD Cert.Dh1GIdeal.τ).loc Cert.Dh1GIdeal.main_arg2) = m ((c.tc : Thread Cert.Dh1GIdeal.nD Cert.Dh1GIdeal.τ).loc Cert.Dh1GIdeal.main_arg2))
      ∧ r.2.sem = fun _ => 0)

def quiescent_Dh1GRefIdeal [hDh1GRefIdeal : Cert.Dh1GRefIdeal.Facts] : Prop :=
  ∀ (m : (ℓ : Loc Cert.Dh1GRefIdeal.nD Cert.Dh1GRefIdeal.τ Cert.Dh1GRefIdeal.sig) → Buf (Elt Ideal) ℓ) (g : Dev Cert.Dh1GRefIdeal.nD → PrngReg), Pre_Dh1GRefIdeal m →
    θ_run (Cert.Dh1GRefIdeal.defs (F := Ideal)) (onTc (τ := Cert.Dh1GRefIdeal.τ) (Cert.Dh1GRefIdeal.main (F := Ideal))) ⟨m, fun _ => 0, g⟩ (fun r => (∀ c : Dev Cert.Dh1GRefIdeal.nD,
      r.2.mem ((c.tc : Thread Cert.Dh1GRefIdeal.nD Cert.Dh1GRefIdeal.τ).loc Cert.Dh1GRefIdeal.main_arg0) = m ((c.tc : Thread Cert.Dh1GRefIdeal.nD Cert.Dh1GRefIdeal.τ).loc Cert.Dh1GRefIdeal.main_arg0)
      ∧ r.2.mem ((c.tc : Thread Cert.Dh1GRefIdeal.nD Cert.Dh1GRefIdeal.τ).loc Cert.Dh1GRefIdeal.main_arg1) = m ((c.tc : Thread Cert.Dh1GRefIdeal.nD Cert.Dh1GRefIdeal.τ).loc Cert.Dh1GRefIdeal.main_arg1)
      ∧ r.2.mem ((c.tc : Thread Cert.Dh1GRefIdeal.nD Cert.Dh1GRefIdeal.τ).loc Cert.Dh1GRefIdeal.main_arg2) = m ((c.tc : Thread Cert.Dh1GRefIdeal.nD Cert.Dh1GRefIdeal.τ).loc Cert.Dh1GRefIdeal.main_arg2))
      ∧ r.2.sem = fun _ => 0)

def quiescent_Za [hZa : Cert.Za.Facts] : Prop :=
  ∀ (m : (ℓ : Loc Cert.Za.nD Cert.Za.τ Cert.Za.sig) → Buf (Elt Bits) ℓ) (g : Dev Cert.Za.nD → PrngReg), Pre_Za m →
    θ_run (Cert.Za.defs (F := Bits)) (onTc (τ := Cert.Za.τ) (Cert.Za.main (F := Bits))) ⟨m, fun _ => 0, g⟩ (fun r => (∀ c : Dev Cert.Za.nD,
      r.2.mem ((c.tc : Thread Cert.Za.nD Cert.Za.τ).loc Cert.Za.main_arg0) = m ((c.tc : Thread Cert.Za.nD Cert.Za.τ).loc Cert.Za.main_arg0)
      ∧ r.2.mem ((c.tc : Thread Cert.Za.nD Cert.Za.τ).loc Cert.Za.main_arg1) = m ((c.tc : Thread Cert.Za.nD Cert.Za.τ).loc Cert.Za.main_arg1))
      ∧ r.2.sem = fun _ => 0)

def quiescent_ZaIdeal [hZaIdeal : Cert.ZaIdeal.Facts] : Prop :=
  ∀ (m : (ℓ : Loc Cert.ZaIdeal.nD Cert.ZaIdeal.τ Cert.ZaIdeal.sig) → Buf (Elt Ideal) ℓ) (g : Dev Cert.ZaIdeal.nD → PrngReg), Pre_ZaIdeal m →
    θ_run (Cert.ZaIdeal.defs (F := Ideal)) (onTc (τ := Cert.ZaIdeal.τ) (Cert.ZaIdeal.main (F := Ideal))) ⟨m, fun _ => 0, g⟩ (fun r => (∀ c : Dev Cert.ZaIdeal.nD,
      r.2.mem ((c.tc : Thread Cert.ZaIdeal.nD Cert.ZaIdeal.τ).loc Cert.ZaIdeal.main_arg0) = m ((c.tc : Thread Cert.ZaIdeal.nD Cert.ZaIdeal.τ).loc Cert.ZaIdeal.main_arg0)
      ∧ r.2.mem ((c.tc : Thread Cert.ZaIdeal.nD Cert.ZaIdeal.τ).loc Cert.ZaIdeal.main_arg1) = m ((c.tc : Thread Cert.ZaIdeal.nD Cert.ZaIdeal.τ).loc Cert.ZaIdeal.main_arg1))
      ∧ r.2.sem = fun _ => 0)

def quiescent_ZaRefIdeal [hZaRefIdeal : Cert.ZaRefIdeal.Facts] : Prop :=
  ∀ (m : (ℓ : Loc Cert.ZaRefIdeal.nD Cert.ZaRefIdeal.τ Cert.ZaRefIdeal.sig) → Buf (Elt Ideal) ℓ) (g : Dev Cert.ZaRefIdeal.nD → PrngReg), Pre_ZaRefIdeal m →
    θ_run (Cert.ZaRefIdeal.defs (F := Ideal)) (onTc (τ := Cert.ZaRefIdeal.τ) (Cert.ZaRefIdeal.main (F := Ideal))) ⟨m, fun _ => 0, g⟩ (fun r => (∀ c : Dev Cert.ZaRefIdeal.nD,
      r.2.mem ((c.tc : Thread Cert.ZaRefIdeal.nD Cert.ZaRefIdeal.τ).loc Cert.ZaRefIdeal.main_arg0) = m ((c.tc : Thread Cert.ZaRefIdeal.nD Cert.ZaRefIdeal.τ).loc Cert.ZaRefIdeal.main_arg0)
      ∧ r.2.mem ((c.tc : Thread Cert.ZaRefIdeal.nD Cert.ZaRefIdeal.τ).loc Cert.ZaRefIdeal.main_arg1) = m ((c.tc : Thread Cert.ZaRefIdeal.nD Cert.ZaRefIdeal.τ).loc Cert.ZaRefIdeal.main_arg1))
      ∧ r.2.sem = fun _ => 0)

def quiescent_Zg [hZg : Cert.Zg.Facts] : Prop :=
  ∀ (m : (ℓ : Loc Cert.Zg.nD Cert.Zg.τ Cert.Zg.sig) → Buf (Elt Bits) ℓ) (g : Dev Cert.Zg.nD → PrngReg), Pre_Zg m →
    θ_run (Cert.Zg.defs (F := Bits)) (onTc (τ := Cert.Zg.τ) (Cert.Zg.main (F := Bits))) ⟨m, fun _ => 0, g⟩ (fun r => (∀ c : Dev Cert.Zg.nD,
      r.2.mem ((c.tc : Thread Cert.Zg.nD Cert.Zg.τ).loc Cert.Zg.main_arg0) = m ((c.tc : Thread Cert.Zg.nD Cert.Zg.τ).loc Cert.Zg.main_arg0)
      ∧ r.2.mem ((c.tc : Thread Cert.Zg.nD Cert.Zg.τ).loc Cert.Zg.main_arg1) = m ((c.tc : Thread Cert.Zg.nD Cert.Zg.τ).loc Cert.Zg.main_arg1))
      ∧ r.2.sem = fun _ => 0)

def quiescent_ZgIdeal [hZgIdeal : Cert.ZgIdeal.Facts] : Prop :=
  ∀ (m : (ℓ : Loc Cert.ZgIdeal.nD Cert.ZgIdeal.τ Cert.ZgIdeal.sig) → Buf (Elt Ideal) ℓ) (g : Dev Cert.ZgIdeal.nD → PrngReg), Pre_ZgIdeal m →
    θ_run (Cert.ZgIdeal.defs (F := Ideal)) (onTc (τ := Cert.ZgIdeal.τ) (Cert.ZgIdeal.main (F := Ideal))) ⟨m, fun _ => 0, g⟩ (fun r => (∀ c : Dev Cert.ZgIdeal.nD,
      r.2.mem ((c.tc : Thread Cert.ZgIdeal.nD Cert.ZgIdeal.τ).loc Cert.ZgIdeal.main_arg0) = m ((c.tc : Thread Cert.ZgIdeal.nD Cert.ZgIdeal.τ).loc Cert.ZgIdeal.main_arg0)
      ∧ r.2.mem ((c.tc : Thread Cert.ZgIdeal.nD Cert.ZgIdeal.τ).loc Cert.ZgIdeal.main_arg1) = m ((c.tc : Thread Cert.ZgIdeal.nD Cert.ZgIdeal.τ).loc Cert.ZgIdeal.main_arg1))
      ∧ r.2.sem = fun _ => 0)

def quiescent_ZgRefIdeal [hZgRefIdeal : Cert.ZgRefIdeal.Facts] : Prop :=
  ∀ (m : (ℓ : Loc Cert.ZgRefIdeal.nD Cert.ZgRefIdeal.τ Cert.ZgRefIdeal.sig) → Buf (Elt Ideal) ℓ) (g : Dev Cert.ZgRefIdeal.nD → PrngReg), Pre_ZgRefIdeal m →
    θ_run (Cert.ZgRefIdeal.defs (F := Ideal)) (onTc (τ := Cert.ZgRefIdeal.τ) (Cert.ZgRefIdeal.main (F := Ideal))) ⟨m, fun _ => 0, g⟩ (fun r => (∀ c : Dev Cert.ZgRefIdeal.nD,
      r.2.mem ((c.tc : Thread Cert.ZgRefIdeal.nD Cert.ZgRefIdeal.τ).loc Cert.ZgRefIdeal.main_arg0) = m ((c.tc : Thread Cert.ZgRefIdeal.nD Cert.ZgRefIdeal.τ).loc Cert.ZgRefIdeal.main_arg0)
      ∧ r.2.mem ((c.tc : Thread Cert.ZgRefIdeal.nD Cert.ZgRefIdeal.τ).loc Cert.ZgRefIdeal.main_arg1) = m ((c.tc : Thread Cert.ZgRefIdeal.nD Cert.ZgRefIdeal.τ).loc Cert.ZgRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3)
      ∧ r.2.mem ((c.tc : Thread Cert.FlashBwd.nD Cert.FlashBwd.τ).loc Cert.FlashBwd.main_arg4) = m ((c.tc : Thread Cert.FlashBwd.nD Cert.FlashBwd.τ).loc Cert.FlashBwd.main_arg4)
      ∧ r.2.mem ((c.tc : Thread Cert.FlashBwd.nD Cert.FlashBwd.τ).loc Cert.FlashBwd.main_arg5) = m ((c.tc : Thread Cert.FlashBwd.nD Cert.FlashBwd.τ).loc Cert.FlashBwd.main_arg5))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
      ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ r.2.sem = fun _ => 0)

def quiescent_FlashBwdIdeal_pre_finite_inputs [hFlashBwdIdeal : Cert.FlashBwdIdeal.Facts] [hPre_finite_inputs : Cert.Pre_finite_inputs.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_finite_inputs m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
      ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4)
      ∧ r.2.mem ((c.tc : Thread Cert.FlashBwdRefIdeal.nD Cert.FlashBwdRefIdeal.τ).loc Cert.FlashBwdRefIdeal.main_arg5) = m ((c.tc : Thread Cert.FlashBwdRefIdeal.nD Cert.FlashBwdRefIdeal.τ).loc Cert.FlashBwdRefIdeal.main_arg5))
      ∧ r.2.sem = fun _ => 0)

def quiescent_FlashBwdRefIdeal_pre_finite_inputs [hFlashBwdRefIdeal : Cert.FlashBwdRefIdeal.Facts] [hPre_finite_inputs : Cert.Pre_finite_inputs.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_finite_inputs m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4)
      ∧ r.2.mem ((c.tc : Thread Cert.FlashBwdRefIdeal.nD Cert.FlashBwdRefIdeal.τ).loc Cert.FlashBwdRefIdeal.main_arg5) = m ((c.tc : Thread Cert.FlashBwdRefIdeal.nD Cert.FlashBwdRefIdeal.τ).loc Cert.FlashBwdRefIdeal.main_arg5))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_v22) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)
      ∧ m' ((c.tc : Thread Cert.DupRefIdeal.nD Cert.DupRefIdeal.τ).loc Cert.DupRefIdeal.main_arg2) = m ((c.tc : Thread Cert.DupIdeal.nD Cert.DupIdeal.τ).loc Cert.DupIdeal.main_arg2)) →
    ∃ (v0 : (c : Dev Cert.DupIdeal.nD) → Buf (Elt Ideal) ((c.tc : Thread Cert.DupIdeal.nD Cert.DupIdeal.τ).loc Cert.DupIdeal.main_v0)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v0) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v15) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1)
          ∧ r.2.mem ((c.tc : Thread Cert.DupRefIdeal.nD Cert.DupRefIdeal.τ).loc Cert.DupRefIdeal.main_arg2) = m' ((c.tc : Thread Cert.DupRefIdeal.nD Cert.DupRefIdeal.τ).loc Cert.DupRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v6) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v4) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_DwProj_DwProjIdeal : Prop :=
  True

def algebraic_DwProjIdeal_DwProjRefIdeal [hDwProjIdeal : Cert.DwProjIdeal.Facts] [hDwProjRefIdeal : Cert.DwProjRefIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjRefIdeal.nD Cert.DwProjRefIdeal.τ Cert.DwProjRefIdeal.sig) → Buf (Elt Ideal) ℓ) (g' : Dev Cert.DwProjRefIdeal.nD → PrngReg), Pre_DwProjIdeal m →
    (∀ c : Dev Cert.DwProjIdeal.nD,
      m' ((c.tc : Thread Cert.DwProjRefIdeal.nD Cert.DwProjRefIdeal.τ).loc Cert.DwProjRefIdeal.main_arg0) = m ((c.tc : Thread Cert.DwProjIdeal.nD Cert.DwProjIdeal.τ).loc Cert.DwProjIdeal.main_arg0)
      ∧ m' ((c.tc : Thread Cert.DwProjRefIdeal.nD Cert.DwProjRefIdeal.τ).loc Cert.DwProjRefIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v0)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v0) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjRefIdeal.defs (F := Ideal)) (onTc (τ := Cert.DwProjRefIdeal.τ) (Cert.DwProjRefIdeal.main (F := Ideal))) ⟨m', fun _ => 0, g'⟩ (fun r => ∀ c : Dev Cert.DwProjRefIdeal.nD,
          r.2.mem ((c.tc : Thread Cert.DwProjRefIdeal.nD Cert.DwProjRefIdeal.τ).loc Cert.DwProjRefIdeal.main_v29) = v0 c
          ∧ r.2.mem ((c.tc : Thread Cert.DwProjRefIdeal.nD Cert.DwProjRefIdeal.τ).loc Cert.DwProjRefIdeal.main_arg0) = m' ((c.tc : Thread Cert.DwProjRefIdeal.nD Cert.DwProjRefIdeal.τ).loc Cert.DwProjRefIdeal.main_arg0)
          ∧ r.2.mem ((c.tc : Thread Cert.DwProjRefIdeal.nD Cert.DwProjRefIdeal.τ).loc Cert.DwProjRefIdeal.main_arg1) = m' ((c.tc : Thread Cert.DwProjRefIdeal.nD Cert.DwProjRefIdeal.τ).loc Cert.DwProjRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v24) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_DwUq_DwUqIdeal : Prop :=
  True

def algebraic_DwUqIdeal_DwUqRefIdeal [hDwUqIdeal : Cert.DwUqIdeal.Facts] [hDwUqRefIdeal : Cert.DwUqRefIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqRefIdeal.nD Cert.DwUqRefIdeal.τ Cert.DwUqRefIdeal.sig) → Buf (Elt Ideal) ℓ) (g' : Dev Cert.DwUqRefIdeal.nD → PrngReg), Pre_DwUqIdeal m →
    (∀ c : Dev Cert.DwUqIdeal.nD,
      m' ((c.tc : Thread Cert.DwUqRefIdeal.nD Cert.DwUqRefIdeal.τ).loc Cert.DwUqRefIdeal.main_arg0) = m ((c.tc : Thread Cert.DwUqIdeal.nD Cert.DwUqIdeal.τ).loc Cert.DwUqIdeal.main_arg0)
      ∧ m' ((c.tc : Thread Cert.DwUqRefIdeal.nD Cert.DwUqRefIdeal.τ).loc Cert.DwUqRefIdeal.main_arg1) = m ((c.tc : Thread Cert.DwUqIdeal.nD Cert.DwUqIdeal.τ).loc Cert.DwUqIdeal.main_arg1)) →
    ∃ (v0 : (c : Dev Cert.DwUqIdeal.nD) → Buf (Elt Ideal) ((c.tc : Thread Cert.DwUqIdeal.nD Cert.DwUqIdeal.τ).loc Cert.DwUqIdeal.main_v0)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v0) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ θ_run (Cert.DwUqRefIdeal.defs (F := Ideal)) (onTc (τ := Cert.DwUqRefIdeal.τ) (Cert.DwUqRefIdeal.main (F := Ideal))) ⟨m', fun _ => 0, g'⟩ (fun r => ∀ c : Dev Cert.DwUqRefIdeal.nD,
          r.2.mem ((c.tc : Thread Cert.DwUqRefIdeal.nD Cert.DwUqRefIdeal.τ).loc Cert.DwUqRefIdeal.main_v6) = v0 c
          ∧ r.2.mem ((c.tc : Thread Cert.DwUqRefIdeal.nD Cert.DwUqRefIdeal.τ).loc Cert.DwUqRefIdeal.main_arg0) = m' ((c.tc : Thread Cert.DwUqRefIdeal.nD Cert.DwUqRefIdeal.τ).loc Cert.DwUqRefIdeal.main_arg0)
          ∧ r.2.mem ((c.tc : Thread Cert.DwUqRefIdeal.nD Cert.DwUqRefIdeal.τ).loc Cert.DwUqRefIdeal.main_arg1) = m' ((c.tc : Thread Cert.DwUqRefIdeal.nD Cert.DwUqRefIdeal.τ).loc Cert.DwUqRefIdeal.main_arg1))

def preserves_Dqn_DqnIdeal : Prop :=
  True

def algebraic_DqnIdeal_DqnRefIdeal [hDqnIdeal : Cert.DqnIdeal.Facts] [hDqnRefIdeal : Cert.DqnRefIdeal.Facts] : Prop :=
  ∀ (m : (ℓ : Loc Cert.DqnIdeal.nD Cert.DqnIdeal.τ Cert.DqnIdeal.sig) → Buf (Elt Ideal) ℓ) (g : Dev Cert.DqnIdeal.nD → PrngReg)
    (m' : (ℓ : Loc Cert.DqnRefIdeal.nD Cert.DqnRefIdeal.τ Cert.DqnRefIdeal.sig) → Buf (Elt Ideal) ℓ) (g' : Dev Cert.DqnRefIdeal.nD → PrngReg), Pre_DqnIdeal m →
    (∀ c : Dev Cert.DqnIdeal.nD,
      m' ((c.tc : Thread Cert.DqnRefIdeal.nD Cert.DqnRefIdeal.τ).loc Cert.DqnRefIdeal.main_arg0) = m ((c.tc : Thread Cert.DqnIdeal.nD Cert.DqnIdeal.τ).loc Cert.DqnIdeal.main_arg0)
      ∧ m' ((c.tc : Thread Cert.DqnRefIdeal.nD Cert.DqnRefIdeal.τ).loc Cert.DqnRefIdeal.main_arg1) = m ((c.tc : Thread Cert.DqnIdeal.nD Cert.DqnIdeal.τ).loc Cert.DqnIdeal.main_arg1)) →
    ∃ (v0 : (c : Dev Cert.DqnIdeal.nD) → Buf (Elt Ideal) ((c.tc : Thread Cert.DqnIdeal.nD Cert.DqnIdeal.τ).loc Cert.DqnIdeal.main_v0)),
      θ_run (Cert.DqnIdeal.defs (F := Ideal)) (onTc (τ := Cert.DqnIdeal.τ) (Cert.DqnIdeal.main (F := Ideal))) ⟨m, fun _ => 0, g⟩ (fun r => ∀ c : Dev Cert.DqnIdeal.nD,
          r.2.mem ((c.tc : Thread Cert.DqnIdeal.nD Cert.DqnIdeal.τ).loc Cert.DqnIdeal.main_v0) = v0 c
          ∧ r.2.mem ((c.tc : Thread Cert.DqnIdeal.nD Cert.DqnIdeal.τ).loc Cert.DqnIdeal.main_arg0) = m ((c.tc : Thread Cert.DqnIdeal.nD Cert.DqnIdeal.τ).loc Cert.DqnIdeal.main_arg0)
          ∧ r.2.mem ((c.tc : Thread Cert.DqnIdeal.nD Cert.DqnIdeal.τ).loc Cert.DqnIdeal.main_arg1) = m ((c.tc : Thread Cert.DqnIdeal.nD Cert.DqnIdeal.τ).loc Cert.DqnIdeal.main_arg1))
      ∧ θ_run (Cert.DqnRefIdeal.defs (F := Ideal)) (onTc (τ := Cert.DqnRefIdeal.τ) (Cert.DqnRefIdeal.main (F := Ideal))) ⟨m', fun _ => 0, g'⟩ (fun r => ∀ c : Dev Cert.DqnRefIdeal.nD,
          r.2.mem ((c.tc : Thread Cert.DqnRefIdeal.nD Cert.DqnRefIdeal.τ).loc Cert.DqnRefIdeal.main_v4) = v0 c
          ∧ r.2.mem ((c.tc : Thread Cert.DqnRefIdeal.nD Cert.DqnRefIdeal.τ).loc Cert.DqnRefIdeal.main_arg0) = m' ((c.tc : Thread Cert.DqnRefIdeal.nD Cert.DqnRefIdeal.τ).loc Cert.DqnRefIdeal.main_arg0)
          ∧ r.2.mem ((c.tc : Thread Cert.DqnRefIdeal.nD Cert.DqnRefIdeal.τ).loc Cert.DqnRefIdeal.main_arg1) = m' ((c.tc : Thread Cert.DqnRefIdeal.nD Cert.DqnRefIdeal.τ).loc Cert.DqnRefIdeal.main_arg1))

def preserves_DwUkv_DwUkvIdeal : Prop :=
  True

def algebraic_DwUkvIdeal_DwUkvRefIdeal [hDwUkvIdeal : Cert.DwUkvIdeal.Facts] [hDwUkvRefIdeal : Cert.DwUkvRefIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg)
    (m' : (ℓ : Loc Cert.DwUkvRefIdeal.nD Cert.DwUkvRefIdeal.τ Cert.DwUkvRefIdeal.sig) → Buf (Elt Ideal) ℓ) (g' : Dev Cert.DwUkvRefIdeal.nD → PrngReg), Pre_DwUkvIdeal m →
    (∀ c : Dev Cert.DwUkvIdeal.nD,
      m' ((c.tc : Thread Cert.DwUkvRefIdeal.nD Cert.DwUkvRefIdeal.τ).loc Cert.DwUkvRefIdeal.main_arg0) = m ((c.tc : Thread Cert.DwUkvIdeal.nD Cert.DwUkvIdeal.τ).loc Cert.DwUkvIdeal.main_arg0)
      ∧ m' ((c.tc : Thread Cert.DwUkvRefIdeal.nD Cert.DwUkvRefIdeal.τ).loc Cert.DwUkvRefIdeal.main_arg1) = m ((c.tc : Thread Cert.DwUkvIdeal.nD Cert.DwUkvIdeal.τ).loc Cert.DwUkvIdeal.main_arg1)) →
    ∃ (v0 : (c : Dev Cert.DwUkvIdeal.nD) → Buf (Elt Ideal) ((c.tc : Thread Cert.DwUkvIdeal.nD Cert.DwUkvIdeal.τ).loc Cert.DwUkvIdeal.main_v0)),
      θ_run (Cert.DwUkvIdeal.defs (F := Ideal)) (onTc (τ := Cert.DwUkvIdeal.τ) (Cert.DwUkvIdeal.main (F := Ideal))) ⟨m, fun _ => 0, g⟩ (fun r => ∀ c : Dev Cert.DwUkvIdeal.nD,
          r.2.mem ((c.tc : Thread Cert.DwUkvIdeal.nD Cert.DwUkvIdeal.τ).loc Cert.DwUkvIdeal.main_v0) = v0 c
          ∧ r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
          ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ θ_run (Cert.DwUkvRefIdeal.defs (F := Ideal)) (onTc (τ := Cert.DwUkvRefIdeal.τ) (Cert.DwUkvRefIdeal.main (F := Ideal))) ⟨m', fun _ => 0, g'⟩ (fun r => ∀ c : Dev Cert.DwUkvRefIdeal.nD,
          r.2.mem ((c.tc : Thread Cert.DwUkvRefIdeal.nD Cert.DwUkvRefIdeal.τ).loc Cert.DwUkvRefIdeal.main_v6) = v0 c
          ∧ r.2.mem ((c.tc : Thread Cert.DwUkvRefIdeal.nD Cert.DwUkvRefIdeal.τ).loc Cert.DwUkvRefIdeal.main_arg0) = m' ((c.tc : Thread Cert.DwUkvRefIdeal.nD Cert.DwUkvRefIdeal.τ).loc Cert.DwUkvRefIdeal.main_arg0)
          ∧ r.2.mem ((c.tc : Thread Cert.DwUkvRefIdeal.nD Cert.DwUkvRefIdeal.τ).loc Cert.DwUkvRefIdeal.main_arg1) = m' ((c.tc : Thread Cert.DwUkvRefIdeal.nD Cert.DwUkvRefIdeal.τ).loc Cert.DwUkvRefIdeal.main_arg1))

def preserves_Dkvn_DkvnIdeal : Prop :=
  True

def algebraic_DkvnIdeal_DkvnRefIdeal [hDkvnIdeal : Cert.DkvnIdeal.Facts] [hDkvnRefIdeal : Cert.DkvnRefIdeal.Facts] : Prop :=
  ∀ (m : (ℓ : Loc Cert.DkvnIdeal.nD Cert.DkvnIdeal.τ Cert.DkvnIdeal.sig) → Buf (Elt Ideal) ℓ) (g : Dev Cert.DkvnIdeal.nD → PrngReg)
    (m' : (ℓ : Loc Cert.DkvnRefIdeal.nD Cert.DkvnRefIdeal.τ Cert.DkvnRefIdeal.sig) → Buf (Elt Ideal) ℓ) (g' : Dev Cert.DkvnRefIdeal.nD → PrngReg), Pre_DkvnIdeal m →
    (∀ c : Dev Cert.DkvnIdeal.nD,
      m' ((c.tc : Thread Cert.DkvnRefIdeal.nD Cert.DkvnRefIdeal.τ).loc Cert.DkvnRefIdeal.main_arg0) = m ((c.tc : Thread Cert.DkvnIdeal.nD Cert.DkvnIdeal.τ).loc Cert.DkvnIdeal.main_arg0)
      ∧ m' ((c.tc : Thread Cert.DkvnRefIdeal.nD Cert.DkvnRefIdeal.τ).loc Cert.DkvnRefIdeal.main_arg1) = m ((c.tc : Thread Cert.DkvnIdeal.nD Cert.DkvnIdeal.τ).loc Cert.DkvnIdeal.main_arg1)) →
    ∃ (v0 : (c : Dev Cert.DkvnIdeal.nD) → Buf (Elt Ideal) ((c.tc : Thread Cert.DkvnIdeal.nD Cert.DkvnIdeal.τ).loc Cert.DkvnIdeal.main_v0)),
      θ_run (Cert.DkvnIdeal.defs (F := Ideal)) (onTc (τ := Cert.DkvnIdeal.τ) (Cert.DkvnIdeal.main (F := Ideal))) ⟨m, fun _ => 0, g⟩ (fun r => ∀ c : Dev Cert.DkvnIdeal.nD,
          r.2.mem ((c.tc : Thread Cert.DkvnIdeal.nD Cert.DkvnIdeal.τ).loc Cert.DkvnIdeal.main_v0) = v0 c
          ∧ r.2.mem ((c.tc : Thread Cert.DkvnIdeal.nD Cert.DkvnIdeal.τ).loc Cert.DkvnIdeal.main_arg0) = m ((c.tc : Thread Cert.DkvnIdeal.nD Cert.DkvnIdeal.τ).loc Cert.DkvnIdeal.main_arg0)
          ∧ r.2.mem ((c.tc : Thread Cert.DkvnIdeal.nD Cert.DkvnIdeal.τ).loc Cert.DkvnIdeal.main_arg1) = m ((c.tc : Thread Cert.DkvnIdeal.nD Cert.DkvnIdeal.τ).loc Cert.DkvnIdeal.main_arg1))
      ∧ θ_run (Cert.DkvnRefIdeal.defs (F := Ideal)) (onTc (τ := Cert.DkvnRefIdeal.τ) (Cert.DkvnRefIdeal.main (F := Ideal))) ⟨m', fun _ => 0, g'⟩ (fun r => ∀ c : Dev Cert.DkvnRefIdeal.nD,
          r.2.mem ((c.tc : Thread Cert.DkvnRefIdeal.nD Cert.DkvnRefIdeal.τ).loc Cert.DkvnRefIdeal.main_v4) = v0 c
          ∧ r.2.mem ((c.tc : Thread Cert.DkvnRefIdeal.nD Cert.DkvnRefIdeal.τ).loc Cert.DkvnRefIdeal.main_arg0) = m' ((c.tc : Thread Cert.DkvnRefIdeal.nD Cert.DkvnRefIdeal.τ).loc Cert.DkvnRefIdeal.main_arg0)
          ∧ r.2.mem ((c.tc : Thread Cert.DkvnRefIdeal.nD Cert.DkvnRefIdeal.τ).loc Cert.DkvnRefIdeal.main_arg1) = m' ((c.tc : Thread Cert.DkvnRefIdeal.nD Cert.DkvnRefIdeal.τ).loc Cert.DkvnRefIdeal.main_arg1))

def preserves_DwA_DwAIdeal : Prop :=
  True

def algebraic_DwAIdeal_DwARefIdeal [hDwAIdeal : Cert.DwAIdeal.Facts] [hDwARefIdeal : Cert.DwARefIdeal.Facts] : Prop :=
  ∀ (m : (ℓ : Loc Cert.DwAIdeal.nD Cert.DwAIdeal.τ Cert.DwAIdeal.sig) → Buf (Elt Ideal) ℓ) (g : Dev Cert.DwAIdeal.nD → PrngReg)
    (m' : (ℓ : Loc Cert.DwARefIdeal.nD Cert.DwARefIdeal.τ Cert.DwARefIdeal.sig) → Buf (Elt Ideal) ℓ) (g' : Dev Cert.DwARefIdeal.nD → PrngReg), Pre_DwAIdeal m →
    (∀ c : Dev Cert.DwAIdeal.nD,
      m' ((c.tc : Thread Cert.DwARefIdeal.nD Cert.DwARefIdeal.τ).loc Cert.DwARefIdeal.main_arg0) = m ((c.tc : Thread Cert.DwAIdeal.nD Cert.DwAIdeal.τ).loc Cert.DwAIdeal.main_arg0)
      ∧ m' ((c.tc : Thread Cert.DwARefIdeal.nD Cert.DwARefIdeal.τ).loc Cert.DwARefIdeal.main_arg1) = m ((c.tc : Thread Cert.DwAIdeal.nD Cert.DwAIdeal.τ).loc Cert.DwAIdeal.main_arg1)) →
    ∃ (v0 : (c : Dev Cert.DwAIdeal.nD) → Buf (Elt Ideal) ((c.tc : Thread Cert.DwAIdeal.nD Cert.DwAIdeal.τ).loc Cert.DwAIdeal.main_v0)),
      θ_run (Cert.DwAIdeal.defs (F := Ideal)) (onTc (τ := Cert.DwAIdeal.τ) (Cert.DwAIdeal.main (F := Ideal))) ⟨m, fun _ => 0, g⟩ (fun r => ∀ c : Dev Cert.DwAIdeal.nD,
          r.2.mem ((c.tc : Thread Cert.DwAIdeal.nD Cert.DwAIdeal.τ).loc Cert.DwAIdeal.main_v0) = v0 c
          ∧ r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
          ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ θ_run (Cert.DwARefIdeal.defs (F := Ideal)) (onTc (τ := Cert.DwARefIdeal.τ) (Cert.DwARefIdeal.main (F := Ideal))) ⟨m', fun _ => 0, g'⟩ (fun r => ∀ c : Dev Cert.DwARefIdeal.nD,
          r.2.mem ((c.tc : Thread Cert.DwARefIdeal.nD Cert.DwARefIdeal.τ).loc Cert.DwARefIdeal.main_v6) = v0 c
          ∧ r.2.mem ((c.tc : Thread Cert.DwARefIdeal.nD Cert.DwARefIdeal.τ).loc Cert.DwARefIdeal.main_arg0) = m' ((c.tc : Thread Cert.DwARefIdeal.nD Cert.DwARefIdeal.τ).loc Cert.DwARefIdeal.main_arg0)
          ∧ r.2.mem ((c.tc : Thread Cert.DwARefIdeal.nD Cert.DwARefIdeal.τ).loc Cert.DwARefIdeal.main_arg1) = m' ((c.tc : Thread Cert.DwARefIdeal.nD Cert.DwARefIdeal.τ).loc Cert.DwARefIdeal.main_arg1))

def preserves_DwG_DwGIdeal : Prop :=
  True

def algebraic_DwGIdeal_DwGRefIdeal [hDwGIdeal : Cert.DwGIdeal.Facts] [hDwGRefIdeal : Cert.DwGRefIdeal.Facts] : Prop :=
  ∀ (m : (ℓ : Loc Cert.DwGIdeal.nD Cert.DwGIdeal.τ Cert.DwGIdeal.sig) → Buf (Elt Ideal) ℓ) (g : Dev Cert.DwGIdeal.nD → PrngReg)
    (m' : (ℓ : Loc Cert.DwGRefIdeal.nD Cert.DwGRefIdeal.τ Cert.DwGRefIdeal.sig) → Buf (Elt Ideal) ℓ) (g' : Dev Cert.DwGRefIdeal.nD → PrngReg), Pre_DwGIdeal m →
    (∀ c : Dev Cert.DwGIdeal.nD,
      m' ((c.tc : Thread Cert.DwGRefIdeal.nD Cert.DwGRefIdeal.τ).loc Cert.DwGRefIdeal.main_arg0) = m ((c.tc : Thread Cert.DwGIdeal.nD Cert.DwGIdeal.τ).loc Cert.DwGIdeal.main_arg0)
      ∧ m' ((c.tc : Thread Cert.DwGRefIdeal.nD Cert.DwGRefIdeal.τ).loc Cert.DwGRefIdeal.main_arg1) = m ((c.tc : Thread Cert.DwGIdeal.nD Cert.DwGIdeal.τ).loc Cert.DwGIdeal.main_arg1)) →
    ∃ (v0 : (c : Dev Cert.DwGIdeal.nD) → Buf (Elt Ideal) ((c.tc : Thread Cert.DwGIdeal.nD Cert.DwGIdeal.τ).loc Cert.DwGIdeal.main_v0)),
      θ_run (Cert.DwGIdeal.defs (F := Ideal)) (onTc (τ := Cert.DwGIdeal.τ) (Cert.DwGIdeal.main (F := Ideal))) ⟨m, fun _ => 0, g⟩ (fun r => ∀ c : Dev Cert.DwGIdeal.nD,
          r.2.mem ((c.tc : Thread Cert.DwGIdeal.nD Cert.DwGIdeal.τ).loc Cert.DwGIdeal.main_v0) = v0 c
          ∧ r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
          ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ θ_run (Cert.DwGRefIdeal.defs (F := Ideal)) (onTc (τ := Cert.DwGRefIdeal.τ) (Cert.DwGRefIdeal.main (F := Ideal))) ⟨m', fun _ => 0, g'⟩ (fun r => ∀ c : Dev Cert.DwGRefIdeal.nD,
          r.2.mem ((c.tc : Thread Cert.DwGRefIdeal.nD Cert.DwGRefIdeal.τ).loc Cert.DwGRefIdeal.main_v6) = v0 c
          ∧ r.2.mem ((c.tc : Thread Cert.DwGRefIdeal.nD Cert.DwGRefIdeal.τ).loc Cert.DwGRefIdeal.main_arg0) = m' ((c.tc : Thread Cert.DwGRefIdeal.nD Cert.DwGRefIdeal.τ).loc Cert.DwGRefIdeal.main_arg0)
          ∧ r.2.mem ((c.tc : Thread Cert.DwGRefIdeal.nD Cert.DwGRefIdeal.τ).loc Cert.DwGRefIdeal.main_arg1) = m' ((c.tc : Thread Cert.DwGRefIdeal.nD Cert.DwGRefIdeal.τ).loc Cert.DwGRefIdeal.main_arg1))

def preserves_Dh1A_Dh1AIdeal : Prop :=
  True

def algebraic_Dh1AIdeal_Dh1ARefIdeal [hDh1AIdeal : Cert.Dh1AIdeal.Facts] [hDh1ARefIdeal : Cert.Dh1ARefIdeal.Facts] : Prop :=
  ∀ (m : (ℓ : Loc Cert.Dh1AIdeal.nD Cert.Dh1AIdeal.τ Cert.Dh1AIdeal.sig) → Buf (Elt Ideal) ℓ) (g : Dev Cert.Dh1AIdeal.nD → PrngReg)
    (m' : (ℓ : Loc Cert.Dh1ARefIdeal.nD Cert.Dh1ARefIdeal.τ Cert.Dh1ARefIdeal.sig) → Buf (Elt Ideal) ℓ) (g' : Dev Cert.Dh1ARefIdeal.nD → PrngReg), Pre_Dh1AIdeal m →
    (∀ c : Dev Cert.Dh1AIdeal.nD,
      m' ((c.tc : Thread Cert.Dh1ARefIdeal.nD Cert.Dh1ARefIdeal.τ).loc Cert.Dh1ARefIdeal.main_arg0) = m ((c.tc : Thread Cert.Dh1AIdeal.nD Cert.Dh1AIdeal.τ).loc Cert.Dh1AIdeal.main_arg0)
      ∧ m' ((c.tc : Thread Cert.Dh1ARefIdeal.nD Cert.Dh1ARefIdeal.τ).loc Cert.Dh1ARefIdeal.main_arg1) = m ((c.tc : Thread Cert.Dh1AIdeal.nD Cert.Dh1AIdeal.τ).loc Cert.Dh1AIdeal.main_arg1)) →
    ∃ (v0 : (c : Dev Cert.Dh1AIdeal.nD) → Buf (Elt Ideal) ((c.tc : Thread Cert.Dh1AIdeal.nD Cert.Dh1AIdeal.τ).loc Cert.Dh1AIdeal.main_v0)),
      θ_run (Cert.Dh1AIdeal.defs (F := Ideal)) (onTc (τ := Cert.Dh1AIdeal.τ) (Cert.Dh1AIdeal.main (F := Ideal))) ⟨m, fun _ => 0, g⟩ (fun r => ∀ c : Dev Cert.Dh1AIdeal.nD,
          r.2.mem ((c.tc : Thread Cert.Dh1AIdeal.nD Cert.Dh1AIdeal.τ).loc Cert.Dh1AIdeal.main_v0) = v0 c
          ∧ r.2.mem ((c.tc : Thread Cert.Dh1AIdeal.nD Cert.Dh1AIdeal.τ).loc Cert.Dh1AIdeal.main_arg0) = m ((c.tc : Thread Cert.Dh1AIdeal.nD Cert.Dh1AIdeal.τ).loc Cert.Dh1AIdeal.main_arg0)
          ∧ r.2.mem ((c.tc : Thread Cert.Dh1AIdeal.nD Cert.Dh1AIdeal.τ).loc Cert.Dh1AIdeal.main_arg1) = m ((c.tc : Thread Cert.Dh1AIdeal.nD Cert.Dh1AIdeal.τ).loc Cert.Dh1AIdeal.main_arg1))
      ∧ θ_run (Cert.Dh1ARefIdeal.defs (F := Ideal)) (onTc (τ := Cert.Dh1ARefIdeal.τ) (Cert.Dh1ARefIdeal.main (F := Ideal))) ⟨m', fun _ => 0, g'⟩ (fun r => ∀ c : Dev Cert.Dh1ARefIdeal.nD,
          r.2.mem ((c.tc : Thread Cert.Dh1ARefIdeal.nD Cert.Dh1ARefIdeal.τ).loc Cert.Dh1ARefIdeal.main_v4) = v0 c
          ∧ r.2.mem ((c.tc : Thread Cert.Dh1ARefIdeal.nD Cert.Dh1ARefIdeal.τ).loc Cert.Dh1ARefIdeal.main_arg0) = m' ((c.tc : Thread Cert.Dh1ARefIdeal.nD Cert.Dh1ARefIdeal.τ).loc Cert.Dh1ARefIdeal.main_arg0)
          ∧ r.2.mem ((c.tc : Thread Cert.Dh1ARefIdeal.nD Cert.Dh1ARefIdeal.τ).loc Cert.Dh1ARefIdeal.main_arg1) = m' ((c.tc : Thread Cert.Dh1ARefIdeal.nD Cert.Dh1ARefIdeal.τ).loc Cert.Dh1ARefIdeal.main_arg1))

def preserves_Dh1G_Dh1GIdeal : Prop :=
  True

def algebraic_Dh1GIdeal_Dh1GRefIdeal [hDh1GIdeal : Cert.Dh1GIdeal.Facts] [hDh1GRefIdeal : Cert.Dh1GRefIdeal.Facts] : Prop :=
  ∀ (m : (ℓ : Loc Cert.Dh1GIdeal.nD Cert.Dh1GIdeal.τ Cert.Dh1GIdeal.sig) → Buf (Elt Ideal) ℓ) (g : Dev Cert.Dh1GIdeal.nD → PrngReg)
    (m' : (ℓ : Loc Cert.Dh1GRefIdeal.nD Cert.Dh1GRefIdeal.τ Cert.Dh1GRefIdeal.sig) → Buf (Elt Ideal) ℓ) (g' : Dev Cert.Dh1GRefIdeal.nD → PrngReg), Pre_Dh1GIdeal m →
    (∀ c : Dev Cert.Dh1GIdeal.nD,
      m' ((c.tc : Thread Cert.Dh1GRefIdeal.nD Cert.Dh1GRefIdeal.τ).loc Cert.Dh1GRefIdeal.main_arg0) = m ((c.tc : Thread Cert.Dh1GIdeal.nD Cert.Dh1GIdeal.τ).loc Cert.Dh1GIdeal.main_arg0)
      ∧ m' ((c.tc : Thread Cert.Dh1GRefIdeal.nD Cert.Dh1GRefIdeal.τ).loc Cert.Dh1GRefIdeal.main_arg1) = m ((c.tc : Thread Cert.Dh1GIdeal.nD Cert.Dh1GIdeal.τ).loc Cert.Dh1GIdeal.main_arg1)
      ∧ m' ((c.tc : Thread Cert.Dh1GRefIdeal.nD Cert.Dh1GRefIdeal.τ).loc Cert.Dh1GRefIdeal.main_arg2) = m ((c.tc : Thread Cert.Dh1GIdeal.nD Cert.Dh1GIdeal.τ).loc Cert.Dh1GIdeal.main_arg2)) →
    ∃ (v0 : (c : Dev Cert.Dh1GIdeal.nD) → Buf (Elt Ideal) ((c.tc : Thread Cert.Dh1GIdeal.nD Cert.Dh1GIdeal.τ).loc Cert.Dh1GIdeal.main_v0)),
      θ_run (Cert.Dh1GIdeal.defs (F := Ideal)) (onTc (τ := Cert.Dh1GIdeal.τ) (Cert.Dh1GIdeal.main (F := Ideal))) ⟨m, fun _ => 0, g⟩ (fun r => ∀ c : Dev Cert.Dh1GIdeal.nD,
          r.2.mem ((c.tc : Thread Cert.Dh1GIdeal.nD Cert.Dh1GIdeal.τ).loc Cert.Dh1GIdeal.main_v0) = v0 c
          ∧ r.2.mem ((c.tc : Thread Cert.Dh1GIdeal.nD Cert.Dh1GIdeal.τ).loc Cert.Dh1GIdeal.main_arg0) = m ((c.tc : Thread Cert.Dh1GIdeal.nD Cert.Dh1GIdeal.τ).loc Cert.Dh1GIdeal.main_arg0)
          ∧ r.2.mem ((c.tc : Thread Cert.Dh1GIdeal.nD Cert.Dh1GIdeal.τ).loc Cert.Dh1GIdeal.main_arg1) = m ((c.tc : Thread Cert.Dh1GIdeal.nD Cert.Dh1GIdeal.τ).loc Cert.Dh1GIdeal.main_arg1)
          ∧ r.2.mem ((c.tc : Thread Cert.Dh1GIdeal.nD Cert.Dh1GIdeal.τ).loc Cert.Dh1GIdeal.main_arg2) = m ((c.tc : Thread Cert.Dh1GIdeal.nD Cert.Dh1GIdeal.τ).loc Cert.Dh1GIdeal.main_arg2))
      ∧ θ_run (Cert.Dh1GRefIdeal.defs (F := Ideal)) (onTc (τ := Cert.Dh1GRefIdeal.τ) (Cert.Dh1GRefIdeal.main (F := Ideal))) ⟨m', fun _ => 0, g'⟩ (fun r => ∀ c : Dev Cert.Dh1GRefIdeal.nD,
          r.2.mem ((c.tc : Thread Cert.Dh1GRefIdeal.nD Cert.Dh1GRefIdeal.τ).loc Cert.Dh1GRefIdeal.main_v5) = v0 c
          ∧ r.2.mem ((c.tc : Thread Cert.Dh1GRefIdeal.nD Cert.Dh1GRefIdeal.τ).loc Cert.Dh1GRefIdeal.main_arg0) = m' ((c.tc : Thread Cert.Dh1GRefIdeal.nD Cert.Dh1GRefIdeal.τ).loc Cert.Dh1GRefIdeal.main_arg0)
          ∧ r.2.mem ((c.tc : Thread Cert.Dh1GRefIdeal.nD Cert.Dh1GRefIdeal.τ).loc Cert.Dh1GRefIdeal.main_arg1) = m' ((c.tc : Thread Cert.Dh1GRefIdeal.nD Cert.Dh1GRefIdeal.τ).loc Cert.Dh1GRefIdeal.main_arg1)
          ∧ r.2.mem ((c.tc : Thread Cert.Dh1GRefIdeal.nD Cert.Dh1GRefIdeal.τ).loc Cert.Dh1GRefIdeal.main_arg2) = m' ((c.tc : Thread Cert.Dh1GRefIdeal.nD Cert.Dh1GRefIdeal.τ).loc Cert.Dh1GRefIdeal.main_arg2))

def preserves_Za_ZaIdeal : Prop :=
  True

def algebraic_ZaIdeal_ZaRefIdeal [hZaIdeal : Cert.ZaIdeal.Facts] [hZaRefIdeal : Cert.ZaRefIdeal.Facts] : Prop :=
  ∀ (m : (ℓ : Loc Cert.ZaIdeal.nD Cert.ZaIdeal.τ Cert.ZaIdeal.sig) → Buf (Elt Ideal) ℓ) (g : Dev Cert.ZaIdeal.nD → PrngReg)
    (m' : (ℓ : Loc Cert.ZaRefIdeal.nD Cert.ZaRefIdeal.τ Cert.ZaRefIdeal.sig) → Buf (Elt Ideal) ℓ) (g' : Dev Cert.ZaRefIdeal.nD → PrngReg), Pre_ZaIdeal m →
    (∀ c : Dev Cert.ZaIdeal.nD,
      m' ((c.tc : Thread Cert.ZaRefIdeal.nD Cert.ZaRefIdeal.τ).loc Cert.ZaRefIdeal.main_arg0) = m ((c.tc : Thread Cert.ZaIdeal.nD Cert.ZaIdeal.τ).loc Cert.ZaIdeal.main_arg0)
      ∧ m' ((c.tc : Thread Cert.ZaRefIdeal.nD Cert.ZaRefIdeal.τ).loc Cert.ZaRefIdeal.main_arg1) = m ((c.tc : Thread Cert.ZaIdeal.nD Cert.ZaIdeal.τ).loc Cert.ZaIdeal.main_arg1)) →
    ∃ (v0 : (c : Dev Cert.ZaIdeal.nD) → Buf (Elt Ideal) ((c.tc : Thread Cert.ZaIdeal.nD Cert.ZaIdeal.τ).loc Cert.ZaIdeal.main_v0)),
      θ_run (Cert.ZaIdeal.defs (F := Ideal)) (onTc (τ := Cert.ZaIdeal.τ) (Cert.ZaIdeal.main (F := Ideal))) ⟨m, fun _ => 0, g⟩ (fun r => ∀ c : Dev Cert.ZaIdeal.nD,
          r.2.mem ((c.tc : Thread Cert.ZaIdeal.nD Cert.ZaIdeal.τ).loc Cert.ZaIdeal.main_v0) = v0 c
          ∧ r.2.mem ((c.tc : Thread Cert.ZaIdeal.nD Cert.ZaIdeal.τ).loc Cert.ZaIdeal.main_arg0) = m ((c.tc : Thread Cert.ZaIdeal.nD Cert.ZaIdeal.τ).loc Cert.ZaIdeal.main_arg0)
          ∧ r.2.mem ((c.tc : Thread Cert.ZaIdeal.nD Cert.ZaIdeal.τ).loc Cert.ZaIdeal.main_arg1) = m ((c.tc : Thread Cert.ZaIdeal.nD Cert.ZaIdeal.τ).loc Cert.ZaIdeal.main_arg1))
      ∧ θ_run (Cert.ZaRefIdeal.defs (F := Ideal)) (onTc (τ := Cert.ZaRefIdeal.τ) (Cert.ZaRefIdeal.main (F := Ideal))) ⟨m', fun _ => 0, g'⟩ (fun r => ∀ c : Dev Cert.ZaRefIdeal.nD,
          r.2.mem ((c.tc : Thread Cert.ZaRefIdeal.nD Cert.ZaRefIdeal.τ).loc Cert.ZaRefIdeal.main_v2) = v0 c
          ∧ r.2.mem ((c.tc : Thread Cert.ZaRefIdeal.nD Cert.ZaRefIdeal.τ).loc Cert.ZaRefIdeal.main_arg0) = m' ((c.tc : Thread Cert.ZaRefIdeal.nD Cert.ZaRefIdeal.τ).loc Cert.ZaRefIdeal.main_arg0)
          ∧ r.2.mem ((c.tc : Thread Cert.ZaRefIdeal.nD Cert.ZaRefIdeal.τ).loc Cert.ZaRefIdeal.main_arg1) = m' ((c.tc : Thread Cert.ZaRefIdeal.nD Cert.ZaRefIdeal.τ).loc Cert.ZaRefIdeal.main_arg1))

def preserves_Zg_ZgIdeal : Prop :=
  True

def algebraic_ZgIdeal_ZgRefIdeal [hZgIdeal : Cert.ZgIdeal.Facts] [hZgRefIdeal : Cert.ZgRefIdeal.Facts] : Prop :=
  ∀ (m : (ℓ : Loc Cert.ZgIdeal.nD Cert.ZgIdeal.τ Cert.ZgIdeal.sig) → Buf (Elt Ideal) ℓ) (g : Dev Cert.ZgIdeal.nD → PrngReg)
    (m' : (ℓ : Loc Cert.ZgRefIdeal.nD Cert.ZgRefIdeal.τ Cert.ZgRefIdeal.sig) → Buf (Elt Ideal) ℓ) (g' : Dev Cert.ZgRefIdeal.nD → PrngReg), Pre_ZgIdeal m →
    (∀ c : Dev Cert.ZgIdeal.nD,
      m' ((c.tc : Thread Cert.ZgRefIdeal.nD Cert.ZgRefIdeal.τ).loc Cert.ZgRefIdeal.main_arg0) = m ((c.tc : Thread Cert.ZgIdeal.nD Cert.ZgIdeal.τ).loc Cert.ZgIdeal.main_arg0)
      ∧ m' ((c.tc : Thread Cert.ZgRefIdeal.nD Cert.ZgRefIdeal.τ).loc Cert.ZgRefIdeal.main_arg1) = m ((c.tc : Thread Cert.ZgIdeal.nD Cert.ZgIdeal.τ).loc Cert.ZgIdeal.main_arg1)) →
    ∃ (v0 : (c : Dev Cert.ZgIdeal.nD) → Buf (Elt Ideal) ((c.tc : Thread Cert.ZgIdeal.nD Cert.ZgIdeal.τ).loc Cert.ZgIdeal.main_v0)),
      θ_run (Cert.ZgIdeal.defs (F := Ideal)) (onTc (τ := Cert.ZgIdeal.τ) (Cert.ZgIdeal.main (F := Ideal))) ⟨m, fun _ => 0, g⟩ (fun r => ∀ c : Dev Cert.ZgIdeal.nD,
          r.2.mem ((c.tc : Thread Cert.ZgIdeal.nD Cert.ZgIdeal.τ).loc Cert.ZgIdeal.main_v0) = v0 c
          ∧ r.2.mem ((c.tc : Thread Cert.ZgIdeal.nD Cert.ZgIdeal.τ).loc Cert.ZgIdeal.main_arg0) = m ((c.tc : Thread Cert.ZgIdeal.nD Cert.ZgIdeal.τ).loc Cert.ZgIdeal.main_arg0)
          ∧ r.2.mem ((c.tc : Thread Cert.ZgIdeal.nD Cert.ZgIdeal.τ).loc Cert.ZgIdeal.main_arg1) = m ((c.tc : Thread Cert.ZgIdeal.nD Cert.ZgIdeal.τ).loc Cert.ZgIdeal.main_arg1))
      ∧ θ_run (Cert.ZgRefIdeal.defs (F := Ideal)) (onTc (τ := Cert.ZgRefIdeal.τ) (Cert.ZgRefIdeal.main (F := Ideal))) ⟨m', fun _ => 0, g'⟩ (fun r => ∀ c : Dev Cert.ZgRefIdeal.nD,
          r.2.mem ((c.tc : Thread Cert.ZgRefIdeal.nD Cert.ZgRefIdeal.τ).loc Cert.ZgRefIdeal.main_v3) = v0 c
          ∧ r.2.mem ((c.tc : Thread Cert.ZgRefIdeal.nD Cert.ZgRefIdeal.τ).loc Cert.ZgRefIdeal.main_arg0) = m' ((c.tc : Thread Cert.ZgRefIdeal.nD Cert.ZgRefIdeal.τ).loc Cert.ZgRefIdeal.main_arg0)
          ∧ r.2.mem ((c.tc : Thread Cert.ZgRefIdeal.nD Cert.ZgRefIdeal.τ).loc Cert.ZgRefIdeal.main_arg1) = m' ((c.tc : Thread Cert.ZgRefIdeal.nD Cert.ZgRefIdeal.τ).loc Cert.ZgRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_FlashBwd_FlashBwdIdeal : Prop :=
  True

def algebraic_FlashBwdIdeal_FlashBwdRefIdeal_pre_finite_inputs [hFlashBwdIdeal : Cert.FlashBwdIdeal.Facts] [hFlashBwdRefIdeal : Cert.FlashBwdRefIdeal.Facts] [hPre_finite_inputs : Cert.Pre_finite_inputs.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_finite_inputs m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)
      ∧ m' ((c.tc : Thread Cert.FlashBwdRefIdeal.nD Cert.FlashBwdRefIdeal.τ).loc Cert.FlashBwdRefIdeal.main_arg4) = m ((c.tc : Thread Cert.FlashBwdIdeal.nD Cert.FlashBwdIdeal.τ).loc Cert.FlashBwdIdeal.main_arg4)
      ∧ m' ((c.tc : Thread Cert.FlashBwdRefIdeal.nD Cert.FlashBwdRefIdeal.τ).loc Cert.FlashBwdRefIdeal.main_arg5) = m ((c.tc : Thread Cert.FlashBwdIdeal.nD Cert.FlashBwdIdeal.τ).loc Cert.FlashBwdIdeal.main_arg5)) →
    ∃ (v0 : (c : Dev Cert.FlashBwdIdeal.nD) → Buf (Elt Ideal) ((c.tc : Thread Cert.FlashBwdIdeal.nD Cert.FlashBwdIdeal.τ).loc Cert.FlashBwdIdeal.main_v100_0)) (v1 : (c : Dev Cert.FlashBwdIdeal.nD) → Buf (Elt Ideal) ((c.tc : Thread Cert.FlashBwdIdeal.nD Cert.FlashBwdIdeal.τ).loc Cert.FlashBwdIdeal.main_v100_1)) (v2 : (c : Dev Cert.FlashBwdIdeal.nD) → Buf (Elt Ideal) ((c.tc : Thread Cert.FlashBwdIdeal.nD Cert.FlashBwdIdeal.τ).loc Cert.FlashBwdIdeal.main_v100_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v100_0) = v0 c
          ∧ r.2.mem ((c.tc : Thread Cert.FlashBwdIdeal.nD Cert.FlashBwdIdeal.τ).loc Cert.FlashBwdIdeal.main_v100_1) = v1 c
          ∧ r.2.mem ((c.tc : Thread Cert.FlashBwdIdeal.nD Cert.FlashBwdIdeal.τ).loc Cert.FlashBwdIdeal.main_v100_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
          ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
          ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v124) = v0 c
          ∧ r.2.mem ((c.tc : Thread Cert.FlashBwdRefIdeal.nD Cert.FlashBwdRefIdeal.τ).loc Cert.FlashBwdRefIdeal.main_v125) = v1 c
          ∧ r.2.mem ((c.tc : Thread Cert.FlashBwdRefIdeal.nD Cert.FlashBwdRefIdeal.τ).loc Cert.FlashBwdRefIdeal.main_v127) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3)
          ∧ r.2.mem ((c.tc : Thread Cert.FlashBwdRefIdeal.nD Cert.FlashBwdRefIdeal.τ).loc Cert.FlashBwdRefIdeal.main_arg4) = m' ((c.tc : Thread Cert.FlashBwdRefIdeal.nD Cert.FlashBwdRefIdeal.τ).loc Cert.FlashBwdRefIdeal.main_arg4)
          ∧ r.2.mem ((c.tc : Thread Cert.FlashBwdRefIdeal.nD Cert.FlashBwdRefIdeal.τ).loc Cert.FlashBwdRefIdeal.main_arg5) = m' ((c.tc : Thread Cert.FlashBwdRefIdeal.nD Cert.FlashBwdRefIdeal.τ).loc Cert.FlashBwdRefIdeal.main_arg5))

def Claim : Prop :=
  ∃ (hMerge : Cert.Merge.Facts) (hMergeIdeal : Cert.MergeIdeal.Facts) (hMergeRefIdeal : Cert.MergeRefIdeal.Facts) (hDup : Cert.Dup.Facts) (hDupIdeal : Cert.DupIdeal.Facts) (hDupRefIdeal : Cert.DupRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDh2 : Cert.Dh2.Facts) (hDh2Ideal : Cert.Dh2Ideal.Facts) (hDh2RefIdeal : Cert.Dh2RefIdeal.Facts) (hDwOut : Cert.DwOut.Facts) (hDwOutIdeal : Cert.DwOutIdeal.Facts) (hDwOutRefIdeal : Cert.DwOutRefIdeal.Facts) (hDmerged : Cert.Dmerged.Facts) (hDmergedIdeal : Cert.DmergedIdeal.Facts) (hDmergedRefIdeal : Cert.DmergedRefIdeal.Facts) (hDwProj : Cert.DwProj.Facts) (hDwProjIdeal : Cert.DwProjIdeal.Facts) (hDwProjRefIdeal : Cert.DwProjRefIdeal.Facts) (hDact : Cert.Dact.Facts) (hDactIdeal : Cert.DactIdeal.Facts) (hDactRefIdeal : Cert.DactRefIdeal.Facts) (hDwUq : Cert.DwUq.Facts) (hDwUqIdeal : Cert.DwUqIdeal.Facts) (hDwUqRefIdeal : Cert.DwUqRefIdeal.Facts) (hDqn : Cert.Dqn.Facts) (hDqnIdeal : Cert.DqnIdeal.Facts) (hDqnRefIdeal : Cert.DqnRefIdeal.Facts) (hDwUkv : Cert.DwUkv.Facts) (hDwUkvIdeal : Cert.DwUkvIdeal.Facts) (hDwUkvRefIdeal : Cert.DwUkvRefIdeal.Facts) (hDkvn : Cert.Dkvn.Facts) (hDkvnIdeal : Cert.DkvnIdeal.Facts) (hDkvnRefIdeal : Cert.DkvnRefIdeal.Facts) (hDwA : Cert.DwA.Facts) (hDwAIdeal : Cert.DwAIdeal.Facts) (hDwARefIdeal : Cert.DwARefIdeal.Facts) (hDwG : Cert.DwG.Facts) (hDwGIdeal : Cert.DwGIdeal.Facts) (hDwGRefIdeal : Cert.DwGRefIdeal.Facts) (hDh1A : Cert.Dh1A.Facts) (hDh1AIdeal : Cert.Dh1AIdeal.Facts) (hDh1ARefIdeal : Cert.Dh1ARefIdeal.Facts) (hDh1G : Cert.Dh1G.Facts) (hDh1GIdeal : Cert.Dh1GIdeal.Facts) (hDh1GRefIdeal : Cert.Dh1GRefIdeal.Facts) (hZa : Cert.Za.Facts) (hZaIdeal : Cert.ZaIdeal.Facts) (hZaRefIdeal : Cert.ZaRefIdeal.Facts) (hZg : Cert.Zg.Facts) (hZgIdeal : Cert.ZgIdeal.Facts) (hZgRefIdeal : Cert.ZgRefIdeal.Facts) (hKv : Cert.Kv.Facts) (hKvIdeal : Cert.KvIdeal.Facts) (hKvRefIdeal : Cert.KvRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hFlashBwd : Cert.FlashBwd.Facts) (hFlashBwdIdeal : Cert.FlashBwdIdeal.Facts) (hFlashBwdRefIdeal : Cert.FlashBwdRefIdeal.Facts) (hPre_finite_inputs : Cert.Pre_finite_inputs.Facts),
    quiescent_Merge (hMerge := hMerge)
    ∧ quiescent_MergeIdeal (hMergeIdeal := hMergeIdeal)
    ∧ quiescent_MergeRefIdeal (hMergeRefIdeal := hMergeRefIdeal)
    ∧ quiescent_Dup (hDup := hDup)
    ∧ quiescent_DupIdeal (hDupIdeal := hDupIdeal)
    ∧ quiescent_DupRefIdeal (hDupRefIdeal := hDupRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_DwProj (hDwProj := hDwProj)
    ∧ quiescent_DwProjIdeal (hDwProjIdeal := hDwProjIdeal)
    ∧ quiescent_DwProjRefIdeal (hDwProjRefIdeal := hDwProjRefIdeal)
    ∧ quiescent_Dact (hDact := hDact)
    ∧ quiescent_DactIdeal (hDactIdeal := hDactIdeal)
    ∧ quiescent_DactRefIdeal (hDactRefIdeal := hDactRefIdeal)
    ∧ quiescent_DwUq (hDwUq := hDwUq)
    ∧ quiescent_DwUqIdeal (hDwUqIdeal := hDwUqIdeal)
    ∧ quiescent_DwUqRefIdeal (hDwUqRefIdeal := hDwUqRefIdeal)
    ∧ quiescent_Dqn (hDqn := hDqn)
    ∧ quiescent_DqnIdeal (hDqnIdeal := hDqnIdeal)
    ∧ quiescent_DqnRefIdeal (hDqnRefIdeal := hDqnRefIdeal)
    ∧ quiescent_DwUkv (hDwUkv := hDwUkv)
    ∧ quiescent_DwUkvIdeal (hDwUkvIdeal := hDwUkvIdeal)
    ∧ quiescent_DwUkvRefIdeal (hDwUkvRefIdeal := hDwUkvRefIdeal)
    ∧ quiescent_Dkvn (hDkvn := hDkvn)
    ∧ quiescent_DkvnIdeal (hDkvnIdeal := hDkvnIdeal)
    ∧ quiescent_DkvnRefIdeal (hDkvnRefIdeal := hDkvnRefIdeal)
    ∧ quiescent_DwA (hDwA := hDwA)
    ∧ quiescent_DwAIdeal (hDwAIdeal := hDwAIdeal)
    ∧ quiescent_DwARefIdeal (hDwARefIdeal := hDwARefIdeal)
    ∧ quiescent_DwG (hDwG := hDwG)
    ∧ quiescent_DwGIdeal (hDwGIdeal := hDwGIdeal)
    ∧ quiescent_DwGRefIdeal (hDwGRefIdeal := hDwGRefIdeal)
    ∧ quiescent_Dh1A (hDh1A := hDh1A)
    ∧ quiescent_Dh1AIdeal (hDh1AIdeal := hDh1AIdeal)
    ∧ quiescent_Dh1ARefIdeal (hDh1ARefIdeal := hDh1ARefIdeal)
    ∧ quiescent_Dh1G (hDh1G := hDh1G)
    ∧ quiescent_Dh1GIdeal (hDh1GIdeal := hDh1GIdeal)
    ∧ quiescent_Dh1GRefIdeal (hDh1GRefIdeal := hDh1GRefIdeal)
    ∧ quiescent_Za (hZa := hZa)
    ∧ quiescent_ZaIdeal (hZaIdeal := hZaIdeal)
    ∧ quiescent_ZaRefIdeal (hZaRefIdeal := hZaRefIdeal)
    ∧ quiescent_Zg (hZg := hZg)
    ∧ quiescent_ZgIdeal (hZgIdeal := hZgIdeal)
    ∧ quiescent_ZgRefIdeal (hZgRefIdeal := hZgRefIdeal)
    ∧ quiescent_Kv (hKv := hKv)
    ∧ quiescent_KvIdeal (hKvIdeal := hKvIdeal)
    ∧ quiescent_KvRefIdeal (hKvRefIdeal := hKvRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_FlashBwd (hFlashBwd := hFlashBwd)
    ∧ quiescent_FlashBwdIdeal (hFlashBwdIdeal := hFlashBwdIdeal)
    ∧ quiescent_FlashBwdIdeal_pre_finite_inputs (hFlashBwdIdeal := hFlashBwdIdeal) (hPre_finite_inputs := hPre_finite_inputs)
    ∧ quiescent_FlashBwdRefIdeal (hFlashBwdRefIdeal := hFlashBwdRefIdeal)
    ∧ quiescent_FlashBwdRefIdeal_pre_finite_inputs (hFlashBwdRefIdeal := hFlashBwdRefIdeal) (hPre_finite_inputs := hPre_finite_inputs)
    ∧ preserves_Merge_MergeIdeal
    ∧ algebraic_MergeIdeal_MergeRefIdeal (hMergeIdeal := hMergeIdeal) (hMergeRefIdeal := hMergeRefIdeal)
    ∧ preserves_Dup_DupIdeal
    ∧ algebraic_DupIdeal_DupRefIdeal (hDupIdeal := hDupIdeal) (hDupRefIdeal := hDupRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_Dh2_Dh2Ideal
    ∧ algebraic_Dh2Ideal_Dh2RefIdeal (hDh2Ideal := hDh2Ideal) (hDh2RefIdeal := hDh2RefIdeal)
    ∧ preserves_DwOut_DwOutIdeal
    ∧ algebraic_DwOutIdeal_DwOutRefIdeal (hDwOutIdeal := hDwOutIdeal) (hDwOutRefIdeal := hDwOutRefIdeal)
    ∧ preserves_Dmerged_DmergedIdeal
    ∧ algebraic_DmergedIdeal_DmergedRefIdeal (hDmergedIdeal := hDmergedIdeal) (hDmergedRefIdeal := hDmergedRefIdeal)
    ∧ preserves_DwProj_DwProjIdeal
    ∧ algebraic_DwProjIdeal_DwProjRefIdeal (hDwProjIdeal := hDwProjIdeal) (hDwProjRefIdeal := hDwProjRefIdeal)
    ∧ preserves_Dact_DactIdeal
    ∧ algebraic_DactIdeal_DactRefIdeal (hDactIdeal := hDactIdeal) (hDactRefIdeal := hDactRefIdeal)
    ∧ preserves_DwUq_DwUqIdeal
    ∧ algebraic_DwUqIdeal_DwUqRefIdeal (hDwUqIdeal := hDwUqIdeal) (hDwUqRefIdeal := hDwUqRefIdeal)
    ∧ preserves_Dqn_DqnIdeal
    ∧ algebraic_DqnIdeal_DqnRefIdeal (hDqnIdeal := hDqnIdeal) (hDqnRefIdeal := hDqnRefIdeal)
    ∧ preserves_DwUkv_DwUkvIdeal
    ∧ algebraic_DwUkvIdeal_DwUkvRefIdeal (hDwUkvIdeal := hDwUkvIdeal) (hDwUkvRefIdeal := hDwUkvRefIdeal)
    ∧ preserves_Dkvn_DkvnIdeal
    ∧ algebraic_DkvnIdeal_DkvnRefIdeal (hDkvnIdeal := hDkvnIdeal) (hDkvnRefIdeal := hDkvnRefIdeal)
    ∧ preserves_DwA_DwAIdeal
    ∧ algebraic_DwAIdeal_DwARefIdeal (hDwAIdeal := hDwAIdeal) (hDwARefIdeal := hDwARefIdeal)
    ∧ preserves_DwG_DwGIdeal
    ∧ algebraic_DwGIdeal_DwGRefIdeal (hDwGIdeal := hDwGIdeal) (hDwGRefIdeal := hDwGRefIdeal)
    ∧ preserves_Dh1A_Dh1AIdeal
    ∧ algebraic_Dh1AIdeal_Dh1ARefIdeal (hDh1AIdeal := hDh1AIdeal) (hDh1ARefIdeal := hDh1ARefIdeal)
    ∧ preserves_Dh1G_Dh1GIdeal
    ∧ algebraic_Dh1GIdeal_Dh1GRefIdeal (hDh1GIdeal := hDh1GIdeal) (hDh1GRefIdeal := hDh1GRefIdeal)
    ∧ preserves_Za_ZaIdeal
    ∧ algebraic_ZaIdeal_ZaRefIdeal (hZaIdeal := hZaIdeal) (hZaRefIdeal := hZaRefIdeal)
    ∧ preserves_Zg_ZgIdeal
    ∧ algebraic_ZgIdeal_ZgRefIdeal (hZgIdeal := hZgIdeal) (hZgRefIdeal := hZgRefIdeal)
    ∧ preserves_Kv_KvIdeal
    ∧ algebraic_KvIdeal_KvRefIdeal (hKvIdeal := hKvIdeal) (hKvRefIdeal := hKvRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_FlashBwd_FlashBwdIdeal
    ∧ algebraic_FlashBwdIdeal_FlashBwdRefIdeal_pre_finite_inputs (hFlashBwdIdeal := hFlashBwdIdeal) (hFlashBwdRefIdeal := hFlashBwdRefIdeal) (hPre_finite_inputs := hPre_finite_inputs)
-- ==== Pre_finite_inputs.lean ====
abbrev S4096x1536 : Shape := ⟨2, ![4096, 1536]⟩
abbrev S4096x2048 : Shape := ⟨2, ![4096, 2048]⟩
abbrev S4096x64 : Shape := ⟨2, ![4096, 64]⟩
abbrev S4096x2560 : Shape := ⟨2, ![4096, 2560]⟩
abbrev S4096x32 : Shape := ⟨2, ![4096, 32]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x64 : S_.BroadcastsInDim S4096x64 (![] : Fin 0 → Fin S4096x64.rank)
  reducesTo_S4096x64_S_d0_1 : S4096x64.ReducesTo [0, 1] S_
  bcast_S_S4096x2560 : S_.BroadcastsInDim S4096x2560 (![] : Fin 0 → Fin S4096x2560.rank)
  reducesTo_S4096x2560_S_d0_1 : S4096x2560.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part2 {F : FTy → Type} [FloatOps F] (main_arg5 : FVec F S4096x32 .f32) (main_v29 : IVec S_ 1) (main_v31 : IVec S4096x32 1) (main_v33 : IVec S4096x32 1) : IVec S_ 1 :=
  let main_v34 : IVec S4096x32 1 := andi main_v31 main_v33
  let main_c_12 : IVec S_ 1 := constantI S_ 1 1#1
  let main_v35 : IVec S_ 1 := (fun x v => Host.reduce IntOp.andi x v reducesTo_S4096x32_S_d0_1 h_S_) main_v34 main_c_12
  let main_v36 : IVec S_ 1 := andi main_v29 main_v35
  let main_cst_13 : FVec F S_ .f32 := constant S_ .f32 0xFF800000#32
  let main_v37 : FVec F S4096x32 .f32 := broadcastInDim S4096x32 ![] bcast_S_S4096x32 main_cst_13
  let main_v38 : IVec S4096x32 1 := cmpf .ogt main_arg5 main_v37
  let main_cst_14 : FVec F S_ .f32 := constant S_ .f32 0x7F800000#32
  let main_v39 : FVec F S4096x32 .f32 := broadcastInDim S4096x32 ![] bcast_S_S4096x32 main_cst_14
  let main_v40 : IVec S4096x32 1 := cmpf .olt main_arg5 main_v39
  let main_v41 : IVec S4096x32 1 := andi main_v38 main_v40
  let main_c_15 : IVec S_ 1 := constantI S_ 1 1#1
  let main_v42 : IVec S_ 1 := (fun x v => Host.reduce IntOp.andi x v reducesTo_S4096x32_S_d0_1 h_S_) main_v41 main_c_15
  let main_v43 : IVec S_ 1 := andi main_v36 main_v42
  main_v43

def fn_part1 {F : FTy → Type} [FloatOps F] (main_arg3 : FVec F S4096x2560 .f32) (main_arg4 : FVec F S4096x32 .f32) (main_arg5 : FVec F S4096x32 .f32) (main_v14 : IVec S_ 1) (main_v15 : FVec F S4096x64 .f32) (main_v16 : FVec F S4096x64 .f32) : IVec S_ 1 :=
  let main_v17 : IVec S4096x64 1 := cmpf .ogt main_v15 main_v16
  let main_cst_5 : FVec F S_ .f32 := constant S_ .f32 0x7F800000#32
  let main_v18 : FVec F S4096x64 .f32 := broadcastInDim S4096x64 ![] bcast_S_S4096x64 main_cst_5
  let main_v19 : IVec S4096x64 1 := cmpf .olt main_v15 main_v18
  let main_v20 : IVec S4096x64 1 := andi main_v17 main_v19
  let main_c_6 : IVec S_ 1 := constantI S_ 1 1#1
  let main_v21 : IVec S_ 1 := (fun x v => Host.reduce IntOp.andi x v reducesTo_S4096x64_S_d0_1 h_S_) main_v20 main_c_6
  let main_v22 : IVec S_ 1 := andi main_v14 main_v21
  let main_cst_7 : FVec F S_ .f32 := constant S_ .f32 0xFF800000#32
  let main_v23 : FVec F S4096x2560 .f32 := broadcastInDim S4096x2560 ![] bcast_S_S4096x2560 main_cst_7
  let main_v24 : IVec S4096x2560 1 := cmpf .ogt main_arg3 main_v23
  let main_cst_8 : FVec F S_ .f32 := constant S_ .f32 0x7F800000#32
  let main_v25 : FVec F S4096x2560 .f32 := broadcastInDim S4096x2560 ![] bcast_S_S4096x2560 main_cst_8
  let main_v26 : IVec S4096x2560 1 := cmpf .olt main_arg3 main_v25
  let main_v27 : IVec S4096x2560 1 := andi main_v24 main_v26
  let main_c_9 : IVec S_ 1 := constantI S_ 1 1#1
  let main_v28 : IVec S_ 1 := (fun x v => Host.reduce IntOp.andi x v reducesTo_S4096x2560_S_d0_1 h_S_) main_v27 main_c_9
  let main_v29 : IVec S_ 1 := andi main_v22 main_v28
  let main_cst_10 : FVec F S_ .f32 := constant S_ .f32 0xFF800000#32
  let main_v30 : FVec F S4096x32 .f32 := broadcastInDim S4096x32 ![] bcast_S_S4096x32 main_cst_10
  let main_v31 : IVec S4096x32 1 := cmpf .ogt main_arg4 main_v30
  let main_cst_11 : FVec F S_ .f32 := constant S_ .f32 0x7F800000#32
  let main_v32 : FVec F S4096x32 .f32 := broadcastInDim S4096x32 ![] bcast_S_S4096x32 main_cst_11
  let main_v33 : IVec S4096x32 1 := cmpf .olt main_arg4 main_v32
  fn_part2 (F := F) main_arg5 main_v29 main_v31 main_v33

def fn {F : FTy → Type} [FloatOps F] (main_arg0 : FVec F S4096x1536 .bf16) (main_arg1 : FVec F S4096x2048 .bf16) (main_arg2 : FVec F S4096x64 .bf16) (main_arg3 : FVec F S4096x2560 .f32) (main_arg4 : FVec F S4096x32 .f32) (main_arg5 : FVec F S4096x32 .f32) : IVec S_ 1 :=
  let main_v0 : FVec F S4096x1536 .f32 := (extf .f32 · bitsLt_bf16_f32) main_arg0
  let main_cst : FVec F S_ .f32 := constant S_ .f32 0xFF800000#32
  let main_v1 : FVec F S4096x1536 .f32 := broadcastInDim S4096x1536 ![] bcast_S_S4096x1536 main_cst
  let main_v2 : IVec S4096x1536 1 := cmpf .ogt main_v0 main_v1
  let main_cst_0 : FVec F S_ .f32 := constant S_ .f32 0x7F800000#32
  let main_v3 : FVec F S4096x1536 .f32 := broadcastInDim S4096x1536 ![] bcast_S_S4096x1536 main_cst_0
  let main_v4 : IVec S4096x1536 1 := cmpf .olt main_v0 main_v3
  let main_v5 : IVec S4096x1536 1 := andi main_v2 main_v4
  let main_c : IVec S_ 1 := constantI S_ 1 1#1
  let main_v6 : IVec S_ 1 := (fun x v => Host.reduce IntOp.andi x v reducesTo_S4096x1536_S_d0_1 h_S_) main_v5 main_c
  let main_v7 : FVec F S4096x2048 .f32 := (extf .f32 · bitsLt_bf16_f32) main_arg1
  let main_cst_1 : FVec F S_ .f32 := constant S_ .f32 0xFF800000#32
  let main_v8 : FVec F S4096x2048 .f32 := broadcastInDim S4096x2048 ![] bcast_S_S4096x2048 main_cst_1
  let main_v9 : IVec S4096x2048 1 := cmpf .ogt main_v7 main_v8
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v7 main_v10
  let main_v12 : IVec S4096x2048 1 := andi main_v9 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v6 main_v13
  let main_v15 : FVec F S4096x64 .f32 := (extf .f32 · bitsLt_bf16_f32) main_arg2
  let main_cst_4 : FVec F S_ .f32 := constant S_ .f32 0xFF800000#32
  let main_v16 : FVec F S4096x64 .f32 := broadcastInDim S4096x64 ![] bcast_S_S4096x64 main_cst_4
  fn_part1 (F := F) main_arg3 main_arg4 main_arg5 main_v14 main_v15 main_v16
-- ==== Merge.lean ====
abbrev S4096x2048 : Shape := ⟨2, ![4096, 2048]⟩
abbrev S4096x8192 : Shape := ⟨2, ![4096, 8192]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S4096x8192, .bf16⟩
  | .hbm, ⟨3, _⟩ => ⟨S4096x8192, .bf16⟩
  | .hbm, ⟨4, _⟩ => ⟨S4096x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MergeRefIdeal.lean ====
abbrev S4096x2048 : Shape := ⟨2, ![4096, 2048]⟩
abbrev S4096x8192 : Shape := ⟨2, ![4096, 8192]⟩
abbrev S4096x4x2048 : Shape := ⟨3, ![4096, 4, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S4096x8192, .bf16⟩
  | .hbm, ⟨3, _⟩ => ⟨S4096x8192, .f32⟩
  | .hbm, ⟨4, _⟩ => ⟨S4096x4x2048, .f32⟩
  | .hbm, ⟨5, _⟩ => ⟨S4096x4x2048, .f32⟩
  | .hbm, ⟨6, _⟩ => ⟨S4096x4x2048, .f32⟩
  | .hbm, ⟨7, _⟩ => ⟨S_, .f32⟩
  | .hbm, ⟨8, _⟩ => ⟨S4096x4x2048, .f32⟩
  | .hbm, ⟨9, _⟩ => ⟨S4096x4x2048, .f32⟩
  | .hbm, ⟨10, _⟩ => ⟨S_, .f32⟩
  | .hbm, ⟨11, _⟩ => ⟨S4096x4x2048, .f32⟩
  | .hbm, ⟨12, _⟩ => ⟨S4096x4x2048, .f32⟩
  | .hbm, ⟨13, _⟩ => ⟨S_, .f32⟩
  | .hbm, ⟨14, _⟩ => ⟨S4096x4x2048, .f32⟩
  | .hbm, ⟨15, _⟩ => ⟨S4096x4x2048, .f32⟩
  | .hbm, ⟨16, _⟩ => ⟨S4096x4x2048, .f32⟩
  | .hbm, ⟨17, _⟩ => ⟨S4096x8192, .f32⟩
  | .hbm, ⟨18, _⟩ => ⟨S4096x4x2048, .f32⟩
  | .hbm, ⟨19, _⟩ => ⟨S4096x4x2048, .f32⟩
  | .hbm, ⟨20, _⟩ => ⟨S_, .f32⟩
  | .hbm, ⟨21, _⟩ => ⟨S4096x2048, .f32⟩
  | .hbm, ⟨22, _⟩ => ⟨S4096x4x2048, .f32⟩
  | .hbm, ⟨23, _⟩ => ⟨S4096x4x2048, .f32⟩
  | .hbm, ⟨24, _⟩ => ⟨S4096x4x2048, .f32⟩
  | .hbm, ⟨25, _⟩ => ⟨S4096x8192, .f32⟩
  | .hbm, ⟨26, _⟩ => ⟨S4096x8192, .bf16⟩
  | .hbm, ⟨27, _⟩ => ⟨S4096x4x2048, .f32⟩
  | .hbm, ⟨28, _⟩ => ⟨S4096x8192, .f32⟩
  | .hbm, ⟨29, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Dup.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DupRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DwDown.lean ====
abbrev S4096x8192 : Shape := ⟨2, ![4096, 8192]⟩
abbrev S4096x2048 : Shape := ⟨2, ![4096, 2048]⟩
abbrev S8192x2048 : Shape := ⟨2, ![8192, 2048]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x2048 : Shape := ⟨2, ![4096, 2048]⟩
abbrev S4096x8192 : Shape := ⟨2, ![4096, 8192]⟩
abbrev S_ : Shape := ⟨0, ![]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S8x2048x1024, .f32⟩
  | .hbm, ⟨4, _⟩ => ⟨S4096x2048, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Dh2.lean ====
abbrev S4096x8192 : Shape := ⟨2, ![4096, 8192]⟩
abbrev S8x2048x1024 : Shape := ⟨3, ![8, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S4096x8192 : Shape := ⟨2, ![4096, 8192]⟩
abbrev S8x2048x1024 : Shape := ⟨3, ![8, 2048, 1024]⟩
abbrev S_ : Shape := ⟨0, ![]⟩
abbrev S4096x2048 : Shape := ⟨2, ![4096, 2048]⟩
abbrev S2048x8x1024 : Shape := ⟨3, ![2048, 8, 1024]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S_, .f32⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dmerged.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwProj.lean ====
abbrev S4096x2560 : Shape := ⟨2, ![4096, 2560]⟩
abbrev S4096x8192 : Shape := ⟨2, ![4096, 8192]⟩
abbrev S2560x2048 : Shape := ⟨2, ![2560, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S4096x8192, .bf16⟩
  | .hbm, ⟨2, _⟩ => ⟨S2560x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg0 c3_i32
  let c2_i32 : BitVec 32 := 2#32
  let v1 : BitVec 32 := Scalar.muli v0 c2_i32
  let v2 : BitVec 32 := Scalar.addi v1 arg1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwProjRefIdeal.lean ====
abbrev S4096x2560 : Shape := ⟨2, ![4096, 2560]⟩
abbrev S4096x8192 : Shape := ⟨2, ![4096, 8192]⟩
abbrev S_ : Shape := ⟨0, ![]⟩
abbrev S2560x2048 : Shape := ⟨2, ![2560, 2048]⟩
abbrev S4096x512 : Shape := ⟨2, ![4096, 512]⟩
abbrev S4096x1024 : Shape := ⟨2, ![4096, 1024]⟩
abbrev S512x2048 : Shape := ⟨2, ![512, 2048]⟩
abbrev S1024x2048 : Shape := ⟨2, ![1024, 2048]⟩
abbrev S4096x2048 : Shape := ⟨2, ![4096, 2048]⟩
abbrev S2048x1024 : Shape := ⟨2, ![2048, 1024]⟩
abbrev S2048x512 : Shape := ⟨2, ![2048, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x8192, .bf16⟩
  | .hbm, ⟨2, _⟩ => ⟨S_, .f32⟩
  | .hbm, ⟨3, _⟩ => ⟨S2560x2048, .f32⟩
  | .hbm, ⟨4, _⟩ => ⟨S4096x2560, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S1024x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S2048x1024, .f32⟩
  | .hbm, ⟨24, _⟩ => ⟨S1024x2048, .f32⟩
  | .hbm, ⟨25, _⟩ => ⟨S2048x512, .f32⟩
  | .hbm, ⟨26, _⟩ => ⟨S512x2048, .f32⟩
  | .hbm, ⟨27, _⟩ => ⟨S2048x512, .f32⟩
  | .hbm, ⟨28, _⟩ => ⟨S512x2048, .f32⟩
  | .hbm, ⟨29, _⟩ => ⟨S2048x512, .f32⟩
  | .hbm, ⟨30, _⟩ => ⟨S512x2048, .f32⟩
  | .hbm, ⟨31, _⟩ => ⟨S2560x2048, .f32⟩
  | .hbm, ⟨32, _⟩ => ⟨S2560x2048, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Dact.lean ====
abbrev S4096x8192 : Shape := ⟨2, ![4096, 8192]⟩
abbrev S2560x2048 : Shape := ⟨2, ![2560, 2048]⟩
abbrev S4096x2560 : Shape := ⟨2, ![4096, 2560]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2560x2048, .bf16⟩
  | .hbm, ⟨2, _⟩ => ⟨S4096x2560, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c1_i32 : BitVec 32 := 1#32
  let v1 : BitVec 32 := Scalar.muli v0 c1_i32
  let v2 : BitVec 32 := Scalar.addi v1 arg2
  let c0_i32 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x8192 : Shape := ⟨2, ![4096, 8192]⟩
abbrev S2560x2048 : Shape := ⟨2, ![2560, 2048]⟩
abbrev S_ : Shape := ⟨0, ![]⟩
abbrev S4096x2560 : Shape := ⟨2, ![4096, 2560]⟩
abbrev S4096x512 : Shape := ⟨2, ![4096, 512]⟩
abbrev S4096x1024 : Shape := ⟨2, ![4096, 1024]⟩
abbrev S512x2048 : Shape := ⟨2, ![512, 2048]⟩
abbrev S1024x2048 : Shape := ⟨2, ![1024, 2048]⟩
abbrev S4096x2048 : Shape := ⟨2, ![4096, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2560x2048, .bf16⟩
  | .hbm, ⟨2, _⟩ => ⟨S_, .f32⟩
  | .hbm, ⟨3, _⟩ => ⟨S4096x2560, .f32⟩
  | .hbm, ⟨4, _⟩ => ⟨S2560x2048, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S1024x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x1024, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x2560, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== DwUq.lean ====
abbrev S4096x512 : Shape := ⟨2, ![4096, 512]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUqRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dqn.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqnRefIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwUkv.lean ====
abbrev S4096x512 : Shape := ⟨2, ![4096, 512]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUkvRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dkvn.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvnRefIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwA.lean ====
abbrev S4096x2048 : Shape := ⟨2, ![4096, 2048]⟩
abbrev S4096x3712 : Shape := ⟨2, ![4096, 3712]⟩
abbrev S2048x3712 : Shape := ⟨2, ![2048, 3712]⟩
abbrev S512x512 : Shape := ⟨2, ![512, 512]⟩
abbrev S512x3712 : Shape := ⟨2, ![512, 3712]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3712, .bf16⟩
  | .hbm, ⟨2, _⟩ => ⟨S2048x3712, .bf16⟩
  | .local _ .vmem, ⟨0, _⟩ => ⟨S512x512, .bf16⟩
  | .local _ .vmem, ⟨1, _⟩ => ⟨S512x512, .bf16⟩
  | .local _ .vmem, ⟨2, _⟩ => ⟨S512x3712, .bf16⟩
  | .local _ .vmem, ⟨3, _⟩ => ⟨S512x3712, .bf16⟩
  | .local _ .vmem, ⟨4, _⟩ => ⟨S512x3712, .bf16⟩
  | .local _ .vmem, ⟨5, _⟩ => ⟨S512x3712, .bf16⟩
  | .local _ .vmem, ⟨6, _⟩ => ⟨S512x3712, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3712 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwARefIdeal.lean ====
abbrev S4096x2048 : Shape := ⟨2, ![4096, 2048]⟩
abbrev S4096x3712 : Shape := ⟨2, ![4096, 3712]⟩
abbrev S_ : Shape := ⟨0, ![]⟩
abbrev S2048x3712 : Shape := ⟨2, ![2048, 3712]⟩
abbrev S3712x2048 : Shape := ⟨2, ![3712, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3712, .bf16⟩
  | .hbm, ⟨2, _⟩ => ⟨S_, .f32⟩
  | .hbm, ⟨3, _⟩ => ⟨S2048x3712, .f32⟩
  | .hbm, ⟨4, _⟩ => ⟨S4096x2048, .f32⟩
  | .hbm, ⟨5, _⟩ => ⟨S4096x3712, .f32⟩
  | .hbm, ⟨6, _⟩ => ⟨S4096x3712, .f32⟩
  | .hbm, ⟨7, _⟩ => ⟨S3712x2048, .f32⟩
  | .hbm, ⟨8, _⟩ => ⟨S2048x3712, .f32⟩
  | .hbm, ⟨9, _⟩ => ⟨S2048x3712, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwG.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh1A.lean ====
abbrev S4096x3712 : Shape := ⟨2, ![4096, 3712]⟩
abbrev S2048x3712 : Shape := ⟨2, ![2048, 3712]⟩
abbrev S4096x2048 : Shape := ⟨2, ![4096, 2048]⟩
abbrev S512x3712 : Shape := ⟨2, ![512, 3712]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x3712, .bf16⟩
  | .hbm, ⟨1, _⟩ => ⟨S2048x3712, .bf16⟩
  | .hbm, ⟨2, _⟩ => ⟨S4096x2048, .f32⟩
  | .local _ .vmem, ⟨0, _⟩ => ⟨S512x3712, .bf16⟩
  | .local _ .vmem, ⟨1, _⟩ => ⟨S512x3712, .bf16⟩
  | .local _ .vmem, ⟨2, _⟩ => ⟨S512x3712, .bf16⟩
  | .local _ .vmem, ⟨3, _⟩ => ⟨S512x3712, .bf16⟩
  | .local _ .vmem, ⟨4, _⟩ => ⟨S512x512, .f32⟩
  | .local _ .vmem, ⟨5, _⟩ => ⟨S512x512, .f32⟩
  | .local _ .vmem, ⟨6, _⟩ => ⟨S8x128, .f32⟩
  | _, _ => ⟨S4096x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1ARefIdeal.lean ====
abbrev S4096x3712 : Shape := ⟨2, ![4096, 3712]⟩
abbrev S2048x3712 : Shape := ⟨2, ![2048, 3712]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3712, .bf16⟩
  | .hbm, ⟨1, _⟩ => ⟨S2048x3712, .bf16⟩
  | .hbm, ⟨2, _⟩ => ⟨S_, .f32⟩
  | .hbm, ⟨3, _⟩ => ⟨S4096x2048, .f32⟩
  | .hbm, ⟨4, _⟩ => ⟨S2048x3712, .f32⟩
  | .hbm, ⟨5, _⟩ => ⟨S4096x3712, .f32⟩
  | .hbm, ⟨6, _⟩ => ⟨S4096x3712, .f32⟩
  | .hbm, ⟨7, _⟩ => ⟨S4096x2048, .f32⟩
  | _, _ => ⟨S4096x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dh1G.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh1GRefIdeal.lean ====
abbrev S4096x8192 : Shape := ⟨2, ![4096, 8192]⟩
abbrev S2048x8192 : Shape := ⟨2, ![2048, 8192]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Za.lean ====
abbrev S4096x2048 : Shape := ⟨2, ![4096, 2048]⟩
abbrev S2048x3712 : Shape := ⟨2, ![2048, 3712]⟩
abbrev S4096x3712 : Shape := ⟨2, ![4096, 3712]⟩
abbrev S512x512 : Shape := ⟨2, ![512, 512]⟩
abbrev S512x3712 : Shape := ⟨2, ![512, 3712]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x3712, .bf16⟩
  | .hbm, ⟨2, _⟩ => ⟨S4096x3712, .f32⟩
  | .local _ .vmem, ⟨0, _⟩ => ⟨S512x512, .bf16⟩
  | .local _ .vmem, ⟨1, _⟩ => ⟨S512x512, .bf16⟩
  | .local _ .vmem, ⟨2, _⟩ => ⟨S512x3712, .bf16⟩
  | .local _ .vmem, ⟨3, _⟩ => ⟨S512x3712, .bf16⟩
  | .local _ .vmem, ⟨4, _⟩ => ⟨S512x3712, .f32⟩
  | .local _ .vmem, ⟨5, _⟩ => ⟨S512x3712, .f32⟩
  | .local _ .vmem, ⟨6, _⟩ => ⟨S512x3712, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZaRefIdeal.lean ====
abbrev S4096x2048 : Shape := ⟨2, ![4096, 2048]⟩
abbrev S2048x3712 : Shape := ⟨2, ![2048, 3712]⟩
abbrev S4096x3712 : Shape := ⟨2, ![4096, 3712]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3712, .bf16⟩
  | .hbm, ⟨2, _⟩ => ⟨S4096x2048, .f32⟩
  | .hbm, ⟨3, _⟩ => ⟨S2048x3712, .f32⟩
  | .hbm, ⟨4, _⟩ => ⟨S4096x3712, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Zg.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZgRefIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kv.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S4096x8192, .bf16⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FlashBwd.lean ====
abbrev S4096x1536 : Shape := ⟨2, ![4096, 1536]⟩
abbrev S4096x2048 : Shape := ⟨2, ![4096, 2048]⟩
abbrev S4096x64 : Shape := ⟨2, ![4096, 64]⟩
abbrev S4096x2560 : Shape := ⟨2, ![4096, 2560]⟩
abbrev S4096x32 : Shape := ⟨2, ![4096, 32]⟩
abbrev S4096x1x64 : Shape := ⟨3, ![4096, 1, 64]⟩
abbrev S4096x8x64 : Shape := ⟨3, ![4096, 8, 64]⟩
abbrev S4096x8x192 : Shape := ⟨3, ![4096, 8, 192]⟩
abbrev S4096x8x256 : Shape := ⟨3, ![4096, 8, 256]⟩
abbrev S4096x1x32 : Shape := ⟨3, ![4096, 1, 32]⟩
abbrev S4096x8x32 : Shape := ⟨3, ![4096, 8, 32]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S4096x8 : Shape := ⟨2, ![4096, 8]⟩
abbrev S4096x8x1 : Shape := ⟨3, ![4096, 8, 1]⟩
abbrev S4096x128 : Shape := ⟨2, ![4096, 128]⟩
abbrev S4096x256 : Shape := ⟨2, ![4096, 256]⟩
abbrev S1024x256 : Shape := ⟨2, ![1024, 256]⟩
abbrev S512x128 : Shape := ⟨2, ![512, 128]⟩
abbrev S1024x128 : Shape := ⟨2, ![1024, 128]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 127
  | .vmem => 27
  | .smem => 0
  | _ => 0

abbrev bufTy : (tb : Table) → Fin (tcTables nBuf tb) → BufTy
  | .hbm, ⟨0, _⟩ => ⟨S4096x1536, .bf16⟩
  | .hbm, ⟨1, _⟩ => ⟨S4096x2048, .bf16⟩
  | .hbm, ⟨2, _⟩ => ⟨S4096x64, .bf16⟩
  | .hbm, ⟨3, _⟩ => ⟨S4096x2560, .f32⟩
  | .hbm, ⟨4, _⟩ => ⟨S4096x32, .f32⟩
  | .hbm, ⟨5, _⟩ => ⟨S4096x32, .f32⟩
  | .hbm, ⟨6, _⟩ => ⟨S4096x1536, .f32⟩
  | .hbm, ⟨7, _⟩ => ⟨S4096x2048, .f32⟩
  | .hbm, ⟨8, _⟩ => ⟨S4096x64, .f32⟩
  | .hbm, ⟨9, _⟩ => ⟨S4096x1x64, .f32⟩
  | .hbm, ⟨10, _⟩ => ⟨S4096x8x64, .f32⟩
  | .hbm, ⟨11, _⟩ => ⟨S4096x8x192, .f32⟩
  | .hbm, ⟨12, _⟩ => ⟨S4096x8x256, .f32⟩
  | .hbm, ⟨13, _⟩ => ⟨S4096x8x64, .f32⟩
  | .hbm, ⟨14, _⟩ => ⟨S4096x1x32, .f32⟩
  | .hbm, ⟨15, _⟩ => ⟨S4096x1x32, .f32⟩
  | .hbm, ⟨16, _⟩ => ⟨S4096x8x32, .f32⟩
  | .hbm, ⟨17, _⟩ => ⟨S4096x8x32, .f32⟩
  | .hbm, ⟨18, _⟩ => ⟨S4096x8x32, .f32⟩
  | .hbm, ⟨19, _⟩ => ⟨S4096x8x32, .f32⟩
  | .hbm, ⟨20, _⟩ => ⟨S4096x8x32, .f32⟩
  | .hbm, ⟨21, _⟩ => ⟨S4096x8x32, .f32⟩
  | .hbm, ⟨22, _⟩ => ⟨S4096x8x32, .f32⟩
  | .hbm, ⟨23, _⟩ => ⟨S4096x8x32, .f32⟩
  | .hbm, ⟨24, _⟩ => ⟨S4096x8x32, .f32⟩
  | .hbm, ⟨25, _⟩ => ⟨S4096x8x32, .f32⟩
  | .hbm, ⟨26, _⟩ => ⟨S4096x8x32, .f32⟩
  | .hbm, ⟨27, _⟩ => ⟨S4096x8x32, .f32⟩
  | .hbm, ⟨28, _⟩ => ⟨S4096x8x64, .f32⟩
  | .hbm, ⟨29, _⟩ => ⟨S4096x8x128, .f32⟩
  | .hbm, ⟨30, _⟩ => ⟨S4096x8x128, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S4096, .i32⟩
  | .hbm, ⟨38, _⟩ => ⟨S1x4096, .i32⟩
  | .hbm, ⟨39, _⟩ => ⟨S4096, .i32⟩
  | .hbm, ⟨40, _⟩ => ⟨S4096x1, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S_, .f32⟩
  | .hbm, ⟨45, _⟩ => ⟨S_, .f32⟩
  | .hbm, ⟨46, _⟩ => ⟨S8x4096x4096, .i1⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S4096x8x128, .f32⟩
  | .hbm, ⟨64, _⟩ => ⟨S8x128x4096, .f32⟩
  | .hbm, ⟨65, _⟩ => ⟨S4096x8x128, .f32⟩
  | .hbm, ⟨66, _⟩ => ⟨S4096x1024, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096, .f32⟩
  | .hbm, ⟨76, _⟩ => ⟨S8x4096, .f32⟩
  | .hbm, ⟨77, _⟩ => ⟨S4096x8, .f32⟩
  | .hbm, ⟨78, _⟩ => ⟨S4096x8x1, .f32⟩
  | .hbm, ⟨79, _⟩ => ⟨S4096x8x128, .f32⟩
  | .hbm, ⟨80, _⟩ => ⟨S4096x1024, .f32⟩
  | .hbm, ⟨81, _⟩ => ⟨S_, .f32⟩
  | .hbm, ⟨82, _⟩ => ⟨S4096x64, .f32⟩
  | .hbm, ⟨83, _⟩ => ⟨S4096x128, .f32⟩
  | .hbm, ⟨84, _⟩ => ⟨S_, .f32⟩
  | .hbm, ⟨85, _⟩ => ⟨S4096x64, .f32⟩
  | .hbm, ⟨86, _⟩ => ⟨S4096x128, .f32⟩
  | .hbm, ⟨87, _⟩ => ⟨S_, .f32⟩
  | .hbm, ⟨88, _⟩ => ⟨S4096x128, .f32⟩
  | .hbm, ⟨89, _⟩ => ⟨S4096x256, .f32⟩
  | .hbm, ⟨90, _⟩ => ⟨S_, .f32⟩
  | .hbm, ⟨91, _⟩ => ⟨S4096x128, .f32⟩
  | .hbm, ⟨92, _⟩ => ⟨S4096x256, .f32⟩
  | .hbm, ⟨93, _⟩ => ⟨S4096x1536, .f32⟩
  | .hbm, ⟨94, _⟩ => ⟨S4096x8x192, .f32⟩
  | .hbm, ⟨95, _⟩ => ⟨S4096x8x64, .f32⟩
  | .hbm, ⟨96, _⟩ => ⟨S4096x1x32, .f32⟩
  | .hbm, ⟨97, _⟩ => ⟨S4096x1x32, .f32⟩
  | .hbm, ⟨98, _⟩ => ⟨S4096x8x32, .f32⟩
  | .hbm, ⟨99, _⟩ => ⟨S4096x8x32, .f32⟩
  | .hbm, ⟨100, _⟩ => ⟨S4096x8x32, .f32⟩
  | .hbm, ⟨101, _⟩ => ⟨S4096x8x32, .f32⟩
  | .hbm, ⟨102, _⟩ => ⟨S4096x8x32, .f32⟩
  | .hbm, ⟨103, _⟩ => ⟨S4096x8x32, .f32⟩
  | .hbm, ⟨104, _⟩ => ⟨S4096x8x32, .f32⟩
  | .hbm, ⟨105, _⟩ => ⟨S4096x8x32, .f32⟩
  | .hbm, ⟨106, _⟩ => ⟨S4096x8x32, .f32⟩
  | .hbm, ⟨107, _⟩ => ⟨S4096x8x32, .f32⟩
  | .hbm, ⟨108, _⟩ => ⟨S4096x8x32, .f32⟩
  | .hbm, ⟨109, _⟩ => ⟨S4096x8x32, .f32⟩
  | .hbm, ⟨110, _⟩ => ⟨S4096x8x64, .f32⟩
  | .hbm, ⟨111, _⟩ => ⟨S4096x8x128, .f32⟩
  | .hbm, ⟨112, _⟩ => ⟨S_, .f32⟩
  | .hbm, ⟨113, _⟩ => ⟨S4096x8x64, .f32⟩
  | .hbm, ⟨114, _⟩ => ⟨S4096x8x256, .f32⟩
  | .hbm, ⟨115, _⟩ => ⟨S_, .f32⟩
  | .hbm, ⟨116, _⟩ => ⟨S4096x8x256, .f32⟩
  | .hbm, ⟨117, _⟩ => ⟨S4096x8x256, .f32⟩
  | .hbm, ⟨118, _⟩ => ⟨S4096x2048, .f32⟩
  | .hbm, ⟨119, _⟩ => ⟨S4096x2048, .bf16⟩
  | .hbm, ⟨120, _⟩ => ⟨S_, .i32⟩
  | .hbm, ⟨121, _⟩ => ⟨S_, .bf16⟩
  | .hbm, ⟨122, _⟩ => ⟨S4096x128, .bf16⟩
  | .hbm, ⟨123, _⟩ => ⟨S4096x1024, .bf16⟩
  | .hbm, ⟨124, _⟩ => ⟨S4096x2048, .bf16⟩
  | .hbm, ⟨125, _⟩ => ⟨S4096x1024, .f32⟩
  | .hbm, ⟨126, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S512x256, .bf16⟩
  | .local _ .vmem, ⟨19, _⟩ => ⟨S512x256, .bf16⟩
  | .local _ .vmem, ⟨20, _⟩ => ⟨S512x128, .f32⟩
  | .local _ .vmem, ⟨21, _⟩ => ⟨S512x128, .f32⟩
  | .local _ .vmem, ⟨22, _⟩ => ⟨S1024x256, .bf16⟩
  | .local _ .vmem, ⟨23, _⟩ => ⟨S1024x256, .bf16⟩
  | .local _ .vmem, ⟨24, _⟩ => ⟨S512x256, .f32⟩
  | .local _ .vmem, ⟨25, _⟩ => ⟨S512x128, .f32⟩
  | .local _ .vmem, ⟨26, _⟩ => ⟨S4096x256, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_10 : Ref sig .tc := ⟨.hbm, 112, rfl⟩
abbrev main_v92 : Ref sig .tc := ⟨.hbm, 113, rfl⟩
abbrev main_v93 : Ref sig .tc := ⟨.hbm, 114, rfl⟩
abbrev main_cst_11 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_c : Ref sig .tc := ⟨.hbm, 120, rfl⟩
abbrev main_call1_v0 : Ref sig .tc := ⟨.hbm, 121, rfl⟩
abbrev main_v98 : Ref sig .tc := ⟨.hbm, 122, rfl⟩
abbrev main_v99 : Ref sig .tc := ⟨.hbm, 123, rfl⟩
abbrev main_v100_0 : Ref sig .tc := ⟨.hbm, 124, rfl⟩
abbrev main_v100_1 : Ref sig .tc := ⟨.hbm, 125, rfl⟩
abbrev main_v100_2 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 20], ![false, false]⟩

def k0_mult1 (i : grid0.Coords) : BitVec 32 :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c1024_i32 : BitVec 32 := 1024#32
  let v61 : BitVec 32 := Scalar.muli v60 c1024_i32
  v61
def k0_cond2 (i : grid0.Coords) : BitVec 1 :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_48 : BitVec 32 := 0#32
  let v83 : BitVec 1 := Scalar.cmpi .eq v20 c0_i32_48
  let v84 : BitVec 32 := Scalar.extui v83
  let c0_i32_49 : BitVec 32 := 0#32
  let v85 : BitVec 1 := Scalar.cmpi .ne v84 c0_i32_49
  v85

def k0_off1 (i : grid0.Coords) : Fin 2 → Nat :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c1024_i32 : BitVec 32 := 1024#32
  let v61 : BitVec 32 := Scalar.muli v60 c1024_i32
  let v62 : BitVec 32 := v61
  let v104 : Index := Scalar.indexCast v62
  let c0 : Index := 0#32
  ![v104.toNat, 0]
def k0_cond3 (i : grid0.Coords) : BitVec 1 :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c2_i32_50 : BitVec 32 := 2#32
  let v86 : BitVec 32 := Scalar.muli v60 c2_i32_50
  let v87 : BitVec 1 := Scalar.cmpi .slt v20 v86
  let v88 : BitVec 32 := Scalar.extui v87
  let c0_i32_51 : BitVec 32 := 0#32
  let v89 : BitVec 1 := Scalar.cmpi .ne v88 c0_i32_51
  v89

def k0_off2 (i : grid0.Coords) : Fin 2 → Nat :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c1024_i32 : BitVec 32 := 1024#32
  let v61 : BitVec 32 := Scalar.muli v60 c1024_i32
  let v62 : BitVec 32 := v61
  let v144 : Index := Scalar.indexCast v62
  let c0_86 : Index := 0#32
  ![v144.toNat, 0]
def k0_cond4 (i : grid0.Coords) : BitVec 1 :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c2_i32_52 : BitVec 32 := 2#32
  let v90 : BitVec 32 := Scalar.muli v60 c2_i32_52
  let v91 : BitVec 1 := Scalar.cmpi .sge v20 v90
  let v92 : BitVec 32 := Scalar.extui v91
  let c0_i32_53 : BitVec 32 := 0#32
  let v93 : BitVec 1 := Scalar.cmpi .ne v92 c0_i32_53
  v93

def k0_off3 (i : grid0.Coords) : Fin 2 → Nat :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c1024_i32 : BitVec 32 := 1024#32
  let v61 : BitVec 32 := Scalar.muli v60 c1024_i32
  let v62 : BitVec 32 := v61
  let v155 : Index := Scalar.indexCast v62
  let c0_88 : Index := 0#32
  ![v155.toNat, 0]
def k0_cond6 (i : grid0.Coords) : BitVec 1 :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c1_i32_56 : BitVec 32 := 1#32
  let v97 : BitVec 32 := Scalar.addi v60 c1_i32_56
  let c2_i32_57 : BitVec 32 := 2#32
  let v98 : BitVec 32 := Scalar.muli v97 c2_i32_57
  let c1_i32_58 : BitVec 32 := 1#32
  let v99 : BitVec 32 := Scalar.subi v98 c1_i32_58
  let v100 : BitVec 1 := Scalar.cmpi .eq v20 v99
  let v101 : BitVec 32 := Scalar.extui v100
  let c0_i32_59 : BitVec 32 := 0#32
  let v102 : BitVec 1 := Scalar.cmpi .ne v101 c0_i32_59
  v102

def k0_off4 (i : grid0.Coords) : Fin 2 → Nat :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c1024_i32 : BitVec 32 := 1024#32
  let v61 : BitVec 32 := Scalar.muli v60 c1024_i32
  let v62 : BitVec 32 := v61
  let v103 : Index := Scalar.indexCast v62
  let c0 : Index := 0#32
  ![v103.toNat, 0]
def k0_cond5 (i : grid0.Coords) : BitVec 1 :=
  let c0_i32_0 : BitVec 32 := 0#32
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c2_i32_33 : BitVec 32 := 2#32
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let v42 : BitVec 32 := Scalar.divsi v20 c2_i32_33
  let c1_i32_39 : BitVec 32 := 1#32
  let v57 : BitVec 32 := Scalar.subi v42 c1_i32_39
  let v58 : BitVec 32 := Scalar.select v56 v57 v42
  let c0_i32_16 : BitVec 32 := 0#32
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let v59 : BitVec 32 := Scalar.subi arg1 v41
  let v60 : BitVec 32 := Scalar.addi v58 v59
  let c3_i32_54 : BitVec 32 := 3#32
  let v94 : BitVec 1 := Scalar.cmpi .eq v60 c3_i32_54
  let v95 : BitVec 32 := Scalar.extui v94
  let c0_i32_55 : BitVec 32 := 0#32
  let v96 : BitVec 1 := Scalar.cmpi .ne v95 c0_i32_55
  v96

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c0_i32_40 : BitVec 32 := 0#32
  ![v60.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c2_i32_40 : BitVec 32 := 2#32
  let v61 : BitVec 32 := Scalar.muli c2_i32_40 arg0
  let c0_i32_41 : BitVec 32 := 0#32
  ![v20.toNat, v61.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c0_i32_40 : BitVec 32 := 0#32
  let c0_i32_41 : BitVec 32 := 0#32
  ![v20.toNat, c0_i32_40.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c2_i32_40 : BitVec 32 := 2#32
  let v61 : BitVec 32 := Scalar.muli c2_i32_40 arg0
  let c1_i32_41 : BitVec 32 := 1#32
  let v62 : BitVec 32 := Scalar.addi v61 c1_i32_41
  let c0_i32_42 : BitVec 32 := 0#32
  ![v20.toNat, v62.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c12_i32 : BitVec 32 := 12#32
  let v61 : BitVec 32 := Scalar.addi c12_i32 arg0
  let c0_i32_40 : BitVec 32 := 0#32
  ![v60.toNat, v61.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c0_i32_40 : BitVec 32 := 0#32
  ![v60.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c0_i32_40 : BitVec 32 := 0#32
  ![v60.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c2_i32_40 : BitVec 32 := 2#32
  let v61 : BitVec 32 := Scalar.divsi v20 c2_i32_40
  let c0_i32_41 : BitVec 32 := 0#32
  let v62 : BitVec 1 := Scalar.cmpi .sgt v20 c0_i32_41
  let v63 : BitVec 32 := Scalar.extui v62
  let c0_i32_42 : BitVec 32 := 0#32
  let v64 : BitVec 1 := Scalar.cmpi .slt v20 c0_i32_42
  let v65 : BitVec 32 := Scalar.extui v64
  let v66 : BitVec 32 := Scalar.subi v63 v65
  let c0_i32_43 : BitVec 32 := 0#32
  let v67 : BitVec 1 := Scalar.cmpi .sgt c2_i32_40 c0_i32_43
  let v68 : BitVec 32 := Scalar.extui v67
  let c0_i32_44 : BitVec 32 := 0#32
  let v69 : BitVec 1 := Scalar.cmpi .slt c2_i32_40 c0_i32_44
  let v70 : BitVec 32 := Scalar.extui v69
  let v71 : BitVec 32 := Scalar.subi v68 v70
  let v72 : BitVec 1 := Scalar.cmpi .ne v66 v71
  let v73 : BitVec 32 := Scalar.remsi v20 c2_i32_40
  let c0_i32_45 : BitVec 32 := 0#32
  let v74 : BitVec 1 := Scalar.cmpi .ne v73 c0_i32_45
  let v75 : BitVec 1 := Scalar.andi v72 v74
  let c1_i32_46 : BitVec 32 := 1#32
  let v76 : BitVec 32 := Scalar.subi v61 c1_i32_46
  let v77 : BitVec 32 := Scalar.select v75 v76 v61
  let c2_i32_47 : BitVec 32 := 2#32
  let c0_i32_48 : BitVec 32 := 0#32
  let v78 : BitVec 1 := Scalar.cmpi .eq c2_i32_47 c0_i32_48
  let c1_i32_49 : BitVec 32 := 1#32
  let v79 : BitVec 32 := Scalar.select v78 c1_i32_49 c2_i32_47
  let v80 : BitVec 32 := Scalar.remsi v20 v79
  let c0_i32_50 : BitVec 32 := 0#32
  let v81 : BitVec 1 := Scalar.cmpi .ne v80 c0_i32_50
  let c0_i32_51 : BitVec 32 := 0#32
  let v82 : BitVec 1 := Scalar.cmpi .slt v80 c0_i32_51
  let c0_i32_52 : BitVec 32 := 0#32
  let v83 : BitVec 1 := Scalar.cmpi .slt v79 c0_i32_52
  let v84 : BitVec 1 := Scalar.xori v82 v83
  let v85 : BitVec 1 := Scalar.andi v84 v81
  let v86 : BitVec 32 := Scalar.addi v80 v79
  let v87 : BitVec 32 := Scalar.select v85 v86 v80
  let c1_i32_53 : BitVec 32 := 1#32
  let v88 : BitVec 1 := Scalar.cmpi .eq v87 c1_i32_53
  let c2_i32_54 : BitVec 32 := 2#32
  let v89 : BitVec 32 := Scalar.divsi v20 c2_i32_54
  let c0_i32_55 : BitVec 32 := 0#32
  let v90 : BitVec 1 := Scalar.cmpi .sgt v20 c0_i32_55
  let v91 : BitVec 32 := Scalar.extui v90
  let c0_i32_56 : BitVec 32 := 0#32
  let v92 : BitVec 1 := Scalar.cmpi .slt v20 c0_i32_56
  let v93 : BitVec 32 := Scalar.extui v92
  let v94 : BitVec 32 := Scalar.subi v91 v93
  let c0_i32_57 : BitVec 32 := 0#32
  let v95 : BitVec 1 := Scalar.cmpi .sgt c2_i32_54 c0_i32_57
  let v96 : BitVec 32 := Scalar.extui v95
  let c0_i32_58 : BitVec 32 := 0#32
  let v97 : BitVec 1 := Scalar.cmpi .slt c2_i32_54 c0_i32_58
  let v98 : BitVec 32 := Scalar.extui v97
  let v99 : BitVec 32 := Scalar.subi v96 v98
  let v100 : BitVec 1 := Scalar.cmpi .ne v94 v99
  let v101 : BitVec 32 := Scalar.remsi v20 c2_i32_54
  let c0_i32_59 : BitVec 32 := 0#32
  let v102 : BitVec 1 := Scalar.cmpi .ne v101 c0_i32_59
  let v103 : BitVec 1 := Scalar.andi v100 v102
  let c1_i32_60 : BitVec 32 := 1#32
  let v104 : BitVec 32 := Scalar.subi v89 c1_i32_60
  let v105 : BitVec 32 := Scalar.select v103 v104 v89
  let v106 : BitVec 1 := Scalar.cmpi .sgt v60 v105
  let v107 : BitVec 1 := Scalar.andi v88 v106
  let c1_i32_61 : BitVec 32 := 1#32
  let c0_i32_62 : BitVec 32 := 0#32
  let v108 : BitVec 32 := Scalar.select v107 c1_i32_61 c0_i32_62
  let v109 : BitVec 32 := Scalar.addi v77 v108
  let c3_i32_63 : BitVec 32 := 3#32
  let v110 : BitVec 32 := Scalar.minsi v109 c3_i32_63
  let c0_i32_64 : BitVec 32 := 0#32
  let c0_i32_65 : BitVec 32 := 0#32
  ![v110.toNat, c0_i32_64.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c2_i32_40 : BitVec 32 := 2#32
  let v61 : BitVec 32 := Scalar.divsi v20 c2_i32_40
  let c0_i32_41 : BitVec 32 := 0#32
  let v62 : BitVec 1 := Scalar.cmpi .sgt v20 c0_i32_41
  let v63 : BitVec 32 := Scalar.extui v62
  let c0_i32_42 : BitVec 32 := 0#32
  let v64 : BitVec 1 := Scalar.cmpi .slt v20 c0_i32_42
  let v65 : BitVec 32 := Scalar.extui v64
  let v66 : BitVec 32 := Scalar.subi v63 v65
  let c0_i32_43 : BitVec 32 := 0#32
  let v67 : BitVec 1 := Scalar.cmpi .sgt c2_i32_40 c0_i32_43
  let v68 : BitVec 32 := Scalar.extui v67
  let c0_i32_44 : BitVec 32 := 0#32
  let v69 : BitVec 1 := Scalar.cmpi .slt c2_i32_40 c0_i32_44
  let v70 : BitVec 32 := Scalar.extui v69
  let v71 : BitVec 32 := Scalar.subi v68 v70
  let v72 : BitVec 1 := Scalar.cmpi .ne v66 v71
  let v73 : BitVec 32 := Scalar.remsi v20 c2_i32_40
  let c0_i32_45 : BitVec 32 := 0#32
  let v74 : BitVec 1 := Scalar.cmpi .ne v73 c0_i32_45
  let v75 : BitVec 1 := Scalar.andi v72 v74
  let c1_i32_46 : BitVec 32 := 1#32
  let v76 : BitVec 32 := Scalar.subi v61 c1_i32_46
  let v77 : BitVec 32 := Scalar.select v75 v76 v61
  let c2_i32_47 : BitVec 32 := 2#32
  let c0_i32_48 : BitVec 32 := 0#32
  let v78 : BitVec 1 := Scalar.cmpi .eq c2_i32_47 c0_i32_48
  let c1_i32_49 : BitVec 32 := 1#32
  let v79 : BitVec 32 := Scalar.select v78 c1_i32_49 c2_i32_47
  let v80 : BitVec 32 := Scalar.remsi v20 v79
  let c0_i32_50 : BitVec 32 := 0#32
  let v81 : BitVec 1 := Scalar.cmpi .ne v80 c0_i32_50
  let c0_i32_51 : BitVec 32 := 0#32
  let v82 : BitVec 1 := Scalar.cmpi .slt v80 c0_i32_51
  let c0_i32_52 : BitVec 32 := 0#32
  let v83 : BitVec 1 := Scalar.cmpi .slt v79 c0_i32_52
  let v84 : BitVec 1 := Scalar.xori v82 v83
  let v85 : BitVec 1 := Scalar.andi v84 v81
  let v86 : BitVec 32 := Scalar.addi v80 v79
  let v87 : BitVec 32 := Scalar.select v85 v86 v80
  let c1_i32_53 : BitVec 32 := 1#32
  let v88 : BitVec 1 := Scalar.cmpi .eq v87 c1_i32_53
  let c2_i32_54 : BitVec 32 := 2#32
  let v89 : BitVec 32 := Scalar.divsi v20 c2_i32_54
  let c0_i32_55 : BitVec 32 := 0#32
  let v90 : BitVec 1 := Scalar.cmpi .sgt v20 c0_i32_55
  let v91 : BitVec 32 := Scalar.extui v90
  let c0_i32_56 : BitVec 32 := 0#32
  let v92 : BitVec 1 := Scalar.cmpi .slt v20 c0_i32_56
  let v93 : BitVec 32 := Scalar.extui v92
  let v94 : BitVec 32 := Scalar.subi v91 v93
  let c0_i32_57 : BitVec 32 := 0#32
  let v95 : BitVec 1 := Scalar.cmpi .sgt c2_i32_54 c0_i32_57
  let v96 : BitVec 32 := Scalar.extui v95
  let c0_i32_58 : BitVec 32 := 0#32
  let v97 : BitVec 1 := Scalar.cmpi .slt c2_i32_54 c0_i32_58
  let v98 : BitVec 32 := Scalar.extui v97
  let v99 : BitVec 32 := Scalar.subi v96 v98
  let v100 : BitVec 1 := Scalar.cmpi .ne v94 v99
  let v101 : BitVec 32 := Scalar.remsi v20 c2_i32_54
  let c0_i32_59 : BitVec 32 := 0#32
  let v102 : BitVec 1 := Scalar.cmpi .ne v101 c0_i32_59
  let v103 : BitVec 1 := Scalar.andi v100 v102
  let c1_i32_60 : BitVec 32 := 1#32
  let v104 : BitVec 32 := Scalar.subi v89 c1_i32_60
  let v105 : BitVec 32 := Scalar.select v103 v104 v89
  let v106 : BitVec 1 := Scalar.cmpi .sgt v60 v105
  let v107 : BitVec 1 := Scalar.andi v88 v106
  let c1_i32_61 : BitVec 32 := 1#32
  let c0_i32_62 : BitVec 32 := 0#32
  let v108 : BitVec 32 := Scalar.select v107 c1_i32_61 c0_i32_62
  let v109 : BitVec 32 := Scalar.addi v77 v108
  let c3_i32_63 : BitVec 32 := 3#32
  let v110 : BitVec 32 := Scalar.minsi v109 c3_i32_63
  let c0_i32_64 : BitVec 32 := 0#32
  let c0_i32_65 : BitVec 32 := 0#32
  ![v110.toNat, c0_i32_64.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c0_i32_40 : BitVec 32 := 0#32
  ![v20.toNat, arg0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c0_i32_40 : BitVec 32 := 0#32
  ![v20.toNat, arg0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c8_i32 : BitVec 32 := 8#32
  let v3 : BitVec 1 := Scalar.cmpi .sge arg1 c8_i32
  let c1_i32_1 : BitVec 32 := 1#32
  let c0_i32_2 : BitVec 32 := 0#32
  let v4 : BitVec 32 := Scalar.select v3 c1_i32_1 c0_i32_2
  let v5 : BitVec 32 := Scalar.addi v2 v4
  let c11_i32 : BitVec 32 := 11#32
  let v6 : BitVec 1 := Scalar.cmpi .sge arg1 c11_i32
  let c1_i32_3 : BitVec 32 := 1#32
  let c0_i32_4 : BitVec 32 := 0#32
  let v7 : BitVec 32 := Scalar.select v6 c1_i32_3 c0_i32_4
  let v8 : BitVec 32 := Scalar.addi v5 v7
  let c14_i32 : BitVec 32 := 14#32
  let v9 : BitVec 1 := Scalar.cmpi .sge arg1 c14_i32
  let c1_i32_5 : BitVec 32 := 1#32
  let c0_i32_6 : BitVec 32 := 0#32
  let v10 : BitVec 32 := Scalar.select v9 c1_i32_5 c0_i32_6
  let v11 : BitVec 32 := Scalar.addi v8 v10
  let c16_i32 : BitVec 32 := 16#32
  let v12 : BitVec 1 := Scalar.cmpi .sge arg1 c16_i32
  let c1_i32_7 : BitVec 32 := 1#32
  let c0_i32_8 : BitVec 32 := 0#32
  let v13 : BitVec 32 := Scalar.select v12 c1_i32_7 c0_i32_8
  let v14 : BitVec 32 := Scalar.addi v11 v13
  let c18_i32 : BitVec 32 := 18#32
  let v15 : BitVec 1 := Scalar.cmpi .sge arg1 c18_i32
  let c1_i32_9 : BitVec 32 := 1#32
  let c0_i32_10 : BitVec 32 := 0#32
  let v16 : BitVec 32 := Scalar.select v15 c1_i32_9 c0_i32_10
  let v17 : BitVec 32 := Scalar.addi v14 v16
  let c19_i32 : BitVec 32 := 19#32
  let v18 : BitVec 1 := Scalar.cmpi .sge arg1 c19_i32
  let c1_i32_11 : BitVec 32 := 1#32
  let c0_i32_12 : BitVec 32 := 0#32
  let v19 : BitVec 32 := Scalar.select v18 c1_i32_11 c0_i32_12
  let v20 : BitVec 32 := Scalar.addi v17 v19
  let c4_i32_13 : BitVec 32 := 4#32
  let v21 : BitVec 1 := Scalar.cmpi .sge arg1 c4_i32_13
  let c4_i32_14 : BitVec 32 := 4#32
  let c0_i32_15 : BitVec 32 := 0#32
  let v22 : BitVec 32 := Scalar.select v21 c4_i32_14 c0_i32_15
  let c0_i32_16 : BitVec 32 := 0#32
  let v23 : BitVec 32 := Scalar.addi c0_i32_16 v22
  let c8_i32_17 : BitVec 32 := 8#32
  let v24 : BitVec 1 := Scalar.cmpi .sge arg1 c8_i32_17
  let c4_i32_18 : BitVec 32 := 4#32
  let c0_i32_19 : BitVec 32 := 0#32
  let v25 : BitVec 32 := Scalar.select v24 c4_i32_18 c0_i32_19
  let v26 : BitVec 32 := Scalar.addi v23 v25
  let c11_i32_20 : BitVec 32 := 11#32
  let v27 : BitVec 1 := Scalar.cmpi .sge arg1 c11_i32_20
  let c3_i32 : BitVec 32 := 3#32
  let c0_i32_21 : BitVec 32 := 0#32
  let v28 : BitVec 32 := Scalar.select v27 c3_i32 c0_i32_21
  let v29 : BitVec 32 := Scalar.addi v26 v28
  let c14_i32_22 : BitVec 32 := 14#32
  let v30 : BitVec 1 := Scalar.cmpi .sge arg1 c14_i32_22
  let c3_i32_23 : BitVec 32 := 3#32
  let c0_i32_24 : BitVec 32 := 0#32
  let v31 : BitVec 32 := Scalar.select v30 c3_i32_23 c0_i32_24
  let v32 : BitVec 32 := Scalar.addi v29 v31
  let c16_i32_25 : BitVec 32 := 16#32
  let v33 : BitVec 1 := Scalar.cmpi .sge arg1 c16_i32_25
  let c2_i32 : BitVec 32 := 2#32
  let c0_i32_26 : BitVec 32 := 0#32
  let v34 : BitVec 32 := Scalar.select v33 c2_i32 c0_i32_26
  let v35 : BitVec 32 := Scalar.addi v32 v34
  let c18_i32_27 : BitVec 32 := 18#32
  let v36 : BitVec 1 := Scalar.cmpi .sge arg1 c18_i32_27
  let c2_i32_28 : BitVec 32 := 2#32
  let c0_i32_29 : BitVec 32 := 0#32
  let v37 : BitVec 32 := Scalar.select v36 c2_i32_28 c0_i32_29
  let v38 : BitVec 32 := Scalar.addi v35 v37
  let c19_i32_30 : BitVec 32 := 19#32
  let v39 : BitVec 1 := Scalar.cmpi .sge arg1 c19_i32_30
  let c1_i32_31 : BitVec 32 := 1#32
  let c0_i32_32 : BitVec 32 := 0#32
  let v40 : BitVec 32 := Scalar.select v39 c1_i32_31 c0_i32_32
  let v41 : BitVec 32 := Scalar.addi v38 v40
  let c2_i32_33 : BitVec 32 := 2#32
  let v42 : BitVec 32 := Scalar.divsi v20 c2_i32_33
  let c0_i32_34 : BitVec 32 := 0#32
  let v43 : BitVec 1 := Scalar.cmpi .sgt v20 c0_i32_34
  let v44 : BitVec 32 := Scalar.extui v43
  let c0_i32_35 : BitVec 32 := 0#32
  let v45 : BitVec 1 := Scalar.cmpi .slt v20 c0_i32_35
  let v46 : BitVec 32 := Scalar.extui v45
  let v47 : BitVec 32 := Scalar.subi v44 v46
  let c0_i32_36 : BitVec 32 := 0#32
  let v48 : BitVec 1 := Scalar.cmpi .sgt c2_i32_33 c0_i32_36
  let v49 : BitVec 32 := Scalar.extui v48
  let c0_i32_37 : BitVec 32 := 0#32
  let v50 : BitVec 1 := Scalar.cmpi .slt c2_i32_33 c0_i32_37
  let v51 : BitVec 32 := Scalar.extui v50
  let v52 : BitVec 32 := Scalar.subi v49 v51
  let v53 : BitVec 1 := Scalar.cmpi .ne v47 v52
  let v54 : BitVec 32 := Scalar.remsi v20 c2_i32_33
  let c0_i32_38 : BitVec 32 := 0#32
  let v55 : BitVec 1 := Scalar.cmpi .ne v54 c0_i32_38
  let v56 : BitVec 1 := Scalar.andi v53 v55
  let c1_i32_39 : BitVec 32 := 1#32
  let v57 : BitVec 32 := Scalar.subi v42 c1_i32_39
  let v58 : BitVec 32 := Scalar.select v56 v57 v42
  let v59 : BitVec 32 := Scalar.subi arg1 v41
  let v60 : BitVec 32 := Scalar.addi v58 v59
  let c2_i32_40 : BitVec 32 := 2#32
  let v61 : BitVec 32 := Scalar.divsi v20 c2_i32_40
  let c0_i32_41 : BitVec 32 := 0#32
  let v62 : BitVec 1 := Scalar.cmpi .sgt v20 c0_i32_41
  let v63 : BitVec 32 := Scalar.extui v62
  let c0_i32_42 : BitVec 32 := 0#32
  let v64 : BitVec 1 := Scalar.cmpi .slt v20 c0_i32_42
  let v65 : BitVec 32 := Scalar.extui v64
  let v66 : BitVec 32 := Scalar.subi v63 v65
  let c0_i32_43 : BitVec 32 := 0#32
  let v67 : BitVec 1 := Scalar.cmpi .sgt c2_i32_40 c0_i32_43
  let v68 : BitVec 32 := Scalar.extui v67
  let c0_i32_44 : BitVec 32 := 0#32
  let v69 : BitVec 1 := Scalar.cmpi .slt c2_i32_40 c0_i32_44
  let v70 : BitVec 32 := Scalar.extui v69
  let v71 : BitVec 32 := Scalar.subi v68 v70
  let v72 : BitVec 1 := Scalar.cmpi .ne v66 v71
  let v73 : BitVec 32 := Scalar.remsi v20 c2_i32_40
  let c0_i32_45 : BitVec 32 := 0#32
  let v74 : BitVec 1 := Scalar.cmpi .ne v73 c0_i32_45
  let v75 : BitVec 1 := Scalar.andi v72 v74
  let c1_i32_46 : BitVec 32 := 1#32
  let v76 : BitVec 32 := Scalar.subi v61 c1_i32_46
  let v77 : BitVec 32 := Scalar.select v75 v76 v61
  let c2_i32_47 : BitVec 32 := 2#32
  let c0_i32_48 : BitVec 32 := 0#32
  let v78 : BitVec 1 := Scalar.cmpi .eq c2_i32_47 c0_i32_48
  let c1_i32_49 : BitVec 32 := 1#32
  let v79 : BitVec 32 := Scalar.select v78 c1_i32_49 c2_i32_47
  let v80 : BitVec 32 := Scalar.remsi v20 v79
  let c0_i32_50 : BitVec 32 := 0#32
  let v81 : BitVec 1 := Scalar.cmpi .ne v80 c0_i32_50
  let c0_i32_51 : BitVec 32 := 0#32
  let v82 : BitVec 1 := Scalar.cmpi .slt v80 c0_i32_51
  let c0_i32_52 : BitVec 32 := 0#32
  let v83 : BitVec 1 := Scalar.cmpi .slt v79 c0_i32_52
  let v84 : BitVec 1 := Scalar.xori v82 v83
  let v85 : BitVec 1 := Scalar.andi v84 v81
  let v86 : BitVec 32 := Scalar.addi v80 v79
  let v87 : BitVec 32 := Scalar.select v85 v86 v80
  let c1_i32_53 : BitVec 32 := 1#32
  let v88 : BitVec 1 := Scalar.cmpi .eq v87 c1_i32_53
  let c2_i32_54 : BitVec 32 := 2#32
  let v89 : BitVec 32 := Scalar.divsi v20 c2_i32_54
  let c0_i32_55 : BitVec 32 := 0#32
  let v90 : BitVec 1 := Scalar.cmpi .sgt v20 c0_i32_55
  let v91 : BitVec 32 := Scalar.extui v90
  let c0_i32_56 : BitVec 32 := 0#32
  let v92 : BitVec 1 := Scalar.cmpi .slt v20 c0_i32_56
  let v93 : BitVec 32 := Scalar.extui v92
  let v94 : BitVec 32 := Scalar.subi v91 v93
  let c0_i32_57 : BitVec 32 := 0#32
  let v95 : BitVec 1 := Scalar.cmpi .sgt c2_i32_54 c0_i32_57
  let v96 : BitVec 32 := Scalar.extui v95
  let c0_i32_58 : BitVec 32 := 0#32
  let v97 : BitVec 1 := Scalar.cmpi .slt c2_i32_54 c0_i32_58
  let v98 : BitVec 32 := Scalar.extui v97
  let v99 : BitVec 32 := Scalar.subi v96 v98
  let v100 : BitVec 1 := Scalar.cmpi .ne v94 v99
  let v101 : BitVec 32 := Scalar.remsi v20 c2_i32_54
  let c0_i32_59 : BitVec 32 := 0#32
  let v102 : BitVec 1 := Scalar.cmpi .ne v101 c0_i32_59
  let v103 : BitVec 1 := Scalar.andi v100 v102
  let c1_i32_60 : BitVec 32 := 1#32
  let v104 : BitVec 32 := Scalar.subi v89 c1_i32_60
  let v105 : BitVec 32 := Scalar.select v103 v104 v89
  let v106 : BitVec 1 := Scalar.cmpi .sgt v60 v105
  let v107 : BitVec 1 := Scalar.andi v88 v106
  let c1_i32_61 : BitVec 32 := 1#32
  let c0_i32_62 : BitVec 32 := 0#32
  let v108 : BitVec 32 := Scalar.select v107 c1_i32_61 c0_i32_62
  let v109 : BitVec 32 := Scalar.addi v77 v108
  let c3_i32_63 : BitVec 32 := 3#32
  let v110 : BitVec 32 := Scalar.minsi v109 c3_i32_63
  let c0_i32_64 : BitVec 32 := 0#32
  ![v110.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FlashBwdRefIdeal.lean ====
abbrev S4096x1536 : Shape := ⟨2, ![4096, 1536]⟩
abbrev S4096x2048 : Shape := ⟨2, ![4096, 2048]⟩
abbrev S4096x64 : Shape := ⟨2, ![4096, 64]⟩
abbrev S4096x2560 : Shape := ⟨2, ![4096, 2560]⟩
abbrev S4096x32 : Shape := ⟨2, ![4096, 32]⟩
abbrev S4096x1x64 : Shape := ⟨3, ![4096, 1, 64]⟩
abbrev S4096x8x64 : Shape := ⟨3, ![4096, 8, 64]⟩
abbrev S4096x8x192 : Shape := ⟨3, ![4096, 8, 192]⟩
abbrev S4096x8x256 : Shape := ⟨3, ![4096, 8, 256]⟩
abbrev S4096x1x32 : Shape := ⟨3, ![4096, 1, 32]⟩
abbrev S4096x8x32 : Shape := ⟨3, ![4096, 8, 32]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x4096x64 : Shape := ⟨3, ![8, 4096, 64]⟩
abbrev S8x4096x128 : Shape := ⟨3, ![8, 4096, 128]⟩

abbrev nBuf : Space → Nat
  | .hbm => 164
  | .vmem => 0
  | .smem => 0
  | _ => 0

abbrev hbmTy0_0 (i : Nat) : BufTy := match i % 128 with
  | 0 => ⟨S4096x1536, .bf16⟩
  | 1 => ⟨S4096x2048, .bf16⟩
  | 2 => ⟨S4096x64, .bf16⟩
  | 3 => ⟨S4096x2560, .f32⟩
  | 4 => ⟨S4096x32, .f32⟩
  | 5 => ⟨S4096x32, .f32⟩
  | 6 => ⟨S4096x1536, .f32⟩
  | 7 => ⟨S4096x2048, .f32⟩
  | 8 => ⟨S4096x64, .f32⟩
  | 9 => ⟨S4096x1x64, .f32⟩
  | 10 => ⟨S4096x8x64, .f32⟩
  | 11 => ⟨S4096x8x192, .f32⟩
  | 12 => ⟨S4096x8x256, .f32⟩
  | 13 => ⟨S4096x8x64, .f32⟩
  | 14 => ⟨S4096x1x32, .f32⟩
  | 15 => ⟨S4096x1x32, .f32⟩
  | 16 => ⟨S4096x8x32, .f32⟩
  | 17 => ⟨S4096x8x32, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x32, .f32⟩
  | 27 => ⟨S4096x8x32, .f32⟩
  | 28 => ⟨S4096x8x64, .f32⟩
  | 29 => ⟨S4096x8x128, .f32⟩
  | 30 => ⟨S4096x8x128, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .f32⟩
  | 37 => ⟨S4096, .i32⟩
  | 38 => ⟨S1x4096, .i32⟩
  | 39 => ⟨S4096, .i32⟩
  | 40 => ⟨S4096x1, .i32⟩
  | 41 => ⟨S4096x4096, .i32⟩
  | 42 => ⟨S4096x4096, .i32⟩
  | 43 => ⟨S4096x4096, .i1⟩
  | 44 => ⟨S_, .f32⟩
  | 45 => ⟨S_, .f32⟩
  | 46 => ⟨S8x4096x4096, .i1⟩
  | 47 => ⟨S8x4096x4096, .f32⟩
  | 48 => ⟨S8x4096x4096, .f32⟩
  | 49 => ⟨S_, .f32⟩
  | 50 => ⟨S8x4096x4096, .f32⟩
  | 51 => ⟨S_, .f32⟩
  | 52 => ⟨S8x4096, .f32⟩
  | 53 => ⟨S8x4096x1, .f32⟩
  | 54 => ⟨S8x4096x4096, .f32⟩
  | 55 => ⟨S8x4096x4096, .i1⟩
  | 56 => ⟨S8x4096x4096, .f32⟩
  | 57 => ⟨S_, .f32⟩
  | 58 => ⟨S8x4096, .f32⟩
  | 59 => ⟨S_, .f32⟩
  | 60 => ⟨S8x4096, .f32⟩
  | 61 => ⟨S8x4096, .f32⟩
  | 62 => ⟨S_, .f32⟩
  | 63 => ⟨S8x4096, .f32⟩
  | 64 => ⟨S8x4096, .i1⟩
  | 65 => ⟨S_, .f32⟩
  | 66 => ⟨S8x4096, .f32⟩
  | 67 => ⟨S8x4096, .i1⟩
  | 68 => ⟨S_, .f32⟩
  | 69 => ⟨S8x4096, .f32⟩
  | 70 => ⟨S_, .f32⟩
  | 71 => ⟨S8x4096, .f32⟩
  | 72 => ⟨S_, .f32⟩
  | 73 => ⟨S8x4096, .f32⟩
  | 74 => ⟨S8x4096, .f32⟩
  | 75 => ⟨S8x4096, .f32⟩
  | 76 => ⟨S8x4096x1, .f32⟩
  | 77 => ⟨S8x4096x4096, .f32⟩
  | 78 => ⟨S8x4096x4096, .f32⟩
  | 79 => ⟨S8x4096x4096, .f32⟩
  | 80 => ⟨S_, .f32⟩
  | 81 => ⟨S8x4096, .f32⟩
  | 82 => ⟨S8x4096x1, .f32⟩
  | 83 => ⟨S8x4096x4096, .f32⟩
  | 84 => ⟨S8x4096x4096, .f32⟩
  | 85 => ⟨S8x4096x1, .f32⟩
  | 86 => ⟨S_, .f32⟩
  | 87 => ⟨S8x4096x1, .f32⟩
  | 88 => ⟨S8x4096x1, .f32⟩
  | 89 => ⟨S4096x8x128, .f32⟩
  | 90 => ⟨S8x128x4096, .f32⟩
  | 91 => ⟨S4096x8x128, .f32⟩
  | 92 => ⟨S4096x1024, .f32⟩
  | 93 => ⟨S4096x1024, .f32⟩
  | 94 => ⟨S4096x8x128, .f32⟩
  | 95 => ⟨S8x128x4096, .f32⟩
  | 96 => ⟨S8x4096x4096, .f32⟩
  | 97 => ⟨S8x128x4096, .f32⟩
  | 98 => ⟨S4096x8x128, .f32⟩
  | 99 => ⟨S_, .f32⟩
  | 100 => ⟨S4096x8x256, .f32⟩
  | 101 => ⟨S8x4096x4096, .f32⟩
  | 102 => ⟨S8x4096x4096, .f32⟩
  | 103 => ⟨S8x4096x4096, .f32⟩
  | 104 => ⟨S_, .f32⟩
  | 105 => ⟨S8x4096, .f32⟩
  | 106 => ⟨S8x4096x1, .f32⟩
  | 107 => ⟨S8x4096x1, .f32⟩
  | 108 => ⟨S8x4096x4096, .f32⟩
  | 109 => ⟨S8x4096x4096, .f32⟩
  | 110 => ⟨S_, .f32⟩
  | 111 => ⟨S8x4096, .f32⟩
  | 112 => ⟨S8x4096x4096, .f32⟩
  | 113 => ⟨S8x4096x4096, .f32⟩
  | 114 => ⟨S8x4096x4096, .f32⟩
  | 115 => ⟨S_, .f32⟩
  | 116 => ⟨S8x4096x4096, .f32⟩
  | 117 => ⟨S8x4096x4096, .f32⟩
  | 118 => ⟨S_, .f32⟩
  | 119 => ⟨S8x4096x4096, .f32⟩
  | 120 => ⟨S8x4096x4096, .f32⟩
  | 121 => ⟨S8x4096x64, .f32⟩
  | 122 => ⟨S4096x8x64, .f32⟩
  | 123 => ⟨S8x4096x64, .f32⟩
  | 124 => ⟨S4096x8x64, .f32⟩
  | 125 => ⟨S8x4096x128, .f32⟩
  | 126 => ⟨S4096x8x128, .f32⟩
  | 127 => ⟨S8x4096x128, .f32⟩
  | _ => ⟨S4096x1536, .bf16⟩

abbrev hbmTy0_1 (i : Nat) : BufTy := match i % 128 with
  | 0 => ⟨S4096x8x128, .f32⟩
  | 1 => ⟨S_, .f32⟩
  | 2 => ⟨S4096x8x256, .f32⟩
  | 3 => ⟨S4096x8x256, .f32⟩
  | 4 => ⟨S_, .f32⟩
  | 5 => ⟨S4096x8x192, .f32⟩
  | 6 => ⟨S4096x8x32, .f32⟩
  | 7 => ⟨S4096x8x32, .f32⟩
  | 8 => ⟨S4096x8x32, .f32⟩
  | 9 => ⟨S4096x8x32, .f32⟩
  | 10 => ⟨S4096x8x32, .f32⟩
  | 11 => ⟨S4096x8x32, .f32⟩
  | 12 => ⟨S4096x8x32, .f32⟩
  | 13 => ⟨S4096x8x32, .f32⟩
  | 14 => ⟨S4096x8x32, .f32⟩
  | 15 => ⟨S4096x8x32, .f32⟩
  | 16 => ⟨S4096x8x32, .f32⟩
  | 17 => ⟨S4096x8x32, .f32⟩
  | 18 => ⟨S4096x8x32, .f32⟩
  | 19 => ⟨S4096x8x64, .f32⟩
  | 20 => ⟨S_, .f32⟩
  | 21 => ⟨S4096x8x192, .f32⟩
  | 22 => ⟨S4096x8x192, .f32⟩
  | 23 => ⟨S4096x2048, .f32⟩
  | 24 => ⟨S4096x1536, .f32⟩
  | 25 => ⟨S4096x8x192, .f32⟩
  | 26 => ⟨S_, .i32⟩
  | 27 => ⟨S_, .f32⟩
  | 28 => ⟨S4096x8x256, .f32⟩
  | 29 => ⟨S_, .i32⟩
  | 30 => ⟨S_, .f32⟩
  | 31 => ⟨S4096x8x128, .f32⟩
  | 32 => ⟨S4096x2048, .bf16⟩
  | 33 => ⟨S4096x1024, .f32⟩
  | 34 => ⟨S4096x2048, .f32⟩
  | 35 => ⟨S4096x2048, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_0 : Ref sig .tc := ⟨.hbm, 44, rfl⟩
abbrev main_call0_v0 : Ref sig .tc := ⟨.hbm, 45, rfl⟩
abbrev main_v37_1 : Ref sig .tc := ⟨.hbm, 46, rfl⟩
abbrev main_call0_v2 : Ref sig .tc := ⟨.hbm, 47, rfl⟩
abbrev main_v37_0 : Ref sig .tc := ⟨.hbm, 48, rfl⟩
abbrev main_call0_cst : Ref sig .tc := ⟨.hbm, 49, rfl⟩
abbrev main_v37_2 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call1_cst : Ref sig .tc := ⟨.hbm, 115, rfl⟩
abbrev main_call1_v0 : Ref sig .tc := ⟨.hbm, 116, rfl⟩
abbrev main_v89 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_15 : Ref sig .tc := ⟨.hbm, 129, rfl⟩
abbrev main_v100 : Ref sig .tc := ⟨.hbm, 130, rfl⟩
abbrev main_v101 : Ref sig .tc := ⟨.hbm, 131, rfl⟩
abbrev main_cst_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_17 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_c : Ref sig .tc := ⟨.hbm, 154, rfl⟩
abbrev main_call2_v0 : Ref sig .tc := ⟨.hbm, 155, rfl⟩
abbrev main_v122 : Ref sig .tc := ⟨.hbm, 156, rfl⟩
abbrev main_c_18 : Ref sig .tc := ⟨.hbm, 157, rfl⟩
abbrev main_call3_v0 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩

abbrev nD : Nat := 1
abbrev τ : Topo := Topo.v7x

variable {F : FTy → Type} [FloatOps F]
-- ==== Proof.MergeValue.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim

/-! # The gradient of the gated merge

What the merge's backward kernel leaves in its two result arrays, index by index, at the ideal instance: the reference's
composed terms of the argument arrays. -/

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeRefIdeal Cert.MergeRefIdeal.Gen in
/-- The gate: the sigmoid of the logits, one block of channels per branch. -/
def gates (z : FVec Ideal S4096x8192 .bf16) : FVec Ideal S4096x4x2048 .f32 :=
  Host.divf (broadcastInDim S4096x4x2048 ![] bcast_S_S4096x4x2048 (constant S_ .f32 0x3F800000#32)) (addf (broadcastInDim S4096x4x2048 ![] bcast_S_S4096x4x2048 (constant S_ .f32 0x3F800000#32)) (Host.exp (Host.negf (shapeCast _ (extf .f32 z bitsLt_bf16_f32) shapeCasts_S4096x8192_S4096x4x2048))))

open Cert.MergeRefIdeal Cert.MergeRefIdeal.Gen in
/-- The reference's gradient with respect to the branch outputs. -/
def REF0 (dm : FVec Ideal S4096x2048 .f32) (z : FVec Ideal S4096x8192 .bf16) : FVec Ideal S4096x8192 .bf16 :=
  truncf .bf16 (shapeCast _ (mulf (gates z) (broadcastInDim S4096x4x2048 ![0, 2] bcast_S4096x2048_S4096x4x2048_0_2 dm)) shapeCasts_S4096x4x2048_S4096x8192) bitsLt_bf16_f32

open Cert.MergeRefIdeal Cert.MergeRefIdeal.Gen in
/-- The reference's gradient with respect to the gate logits. -/
def REF1 (dm : FVec Ideal S4096x2048 .f32) (y z : FVec Ideal S4096x8192 .bf16) : FVec Ideal S4096x8192 .bf16 :=
  truncf .bf16 (shapeCast _ (mulf (mulf (broadcastInDim S4096x4x2048 ![0, 2] bcast_S4096x2048_S4096x4x2048_0_2 dm) (shapeCast _ (extf .f32 y bitsLt_bf16_f32) shapeCasts_S4096x8192_S4096x4x2048)) (mulf (gates z) (subf (broadcastInDim S4096x4x2048 ![] bcast_S_S4096x4x2048 (constant S_ .f32 0x3F800000#32)) (gates z)))) shapeCasts_S4096x4x2048_S4096x8192) bitsLt_bf16_f32

open Cert.MergeIdeal Cert.MergeIdeal.Gen

variable (m : (ℓ : Loc nD τ sig) → Buf (Elt Ideal) ℓ)

/-- Where the windows stand at a point of the grid. -/
theorem idx : ∀ t : Fin cfg0.N, win0_0.index t = ![t.val / 8, t.val / 4 % 2]
    ∧ win0_1.index t = ![t.val / 8, t.val % 4 * 2 + t.val / 4 % 2]
    ∧ win0_2.index t = ![t.val / 8, t.val % 4 * 2 + t.val / 4 % 2]
    ∧ win0_3.index t = ![t.val / 8, t.val % 4 * 2 + t.val / 4 % 2]
    ∧ win0_4.index t = ![t.val / 8, t.val % 4 * 2 + t.val / 4 % 2] :=
  (by decide +kernel : ∀ t : Fin grid0.N, _)

/-- What point `t` stores of the branch outputs' gradient. -/
theorem point0 (c : Dev nD) (t : Fin cfg0.N) (y) :
    k0_pay2 (iblk m c 2 t) (iblk m c 0 t) y
      = REF0 (m ((c : Thread nD τ).loc main_arg0)) (m ((c : Thread nD τ).loc main_arg2)) (((cfg0.win 3).blk t).view.emb y) := by
  pointwise [k0_pay2, k0_pay1, REF0, gates]
  rw [zero_sub, mul_comm]
  blk_point [iblk, V, idx t]

/-- What point `t` stores of the gate logits' gradient. -/
theorem point1 (c : Dev nD) (t : Fin cfg0.N) (y) :
    k0_pay3 (iblk m c 2 t) (iblk m c 0 t) (iblk m c 1 t) y
      = REF1 (m ((c : Thread nD τ).loc main_arg0)) (m ((c : Thread nD τ).loc main_arg1)) (m ((c : Thread nD τ).loc main_arg2)) (((cfg0.win 4).blk t).view.emb y) := by
  pointwise [k0_pay3, k0_pay1, REF1, gates]
  rw [zero_sub]
  refine (mul_assoc (G := EReal) _ _ _).trans ?_
  blk_point [iblk, V, idx t]

/-- The first result array after the run is the reference's gradient with respect to the branch outputs. -/
theorem final0 (c : Dev nD) : (dats m 0 c).arrAt 3 (cfgs 0).N
    = REF0 (m ((c : Thread nD τ).loc main_arg0)) (m ((c : Thread nD τ).loc main_arg2)) := by
  refine (dats m 0 c).arrAt_eq_of_covers 3 _ (by decide +kernel) fun t _ y => ?_
  blk_simp
  rw [after0_3]; frame_out
  exact point0 m c t y

/-- The second result array after the run is the reference's gradient with respect to the gate logits. -/
theorem final1 (c : Dev nD) : (dats m 0 c).arrAt 4 (cfgs 0).N
    = REF1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point1 m c t y

end Cert.MergeIdeal.RefValue

end
-- ==== Proof.MergeClaim.lean ====
module

public import proofs.«01_k».proof.Defs
public import proofs.«01_k».proof.Proof.Gen.Merge
public import proofs.«01_k».proof.Proof.Gen.Merge.Frame
public import proofs.«01_k».proof.Proof.MergeValue
public import Idealize.ShloMosaic.Lib.Quiescent

/-! # The claims about the gradient of the gated merge -/

@[expose] public section

set_option maxRecDepth 16384

noncomputable section

namespace Cert.Proof

open Idealize.ShloMosaic Idealize.SL.Sem

/-- The merge's backward kernel runs and leaves its arguments, at the words. -/
theorem merge_frame : Cert.quiescent_Merge := fun m ρ _ => Cert.Merge.Gen.frame m ρ

/-- The merge's backward kernel runs and leaves its arguments, at the reals. -/
theorem merge_ideal_frame : Cert.quiescent_MergeIdeal := fun m ρ _ => Cert.MergeIdeal.Gen.frame m ρ

/-- The reference of the merge's gradient runs and leaves its arguments. -/
theorem merge_ref_frame : Cert.quiescent_MergeRefIdeal := fun m ρ _ =>
  (θ_run Cert.MergeRefIdeal.defs _ _).mono
    (fun r h => ⟨fun c => ⟨(h c).2.2.1, (h c).2.2.2.1, (h c).2.2.2.2⟩, sem_eq_zero_of_no_sems (by decide) r.2⟩)
    (Cert.MergeRefIdeal.Value.run (F := Ideal) m ρ)

/-- Both results of the merge's backward kernel are the reference's. -/
theorem merge_algebraic : Cert.algebraic_MergeIdeal_MergeRefIdeal := by
  pair_intro
  · run_from Cert.MergeIdeal.Gen.run_main m g
  · run_from Cert.MergeRefIdeal.Value.run m' g'
    · exact (Cert.MergeIdeal.RefValue.final0 m c).symm
    · exact (Cert.MergeIdeal.RefValue.final1 m c).symm

end Cert.Proof

end
-- ==== Proof.DupValue.lean ====
module

public import proofs.«01_k».proof.Proof.Gen.DupIdeal.Value
public import proofs.«01_k».proof.Proof.Gen.DupRefIdeal.Run
public import Idealize.ShloMosaic.Lib.Pipeline.ValueKit
public import Idealize.ShloMosaic.Lib.Pointwise
public import Idealize.ShloMosaic.Lib.Claim

/-! # The gradient of the MLP's hidden layer

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DupIdeal.RefValue

open Cert.DupRefIdeal Cert.DupRefIdeal.Gen in
/-- The reference's term of the argument arrays. -/
def REF0 (x0 : FVec Ideal S4096x2048 .bf16) (x1 : FVec Ideal S8192x2048 .bf16) (x2 : FVec Ideal S4096x8192 .bf16) : FVec Ideal S4096x8192 .bf16 :=
  truncf .bf16 (select (cmpf .ogt (extf .f32 x2 bitsLt_bf16_f32) (broadcastInDim S4096x8192 ![] bcast_S_S4096x8192 (constant S_ .f32 0x00000000#32))) (mulf (Host.dotGeneral dot_S4096x2048_S8192x2048_S4096x8192_1_1_0_0_n_n none (extf .f32 x0 bitsLt_bf16_f32) (extf .f32 x1 bitsLt_bf16_f32)) (mulf (broadcastInDim S4096x8192 ![] bcast_S_S4096x8192 (constant S_ .f32 0x40000000#32)) (maximumf (extf .f32 x2 bitsLt_bf16_f32) (broadcastInDim S4096x8192 ![] bcast_S_S4096x8192 (constant S_ .f32 0x00000000#32))))) (broadcastInDim S4096x8192 ![] bcast_S_S4096x8192 (constant S_ .f32 0x00000000#32))) bitsLt_bf16_f32

/-- The derivative of the squared rectifier, with or without its test: where the rectifier is 0 both are 0. -/
theorem relu_sq (a k u : EReal) [Decidable (0 < u)] : (if 0 < u then a * (k * max u 0) else 0) = a * k * max u 0 := by
  split
  · exact (mul_assoc a k _).symm
  · rw [max_eq_right (not_lt.mp ‹_›), mul_zero]

open Cert.DupIdeal Cert.DupIdeal.Gen

variable (m : (ℓ : Loc nD τ sig) → Buf (Elt Ideal) ℓ)

/-- Where the windows stand at a point of the grid. -/
theorem idx : ∀ t : Fin cfg0.N, win0_0.index t = ![t.val / 8, 0]
    ∧ win0_1.index t = ![t.val % 8, 0]
    ∧ win0_2.index t = ![t.val / 8, t.val % 8]
    ∧ win0_3.index t = ![t.val / 8, t.val % 8] :=
  (by decide +kernel : ∀ t : Fin grid0.N, _)

/-- What point `t` stores of result 0. -/
theorem point0 (c : Dev nD) (t : Fin cfg0.N) (y) :
    k0_pay1 (iblk m c 0 t) (iblk m c 1 t) (iblk m c 2 t) y
      = REF0 (m ((c : Thread nD τ).loc main_arg0)) (m ((c : Thread nD τ).loc main_arg1)) (m ((c : Thread nD τ).loc main_arg2)) (((cfg0.win 3).blk t).view.emb y) := by
  pointwise [k0_pay1, REF0]
  refine Eq.trans ?_ (relu_sq _ _ _).symm
  blk_point [iblk, V, idx t]

/-- Result 0 after the grid. -/
theorem final0 (c : Dev nD) :
    (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold Gen.outsAt0
  frame_out
  exact point0 m c t y

end Cert.DupIdeal.RefValue

end

end
-- ==== Proof.DupClaim.lean ====
module

public import proofs.«01_k».proof.Defs
public import proofs.«01_k».proof.Proof.Gen.Dup
public import proofs.«01_k».proof.Proof.Gen.Dup.Frame
public import proofs.«01_k».proof.Proof.DupValue
public import Idealize.ShloMosaic.Lib.Quiescent

/-! # The claims about one call: the gradient of the MLP's hidden layer -/

@[expose] public section

set_option maxRecDepth 16384

noncomputable section

namespace Cert.Proof

open Idealize.ShloMosaic Idealize.SL.Sem

/-- The kernel runs and leaves its arguments, at the words. -/
theorem dup_frame : Cert.quiescent_Dup := fun m ρ _ => Cert.Dup.Gen.frame m ρ

/-- The kernel runs and leaves its arguments, at the reals. -/
theorem dup_ideal_frame : Cert.quiescent_DupIdeal := fun m ρ _ => Cert.DupIdeal.Gen.frame m ρ

/-- The reference runs and leaves its arguments. -/
theorem dup_ref_frame : Cert.quiescent_DupRefIdeal := fun m ρ _ =>
  (θ_run Cert.DupRefIdeal.defs _ _).mono
    (fun r h => ⟨fun c => (h c).2, sem_eq_zero_of_no_sems (by decide) r.2⟩)
    (Cert.DupRefIdeal.Value.run (F := Ideal) m ρ)

/-- What the kernel leaves is what the reference computes. -/
theorem dup_algebraic : Cert.algebraic_DupIdeal_DupRefIdeal := by
  pair_intro
  · run_from Cert.DupIdeal.Gen.run_main m g
  · run_from Cert.DupRefIdeal.Value.run m' g'
    exact (Cert.DupIdeal.RefValue.final0 m c).symm

end Cert.Proof

end

end
-- ==== Proof.DwDownValue.lean ====
module

public import proofs.«01_k».proof.Proof.Gen.DwDownIdeal.Value
public import proofs.«01_k».proof.Proof.Gen.DwDownRefIdeal.Run
public import Idealize.ShloMosaic.Lib.Pipeline.ValueKit
public import Idealize.ShloMosaic.Lib.Pointwise
public import Idealize.ShloMosaic.Lib.Claim

/-! # The gradient of the second MLP weight

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwDownIdeal.RefValue

open Cert.DwDownRefIdeal Cert.DwDownRefIdeal.Gen in
/-- The reference's term of the argument arrays. -/
def REF0 (x0 : FVec Ideal S4096x8192 .bf16) (x1 : FVec Ideal S4096x2048 .bf16) : FVec Ideal S8192x2048 .bf16 :=
  truncf .bf16 (transpose S8192x2048 [1, 0] (Host.dotGeneral dot_S4096x2048_S4096x8192_S2048x8192_0_0_1_1_n_n none (extf .f32 x1 bitsLt_bf16_f32) (extf .f32 x0 bitsLt_bf16_f32)) transposes_S2048x8192_S8192x2048_1_0) bitsLt_bf16_f32

open Cert.DwDownIdeal Cert.DwDownIdeal.Gen

variable (m : (ℓ : Loc nD τ sig) → Buf (Elt Ideal) ℓ)

/-- Where the windows stand at a point of the grid. -/
theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  refine Eq.trans ?_ (Finset.sum_congr rfl fun k _ => mul_comm (G := EReal) _ _)
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DwDownIdeal.RefValue

end

end
-- ==== Proof.DwDownClaim.lean ====
module

public import proofs.«01_k».proof.Defs
public import proofs.«01_k».proof.Proof.Gen.DwDown
public import proofs.«01_k».proof.Proof.Gen.DwDown.Frame
public import proofs.«01_k».proof.Proof.DwDownValue
public import Idealize.ShloMosaic.Lib.Quiescent

/-! # The claims about one call: the gradient of the second MLP weight -/

@[expose] public section

set_option maxRecDepth 16384

noncomputable section

namespace Cert.Proof

open Idealize.ShloMosaic Idealize.SL.Sem

/-- The kernel runs and leaves its arguments, at the words. -/
theorem dwDown_frame : Cert.quiescent_DwDown := fun m ρ _ => Cert.DwDown.Gen.frame m ρ

/-- The kernel runs and leaves its arguments, at the reals. -/
theorem dwDown_ideal_frame : Cert.quiescent_DwDownIdeal := fun m ρ _ => Cert.DwDownIdeal.Gen.frame m ρ

/-- The reference runs and leaves its arguments. -/
theorem dwDown_ref_frame : Cert.quiescent_DwDownRefIdeal := fun m ρ _ =>
  (θ_run Cert.DwDownRefIdeal.defs _ _).mono
    (fun r h => ⟨fun c => (h c).2, sem_eq_zero_of_no_sems (by decide) r.2⟩)
    (Cert.DwDownRefIdeal.Value.run (F := Ideal) m ρ)

/-- What the kernel leaves is what the reference computes. -/
theorem dwDown_algebraic : Cert.algebraic_DwDownIdeal_DwDownRefIdeal := by
  pair_intro
  · run_from Cert.DwDownIdeal.Gen.run_main m g
  · run_from Cert.DwDownRefIdeal.Value.run m' g'
    exact (Cert.DwDownIdeal.RefValue.final0 m c).symm

end Cert.Proof

end

end
-- ==== Proof.DwUpValue.lean ====
module

public import proofs.«01_k».proof.Proof.Gen.DwUpIdeal.Value
public import proofs.«01_k».proof.Proof.Gen.DwUpRefIdeal.Run
public import Idealize.ShloMosaic.Lib.Pipeline.ValueKit
public import Idealize.ShloMosaic.Lib.Pointwise
public import Idealize.ShloMosaic.Lib.Claim

/-! # The gradient of the first MLP weight

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwUpIdeal.RefValue

open Cert.DwUpRefIdeal Cert.DwUpRefIdeal.Gen in
/-- The reference's term of the argument arrays. -/
def REF0 (x0 : FVec Ideal S4096x2048 .bf16) (x1 : FVec Ideal S4096x8192 .bf16) : FVec Ideal S8x2048x1024 .bf16 :=
  truncf .bf16 (transpose S8x2048x1024 [1, 0, 2] (shapeCast _ (transpose S2048x8192 [1, 0] (Host.dotGeneral dot_S4096x8192_S4096x2048_S8192x2048_0_0_1_1_n_n none (extf .f32 x1 bitsLt_bf16_f32) (extf .f32 x0 bitsLt_bf16_f32)) transposes_S8192x2048_S2048x8192_1_0) shapeCasts_S2048x8192_S2048x8x1024) transposes_S2048x8x1024_S8x2048x1024_1_0_2) bitsLt_bf16_f32

open Cert.DwUpIdeal Cert.DwUpIdeal.Gen

variable (m : (ℓ : Loc nD τ sig) → Buf (Elt Ideal) ℓ)

/-- Where the windows stand at a point of the grid. -/
theorem idx : ∀ t : Fin cfg0.N, win0_0.index t = ![0, t.val / 8]
    ∧ win0_1.index t = ![0, t.val % 8]
    ∧ win0_2.index t = ![t.val % 8, t.val / 8, 0] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  refine Eq.trans ?_ (Finset.sum_congr rfl fun k _ => mul_comm (G := EReal) _ _)
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DwUpIdeal.RefValue

end

end
-- ==== Proof.DwUpClaim.lean ====
module

public import proofs.«01_k».proof.Defs
public import proofs.«01_k».proof.Proof.Gen.DwUp
public import proofs.«01_k».proof.Proof.Gen.DwUp.Frame
public import proofs.«01_k».proof.Proof.DwUpValue
public import Idealize.ShloMosaic.Lib.Quiescent

/-! # The claims about one call: the gradient of the first MLP weight -/

@[expose] public section

set_option maxRecDepth 16384

noncomputable section

namespace Cert.Proof

open Idealize.ShloMosaic Idealize.SL.Sem

/-- The kernel runs and leaves its arguments, at the words. -/
theorem dwUp_frame : Cert.quiescent_DwUp := fun m ρ _ => Cert.DwUp.Gen.frame m ρ

/-- The kernel runs and leaves its arguments, at the reals. -/
theorem dwUp_ideal_frame : Cert.quiescent_DwUpIdeal := fun m ρ _ => Cert.DwUpIdeal.Gen.frame m ρ

/-- The reference runs and leaves its arguments. -/
theorem dwUp_ref_frame : Cert.quiescent_DwUpRefIdeal := fun m ρ _ =>
  (θ_run Cert.DwUpRefIdeal.defs _ _).mono
    (fun r h => ⟨fun c => (h c).2, sem_eq_zero_of_no_sems (by decide) r.2⟩)
    (Cert.DwUpRefIdeal.Value.run (F := Ideal) m ρ)

/-- What the kernel leaves is what the reference computes. -/
theorem dwUp_algebraic : Cert.algebraic_DwUpIdeal_DwUpRefIdeal := by
  pair_intro
  · run_from Cert.DwUpIdeal.Gen.run_main m g
  · run_from Cert.DwUpRefIdeal.Value.run m' g'
    exact (Cert.DwUpIdeal.RefValue.final0 m c).symm

end Cert.Proof

end

end
-- ==== Proof.Dh2Value.lean ====
module

public import proofs.«01_k».proof.Proof.Gen.Dh2Ideal.Value
public import proofs.«01_k».proof.Proof.Gen.Dh2RefIdeal.Run
public import Idealize.ShloMosaic.Lib.Pipeline.ValueKit
public import Idealize.ShloMosaic.Lib.Pointwise
public import Idealize.ShloMosaic.Lib.Claim
public import Idealize.ShloMosaic.Lib.Pipeline.ReadBack

/-! # The gradient of the MLP's input

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.Dh2Ideal.RefValue

open Cert.Dh2RefIdeal Cert.Dh2RefIdeal.Gen in
/-- The reference's term of the argument arrays. -/
def REF0 (x0 : FVec Ideal S4096x8192 .bf16) (x1 : FVec Ideal S8x2048x1024 .bf16) : FVec Ideal S4096x2048 .f32 :=
  Host.dotGeneral dot_S4096x8192_S2048x8192_S4096x2048_1_1_0_0_n_n none (extf .f32 x0 bitsLt_bf16_f32) (shapeCast _ (transpose S2048x8x1024 [1, 0, 2] (extf .f32 x1 bitsLt_bf16_f32) transposes_S8x2048x1024_S2048x8x1024_1_0_2) shapeCasts_S2048x8x1024_S2048x8192)

open Cert.Dh2Ideal Cert.Dh2Ideal.Gen

variable (m : (ℓ : Loc nD τ sig) → Buf (Elt Ideal) ℓ)

/-- Where the windows stand at a point of the grid. -/
theorem idx : ∀ t : Fin cfg0.N, win0_0.index t = ![t.val / 16, t.val % 8]
    ∧ win0_1.index t = ![t.val % 8, t.val / 8 % 2, 0]
    ∧ win0_2.index t = ![t.val / 16, t.val / 8 % 2] :=
  (by decide +kernel : ∀ t : Fin grid0.N, _)

/-- The first step of a run leaves its product in the accumulator. -/
theorem acc_first (c : Dev nD) (t : Fin cfg0.N) (h0 : t.val % 8 = 0) (y) :
    (outsAt0 m c t.val t.isLt).2 y = (0 : EReal) + k0_pay1 (iblk m c 0 t) (iblk m c 1 t) y := by
  rw [outsAt0_A m c t (by omega) (by omega) (by omega)]
  dsimp only
  frame_out
  pointwise [k0_pay2]

/-- A further step adds its product. -/
theorem acc_next (c : Dev nD) (t : Fin cfg0.N) (h0 : ¬t.val % 8 = 0) (y) :
    (outsAt0 m c t.val t.isLt).2 y
      = (outsAt0 m c (t.val - 1) (Nat.lt_of_le_of_lt (Nat.sub_le _ _) t.isLt)).2 y + k0_pay1 (iblk m c 0 t) (iblk m c 1 t) y := by
  by_cases h : t.val % 8 = 7
  · rw [outsAt0_C m c t (by omega) (by omega) (by omega)]
    dsimp only
    frame_out
    pointwise [k0_pay3]
    rw [read_unread_whole]
  · rw [outsAt0_B m c t (by omega) (by omega) (by omega)]
    dsimp only
    frame_out
    pointwise [k0_pay3]
    rw [read_unread_whole]

/-- The last step writes the accumulator out. -/
theorem out_last (c : Dev nD) (t : Fin cfg0.N) (h : t.val % 8 = 7) (y) :
    (outsAt0 m c t.val t.isLt).1 y = (outsAt0 m c t.val t.isLt).2 y := by
  rw [outsAt0_C m c t (by omega) (by omega) (by omega)]
  dsimp only
  frame_out

/-- The accumulator after a run's last step, as the sum of the run's products. -/
theorem acc_sum (c : Dev nD) (t : Fin cfg0.N) (h : t.val % 8 = 7) (y) :
    (outsAt0 m c t.val t.isLt).2 y
      = (0 : EReal) + ∑ s : Fin 8, k0_pay1 (iblk m c 0 ⟨8 * (t.val / 8) + s.val, Pipeline.run_point_lt_of_flush t h s⟩)
          (iblk m c 1 ⟨8 * (t.val / 8) + s.val, Pipeline.run_point_lt_of_flush t h s⟩) y :=
  Pipeline.eq_sum_fin_of_reset_step_apply_of_flush (fun n h => (outsAt0 m c n h).2) 8 (fun _ => (0 : EReal))
    (fun t y => k0_pay1 (iblk m c 0 t) (iblk m c 1 t) y) (acc_first m c) (acc_next m c) t h y

/-- What the last step of a run stores. -/
theorem point0 (c : Dev nD) (t : Fin cfg0.N) (h : t.val % 8 = 7) (y) :
    (outsAt0 m c t.val t.isLt).1 y = REF0 (m ((c : Thread nD τ).loc main_arg0)) (m ((c : Thread nD τ).loc main_arg1)) (((cfg0.win 2).blk t).view.emb y) := by
  rw [out_last m c t h]
  pointwise [REF0]
  rw [acc_sum m c t h]
  refine (zero_add (M := EReal) _).trans ?_
  pointwise [k0_pay1]
  refine Fin.sum_mul_add_congr fun s k hl => ?_
  blk_point [iblk, V, idx t, idx ⟨_, Pipeline.run_point_lt_of_flush t h s⟩]

/-- The result after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t ((flush0_2 t).mp hf) y

end Cert.Dh2Ideal.RefValue

end

end
-- ==== Proof.Dh2Claim.lean ====
module

public import proofs.«01_k».proof.Defs
public import proofs.«01_k».proof.Proof.Gen.Dh2
public import proofs.«01_k».proof.Proof.Gen.Dh2.Frame
public import proofs.«01_k».proof.Proof.Dh2Value
public import Idealize.ShloMosaic.Lib.Quiescent

/-! # The claims about one call: the gradient of the MLP's input -/

@[expose] public section

set_option maxRecDepth 16384

noncomputable section

namespace Cert.Proof

open Idealize.ShloMosaic Idealize.SL.Sem

/-- The kernel runs and leaves its arguments, at the words. -/
theorem dh2_frame : Cert.quiescent_Dh2 := fun m ρ _ => Cert.Dh2.Gen.frame m ρ

/-- The kernel runs and leaves its arguments, at the reals. -/
theorem dh2_ideal_frame : Cert.quiescent_Dh2Ideal := fun m ρ _ => Cert.Dh2Ideal.Gen.frame m ρ

/-- The reference runs and leaves its arguments. -/
theorem dh2_ref_frame : Cert.quiescent_Dh2RefIdeal := fun m ρ _ =>
  (θ_run Cert.Dh2RefIdeal.defs _ _).mono
    (fun r h => ⟨fun c => (h c).2, sem_eq_zero_of_no_sems (by decide) r.2⟩)
    (Cert.Dh2RefIdeal.Value.run (F := Ideal) m ρ)

/-- What the kernel leaves is what the reference computes. -/
theorem dh2_algebraic : Cert.algebraic_Dh2Ideal_Dh2RefIdeal := by
  pair_intro
  · run_from Cert.Dh2Ideal.Gen.run_main m g
  · run_from Cert.Dh2RefIdeal.Value.run m' g'
    exact (Cert.Dh2Ideal.RefValue.final0 m c).symm

end Cert.Proof

end

end
-- ==== Proof.DwOutValue.lean ====
module

public import proofs.«01_k».proof.Proof.Gen.DwOutIdeal.Value
public import proofs.«01_k».proof.Proof.Gen.DwOutRefIdeal.Run
public import Idealize.ShloMosaic.Lib.Pipeline.ValueKit
public import Idealize.ShloMosaic.Lib.Pointwise
public import Idealize.ShloMosaic.Lib.Claim

/-! # The gradient of the output projection

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwOutIdeal.RefValue

open Cert.DwOutRefIdeal Cert.DwOutRefIdeal.Gen in
/-- The reference's term of the argument arrays. -/
def REF0 (x0 : FVec Ideal S4096x2048 .bf16) (x1 : FVec Ideal S4096x2048 .bf16) : FVec Ideal S2048x2048 .bf16 :=
  truncf .bf16 (transpose S2048x2048 [1, 0] (Host.dotGeneral dot_S4096x2048_S4096x2048_S2048x2048_0_0_1_1_n_n none (extf .f32 x1 bitsLt_bf16_f32) (extf .f32 x0 bitsLt_bf16_f32)) transposes_S2048x2048_S2048x2048_1_0) bitsLt_bf16_f32

open Cert.DwOutIdeal Cert.DwOutIdeal.Gen

variable (m : (ℓ : Loc nD τ sig) → Buf (Elt Ideal) ℓ)

/-- Where the windows stand at a point of the grid. -/
theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  refine Eq.trans ?_ (Finset.sum_congr rfl fun k _ => mul_comm (G := EReal) _ _)
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DwOutIdeal.RefValue

end

end
-- ==== Proof.DwOutClaim.lean ====
module

public import proofs.«01_k».proof.Defs
public import proofs.«01_k».proof.Proof.Gen.DwOut
public import proofs.«01_k».proof.Proof.Gen.DwOut.Frame
public import proofs.«01_k».proof.Proof.DwOutValue
public import Idealize.ShloMosaic.Lib.Quiescent

/-! # The claims about one call: the gradient of the output projection -/

@[expose] public section

set_option maxRecDepth 16384

noncomputable section

namespace Cert.Proof

open Idealize.ShloMosaic Idealize.SL.Sem

/-- The kernel runs and leaves its arguments, at the words. -/
theorem dwOut_frame : Cert.quiescent_DwOut := fun m ρ _ => Cert.DwOut.Gen.frame m ρ

/-- The kernel runs and leaves its arguments, at the reals. -/
theorem dwOut_ideal_frame : Cert.quiescent_DwOutIdeal := fun m ρ _ => Cert.DwOutIdeal.Gen.frame m ρ

/-- The reference runs and leaves its arguments. -/
theorem dwOut_ref_frame : Cert.quiescent_DwOutRefIdeal := fun m ρ _ =>
  (θ_run Cert.DwOutRefIdeal.defs _ _).mono
    (fun r h => ⟨fun c => (h c).2, sem_eq_zero_of_no_sems (by decide) r.2⟩)
    (Cert.DwOutRefIdeal.Value.run (F := Ideal) m ρ)

/-- What the kernel leaves is what the reference computes. -/
theorem dwOut_algebraic : Cert.algebraic_DwOutIdeal_DwOutRefIdeal := by
  pair_intro
  · run_from Cert.DwOutIdeal.Gen.run_main m g
  · run_from Cert.DwOutRefIdeal.Value.run m' g'
    exact (Cert.DwOutIdeal.RefValue.final0 m c).symm

end Cert.Proof

end

end
-- ==== Proof.DmergedValue.lean ====
module

public import proofs.«01_k».proof.Proof.Gen.DmergedIdeal.Value
public import proofs.«01_k».proof.Proof.Gen.DmergedRefIdeal.Run
public import Idealize.ShloMosaic.Lib.Pipeline.ValueKit
public import Idealize.ShloMosaic.Lib.Pointwise
public import Idealize.ShloMosaic.Lib.Claim

/-! # Dmerged

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DmergedIdeal.RefValue

open Cert.DmergedRefIdeal Cert.DmergedRefIdeal.Gen in
/-- The reference's term of the argument arrays. -/
def REF0 (x0 : FVec Ideal S4096x2048 .bf16) (x1 : FVec Ideal S2048x2048 .bf16) : FVec Ideal S4096x2048 .f32 :=
  Host.dotGeneral dot_S4096x2048_S2048x2048_S4096x2048_1_1_0_0_n_n none (extf .f32 x0 bitsLt_bf16_f32) (extf .f32 x1 bitsLt_bf16_f32)

open Cert.DmergedIdeal Cert.DmergedIdeal.Gen

variable (m : (ℓ : Loc nD τ sig) → Buf (Elt Ideal) ℓ)

/-- Where the windows stand at a point of the grid. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DmergedIdeal.RefValue

end

end
-- ==== Proof.DmergedClaim.lean ====
module

public import proofs.«01_k».proof.Defs
public import proofs.«01_k».proof.Proof.Gen.Dmerged
public import proofs.«01_k».proof.Proof.Gen.Dmerged.Frame
public import proofs.«01_k».proof.Proof.DmergedValue
public import Idealize.ShloMosaic.Lib.Quiescent

/-! # The claims about one call: dmerged -/

@[expose] public section

set_option maxRecDepth 16384

noncomputable section

namespace Cert.Proof

open Idealize.ShloMosaic Idealize.SL.Sem

/-- The kernel runs and leaves its arguments, at the words. -/
theorem dmerged_frame : Cert.quiescent_Dmerged := fun m ρ _ => Cert.Dmerged.Gen.frame m ρ

/-- The kernel runs and leaves its arguments, at the reals. -/
theorem dmerged_ideal_frame : Cert.quiescent_DmergedIdeal := fun m ρ _ => Cert.DmergedIdeal.Gen.frame m ρ

/-- The reference runs and leaves its arguments. -/
theorem dmerged_ref_frame : Cert.quiescent_DmergedRefIdeal := fun m ρ _ =>
  (θ_run Cert.DmergedRefIdeal.defs _ _).mono
    (fun r h => ⟨fun c => (h c).2, sem_eq_zero_of_no_sems (by decide) r.2⟩)
    (Cert.DmergedRefIdeal.Value.run (F := Ideal) m ρ)

/-- What the kernel leaves is what the reference computes. -/
theorem dmerged_algebraic : Cert.algebraic_DmergedIdeal_DmergedRefIdeal := by
  pair_intro
  · run_from Cert.DmergedIdeal.Gen.run_main m g
  · run_from Cert.DmergedRefIdeal.Value.run m' g'
    exact (Cert.DmergedIdeal.RefValue.final0 m c).symm

end Cert.Proof

end

end
-- ==== Proof.DwProjValue.lean ====
module

public import proofs.«01_k».proof.Proof.Gen.DwProjIdeal.Value
public import proofs.«01_k».proof.Proof.Gen.DwProjRefIdeal.Run
public import Idealize.ShloMosaic.Lib.Pipeline.ValueKit
public import Idealize.ShloMosaic.Lib.Pointwise
public import Idealize.ShloMosaic.Lib.Claim
public import Idealize.ShloMosaic.Lib.Pipeline.ReadBack

/-! # The gradient of the branch projections

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwProjIdeal.RefValue

open Cert.DwProjRefIdeal Cert.DwProjRefIdeal.Gen in
/-- The reference's term of the argument arrays. -/
def REF0 (x0 : FVec Ideal S4096x2560 .bf16) (x1 : FVec Ideal S4096x8192 .bf16) : FVec Ideal S2560x2048 .bf16 :=
  truncf .bf16 ((concatenate S2560x2048 0 [⟨S512x2048, ((transpose S512x2048 [1, 0] (Host.dotGeneral dot_S4096x2048_S4096x512_S2048x512_0_0_1_1_n_n none (extractStridedSlice S4096x2048 ![0, 0] (extf .f32 x1 bitsLt_bf16_f32) slices_S4096x8192_S4096x2048_0_0) (extractStridedSlice S4096x512 ![0, 0] (extf .f32 x0 bitsLt_bf16_f32) slices_S4096x2560_S4096x512_0_0)) transposes_S2048x512_S512x2048_1_0) : (⟨S512x2048, .f32⟩ : BufTy).Contents (Elt Ideal))⟩, ⟨S512x2048, ((transpose S512x2048 [1, 0] (Host.dotGeneral dot_S4096x2048_S4096x512_S2048x512_0_0_1_1_n_n none (extractStridedSlice S4096x2048 ![0, 2048] (extf .f32 x1 bitsLt_bf16_f32) slices_S4096x8192_S4096x2048_0_2048) (extractStridedSlice S4096x512 ![0, 512] (extf .f32 x0 bitsLt_bf16_f32) slices_S4096x2560_S4096x512_0_512)) transposes_S2048x512_S512x2048_1_0) : (⟨S512x2048, .f32⟩ : BufTy).Contents (Elt Ideal))⟩, ⟨S512x2048, ((transpose S512x2048 [1, 0] (Host.dotGeneral dot_S4096x2048_S4096x512_S2048x512_0_0_1_1_n_n none (extractStridedSlice S4096x2048 ![0, 4096] (extf .f32 x1 bitsLt_bf16_f32) slices_S4096x8192_S4096x2048_0_4096) (extractStridedSlice S4096x512 ![0, 1024] (extf .f32 x0 bitsLt_bf16_f32) slices_S4096x2560_S4096x512_0_1024)) transposes_S2048x512_S512x2048_1_0) : (⟨S512x2048, .f32⟩ : BufTy).Contents (Elt Ideal))⟩, ⟨S1024x2048, ((transpose S1024x2048 [1, 0] (Host.dotGeneral dot_S4096x2048_S4096x1024_S2048x1024_0_0_1_1_n_n none (extractStridedSlice S4096x2048 ![0, 6144] (extf .f32 x1 bitsLt_bf16_f32) slices_S4096x8192_S4096x2048_0_6144) (extractStridedSlice S4096x1024 ![0, 1536] (extf .f32 x0 bitsLt_bf16_f32) slices_S4096x2560_S4096x1024_0_1536)) transposes_S2048x1024_S1024x2048_1_0) : (⟨S1024x2048, .f32⟩ : BufTy).Contents (Elt Ideal))⟩] concatenates_S512x2048_S512x2048_S512x2048_S1024x2048_S2560x2048_d0 : (⟨S2560x2048, .f32⟩ : BufTy).Contents (Elt Ideal))) bitsLt_bf16_f32

open Cert.DwProjIdeal Cert.DwProjIdeal.Gen

variable (m : (ℓ : Loc nD τ sig) → Buf (Elt Ideal) ℓ)

/-- Where the windows stand at a point of the grid. -/
theorem idx : ∀ t : Fin cfg0.N, win0_0.index t = ![t.val % 2, t.val / 4]
    ∧ win0_1.index t = ![t.val % 2, min (t.val / 4) 3 * 2 + t.val / 2 % 2]
    ∧ win0_2.index t = ![t.val / 4, t.val / 2 % 2] :=
  (by decide +kernel : ∀ t : Fin grid0.N, _)

/-- The first step of a run leaves its product in the accumulator. -/
theorem acc_first (c : Dev nD) (t : Fin cfg0.N) (h0 : t.val % 2 = 0) (y) :
    (outsAt0 m c t.val t.isLt).2 y = (0 : EReal) + k0_pay1 (iblk m c 0 t) (iblk m c 1 t) y := by
  rw [outsAt0_A m c t (by omega) (by omega) (by omega)]
  dsimp only
  frame_out
  pointwise [k0_pay2]

/-- A further step adds its product. -/
theorem acc_next (c : Dev nD) (t : Fin cfg0.N) (h0 : ¬t.val % 2 = 0) (y) :
    (outsAt0 m c t.val t.isLt).2 y
      = (outsAt0 m c (t.val - 1) (Nat.lt_of_le_of_lt (Nat.sub_le _ _) t.isLt)).2 y + k0_pay1 (iblk m c 0 t) (iblk m c 1 t) y := by
  rw [outsAt0_B m c t (by omega) (by omega) (by omega)]
  dsimp only
  frame_out
  pointwise [k0_pay3]
  rw [read_unread_whole]

/-- The last step writes the accumulator out. -/
theorem out_last (c : Dev nD) (t : Fin cfg0.N) (h : t.val % 2 = 1) (y) :
    (outsAt0 m c t.val t.isLt).1 y = k0_pay4 (outsAt0 m c t.val t.isLt).2 y := by
  rw [outsAt0_B m c t (by omega) (by omega) (by omega)]
  dsimp only
  frame_out

/-- The accumulator after a run's last step, as the sum of the run's products. -/
theorem acc_sum (c : Dev nD) (t : Fin cfg0.N) (h : t.val % 2 = 1) (y) :
    (outsAt0 m c t.val t.isLt).2 y
      = (0 : EReal) + ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) y :=
  Pipeline.eq_sum_fin_of_reset_step_apply_of_flush (fun n h => (outsAt0 m c n h).2) 2 (fun _ => (0 : EReal))
    (fun t y => k0_pay1 (iblk m c 0 t) (iblk m c 1 t) y) (acc_first m c) (acc_next m c) t h y

/-- What the last step of a run stores. -/
theorem point0 (c : Dev nD) (t : Fin cfg0.N) (h : t.val % 2 = 1) (y) :
    (outsAt0 m c t.val t.isLt).1 y = REF0 (m ((c : Thread nD τ).loc main_arg0)) (m ((c : Thread nD τ).loc main_arg1)) (((cfg0.win 2).blk t).view.emb y) := by
  rw [out_last m c t h]
  pointwise [k0_pay4, REF0]
  rw [acc_sum m c t h]
  refine (zero_add (M := EReal) _).trans ?_
  pointwise [k0_pay1]
  have e : ((((View.whole main_v0).slice ((win0 2).rect t)).emb y 0 : Fin _) : ℕ) = t.val / 4 * 512 + (y 0).val := by
    show win0_2.index t 0 * 512 + 1 * (y 0).val = _
    rw [(idx t).2.2, one_mul]
    rfl
  split_ifs
  all_goals
    refine Eq.trans ?_ (Fin.sum_fin_congr fun k => mul_comm (G := EReal) _ _)
    refine Fin.sum_mul_add_congr fun s k hl => ?_
    blk_point [iblk, V, idx t, idx ⟨_, Pipeline.run_point_lt_of_flush t h s⟩]
    all_goals omega

/-- The result after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t ((flush0_2 t).mp hf) y

end Cert.DwProjIdeal.RefValue

end

end
-- ==== Proof.DwProjClaim.lean ====
module

public import proofs.«01_k».proof.Defs
public import proofs.«01_k».proof.Proof.Gen.DwProj
public import proofs.«01_k».proof.Proof.Gen.DwProj.Frame
public import proofs.«01_k».proof.Proof.DwProjValue
public import Idealize.ShloMosaic.Lib.Quiescent

/-! # The claims about one call: the gradient of the branch projections -/

@[expose] public section

set_option maxRecDepth 16384

noncomputable section

namespace Cert.Proof

open Idealize.ShloMosaic Idealize.SL.Sem

/-- The kernel runs and leaves its arguments, at the words. -/
theorem dwProj_frame : Cert.quiescent_DwProj := fun m ρ _ => Cert.DwProj.Gen.frame m ρ

/-- The kernel runs and leaves its arguments, at the reals. -/
theorem dwProj_ideal_frame : Cert.quiescent_DwProjIdeal := fun m ρ _ => Cert.DwProjIdeal.Gen.frame m ρ

/-- The reference runs and leaves its arguments. -/
theorem dwProj_ref_frame : Cert.quiescent_DwProjRefIdeal := fun m ρ _ =>
  (θ_run Cert.DwProjRefIdeal.defs _ _).mono
    (fun r h => ⟨fun c => (h c).2, sem_eq_zero_of_no_sems (by decide) r.2⟩)
    (Cert.DwProjRefIdeal.Value.run (F := Ideal) m ρ)

/-- What the kernel leaves is what the reference computes. -/
theorem dwProj_algebraic : Cert.algebraic_DwProjIdeal_DwProjRefIdeal := by
  pair_intro
  · run_from Cert.DwProjIdeal.Gen.run_main m g
  · run_from Cert.DwProjRefIdeal.Value.run m' g'
    exact (Cert.DwProjIdeal.RefValue.final0 m c).symm

end Cert.Proof

end

end
-- ==== Proof.DactValue.lean ====
module

public import proofs.«01_k».proof.Proof.Gen.DactIdeal.Value
public import proofs.«01_k».proof.Proof.Gen.DactRefIdeal.Run
public import Idealize.ShloMosaic.Lib.Pipeline.ValueKit
public import Idealize.ShloMosaic.Lib.Pointwise
public import Idealize.ShloMosaic.Lib.Claim

/-! # The gradient of the branches' outputs

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DactIdeal.RefValue

open Cert.DactRefIdeal Cert.DactRefIdeal.Gen in
/-- The reference's term of the argument arrays. -/
def REF0 (x0 : FVec Ideal S4096x8192 .bf16) (x1 : FVec Ideal S2560x2048 .bf16) : FVec Ideal S4096x2560 .f32 :=
  (concatenate S4096x2560 1 [⟨S4096x512, ((Host.dotGeneral dot_S4096x2048_S512x2048_S4096x512_1_1_0_0_n_n none (extractStridedSlice S4096x2048 ![0, 0] (extf .f32 x0 bitsLt_bf16_f32) slices_S4096x8192_S4096x2048_0_0) (extractStridedSlice S512x2048 ![0, 0] (extf .f32 x1 bitsLt_bf16_f32) slices_S2560x2048_S512x2048_0_0)) : (⟨S4096x512, .f32⟩ : BufTy).Contents (Elt Ideal))⟩, ⟨S4096x512, ((Host.dotGeneral dot_S4096x2048_S512x2048_S4096x512_1_1_0_0_n_n none (extractStridedSlice S4096x2048 ![0, 2048] (extf .f32 x0 bitsLt_bf16_f32) slices_S4096x8192_S4096x2048_0_2048) (extractStridedSlice S512x2048 ![512, 0] (extf .f32 x1 bitsLt_bf16_f32) slices_S2560x2048_S512x2048_512_0)) : (⟨S4096x512, .f32⟩ : BufTy).Contents (Elt Ideal))⟩, ⟨S4096x512, ((Host.dotGeneral dot_S4096x2048_S512x2048_S4096x512_1_1_0_0_n_n none (extractStridedSlice S4096x2048 ![0, 4096] (extf .f32 x0 bitsLt_bf16_f32) slices_S4096x8192_S4096x2048_0_4096) (extractStridedSlice S512x2048 ![1024, 0] (extf .f32 x1 bitsLt_bf16_f32) slices_S2560x2048_S512x2048_1024_0)) : (⟨S4096x512, .f32⟩ : BufTy).Contents (Elt Ideal))⟩, ⟨S4096x1024, ((Host.dotGeneral dot_S4096x2048_S1024x2048_S4096x1024_1_1_0_0_n_n none (extractStridedSlice S4096x2048 ![0, 6144] (extf .f32 x0 bitsLt_bf16_f32) slices_S4096x8192_S4096x2048_0_6144) (extractStridedSlice S1024x2048 ![1536, 0] (extf .f32 x1 bitsLt_bf16_f32) slices_S2560x2048_S1024x2048_1536_0)) : (⟨S4096x1024, .f32⟩ : BufTy).Contents (Elt Ideal))⟩] concatenates_S4096x512_S4096x512_S4096x512_S4096x1024_S4096x2560_d1 : (⟨S4096x2560, .f32⟩ : BufTy).Contents (Elt Ideal))

open Cert.DactIdeal Cert.DactIdeal.Gen

variable (m : (ℓ : Loc nD τ sig) → Buf (Elt Ideal) ℓ)

/-- Where the windows stand at a point of the grid. -/
theorem idx : ∀ t : Fin cfg0.N, win0_0.index t = ![t.val / 5, min (t.val % 5) 3]
    ∧ win0_1.index t = ![t.val % 5, 0]
    ∧ win0_2.index t = ![t.val / 5, t.val % 5] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  have e : ((((View.whole main_v0).slice ((win0 2).rect t)).emb y 1 : Fin _) : ℕ) = t.val % 5 * 512 + (y 1).val := by
    show win0_2.index t 1 * 512 + 1 * (y 1).val = _
    rw [(idx t).2.2, one_mul]
    rfl
  blk_point [iblk, V, idx t]
  all_goals omega

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DactIdeal.RefValue

end

end
-- ==== Proof.DactClaim.lean ====
module

public import proofs.«01_k».proof.Defs
public import proofs.«01_k».proof.Proof.Gen.Dact
public import proofs.«01_k».proof.Proof.Gen.Dact.Frame
public import proofs.«01_k».proof.Proof.DactValue
public import Idealize.ShloMosaic.Lib.Quiescent

/-! # The claims about one call: the gradient of the branches' outputs -/

@[expose] public section

set_option maxRecDepth 16384

noncomputable section

namespace Cert.Proof

open Idealize.ShloMosaic Idealize.SL.Sem

/-- The kernel runs and leaves its arguments, at the words. -/
theorem dact_frame : Cert.quiescent_Dact := fun m ρ _ => Cert.Dact.Gen.frame m ρ

/-- The kernel runs and leaves its arguments, at the reals. -/
theorem dact_ideal_frame : Cert.quiescent_DactIdeal := fun m ρ _ => Cert.DactIdeal.Gen.frame m ρ

/-- The reference runs and leaves its arguments. -/
theorem dact_ref_frame : Cert.quiescent_DactRefIdeal := fun m ρ _ =>
  (θ_run Cert.DactRefIdeal.defs _ _).mono
    (fun r h => ⟨fun c => (h c).2, sem_eq_zero_of_no_sems (by decide) r.2⟩)
    (Cert.DactRefIdeal.Value.run (F := Ideal) m ρ)

/-- What the kernel leaves is what the reference computes. -/
theorem dact_algebraic : Cert.algebraic_DactIdeal_DactRefIdeal := by
  pair_intro
  · run_from Cert.DactIdeal.Gen.run_main m g
  · run_from Cert.DactRefIdeal.Value.run m' g'
    exact (Cert.DactIdeal.RefValue.final0 m c).symm

end Cert.Proof

end

end
-- ==== Proof.DwUqValue.lean ====
module

public import proofs.«01_k».proof.Proof.Gen.DwUqIdeal.Value
public import proofs.«01_k».proof.Proof.Gen.DwUqRefIdeal.Run
public import Idealize.ShloMosaic.Lib.Pipeline.ValueKit
public import Idealize.ShloMosaic.Lib.Pointwise
public import Idealize.ShloMosaic.Lib.Claim

/-! # The gradient of the query up-projection

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwUqIdeal.RefValue

open Cert.DwUqRefIdeal Cert.DwUqRefIdeal.Gen in
/-- The reference's term of the argument arrays. -/
def REF0 (x0 : FVec Ideal S4096x512 .bf16) (x1 : FVec Ideal S4096x2048 .bf16) : FVec Ideal S512x2048 .bf16 :=
  truncf .bf16 (transpose S512x2048 [1, 0] (Host.dotGeneral dot_S4096x2048_S4096x512_S2048x512_0_0_1_1_n_n none (extf .f32 x1 bitsLt_bf16_f32) (extf .f32 x0 bitsLt_bf16_f32)) transposes_S2048x512_S512x2048_1_0) bitsLt_bf16_f32

open Cert.DwUqIdeal Cert.DwUqIdeal.Gen

variable (m : (ℓ : Loc nD τ sig) → Buf (Elt Ideal) ℓ)

/-- Where the windows stand at a point of the grid. -/
theorem idx : ∀ t : Fin cfg0.N, win0_0.index t = ![0, 0]
    ∧ win0_1.index t = ![0, t.val]
    ∧ win0_2.index t = ![0, t.val] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  refine Eq.trans ?_ (Finset.sum_congr rfl fun k _ => mul_comm (G := EReal) _ _)
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DwUqIdeal.RefValue

end

end
-- ==== Proof.DwUqClaim.lean ====
module

public import proofs.«01_k».proof.Defs
public import proofs.«01_k».proof.Proof.Gen.DwUq
public import proofs.«01_k».proof.Proof.Gen.DwUq.Frame
public import proofs.«01_k».proof.Proof.DwUqValue
public import Idealize.ShloMosaic.Lib.Quiescent

/-! # The claims about one call: the gradient of the query up-projection -/

@[expose] public section

set_option maxRecDepth 16384

noncomputable section

namespace Cert.Proof

open Idealize.ShloMosaic Idealize.SL.Sem

/-- The kernel runs and leaves its arguments, at the words. -/
theorem dwUq_frame : Cert.quiescent_DwUq := fun m ρ _ => Cert.DwUq.Gen.frame m ρ

/-- The kernel runs and leaves its arguments, at the reals. -/
theorem dwUq_ideal_frame : Cert.quiescent_DwUqIdeal := fun m ρ _ => Cert.DwUqIdeal.Gen.frame m ρ

/-- The reference runs and leaves its arguments. -/
theorem dwUq_ref_frame : Cert.quiescent_DwUqRefIdeal := fun m ρ _ =>
  (θ_run Cert.DwUqRefIdeal.defs _ _).mono
    (fun r h => ⟨fun c => (h c).2, sem_eq_zero_of_no_sems (by decide) r.2⟩)
    (Cert.DwUqRefIdeal.Value.run (F := Ideal) m ρ)

/-- What the kernel leaves is what the reference computes. -/
theorem dwUq_algebraic : Cert.algebraic_DwUqIdeal_DwUqRefIdeal := by
  pair_intro
  · run_from Cert.DwUqIdeal.Gen.run_main m g
  · run_from Cert.DwUqRefIdeal.Value.run m' g'
    exact (Cert.DwUqIdeal.RefValue.final0 m c).symm

end Cert.Proof

end

end
-- ==== Proof.DqnValue.lean ====
module

public import proofs.«01_k».proof.Proof.Gen.DqnIdeal.Value
public import proofs.«01_k».proof.Proof.Gen.DqnRefIdeal.Run
public import Idealize.ShloMosaic.Lib.Pipeline.ValueKit
public import Idealize.ShloMosaic.Lib.Pointwise
public import Idealize.ShloMosaic.Lib.Claim

/-! # The gradient of the normalised query latent

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DqnIdeal.RefValue

open Cert.DqnRefIdeal Cert.DqnRefIdeal.Gen in
/-- The reference's term of the argument arrays. -/
def REF0 (x0 : FVec Ideal S4096x2048 .bf16) (x1 : FVec Ideal S512x2048 .bf16) : FVec Ideal S4096x512 .f32 :=
  Host.dotGeneral dot_S4096x2048_S512x2048_S4096x512_1_1_0_0_n_n none (extf .f32 x0 bitsLt_bf16_f32) (extf .f32 x1 bitsLt_bf16_f32)

open Cert.DqnIdeal Cert.DqnIdeal.Gen

variable (m : (ℓ : Loc nD τ sig) → Buf (Elt Ideal) ℓ)

/-- Where the windows stand at a point of the grid. -/
theorem idx : ∀ t : Fin cfg0.N, win0_0.index t = ![t.val, 0]
    ∧ win0_1.index t = ![0, 0]
    ∧ win0_2.index t = ![t.val, 0] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DqnIdeal.RefValue

end

end
-- ==== Proof.DqnClaim.lean ====
module

public import proofs.«01_k».proof.Defs
public import proofs.«01_k».proof.Proof.Gen.Dqn
public import proofs.«01_k».proof.Proof.Gen.Dqn.Frame
public import proofs.«01_k».proof.Proof.DqnValue
public import Idealize.ShloMosaic.Lib.Quiescent

/-! # The claims about one call: the gradient of the normalised query latent -/

@[expose] public section

set_option maxRecDepth 16384

noncomputable section

namespace Cert.Proof

open Idealize.ShloMosaic Idealize.SL.Sem

/-- The kernel runs and leaves its arguments, at the words. -/
theorem dqn_frame : Cert.quiescent_Dqn := fun m ρ _ => Cert.Dqn.Gen.frame m ρ

/-- The kernel runs and leaves its arguments, at the reals. -/
theorem dqn_ideal_frame : Cert.quiescent_DqnIdeal := fun m ρ _ => Cert.DqnIdeal.Gen.frame m ρ

/-- The reference runs and leaves its arguments. -/
theorem dqn_ref_frame : Cert.quiescent_DqnRefIdeal := fun m ρ _ =>
  (θ_run Cert.DqnRefIdeal.defs _ _).mono
    (fun r h => ⟨fun c => (h c).2, sem_eq_zero_of_no_sems (by decide) r.2⟩)
    (Cert.DqnRefIdeal.Value.run (F := Ideal) m ρ)

/-- What the kernel leaves is what the reference computes. -/
theorem dqn_algebraic : Cert.algebraic_DqnIdeal_DqnRefIdeal := by
  pair_intro
  · run_from Cert.DqnIdeal.Gen.run_main m g
  · run_from Cert.DqnRefIdeal.Value.run m' g'
    exact (Cert.DqnIdeal.RefValue.final0 m c).symm

end Cert.Proof

end

end
-- ==== Proof.DwUkvValue.lean ====
module

public import proofs.«01_k».proof.Proof.Gen.DwUkvIdeal.Value
public import proofs.«01_k».proof.Proof.Gen.DwUkvRefIdeal.Run
public import Idealize.ShloMosaic.Lib.Pipeline.ValueKit
public import Idealize.ShloMosaic.Lib.Pointwise
public import Idealize.ShloMosaic.Lib.Claim

/-! # The gradient of the key and value up-projection

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwUkvIdeal.RefValue

open Cert.DwUkvRefIdeal Cert.DwUkvRefIdeal.Gen in
/-- The reference's term of the argument arrays. -/
def REF0 (x0 : FVec Ideal S4096x512 .bf16) (x1 : FVec Ideal S4096x2048 .bf16) : FVec Ideal S512x2048 .bf16 :=
  truncf .bf16 (transpose S512x2048 [1, 0] (Host.dotGeneral dot_S4096x2048_S4096x512_S2048x512_0_0_1_1_n_n none (extf .f32 x1 bitsLt_bf16_f32) (extf .f32 x0 bitsLt_bf16_f32)) transposes_S2048x512_S512x2048_1_0) bitsLt_bf16_f32

open Cert.DwUkvIdeal Cert.DwUkvIdeal.Gen

variable (m : (ℓ : Loc nD τ sig) → Buf (Elt Ideal) ℓ)

/-- Where the windows stand at a point of the grid. -/
theorem idx : ∀ t : Fin cfg0.N, win0_0.index t = ![0, 0]
    ∧ win0_1.index t = ![0, t.val]
    ∧ win0_2.index t = ![0, t.val] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  refine Eq.trans ?_ (Finset.sum_congr rfl fun k _ => mul_comm (G := EReal) _ _)
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DwUkvIdeal.RefValue

end

end
-- ==== Proof.DwUkvClaim.lean ====
module

public import proofs.«01_k».proof.Defs
public import proofs.«01_k».proof.Proof.Gen.DwUkv
public import proofs.«01_k».proof.Proof.Gen.DwUkv.Frame
public import proofs.«01_k».proof.Proof.DwUkvValue
public import Idealize.ShloMosaic.Lib.Quiescent

/-! # The claims about one call: the gradient of the key and value up-projection -/

@[expose] public section

set_option maxRecDepth 16384

noncomputable section

namespace Cert.Proof

open Idealize.ShloMosaic Idealize.SL.Sem

/-- The kernel runs and leaves its arguments, at the words. -/
theorem dwUkv_frame : Cert.quiescent_DwUkv := fun m ρ _ => Cert.DwUkv.Gen.frame m ρ

/-- The kernel runs and leaves its arguments, at the reals. -/
theorem dwUkv_ideal_frame : Cert.quiescent_DwUkvIdeal := fun m ρ _ => Cert.DwUkvIdeal.Gen.frame m ρ

/-- The reference runs and leaves its arguments. -/
theorem dwUkv_ref_frame : Cert.quiescent_DwUkvRefIdeal := fun m ρ _ =>
  (θ_run Cert.DwUkvRefIdeal.defs _ _).mono
    (fun r h => ⟨fun c => (h c).2, sem_eq_zero_of_no_sems (by decide) r.2⟩)
    (Cert.DwUkvRefIdeal.Value.run (F := Ideal) m ρ)

/-- What the kernel leaves is what the reference computes. -/
theorem dwUkv_algebraic : Cert.algebraic_DwUkvIdeal_DwUkvRefIdeal := by
  pair_intro
  · run_from Cert.DwUkvIdeal.Gen.run_main m g
  · run_from Cert.DwUkvRefIdeal.Value.run m' g'
    exact (Cert.DwUkvIdeal.RefValue.final0 m c).symm

end Cert.Proof

end

end
-- ==== Proof.DkvnValue.lean ====
module

public import proofs.«01_k».proof.Proof.Gen.DkvnIdeal.Value
public import proofs.«01_k».proof.Proof.Gen.DkvnRefIdeal.Run
public import Idealize.ShloMosaic.Lib.Pipeline.ValueKit
public import Idealize.ShloMosaic.Lib.Pointwise
public import Idealize.ShloMosaic.Lib.Claim

/-! # The gradient of the normalised key and value latent

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DkvnIdeal.RefValue

open Cert.DkvnRefIdeal Cert.DkvnRefIdeal.Gen in
/-- The reference's term of the argument arrays. -/
def REF0 (x0 : FVec Ideal S4096x2048 .bf16) (x1 : FVec Ideal S512x2048 .bf16) : FVec Ideal S4096x512 .f32 :=
  Host.dotGeneral dot_S4096x2048_S512x2048_S4096x512_1_1_0_0_n_n none (extf .f32 x0 bitsLt_bf16_f32) (extf .f32 x1 bitsLt_bf16_f32)

open Cert.DkvnIdeal Cert.DkvnIdeal.Gen

variable (m : (ℓ : Loc nD τ sig) → Buf (Elt Ideal) ℓ)

/-- Where the windows stand at a point of the grid. -/
theorem idx : ∀ t : Fin cfg0.N, win0_0.index t = ![t.val, 0]
    ∧ win0_1.index t = ![0, 0]
    ∧ win0_2.index t = ![t.val, 0] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DkvnIdeal.RefValue

end

end
-- ==== Proof.DkvnClaim.lean ====
module

public import proofs.«01_k».proof.Defs
public import proofs.«01_k».proof.Proof.Gen.Dkvn
public import proofs.«01_k».proof.Proof.Gen.Dkvn.Frame
public import proofs.«01_k».proof.Proof.DkvnValue
public import Idealize.ShloMosaic.Lib.Quiescent

/-! # The claims about one call: the gradient of the normalised key and value latent -/

@[expose] public section

set_option maxRecDepth 16384

noncomputable section

namespace Cert.Proof

open Idealize.ShloMosaic Idealize.SL.Sem

/-- The kernel runs and leaves its arguments, at the words. -/
theorem dkvn_frame : Cert.quiescent_Dkvn := fun m ρ _ => Cert.Dkvn.Gen.frame m ρ

/-- The kernel runs and leaves its arguments, at the reals. -/
theorem dkvn_ideal_frame : Cert.quiescent_DkvnIdeal := fun m ρ _ => Cert.DkvnIdeal.Gen.frame m ρ

/-- The reference runs and leaves its arguments. -/
theorem dkvn_ref_frame : Cert.quiescent_DkvnRefIdeal := fun m ρ _ =>
  (θ_run Cert.DkvnRefIdeal.defs _ _).mono
    (fun r h => ⟨fun c => (h c).2, sem_eq_zero_of_no_sems (by decide) r.2⟩)
    (Cert.DkvnRefIdeal.Value.run (F := Ideal) m ρ)

/-- What the kernel leaves is what the reference computes. -/
theorem dkvn_algebraic : Cert.algebraic_DkvnIdeal_DkvnRefIdeal := by
  pair_intro
  · run_from Cert.DkvnIdeal.Gen.run_main m g
  · run_from Cert.DkvnRefIdeal.Value.run m' g'
    exact (Cert.DkvnIdeal.RefValue.final0 m c).symm

end Cert.Proof

end

end
-- ==== Proof.DwAValue.lean ====
module

public import proofs.«01_k».proof.Proof.Gen.DwAIdeal.Value
public import proofs.«01_k».proof.Proof.Gen.DwARefIdeal.Run
public import Idealize.ShloMosaic.Lib.Pipeline.ValueKit
public import Idealize.ShloMosaic.Lib.Pointwise
public import Idealize.ShloMosaic.Lib.Claim
public import Idealize.ShloMosaic.Lib.Pipeline.ReadBack

/-! # The gradient of the branch columns of the input projection

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwAIdeal.RefValue

open Cert.DwARefIdeal Cert.DwARefIdeal.Gen in
/-- The reference's term of the argument arrays. -/
def REF0 (x0 : FVec Ideal S4096x2048 .bf16) (x1 : FVec Ideal S4096x3712 .bf16) : FVec Ideal S2048x3712 .bf16 :=
  truncf .bf16 (transpose S2048x3712 [1, 0] (Host.dotGeneral dot_S4096x3712_S4096x2048_S3712x2048_0_0_1_1_n_n none (extf .f32 x1 bitsLt_bf16_f32) (extf .f32 x0 bitsLt_bf16_f32)) transposes_S3712x2048_S2048x3712_1_0) bitsLt_bf16_f32

open Cert.DwAIdeal Cert.DwAIdeal.Gen

variable (m : (ℓ : Loc nD τ sig) → Buf (Elt Ideal) ℓ)

/-- Where the windows stand at a point of the grid. -/
theorem idx : ∀ t : Fin cfg0.N, win0_0.index t = ![t.val % 8, t.val / 8]
    ∧ win0_1.index t = ![t.val % 8, 0]
    ∧ win0_2.index t = ![t.val / 8, 0] :=
  (by decide +kernel : ∀ t : Fin grid0.N, _)

/-- The first step of a run leaves its product in the accumulator. -/
theorem acc_first (c : Dev nD) (t : Fin cfg0.N) (h0 : t.val % 8 = 0) (y) :
    (outsAt0 m c t.val t.isLt).2 y = (0 : EReal) + k0_pay1 (iblk m c 0 t) (iblk m c 1 t) y := by
  rw [outsAt0_A m c t (by omega) (by omega) (by omega)]
  dsimp only
  frame_out
  pointwise [k0_pay2]

/-- A further step adds its product. -/
theorem acc_next (c : Dev nD) (t : Fin cfg0.N) (h0 : ¬t.val % 8 = 0) (y) :
    (outsAt0 m c t.val t.isLt).2 y
      = (outsAt0 m c (t.val - 1) (Nat.lt_of_le_of_lt (Nat.sub_le _ _) t.isLt)).2 y + k0_pay1 (iblk m c 0 t) (iblk m c 1 t) y := by
  by_cases h : t.val % 8 = 7
  · rw [outsAt0_C m c t (by omega) (by omega) (by omega)]
    dsimp only
    frame_out
    pointwise [k0_pay3]
    rw [read_unread_whole]
  · rw [outsAt0_B m c t (by omega) (by omega) (by omega)]
    dsimp only
    frame_out
    pointwise [k0_pay3]
    rw [read_unread_whole]

/-- The last step writes the accumulator out. -/
theorem out_last (c : Dev nD) (t : Fin cfg0.N) (h : t.val % 8 = 7) (y) :
    (outsAt0 m c t.val t.isLt).1 y = k0_pay4 (outsAt0 m c t.val t.isLt).2 y := by
  rw [outsAt0_C m c t (by omega) (by omega) (by omega)]
  dsimp only
  frame_out

/-- The accumulator after a run's last step, as the sum of the run's products. -/
theorem acc_sum (c : Dev nD) (t : Fin cfg0.N) (h : t.val % 8 = 7) (y) :
    (outsAt0 m c t.val t.isLt).2 y
      = (0 : EReal) + ∑ s : Fin 8, k0_pay1 (iblk m c 0 ⟨8 * (t.val / 8) + s.val, Pipeline.run_point_lt_of_flush t h s⟩)
          (iblk m c 1 ⟨8 * (t.val / 8) + s.val, Pipeline.run_point_lt_of_flush t h s⟩) y :=
  Pipeline.eq_sum_fin_of_reset_step_apply_of_flush (fun n h => (outsAt0 m c n h).2) 8 (fun _ => (0 : EReal))
    (fun t y => k0_pay1 (iblk m c 0 t) (iblk m c 1 t) y) (acc_first m c) (acc_next m c) t h y

/-- What the last step of a run stores. -/
theorem point0 (c : Dev nD) (t : Fin cfg0.N) (h : t.val % 8 = 7) (y) :
    (outsAt0 m c t.val t.isLt).1 y = REF0 (m ((c : Thread nD τ).loc main_arg0)) (m ((c : Thread nD τ).loc main_arg1)) (((cfg0.win 2).blk t).view.emb y) := by
  rw [out_last m c t h]
  pointwise [k0_pay4, REF0]
  rw [acc_sum m c t h]
  refine (zero_add (M := EReal) _).trans ?_
  pointwise [k0_pay1]
  refine Eq.trans ?_ (Fin.sum_fin_congr fun k => mul_comm (G := EReal) _ _)
  refine Fin.sum_mul_add_congr fun s k hl => ?_
  blk_point [iblk, V, idx t, idx ⟨_, Pipeline.run_point_lt_of_flush t h s⟩]

/-- The result after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t ((flush0_2 t).mp hf) y

end Cert.DwAIdeal.RefValue

end

end
-- ==== Proof.DwAClaim.lean ====
module

public import proofs.«01_k».proof.Defs
public import proofs.«01_k».proof.Proof.Gen.DwA
public import proofs.«01_k».proof.Proof.Gen.DwA.Frame
public import proofs.«01_k».proof.Proof.DwAValue
public import Idealize.ShloMosaic.Lib.Quiescent

/-! # The claims about one call: the gradient of the branch columns of the input projection -/

@[expose] public section

set_option maxRecDepth 16384

noncomputable section

namespace Cert.Proof

open Idealize.ShloMosaic Idealize.SL.Sem

/-- The kernel runs and leaves its arguments, at the words. -/
theorem dwA_frame : Cert.quiescent_DwA := fun m ρ _ => Cert.DwA.Gen.frame m ρ

/-- The kernel runs and leaves its arguments, at the reals. -/
theorem dwA_ideal_frame : Cert.quiescent_DwAIdeal := fun m ρ _ => Cert.DwAIdeal.Gen.frame m ρ

/-- The reference runs and leaves its arguments. -/
theorem dwA_ref_frame : Cert.quiescent_DwARefIdeal := fun m ρ _ =>
  (θ_run Cert.DwARefIdeal.defs _ _).mono
    (fun r h => ⟨fun c => (h c).2, sem_eq_zero_of_no_sems (by decide) r.2⟩)
    (Cert.DwARefIdeal.Value.run (F := Ideal) m ρ)

/-- What the kernel leaves is what the reference computes. -/
theorem dwA_algebraic : Cert.algebraic_DwAIdeal_DwARefIdeal := by
  pair_intro
  · run_from Cert.DwAIdeal.Gen.run_main m g
  · run_from Cert.DwARefIdeal.Value.run m' g'
    exact (Cert.DwAIdeal.RefValue.final0 m c).symm

end Cert.Proof

end

end
-- ==== Proof.DwGValue.lean ====
module

public import proofs.«01_k».proof.Proof.Gen.DwGIdeal.Value
public import proofs.«01_k».proof.Proof.Gen.DwGRefIdeal.Run
public import Idealize.ShloMosaic.Lib.Pipeline.ValueKit
public import Idealize.ShloMosaic.Lib.Pointwise
public import Idealize.ShloMosaic.Lib.Claim

/-! # The gradient of the gate columns of the input projection

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DwGIdeal.RefValue

open Cert.DwGRefIdeal Cert.DwGRefIdeal.Gen in
/-- The reference's term of the argument arrays. -/
def REF0 (x0 : FVec Ideal S4096x2048 .bf16) (x1 : FVec Ideal S4096x8192 .bf16) : FVec Ideal S2048x8192 .bf16 :=
  truncf .bf16 (transpose S2048x8192 [1, 0] (Host.dotGeneral dot_S4096x8192_S4096x2048_S8192x2048_0_0_1_1_n_n none (extf .f32 x1 bitsLt_bf16_f32) (extf .f32 x0 bitsLt_bf16_f32)) transposes_S8192x2048_S2048x8192_1_0) bitsLt_bf16_f32

open Cert.DwGIdeal Cert.DwGIdeal.Gen

variable (m : (ℓ : Loc nD τ sig) → Buf (Elt Ideal) ℓ)

/-- Where the windows stand at a point of the grid. -/
theorem idx : ∀ t : Fin cfg0.N, win0_0.index t = ![0, t.val / 8]
    ∧ win0_1.index t = ![0, t.val % 8]
    ∧ win0_2.index t = ![t.val / 8, t.val % 8] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  refine Eq.trans ?_ (Finset.sum_congr rfl fun k _ => mul_comm (G := EReal) _ _)
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.DwGIdeal.RefValue

end

end
-- ==== Proof.DwGClaim.lean ====
module

public import proofs.«01_k».proof.Defs
public import proofs.«01_k».proof.Proof.Gen.DwG
public import proofs.«01_k».proof.Proof.Gen.DwG.Frame
public import proofs.«01_k».proof.Proof.DwGValue
public import Idealize.ShloMosaic.Lib.Quiescent

/-! # The claims about one call: the gradient of the gate columns of the input projection -/

@[expose] public section

set_option maxRecDepth 16384

noncomputable section

namespace Cert.Proof

open Idealize.ShloMosaic Idealize.SL.Sem

/-- The kernel runs and leaves its arguments, at the words. -/
theorem dwG_frame : Cert.quiescent_DwG := fun m ρ _ => Cert.DwG.Gen.frame m ρ

/-- The kernel runs and leaves its arguments, at the reals. -/
theorem dwG_ideal_frame : Cert.quiescent_DwGIdeal := fun m ρ _ => Cert.DwGIdeal.Gen.frame m ρ

/-- The reference runs and leaves its arguments. -/
theorem dwG_ref_frame : Cert.quiescent_DwGRefIdeal := fun m ρ _ =>
  (θ_run Cert.DwGRefIdeal.defs _ _).mono
    (fun r h => ⟨fun c => (h c).2, sem_eq_zero_of_no_sems (by decide) r.2⟩)
    (Cert.DwGRefIdeal.Value.run (F := Ideal) m ρ)

/-- What the kernel leaves is what the reference computes. -/
theorem dwG_algebraic : Cert.algebraic_DwGIdeal_DwGRefIdeal := by
  pair_intro
  · run_from Cert.DwGIdeal.Gen.run_main m g
  · run_from Cert.DwGRefIdeal.Value.run m' g'
    exact (Cert.DwGIdeal.RefValue.final0 m c).symm

end Cert.Proof

end

end
-- ==== Proof.Dh1AValue.lean ====
module

public import proofs.«01_k».proof.Proof.Gen.Dh1AIdeal.Value
public import proofs.«01_k».proof.Proof.Gen.Dh1ARefIdeal.Run
public import Idealize.ShloMosaic.Lib.Pipeline.ValueKit
public import Idealize.ShloMosaic.Lib.Pointwise
public import Idealize.ShloMosaic.Lib.Claim

/-! # The branch part of the gradient of the input projection's input

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.Dh1AIdeal.RefValue

open Cert.Dh1ARefIdeal Cert.Dh1ARefIdeal.Gen in
/-- The reference's term of the argument arrays. -/
def REF0 (x0 : FVec Ideal S4096x3712 .bf16) (x1 : FVec Ideal S2048x3712 .bf16) : FVec Ideal S4096x2048 .f32 :=
  Host.dotGeneral dot_S4096x3712_S2048x3712_S4096x2048_1_1_0_0_n_n none (extf .f32 x0 bitsLt_bf16_f32) (extf .f32 x1 bitsLt_bf16_f32)

open Cert.Dh1AIdeal Cert.Dh1AIdeal.Gen

variable (m : (ℓ : Loc nD τ sig) → Buf (Elt Ideal) ℓ)

/-- Where the windows stand at a point of the grid. -/
theorem idx : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.Dh1AIdeal.RefValue

end

end
-- ==== Proof.Dh1AClaim.lean ====
module

public import proofs.«01_k».proof.Defs
public import proofs.«01_k».proof.Proof.Gen.Dh1A
public import proofs.«01_k».proof.Proof.Gen.Dh1A.Frame
public import proofs.«01_k».proof.Proof.Dh1AValue
public import Idealize.ShloMosaic.Lib.Quiescent

/-! # The claims about one call: the branch part of the gradient of the input projection's input -/

@[expose] public section

set_option maxRecDepth 16384

noncomputable section

namespace Cert.Proof

open Idealize.ShloMosaic Idealize.SL.Sem

/-- The kernel runs and leaves its arguments, at the words. -/
theorem dh1A_frame : Cert.quiescent_Dh1A := fun m ρ _ => Cert.Dh1A.Gen.frame m ρ

/-- The kernel runs and leaves its arguments, at the reals. -/
theorem dh1A_ideal_frame : Cert.quiescent_Dh1AIdeal := fun m ρ _ => Cert.Dh1AIdeal.Gen.frame m ρ

/-- The reference runs and leaves its arguments. -/
theorem dh1A_ref_frame : Cert.quiescent_Dh1ARefIdeal := fun m ρ _ =>
  (θ_run Cert.Dh1ARefIdeal.defs _ _).mono
    (fun r h => ⟨fun c => (h c).2, sem_eq_zero_of_no_sems (by decide) r.2⟩)
    (Cert.Dh1ARefIdeal.Value.run (F := Ideal) m ρ)

/-- What the kernel leaves is what the reference computes. -/
theorem dh1A_algebraic : Cert.algebraic_Dh1AIdeal_Dh1ARefIdeal := by
  pair_intro
  · run_from Cert.Dh1AIdeal.Gen.run_main m g
  · run_from Cert.Dh1ARefIdeal.Value.run m' g'
    exact (Cert.Dh1AIdeal.RefValue.final0 m c).symm

end Cert.Proof

end

end
-- ==== Proof.Dh1GValue.lean ====
module

public import proofs.«01_k».proof.Proof.Gen.Dh1GIdeal.Value
public import proofs.«01_k».proof.Proof.Gen.Dh1GRefIdeal.Run
public import Idealize.ShloMosaic.Lib.Pipeline.ValueKit
public import Idealize.ShloMosaic.Lib.Pointwise
public import Idealize.ShloMosaic.Lib.Claim
public import Idealize.ShloMosaic.Lib.Pipeline.ReadBack

/-! # The gradient of the input projection's input

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.Dh1GIdeal.RefValue

open Cert.Dh1GRefIdeal Cert.Dh1GRefIdeal.Gen in
/-- The reference's term of the argument arrays. -/
def REF0 (x0 : FVec Ideal S4096x8192 .bf16) (x1 : FVec Ideal S2048x8192 .bf16) (x2 : FVec Ideal S4096x2048 .f32) : FVec Ideal S4096x2048 .f32 :=
  addf x2 (Host.dotGeneral dot_S4096x8192_S2048x8192_S4096x2048_1_1_0_0_n_n none (extf .f32 x0 bitsLt_bf16_f32) (extf .f32 x1 bitsLt_bf16_f32))

open Cert.Dh1GIdeal Cert.Dh1GIdeal.Gen

variable (m : (ℓ : Loc nD τ sig) → Buf (Elt Ideal) ℓ)

/-- Where the windows stand at a point of the grid. -/
theorem idx : ∀ t : Fin cfg0.N, win0_0.index t = ![t.val / 8, t.val % 4]
    ∧ win0_1.index t = ![t.val / 4 % 2, t.val % 4]
    ∧ win0_2.index t = ![t.val / 8, t.val / 4 % 2]
    ∧ win0_3.index t = ![t.val / 8, t.val / 4 % 2] :=
  (by decide +kernel : ∀ t : Fin grid0.N, _)

/-- The first step of a run leaves its product in the accumulator. -/
theorem acc_first (c : Dev nD) (t : Fin cfg0.N) (h0 : t.val % 4 = 0) (y) :
    (outsAt0 m c t.val t.isLt).2 y = (0 : EReal) + k0_pay1 (iblk m c 0 t) (iblk m c 1 t) y := by
  rw [outsAt0_A m c t (by omega) (by omega) (by omega)]
  dsimp only
  frame_out
  pointwise [k0_pay2]

/-- A further step adds its product. -/
theorem acc_next (c : Dev nD) (t : Fin cfg0.N) (h0 : ¬t.val % 4 = 0) (y) :
    (outsAt0 m c t.val t.isLt).2 y
      = (outsAt0 m c (t.val - 1) (Nat.lt_of_le_of_lt (Nat.sub_le _ _) t.isLt)).2 y + k0_pay1 (iblk m c 0 t) (iblk m c 1 t) y := by
  by_cases h : t.val % 4 = 3
  · rw [outsAt0_C m c t (by omega) (by omega) (by omega)]
    dsimp only
    frame_out
    pointwise [k0_pay3]
    rw [read_unread_whole]
  · rw [outsAt0_B m c t (by omega) (by omega) (by omega)]
    dsimp only
    frame_out
    pointwise [k0_pay3]
    rw [read_unread_whole]

/-- The last step writes the accumulator out. -/
theorem out_last (c : Dev nD) (t : Fin cfg0.N) (h : t.val % 4 = 3) (y) :
    (outsAt0 m c t.val t.isLt).1 y = k0_pay4 (outsAt0 m c t.val t.isLt).2 (iblk m c 2 t) y := by
  rw [outsAt0_C m c t (by omega) (by omega) (by omega)]
  dsimp only
  frame_out

/-- The accumulator after a run's last step, as the sum of the run's products. -/
theorem acc_sum (c : Dev nD) (t : Fin cfg0.N) (h : t.val % 4 = 3) (y) :
    (outsAt0 m c t.val t.isLt).2 y
      = (0 : EReal) + ∑ s : Fin 4, k0_pay1 (iblk m c 0 ⟨4 * (t.val / 4) + s.val, Pipeline.run_point_lt_of_flush t h s⟩)
          (iblk m c 1 ⟨4 * (t.val / 4) + s.val, Pipeline.run_point_lt_of_flush t h s⟩) y :=
  Pipeline.eq_sum_fin_of_reset_step_apply_of_flush (fun n h => (outsAt0 m c n h).2) 4 (fun _ => (0 : EReal))
    (fun t y => k0_pay1 (iblk m c 0 t) (iblk m c 1 t) y) (acc_first m c) (acc_next m c) t h y

/-- What the last step of a run stores. -/
theorem point0 (c : Dev nD) (t : Fin cfg0.N) (h : t.val % 4 = 3) (y) :
    (outsAt0 m c t.val t.isLt).1 y = REF0 (m ((c : Thread nD τ).loc main_arg0)) (m ((c : Thread nD τ).loc main_arg1)) (m ((c : Thread nD τ).loc main_arg2)) (((cfg0.win 3).blk t).view.emb y) := by
  rw [out_last m c t h]
  pointwise [k0_pay4, REF0]
  rw [acc_sum m c t h]
  refine (add_comm (G := EReal) _ _).trans (congrArg₂ (· + ·) ?_ ?_)
  · blk_point [iblk, V, idx t]
  refine (zero_add (M := EReal) _).trans ?_
  pointwise [k0_pay1]
  refine Fin.sum_mul_add_congr fun s k hl => ?_
  blk_point [iblk, V, idx t, idx ⟨_, Pipeline.run_point_lt_of_flush t h s⟩]

/-- The result after the grid. -/
theorem final0 (c : Dev nD) :
    (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point0 m c t ((flush0_3 t).mp hf) y

end Cert.Dh1GIdeal.RefValue

end

end
-- ==== Proof.Dh1GClaim.lean ====
module

public import proofs.«01_k».proof.Defs
public import proofs.«01_k».proof.Proof.Gen.Dh1G
public import proofs.«01_k».proof.Proof.Gen.Dh1G.Frame
public import proofs.«01_k».proof.Proof.Dh1GValue
public import Idealize.ShloMosaic.Lib.Quiescent

/-! # The claims about one call: the gradient of the input projection's input -/

@[expose] public section

set_option maxRecDepth 16384

noncomputable section

namespace Cert.Proof

open Idealize.ShloMosaic Idealize.SL.Sem

/-- The kernel runs and leaves its arguments, at the words. -/
theorem dh1G_frame : Cert.quiescent_Dh1G := fun m ρ _ => Cert.Dh1G.Gen.frame m ρ

/-- The kernel runs and leaves its arguments, at the reals. -/
theorem dh1G_ideal_frame : Cert.quiescent_Dh1GIdeal := fun m ρ _ => Cert.Dh1GIdeal.Gen.frame m ρ

/-- The reference runs and leaves its arguments. -/
theorem dh1G_ref_frame : Cert.quiescent_Dh1GRefIdeal := fun m ρ _ =>
  (θ_run Cert.Dh1GRefIdeal.defs _ _).mono
    (fun r h => ⟨fun c => (h c).2, sem_eq_zero_of_no_sems (by decide) r.2⟩)
    (Cert.Dh1GRefIdeal.Value.run (F := Ideal) m ρ)

/-- What the kernel leaves is what the reference computes. -/
theorem dh1G_algebraic : Cert.algebraic_Dh1GIdeal_Dh1GRefIdeal := by
  pair_intro
  · run_from Cert.Dh1GIdeal.Gen.run_main m g
  · run_from Cert.Dh1GRefIdeal.Value.run m' g'
    exact (Cert.Dh1GIdeal.RefValue.final0 m c).symm

end Cert.Proof

end

end
-- ==== Proof.ZaValue.lean ====
module

public import proofs.«01_k».proof.Proof.Gen.ZaIdeal.Value
public import proofs.«01_k».proof.Proof.Gen.ZaRefIdeal.Run
public import Idealize.ShloMosaic.Lib.Pipeline.ValueKit
public import Idealize.ShloMosaic.Lib.Pointwise
public import Idealize.ShloMosaic.Lib.Claim
public import Idealize.ShloMosaic.Lib.Pipeline.ReadBack

/-! # The branch part of the input projection

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.ZaIdeal.RefValue

open Cert.ZaRefIdeal Cert.ZaRefIdeal.Gen in
/-- The reference's term of the argument arrays. -/
def REF0 (x0 : FVec Ideal S4096x2048 .bf16) (x1 : FVec Ideal S2048x3712 .bf16) : FVec Ideal S4096x3712 .f32 :=
  Host.dotGeneral dot_S4096x2048_S2048x3712_S4096x3712_1_0_0_1_n_n none (extf .f32 x0 bitsLt_bf16_f32) (extf .f32 x1 bitsLt_bf16_f32)

open Cert.ZaIdeal Cert.ZaIdeal.Gen

variable (m : (ℓ : Loc nD τ sig) → Buf (Elt Ideal) ℓ)

/-- Where the windows stand at a point of the grid. -/
theorem idx : ∀ t : Fin cfg0.N, win0_0.index t = ![t.val / 4, t.val % 4]
    ∧ win0_1.index t = ![t.val % 4, 0]
    ∧ win0_2.index t = ![t.val / 4, 0] :=
  (by decide +kernel : ∀ t : Fin grid0.N, _)

/-- The first step of a run leaves its product in the accumulator. -/
theorem acc_first (c : Dev nD) (t : Fin cfg0.N) (h0 : t.val % 4 = 0) (y) :
    (outsAt0 m c t.val t.isLt).2 y = (0 : EReal) + k0_pay1 (iblk m c 0 t) (iblk m c 1 t) y := by
  rw [outsAt0_A m c t (by omega) (by omega) (by omega)]
  dsimp only
  frame_out
  pointwise [k0_pay2]

/-- A further step adds its product. -/
theorem acc_next (c : Dev nD) (t : Fin cfg0.N) (h0 : ¬t.val % 4 = 0) (y) :
    (outsAt0 m c t.val t.isLt).2 y
      = (outsAt0 m c (t.val - 1) (Nat.lt_of_le_of_lt (Nat.sub_le _ _) t.isLt)).2 y + k0_pay1 (iblk m c 0 t) (iblk m c 1 t) y := by
  by_cases h : t.val % 4 = 3
  · rw [outsAt0_C m c t (by omega) (by omega) (by omega)]
    dsimp only
    frame_out
    pointwise [k0_pay3]
    rw [read_unread_whole]
  · rw [outsAt0_B m c t (by omega) (by omega) (by omega)]
    dsimp only
    frame_out
    pointwise [k0_pay3]
    rw [read_unread_whole]

/-- The last step writes the accumulator out. -/
theorem out_last (c : Dev nD) (t : Fin cfg0.N) (h : t.val % 4 = 3) (y) :
    (outsAt0 m c t.val t.isLt).1 y = (outsAt0 m c t.val t.isLt).2 y := by
  rw [outsAt0_C m c t (by omega) (by omega) (by omega)]
  dsimp only
  frame_out

/-- The accumulator after a run's last step, as the sum of the run's products. -/
theorem acc_sum (c : Dev nD) (t : Fin cfg0.N) (h : t.val % 4 = 3) (y) :
    (outsAt0 m c t.val t.isLt).2 y
      = (0 : EReal) + ∑ s : Fin 4, k0_pay1 (iblk m c 0 ⟨4 * (t.val / 4) + s.val, Pipeline.run_point_lt_of_flush t h s⟩)
          (iblk m c 1 ⟨4 * (t.val / 4) + s.val, Pipeline.run_point_lt_of_flush t h s⟩) y :=
  Pipeline.eq_sum_fin_of_reset_step_apply_of_flush (fun n h => (outsAt0 m c n h).2) 4 (fun _ => (0 : EReal))
    (fun t y => k0_pay1 (iblk m c 0 t) (iblk m c 1 t) y) (acc_first m c) (acc_next m c) t h y

/-- What the last step of a run stores. -/
theorem point0 (c : Dev nD) (t : Fin cfg0.N) (h : t.val % 4 = 3) (y) :
    (outsAt0 m c t.val t.isLt).1 y = REF0 (m ((c : Thread nD τ).loc main_arg0)) (m ((c : Thread nD τ).loc main_arg1)) (((cfg0.win 2).blk t).view.emb y) := by
  rw [out_last m c t h]
  pointwise [REF0]
  rw [acc_sum m c t h]
  refine (zero_add (M := EReal) _).trans ?_
  pointwise [k0_pay1]
  refine Fin.sum_mul_add_congr fun s k hl => ?_
  blk_point [iblk, V, idx t, idx ⟨_, Pipeline.run_point_lt_of_flush t h s⟩]

/-- The result after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t ((flush0_2 t).mp hf) y

end Cert.ZaIdeal.RefValue

end

end
-- ==== Proof.ZaClaim.lean ====
module

public import proofs.«01_k».proof.Defs
public import proofs.«01_k».proof.Proof.Gen.Za
public import proofs.«01_k».proof.Proof.Gen.Za.Frame
public import proofs.«01_k».proof.Proof.ZaValue
public import Idealize.ShloMosaic.Lib.Quiescent

/-! # The claims about one call: the branch part of the input projection -/

@[expose] public section

set_option maxRecDepth 16384

noncomputable section

namespace Cert.Proof

open Idealize.ShloMosaic Idealize.SL.Sem

/-- The kernel runs and leaves its arguments, at the words. -/
theorem za_frame : Cert.quiescent_Za := fun m ρ _ => Cert.Za.Gen.frame m ρ

/-- The kernel runs and leaves its arguments, at the reals. -/
theorem za_ideal_frame : Cert.quiescent_ZaIdeal := fun m ρ _ => Cert.ZaIdeal.Gen.frame m ρ

/-- The reference runs and leaves its arguments. -/
theorem za_ref_frame : Cert.quiescent_ZaRefIdeal := fun m ρ _ =>
  (θ_run Cert.ZaRefIdeal.defs _ _).mono
    (fun r h => ⟨fun c => (h c).2, sem_eq_zero_of_no_sems (by decide) r.2⟩)
    (Cert.ZaRefIdeal.Value.run (F := Ideal) m ρ)

/-- What the kernel leaves is what the reference computes. -/
theorem za_algebraic : Cert.algebraic_ZaIdeal_ZaRefIdeal := by
  pair_intro
  · run_from Cert.ZaIdeal.Gen.run_main m g
  · run_from Cert.ZaRefIdeal.Value.run m' g'
    exact (Cert.ZaIdeal.RefValue.final0 m c).symm

end Cert.Proof

end

end
-- ==== Proof.ZgValue.lean ====
module

public import proofs.«01_k».proof.Proof.Gen.ZgIdeal.Value
public import proofs.«01_k».proof.Proof.Gen.ZgRefIdeal.Run
public import Idealize.ShloMosaic.Lib.Pipeline.ValueKit
public import Idealize.ShloMosaic.Lib.Pointwise
public import Idealize.ShloMosaic.Lib.Claim

/-! # The gate logits

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.ZgIdeal.RefValue

open Cert.ZgRefIdeal Cert.ZgRefIdeal.Gen in
/-- The reference's term of the argument arrays. -/
def REF0 (x0 : FVec Ideal S4096x2048 .bf16) (x1 : FVec Ideal S2048x8192 .bf16) : FVec Ideal S4096x8192 .bf16 :=
  truncf .bf16 (Host.dotGeneral dot_S4096x2048_S2048x8192_S4096x8192_1_0_0_1_n_n none (extf .f32 x0 bitsLt_bf16_f32) (extf .f32 x1 bitsLt_bf16_f32)) bitsLt_bf16_f32

open Cert.ZgIdeal Cert.ZgIdeal.Gen

variable (m : (ℓ : Loc nD τ sig) → Buf (Elt Ideal) ℓ)

/-- Where the windows stand at a point of the grid. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.ZgIdeal.RefValue

end

end
-- ==== Proof.ZgClaim.lean ====
module

public import proofs.«01_k».proof.Defs
public import proofs.«01_k».proof.Proof.Gen.Zg
public import proofs.«01_k».proof.Proof.Gen.Zg.Frame
public import proofs.«01_k».proof.Proof.ZgValue
public import Idealize.ShloMosaic.Lib.Quiescent

/-! # The claims about one call: the gate logits -/

@[expose] public section

set_option maxRecDepth 16384

noncomputable section

namespace Cert.Proof

open Idealize.ShloMosaic Idealize.SL.Sem

/-- The kernel runs and leaves its arguments, at the words. -/
theorem zg_frame : Cert.quiescent_Zg := fun m ρ _ => Cert.Zg.Gen.frame m ρ

/-- The kernel runs and leaves its arguments, at the reals. -/
theorem zg_ideal_frame : Cert.quiescent_ZgIdeal := fun m ρ _ => Cert.ZgIdeal.Gen.frame m ρ

/-- The reference runs and leaves its arguments. -/
theorem zg_ref_frame : Cert.quiescent_ZgRefIdeal := fun m ρ _ =>
  (θ_run Cert.ZgRefIdeal.defs _ _).mono
    (fun r h => ⟨fun c => (h c).2, sem_eq_zero_of_no_sems (by decide) r.2⟩)
    (Cert.ZgRefIdeal.Value.run (F := Ideal) m ρ)

/-- What the kernel leaves is what the reference computes. -/
theorem zg_algebraic : Cert.algebraic_ZgIdeal_ZgRefIdeal := by
  pair_intro
  · run_from Cert.ZgIdeal.Gen.run_main m g
  · run_from Cert.ZgRefIdeal.Value.run m' g'
    exact (Cert.ZgIdeal.RefValue.final0 m c).symm

end Cert.Proof

end

end
-- ==== Proof.KvValue.lean ====
module

public import proofs.«01_k».proof.Proof.Gen.KvIdeal.Value
public import proofs.«01_k».proof.Proof.Gen.KvRefIdeal.Run
public import Idealize.ShloMosaic.Lib.Pipeline.ValueKit
public import Idealize.ShloMosaic.Lib.Pointwise
public import Idealize.ShloMosaic.Lib.Claim

/-! # The keys and values

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.KvIdeal.RefValue

open Cert.KvRefIdeal Cert.KvRefIdeal.Gen in
/-- The reference's term of the argument arrays. -/
def REF0 (x0 : FVec Ideal S4096x512 .bf16) (x1 : FVec Ideal S512x2048 .bf16) : FVec Ideal S4096x2048 .bf16 :=
  truncf .bf16 (Host.dotGeneral dot_S4096x512_S512x2048_S4096x2048_1_0_0_1_n_n none (extf .f32 x0 bitsLt_bf16_f32) (extf .f32 x1 bitsLt_bf16_f32)) bitsLt_bf16_f32

open Cert.KvIdeal Cert.KvIdeal.Gen

variable (m : (ℓ : Loc nD τ sig) → Buf (Elt Ideal) ℓ)

/-- Where the windows stand at a point of the grid. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.KvIdeal.RefValue

end

end
-- ==== Proof.KvClaim.lean ====
module

public import proofs.«01_k».proof.Defs
public import proofs.«01_k».proof.Proof.Gen.Kv
public import proofs.«01_k».proof.Proof.Gen.Kv.Frame
public import proofs.«01_k».proof.Proof.KvValue
public import Idealize.ShloMosaic.Lib.Quiescent

/-! # The claims about one call: the keys and values -/

@[expose] public section

set_option maxRecDepth 16384

noncomputable section

namespace Cert.Proof

open Idealize.ShloMosaic Idealize.SL.Sem

/-- The kernel runs and leaves its arguments, at the words. -/
theorem kv_frame : Cert.quiescent_Kv := fun m ρ _ => Cert.Kv.Gen.frame m ρ

/-- The kernel runs and leaves its arguments, at the reals. -/
theorem kv_ideal_frame : Cert.quiescent_KvIdeal := fun m ρ _ => Cert.KvIdeal.Gen.frame m ρ

/-- The reference runs and leaves its arguments. -/
theorem kv_ref_frame : Cert.quiescent_KvRefIdeal := fun m ρ _ =>
  (θ_run Cert.KvRefIdeal.defs _ _).mono
    (fun r h => ⟨fun c => (h c).2, sem_eq_zero_of_no_sems (by decide) r.2⟩)
    (Cert.KvRefIdeal.Value.run (F := Ideal) m ρ)

/-- What the kernel leaves is what the reference computes. -/
theorem kv_algebraic : Cert.algebraic_KvIdeal_KvRefIdeal := by
  pair_intro
  · run_from Cert.KvIdeal.Gen.run_main m g
  · run_from Cert.KvRefIdeal.Value.run m' g'
    exact (Cert.KvIdeal.RefValue.final0 m c).symm

end Cert.Proof

end

end
-- ==== Proof.OutValue.lean ====
module

public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Claim

/-! # The output projection

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.OutIdeal.RefValue

open Cert.OutRefIdeal Cert.OutRefIdeal.Gen in
/-- The reference's term of the argument arrays. -/
def REF0 (x0 : FVec Ideal S4096x2048 .bf16) (x1 : FVec Ideal S2048x2048 .bf16) : FVec Ideal S4096x2048 .f32 :=
  Host.dotGeneral dot_S4096x2048_S2048x2048_S4096x2048_1_0_0_1_n_n none (extf .f32 x0 bitsLt_bf16_f32) (extf .f32 x1 bitsLt_bf16_f32)

open Cert.OutIdeal Cert.OutIdeal.Gen

variable (m : (ℓ : Loc nD τ sig) → Buf (Elt Ideal) ℓ)

/-- Where the windows stand at a point of the grid. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- What point `t` stores of result 0. -/
theorem point0 (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb y) := by
  pointwise [k0_pay1, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

end Cert.OutIdeal.RefValue

end

end
-- ==== Proof.OutClaim.lean ====
module

public import proofs.«01_k».proof.Defs
public import proofs.«01_k».proof.Proof.Gen.Out
public import proofs.«01_k».proof.Proof.Gen.Out.Frame
public import proofs.«01_k».proof.Proof.OutValue
public import Idealize.ShloMosaic.Lib.Quiescent

/-! # The claims about one call: the output projection -/

@[expose] public section

set_option maxRecDepth 16384

noncomputable section

namespace Cert.Proof

open Idealize.ShloMosaic Idealize.SL.Sem

/-- The kernel runs and leaves its arguments, at the words. -/
theorem out_frame : Cert.quiescent_Out := fun m ρ _ => Cert.Out.Gen.frame m ρ

/-- The kernel runs and leaves its arguments, at the reals. -/
theorem out_ideal_frame : Cert.quiescent_OutIdeal := fun m ρ _ => Cert.OutIdeal.Gen.frame m ρ

/-- The reference runs and leaves its arguments. -/
theorem out_ref_frame : Cert.quiescent_OutRefIdeal := fun m ρ _ =>
  (θ_run Cert.OutRefIdeal.defs _ _).mono
    (fun r h => ⟨fun c => (h c).2, sem_eq_zero_of_no_sems (by decide) r.2⟩)
    (Cert.OutRefIdeal.Value.run (F := Ideal) m ρ)

/-- What the kernel leaves is what the reference computes. -/
theorem out_algebraic : Cert.algebraic_OutIdeal_OutRefIdeal := by
  pair_intro
  · run_from Cert.OutIdeal.Gen.run_main m g
  · run_from Cert.OutRefIdeal.Value.run m' g'
    exact (Cert.OutIdeal.RefValue.final0 m c).symm

end Cert.Proof

end

end
-- ==== Proof.DownValue.lean ====
module

public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Claim
public import Idealize.ShloMosaic.Lib.Pipeline.ReadBack

/-! # The second half of the MLP

What the kernel leaves in its result array, index by index, at the ideal instance: the reference's composed term of the
argument arrays. -/

@[expose] public section

set_option maxRecDepth 16384

noncomputable section

open Idealize.ShloMosaic Idealize.ShloMosaic.TcCoe Idealize.SL.Sem
open Idealize.ShloMosaic.Pipeline (Dat)

namespace Cert.DownIdeal.RefValue

open Cert.DownRefIdeal Cert.DownRefIdeal.Gen in
/-- The reference's term of the argument arrays. -/
def REF0 (x0 : FVec Ideal S4096x8192 .bf16) (x1 : FVec Ideal S8192x2048 .bf16) : FVec Ideal S4096x2048 .f32 :=
  Host.dotGeneral dot_S4096x8192_S8192x2048_S4096x2048_1_0_0_1_n_n none (extf .f32 x0 bitsLt_bf16_f32) (extf .f32 x1 bitsLt_bf16_f32)

open Cert.DownIdeal Cert.DownIdeal.Gen

variable (m : (ℓ : Loc nD τ sig) → Buf (Elt Ideal) ℓ)

/-- Where the windows stand at a point of the grid. -/
theorem idx : ∀ t : Fin cfg0.N, win0_0.index t = ![t.val / 8, t.val % 4]
    ∧ win0_1.index t = ![t.val % 4, t.val / 4 % 2]
    ∧ win0_2.index t = ![t.val / 8, t.val / 4 % 2] :=
  (by decide +kernel : ∀ t : Fin grid0.N, _)

/-- The first step of a run leaves its product in the accumulator. -/
theorem acc_first (c : Dev nD) (t : Fin cfg0.N) (h0 : t.val % 4 = 0) (y) :
    (outsAt0 m c t.val t.isLt).2 y = (0 : EReal) + k0_pay1 (iblk m c 0 t) (iblk m c 1 t) y := by
  rw [outsAt0_A m c t (by omega) (by omega) (by omega)]
  dsimp only
  frame_out
  pointwise [k0_pay2]

/-- A further step adds its product. -/
theorem acc_next (c : Dev nD) (t : Fin cfg0.N) (h0 : ¬t.val % 4 = 0) (y) :
    (outsAt0 m c t.val t.isLt).2 y
      = (outsAt0 m c (t.val - 1) (Nat.lt_of_le_of_lt (Nat.sub_le _ _) t.isLt)).2 y + k0_pay1 (iblk m c 0 t) (iblk m c 1 t) y := by
  by_cases h : t.val % 4 = 3
  · rw [outsAt0_C m c t (by omega) (by omega) (by omega)]
    dsimp only
    frame_out
    pointwise [k0_pay3]
    rw [read_unread_whole]
  · rw [outsAt0_B m c t (by omega) (by omega) (by omega)]
    dsimp only
    frame_out
    pointwise [k0_pay3]
    rw [read_unread_whole]

/-- The last step writes the accumulator out. -/
theorem out_last (c : Dev nD) (t : Fin cfg0.N) (h : t.val % 4 = 3) (y) :
    (outsAt0 m c t.val t.isLt).1 y = (outsAt0 m c t.val t.isLt).2 y := by
  rw [outsAt0_C m c t (by omega) (by omega) (by omega)]
  dsimp only
  frame_out

/-- The accumulator after a run's last step, as the sum of the run's products. -/
theorem acc_sum (c : Dev nD) (t : Fin cfg0.N) (h : t.val % 4 = 3) (y) :
    (outsAt0 m c t.val t.isLt).2 y
      = (0 : EReal) + ∑ s : Fin 4, k0_pay1 (iblk m c 0 ⟨4 * (t.val / 4) + s.val, Pipeline.run_point_lt_of_flush t h s⟩)
          (iblk m c 1 ⟨4 * (t.val / 4) + s.val, Pipeline.run_point_lt_of_flush t h s⟩) y :=
  Pipeline.eq_sum_fin_of_reset_step_apply_of_flush (fun n h => (outsAt0 m c n h).2) 4 (fun _ => (0 : EReal))
    (fun t y => k0_pay1 (iblk m c 0 t) (iblk m c 1 t) y) (acc_first m c) (acc_next m c) t h y

/-- What the last step of a run stores. -/
theorem point0 (c : Dev nD) (t : Fin cfg0.N) (h : t.val % 4 = 3) (y) :
    (outsAt0 m c t.val t.isLt).1 y = REF0 (m ((c : Thread nD τ).loc main_arg0)) (m ((c : Thread nD τ).loc main_arg1)) (((cfg0.win 2).blk t).view.emb y) := by
  rw [out_last m c t h]
  pointwise [REF0]
  rw [acc_sum m c t h]
  refine (zero_add (M := EReal) _).trans ?_
  pointwise [k0_pay1]
  refine Fin.sum_mul_add_congr fun s k hl => ?_
  blk_point [iblk, V, idx t, idx ⟨_, Pipeline.run_point_lt_of_flush t h s⟩]

/-- The result after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t ((flush0_2 t).mp hf) y

end Cert.DownIdeal.RefValue

end

end
-- ==== Proof.DownClaim.lean ====
module

public import proofs.«01_k».proof.Defs
public import proofs.«01_k».proof.Proof.Gen.Down
public import proofs.«01_k».proof.Proof.Gen.Down.Frame
public import proofs.«01_k».proof.Proof.DownValue
public import Idealize.ShloMosaic.Lib.Quiescent

/-! # The claims about one call: the second half of the MLP -/

@[expose] public section

set_option maxRecDepth 16384

noncomputable section

namespace Cert.Proof

open Idealize.ShloMosaic Idealize.SL.Sem

/-- The kernel runs and leaves its arguments, at the words. -/
theorem down_frame : Cert.quiescent_Down := fun m ρ _ => Cert.Down.Gen.frame m ρ

/-- The kernel runs and leaves its arguments, at the reals. -/
theorem down_ideal_frame : Cert.quiescent_DownIdeal := fun m ρ _ => Cert.DownIdeal.Gen.frame m ρ

/-- The reference runs and leaves its arguments. -/
theorem down_ref_frame : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

/-- What the kernel leaves is what the reference computes. -/
theorem down_algebraic : Cert.algebraic_DownIdeal_DownRefIdeal := by
  pair_intro
  · run_from Cert.DownIdeal.Gen.run_main m g
  · run_from Cert.DownRefIdeal.Value.run m' g'
    exact (Cert.DownIdeal.RefValue.final0 m c).symm

end Cert.Proof

end

end
-- ==== Proof.UpValue.lean ====
module

public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.Claim

/-! # The first half of the MLP

What the kernel leaves in its result arrays, index by index, at the ideal instance: the reference's composed terms of the
argument arrays. -/

@[expose] public section

set_option maxRecDepth 16384

noncomputable section

open Idealize.ShloMosaic Idealize.ShloMosaic.TcCoe Idealize.SL.Sem
open Idealize.ShloMosaic.Pipeline (Dat)

namespace Cert.UpIdeal.RefValue

open Cert.UpRefIdeal Cert.UpRefIdeal.Gen in
/-- The reference's term of the argument arrays. -/
def REF0 (x0 : FVec Ideal S4096x2048 .bf16) (x1 : FVec Ideal S8x2048x1024 .bf16) : FVec Ideal S4096x8192 .bf16 :=
  truncf .bf16 (Host.dotGeneral dot_S4096x2048_S2048x8192_S4096x8192_1_0_0_1_n_n none (extf .f32 x0 bitsLt_bf16_f32) (shapeCast _ (transpose S2048x8x1024 [1, 0, 2] (extf .f32 x1 bitsLt_bf16_f32) transposes_S8x2048x1024_S2048x8x1024_1_0_2) shapeCasts_S2048x8x1024_S2048x8192)) bitsLt_bf16_f32

open Cert.UpRefIdeal Cert.UpRefIdeal.Gen in
/-- The reference's term of the argument arrays. -/
def REF1 (x0 : FVec Ideal S4096x2048 .bf16) (x1 : FVec Ideal S8x2048x1024 .bf16) : FVec Ideal S4096x8192 .bf16 :=
  truncf .bf16 (mulf (maximumf (Host.dotGeneral dot_S4096x2048_S2048x8192_S4096x8192_1_0_0_1_n_n none (extf .f32 x0 bitsLt_bf16_f32) (shapeCast _ (transpose S2048x8x1024 [1, 0, 2] (extf .f32 x1 bitsLt_bf16_f32) transposes_S8x2048x1024_S2048x8x1024_1_0_2) shapeCasts_S2048x8x1024_S2048x8192)) (broadcastInDim S4096x8192 ![] bcast_S_S4096x8192 (constant S_ .f32 0x00000000#32))) (maximumf (Host.dotGeneral dot_S4096x2048_S2048x8192_S4096x8192_1_0_0_1_n_n none (extf .f32 x0 bitsLt_bf16_f32) (shapeCast _ (transpose S2048x8x1024 [1, 0, 2] (extf .f32 x1 bitsLt_bf16_f32) transposes_S8x2048x1024_S2048x8x1024_1_0_2) shapeCasts_S2048x8x1024_S2048x8192)) (broadcastInDim S4096x8192 ![] bcast_S_S4096x8192 (constant S_ .f32 0x00000000#32)))) bitsLt_bf16_f32

open Cert.UpIdeal Cert.UpIdeal.Gen

variable (m : (ℓ : Loc nD τ sig) → Buf (Elt Ideal) ℓ)

/-- Where the windows stand at a point of the grid. -/
theorem idx : ∀ t : Fin cfg0.N, win0_0.index t = ![t.val / 8, 0]
    ∧ win0_1.index t = ![t.val % 8, 0, 0]
    ∧ win0_2.index t = ![t.val / 8, t.val % 8]
    ∧ win0_3.index t = ![t.val / 8, t.val % 8] :=
  (by decide +kernel : ∀ t : Fin grid0.N, _)

/-- What point `t` stores of result 0. -/
theorem point0 (c : Dev nD) (t : Fin cfg0.N) (y) :
    k0_pay2 (iblk m c 0 t) (iblk m c 1 t) y
      = REF0 (m ((c : Thread nD τ).loc main_arg0)) (m ((c : Thread nD τ).loc main_arg1)) (((cfg0.win 2).blk t).view.emb y) := by
  pointwise [k0_pay1, k0_pay2, k0_pay3, REF0]
  blk_point [iblk, V, idx t]

/-- Result 0 after the grid. -/
theorem final0 (c : Dev nD) :
    (dats m 0 c).arrAt 2 (cfgs 0).N = REF0 (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point0 m c t y

/-- What point `t` stores of result 1. -/
theorem point1 (c : Dev nD) (t : Fin cfg0.N) (y) :
    k0_pay3 (iblk m c 0 t) (iblk m c 1 t) y
      = REF1 (m ((c : Thread nD τ).loc main_arg0)) (m ((c : Thread nD τ).loc main_arg1)) (((cfg0.win 3).blk t).view.emb y) := by
  pointwise [k0_pay1, k0_pay2, k0_pay3, REF1]
  blk_point [iblk, V, idx t]

/-- Result 1 after the grid. -/
theorem final1 (c : Dev nD) :
    (dats m 0 c).arrAt 3 (cfgs 0).N = REF1 (m ((c : Thread nD τ).loc main_arg0)) (m ((c : Thread nD τ).loc main_arg1)) := by
  refine (dats m 0 c).arrAt_eq_of_covers 3 _ (by decide +kernel) fun t _ y => ?_
  blk_simp
  rw [after0_3]
  unfold Gen.outsAt0
  frame_out
  exact point1 m c t y

end Cert.UpIdeal.RefValue

end

end
-- ==== Proof.UpClaim.lean ====
module

public import proofs.«01_k».proof.Defs
public import proofs.«01_k».proof.Proof.Gen.Up
public import proofs.«01_k».proof.Proof.Gen.Up.Frame
public import proofs.«01_k».proof.Proof.UpValue
public import Idealize.ShloMosaic.Lib.Quiescent

/-! # The claims about one call: the first half of the MLP -/

@[expose] public section

set_option maxRecDepth 16384

noncomputable section

namespace Cert.Proof

open Idealize.ShloMosaic Idealize.SL.Sem

/-- The kernel runs and leaves its arguments, at the words. -/
theorem up_frame : Cert.quiescent_Up := fun m ρ _ => Cert.Up.Gen.frame m ρ

/-- The kernel runs and leaves its arguments, at the reals. -/
theorem up_ideal_frame : Cert.quiescent_UpIdeal := fun m ρ _ => Cert.UpIdeal.Gen.frame m ρ

/-- The reference runs and leaves its arguments. -/
theorem up_ref_frame : Cert.quiescent_UpRefIdeal := fun m ρ _ =>
  (θ_run Cert.UpRefIdeal.defs _ _).mono
    (fun r h => ⟨fun c => (h c).2.2, sem_eq_zero_of_no_sems (by decide) r.2⟩)
    (Cert.UpRefIdeal.Value.run (F := Ideal) m ρ)

/-- What the kernel leaves is what the reference computes. -/
theorem up_algebraic : Cert.algebraic_UpIdeal_UpRefIdeal := by
  pair_intro
  · run_from Cert.UpIdeal.Gen.run_main m g
  · run_from Cert.UpRefIdeal.Value.run m' g'
    · exact (Cert.UpIdeal.RefValue.final0 m c).symm
    · exact (Cert.UpIdeal.RefValue.final1 m c).symm

end Cert.Proof

end

end
-- ==== Proof.FlashBwdStep.lean ====
module

public import proofs.«01_k».proof.Proof.Gen.FlashBwdIdeal.Skeleton
public import proofs.«01_k».proof.Proof.Gen.FlashBwdIdeal.Frame
public import Idealize.ShloMosaic.Lib.VecWindow

@[expose] public section

set_option maxRecDepth 65536

noncomputable section

/-! What one step of the attention's backward pass computes from the blocks it is given and the three accumulators it carries:
    the gradient of the key block, the gradient of the value block, and the gradient of every query row. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

/-- The key block's number at a point, as the kernel counts it. -/
def kw (i : grid0.Coords) : BitVec 32 :=
  let arg1 : BitVec 32 := BitVec.ofNat 32 (i 1).val
  let v0 : BitVec 1 := Scalar.cmpi .sge arg1 4#32
  let v1 : BitVec 32 := Scalar.select v0 1#32 0#32
  let v2 : BitVec 32 := Scalar.addi 0#32 v1
  let v3 : BitVec 1 := Scalar.cmpi .sge arg1 8#32
  let v4 : BitVec 32 := Scalar.select v3 1#32 0#32
  let v5 : BitVec 32 := Scalar.addi v2 v4
  let v6 : BitVec 1 := Scalar.cmpi .sge arg1 11#32
  let v7 : BitVec 32 := Scalar.select v6 1#32 0#32
  let v8 : BitVec 32 := Scalar.addi v5 v7
  let v9 : BitVec 1 := Scalar.cmpi .sge arg1 14#32
  let v10 : BitVec 32 := Scalar.select v9 1#32 0#32
  let v11 : BitVec 32 := Scalar.addi v8 v10
  let v12 : BitVec 1 := Scalar.cmpi .sge arg1 16#32
  let v13 : BitVec 32 := Scalar.select v12 1#32 0#32
  let v14 : BitVec 32 := Scalar.addi v11 v13
  let v15 : BitVec 1 := Scalar.cmpi .sge arg1 18#32
  let v16 : BitVec 32 := Scalar.select v15 1#32 0#32
  let v17 : BitVec 32 := Scalar.addi v14 v16
  let v18 : BitVec 1 := Scalar.cmpi .sge arg1 19#32
  let v19 : BitVec 32 := Scalar.select v18 1#32 0#32
  let v20 : BitVec 32 := Scalar.addi v17 v19
  v20

/-- A partial sum the kernel forms on the way to the query block's number. -/
def w26 (i : grid0.Coords) : BitVec 32 :=
  let arg1 : BitVec 32 := BitVec.ofNat 32 (i 1).val
  let v21 : BitVec 1 := Scalar.cmpi .sge arg1 4#32
  let v22 : BitVec 32 := Scalar.select v21 4#32 0#32
  let v23 : BitVec 32 := Scalar.addi 0#32 v22
  let v24 : BitVec 1 := Scalar.cmpi .sge arg1 8#32
  let v25 : BitVec 32 := Scalar.select v24 4#32 0#32
  let v26 : BitVec 32 := Scalar.addi v23 v25
  v26

/-- Whether the point is at or past the eleventh of its head. -/
def w27 (i : grid0.Coords) : BitVec 1 :=
  Scalar.cmpi .sge (BitVec.ofNat 32 (i 1).val) 11#32

/-- The query block's number at a point, as the kernel counts it. -/
def qw (i : grid0.Coords) : BitVec 32 :=
  let arg1 : BitVec 32 := BitVec.ofNat 32 (i 1).val
  let v20 : BitVec 32 := kw i
  let v26 : BitVec 32 := w26 i
  let v27 : BitVec 1 := w27 i
  let v28 : BitVec 32 := Scalar.select v27 3#32 0#32
  let v29 : BitVec 32 := Scalar.addi v26 v28
  let v30 : BitVec 1 := Scalar.cmpi .sge arg1 14#32
  let v31 : BitVec 32 := Scalar.select v30 3#32 0#32
  let v32 : BitVec 32 := Scalar.addi v29 v31
  let v33 : BitVec 1 := Scalar.cmpi .sge arg1 16#32
  let v34 : BitVec 32 := Scalar.select v33 2#32 0#32
  let v35 : BitVec 32 := Scalar.addi v32 v34
  let v36 : BitVec 1 := Scalar.cmpi .sge arg1 18#32
  let v37 : BitVec 32 := Scalar.select v36 2#32 0#32
  let v38 : BitVec 32 := Scalar.addi v35 v37
  let v39 : BitVec 1 := Scalar.cmpi .sge arg1 19#32
  let v40 : BitVec 32 := Scalar.select v39 1#32 0#32
  let v41 : BitVec 32 := Scalar.addi v38 v40
  let v42 : BitVec 32 := Scalar.divsi v20 2#32
  let v43 : BitVec 1 := Scalar.cmpi .sgt v20 0#32
  let v44 : BitVec 32 := Scalar.extui v43
  let v45 : BitVec 1 := Scalar.cmpi .slt v20 0#32
  let v46 : BitVec 32 := Scalar.extui v45
  let v47 : BitVec 32 := Scalar.subi v44 v46
  let v48 : BitVec 1 := Scalar.cmpi .sgt 2#32 0#32
  let v49 : BitVec 32 := Scalar.extui v48
  let v50 : BitVec 1 := Scalar.cmpi .slt 2#32 0#32
  let v51 : BitVec 32 := Scalar.extui v50
  let v52 : BitVec 32 := Scalar.subi v49 v51
  let v53 : BitVec 1 := Scalar.cmpi .ne v47 v52
  let v54 : BitVec 32 := Scalar.remsi v20 2#32
  let v55 : BitVec 1 := Scalar.cmpi .ne v54 0#32
  let v56 : BitVec 1 := Scalar.andi v53 v55
  let v57 : BitVec 32 := Scalar.subi v42 1#32
  let v58 : BitVec 32 := Scalar.select v56 v57 v42
  let v59 : BitVec 32 := Scalar.subi arg1 v41
  let v60 : BitVec 32 := Scalar.addi v58 v59
  v60

/-- Whether the query block is the first the key block meets. -/
def startW (v20 v60 v63 : BitVec 32) : BitVec 1 :=
  let v64 : BitVec 1 := Scalar.cmpi .sgt v20 0#32
  let v65 : BitVec 32 := Scalar.extui v64
  let v66 : BitVec 1 := Scalar.cmpi .slt v20 0#32
  let v67 : BitVec 32 := Scalar.extui v66
  let v68 : BitVec 32 := Scalar.subi v65 v67
  let v69 : BitVec 1 := Scalar.cmpi .sgt 2#32 0#32
  let v70 : BitVec 32 := Scalar.extui v69
  let v71 : BitVec 1 := Scalar.cmpi .slt 2#32 0#32
  let v72 : BitVec 32 := Scalar.extui v71
  let v73 : BitVec 32 := Scalar.subi v70 v72
  let v74 : BitVec 1 := Scalar.cmpi .ne v68 v73
  let v75 : BitVec 32 := Scalar.remsi v20 2#32
  let v76 : BitVec 1 := Scalar.cmpi .ne v75 0#32
  let v77 : BitVec 1 := Scalar.andi v74 v76
  let v78 : BitVec 32 := Scalar.subi v63 1#32
  let v79 : BitVec 32 := Scalar.select v77 v78 v63
  let v80 : BitVec 1 := Scalar.cmpi .eq v60 v79
  let v81 : BitVec 32 := Scalar.extui v80
  let v82 : BitVec 1 := Scalar.cmpi .ne v81 0#32
  v82

/-- The first part of the body gives back the counters. -/
theorem part3_eq (i : grid0.Coords) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole) :
    k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = pure ⟨BitVec.ofNat 32 (i 1).val, kw i, w26 i, w27 i⟩ := rfl

/-- The second part of the body gives back the block numbers. -/
theorem part4_eq (i : grid0.Coords) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole) :
    k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kw i) (w26 i) (w27 i)
      = pure ⟨qw i, Scalar.muli (qw i) 1024#32, 2#32, Scalar.divsi (kw i) 2#32, 0#32⟩ := rfl

/-- The rows of query block `n`. -/
theorem rows_inb (n : Fin 4) : ∀ a, (![1024 * n.val, 0] : Fin 2 → ℕ) a + S1024x256.size a ≤ S4096x256.size a := by
  revert n; decide

/-- The rows of query block `n` out of all of them. -/
def rows {α : Type} (x : S4096x256.Idx → α) (n : Fin 4) : S1024x256.Idx → α :=
  VecWindow.window x ![1024 * n.val, 0] S1024x256.size (rows_inb n)

/-- All rows with those of query block `n` replaced. -/
def putRows {α : Type} (x : S4096x256.Idx → α) (n : Fin 4) (w : S1024x256.Idx → α) : S4096x256.Idx → α :=
  VecWindow.put x ![1024 * n.val, 0] S1024x256.size w

/-- Rows just put are the ones read. -/
theorem rows_putRows {α : Type} (x : S4096x256.Idx → α) (n : Fin 4) (w : S1024x256.Idx → α) : rows (putRows x n w) n = w :=
  VecWindow.window_put_same x _ _ (rows_inb n) w

/-- The left half of a key block's gradient, -/
def left {α : Type} (x : S512x256.Idx → α) : S512x128.Idx → α :=
  VecWindow.window x ![0, 0] S512x128.size inb_S512x256_S512x128_0_0

/-- and the right half. -/
def right {α : Type} (x : S512x256.Idx → α) : S512x128.Idx → α :=
  VecWindow.window x ![0, 128] S512x128.size inb_S512x256_S512x128_0_128

/-- Two half blocks side by side. -/
def sides {α : Type} (a b : S512x128.Idx → α) : S512x256.Idx → α := fun y =>
  if h : (y 1).val < 128 then
    a (fun k => match k with | ⟨0, _⟩ => (y 0 : Fin 512) | ⟨1, _⟩ => (⟨(y 1).val, h⟩ : Fin 128))
  else
    b (fun k => match k with
      | ⟨0, _⟩ => (y 0 : Fin 512)
      | ⟨1, _⟩ => (⟨(y 1).val - 128, by have : (y 1).val < 256 := (y 1).isLt; omega⟩ : Fin 128))

/-- Storing the two halves one after the other leaves them side by side. -/
theorem sides_of_put {α : Type} (x : S512x256.Idx → α) (a b : S512x128.Idx → α) :
    VecWindow.put (VecWindow.put x ![0, 0] S512x128.size a) ![0, 128] S512x128.size b = sides a b := by
  funext y
  have h0 : (y 0).val < 512 := (y 0).isLt
  have h1 : (y 1).val < 256 := (y 1).isLt
  unfold VecWindow.put sides
  by_cases h : (y 1).val < 128
  · rw [dif_neg (fun hh => by have := (hh 1).1; change 128 ≤ (y 1).val at this; omega),
      dif_pos (fun k => by
        match k with
        | ⟨0, _⟩ => exact ⟨Nat.zero_le _, by show (y 0).val < 0 + 512; omega⟩
        | ⟨1, _⟩ => exact ⟨Nat.zero_le _, by show (y 1).val < 0 + 128; omega⟩), dif_pos h]
    congr 1
    funext k
    match k with
    | ⟨0, _⟩ => exact Fin.ext (Nat.sub_zero _)
    | ⟨1, _⟩ => exact Fin.ext (Nat.sub_zero _)
  · rw [dif_pos (fun k => by
        match k with
        | ⟨0, _⟩ => exact ⟨Nat.zero_le _, by show (y 0).val < 0 + 512; omega⟩
        | ⟨1, _⟩ => exact ⟨by show 128 ≤ (y 1).val; omega, by show (y 1).val < 128 + 128; omega⟩), dif_neg h]
    congr 1
    funext k
    match k with
    | ⟨0, _⟩ => exact Fin.ext (Nat.sub_zero _)
    | ⟨1, _⟩ => rfl

/-! What the body's loads read and what its stores leave, whatever was stored before. -/

theorem load_A {e : EltTy} (v : View sig .tc .vmem S512x128 e) (f : v.ty.Contents (Elt F)) (inb) :
    v.readAt (Elt F) (Rect.unit (s := S512x128) ![0, 0] ![512, 128] inb).toLoadRect f = v.read (Elt F) f := View.readAt_full v f inb

theorem load_B {e : EltTy} (v : View sig .tc .vmem S1024x256 e) (f : v.ty.Contents (Elt F)) (inb) :
    v.readAt (Elt F) (Rect.unit (s := S1024x256) ![0, 0] ![1024, 256] inb).toLoadRect f = v.read (Elt F) f := View.readAt_full v f inb

theorem load_C {e : EltTy} (v : View sig .tc .vmem S1024x128 e) (f : v.ty.Contents (Elt F)) (inb) :
    v.readAt (Elt F) (Rect.unit (s := S1024x128) ![0, 0] ![1024, 128] inb).toLoadRect f = v.read (Elt F) f := View.readAt_full v f inb

theorem load_D {e : EltTy} (v : View sig .tc .vmem S512x256 e) (f : v.ty.Contents (Elt F)) (inb) :
    v.readAt (Elt F) (Rect.unit (s := S512x256) ![0, 0] ![512, 256] inb).toLoadRect f = v.read (Elt F) f := View.readAt_full v f inb

theorem load_left {e : EltTy} (v : View sig .tc .vmem S512x256 e) (f : v.ty.Contents (Elt F)) (inb) :
    v.readAt (Elt F) (Rect.unit (s := S512x256) ![0, 0] ![512, 128] inb).toLoadRect f = left (v.read (Elt F) f) := rfl

theorem load_right {e : EltTy} (v : View sig .tc .vmem S512x256 e) (f : v.ty.Contents (Elt F)) (inb) :
    v.readAt (Elt F) (Rect.unit (s := S512x256) ![0, 128] ![512, 128] inb).toLoadRect f = right (v.read (Elt F) f) := rfl

theorem load_rows {e : EltTy} (v : View sig .tc .vmem S4096x256 e) (f : v.ty.Contents (Elt F)) {off : Fin 2 → ℕ} (inb) (n : Fin 4)
    (h : off = ![1024 * n.val, 0]) :
    v.readAt (Elt F) (Rect.unit (s := S4096x256) off ![1024, 256] inb).toLoadRect f = rows (v.read (Elt F) f) n :=
  View.readAt_unit v f inb h (rows_inb n)

theorem store_A {e : EltTy} (v : View sig .tc .vmem S512x128 e) (f : v.ty.Contents (Elt F)) (inb) (w L) :
    v.read (Elt F) (v.writes (Elt F) f (⟨Rect.unit (s := S512x128) ![0, 0] ![512, 128] inb, w⟩ :: L)) = w := View.read_writes_full v f inb w L

theorem store_B {e : EltTy} (v : View sig .tc .vmem S1024x256 e) (f : v.ty.Contents (Elt F)) (inb) (w L) :
    v.read (Elt F) (v.writes (Elt F) f (⟨Rect.unit (s := S1024x256) ![0, 0] ![1024, 256] inb, w⟩ :: L)) = w := View.read_writes_full v f inb w L

theorem store_D {e : EltTy} (v : View sig .tc .vmem S512x256 e) (f : v.ty.Contents (Elt F)) (inb) (w L) :
    v.read (Elt F) (v.writes (Elt F) f (⟨Rect.unit (s := S512x256) ![0, 0] ![512, 256] inb, w⟩ :: L)) = w := View.read_writes_full v f inb w L

theorem store_sides {e : EltTy} (v : View sig .tc .vmem S512x256 e) (f : v.ty.Contents (Elt F)) (inb inb') (a b L) :
    v.read (Elt F) (v.writes (Elt F) f (⟨Rect.unit (s := S512x256) ![0, 128] ![512, 128] inb, b⟩
      :: ⟨Rect.unit (s := S512x256) ![0, 0] ![512, 128] inb', a⟩ :: L)) = sides a b := by
  refine (View.read_writes_cons_put v f inb b _ rfl).trans ?_
  refine (congrArg (fun z => VecWindow.put z _ _ _) (View.read_writes_cons_put v f inb' a L rfl)).trans ?_
  exact sides_of_put _ a b

theorem store_rows {e : EltTy} (v : View sig .tc .vmem S4096x256 e) (f : v.ty.Contents (Elt F)) {off : Fin 2 → ℕ} (inb) (w L) (n : Fin 4)
    (h : off = ![1024 * n.val, 0]) :
    v.read (Elt F) (v.writes (Elt F) f (⟨Rect.unit (s := S4096x256) off ![1024, 256] inb, w⟩ :: L))
      = putRows (v.read (Elt F) (v.writes (Elt F) f L)) n w := View.read_writes_cons_put v f inb w L h

end Cert.FlashBwdIdeal.Hand

end
-- ==== Proof.FlashBwdData.lean ====
module

public import proofs.«01_k».proof.Proof.FlashBwdStep

@[expose] public section

set_option maxRecDepth 16384

noncomputable section

/-! Which query block a point of the attention's backward pass works on, what kind of point it is, and the state it leaves. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query block of a point: a head's twenty points go through the key blocks, and for each through the query blocks that see it. -/
def qb (t : ℕ) : Fin 4 := (![0, 1, 2, 3, 0, 1, 2, 3, 1, 2, 3, 1, 2, 3, 2, 3, 2, 3, 3, 3] : Fin 20 → Fin 4) ⟨t % 20, Nat.mod_lt _ (by decide)⟩

/-- The key block of a point. -/
def kb (t : ℕ) : Fin 8 := (![0, 0, 0, 0, 1, 1, 1, 1, 2, 2, 2, 3, 3, 3, 4, 4, 5, 5, 6, 7] : Fin 20 → Fin 8) ⟨t % 20, Nat.mod_lt _ (by decide)⟩

/-- The key block meets its first query block, the one with the diagonal. -/
abbrev diag (t : ℕ) : Prop := t % 20 ∈ [0, 4, 8, 11, 14, 16, 18, 19]
/-- The point is of the first key block, so that its query block is met for the first time. -/
abbrev fst (t : ℕ) : Prop := t % 20 < 4
/-- The query block is the last. -/
abbrev lst (t : ℕ) : Prop := t % 20 ∈ [3, 7, 10, 13, 15, 17, 18, 19]
/-- The key block is the last the query block sees. -/
abbrev fin (t : ℕ) : Prop := t % 20 ∈ [4, 11, 16, 19]

theorem hc1 : ∀ t : Fin cfg0.N, startW (kw (grid0.coords t)) (qw (grid0.coords t)) (Scalar.divsi (kw (grid0.coords t)) 2#32) = 1#1 ↔ diag t.val := by decide +kernel
theorem hc2 : ∀ t : Fin cfg0.N, k0_cond2 (grid0.coords t) = 1#1 ↔ fst t.val := by decide +kernel
theorem hc3 : ∀ t : Fin cfg0.N, k0_cond3 (grid0.coords t) = 1#1 ↔ ¬diag t.val := by decide +kernel
theorem hc4 : ∀ t : Fin cfg0.N, k0_cond4 (grid0.coords t) = 1#1 ↔ diag t.val := by decide +kernel
theorem hc5 : ∀ t : Fin cfg0.N, k0_cond5 (grid0.coords t) = 1#1 ↔ lst t.val := by decide +kernel
theorem hc6 : ∀ t : Fin cfg0.N, k0_cond6 (grid0.coords t) = 1#1 ↔ fin t.val := by decide +kernel
theorem ho1 : ∀ t : Fin cfg0.N, k0_off1 (grid0.coords t) = ![1024 * (qb t.val).val, 0] := by decide +kernel
theorem ho2 : ∀ t : Fin cfg0.N, k0_off2 (grid0.coords t) = ![1024 * (qb t.val).val, 0] := by decide +kernel
theorem ho3 : ∀ t : Fin cfg0.N, k0_off3 (grid0.coords t) = ![1024 * (qb t.val).val, 0] := by decide +kernel
theorem ho4 : ∀ t : Fin cfg0.N, k0_off4 (grid0.coords t) = ![1024 * (qb t.val).val, 0] := by decide +kernel
theorem live9 : ∀ t : Fin cfg0.N, lst t.val → cfg0.idle 9 (grid0.coords t) = false := by decide +kernel
theorem live10 : ∀ t : Fin cfg0.N, lst t.val → cfg0.idle 10 (grid0.coords t) = false := by decide +kernel
theorem live11 : ∀ t : Fin cfg0.N, fin t.val → cfg0.idle 11 (grid0.coords t) = false := by decide +kernel
theorem idle9 : ∀ t : Fin cfg0.N, ¬lst t.val → cfg0.idle 9 (grid0.coords t) = true := by decide +kernel
theorem idle10 : ∀ t : Fin cfg0.N, ¬lst t.val → cfg0.idle 10 (grid0.coords t) = true := by decide +kernel
theorem idle11 : ∀ t : Fin cfg0.N, ¬fin t.val → cfg0.idle 11 (grid0.coords t) = true := by decide +kernel
theorem flush9 : ∀ t : Fin cfg0.N, (cfg0.win 9).flush t = true ↔ lst t.val := by decide +kernel
theorem flush10 : ∀ t : Fin cfg0.N, (cfg0.win 10).flush t = true ↔ lst t.val := by decide +kernel
theorem flush11 : ∀ t : Fin cfg0.N, (cfg0.win 11).flush t = true ↔ fin t.val := by decide +kernel
theorem noFlush9 (t : Fin cfg0.N) (h : ¬lst t.val) : (cfg0.win 9).flush t = false := by
  have := mt (flush9 t).mp h; simpa using this
theorem noFlush10 (t : Fin cfg0.N) (h : ¬lst t.val) : (cfg0.win 10).flush t = false := by
  have := mt (flush10 t).mp h; simpa using this
theorem noFlush11 (t : Fin cfg0.N) (h : ¬fin t.val) : (cfg0.win 11).flush t = false := by
  have := mt (flush11 t).mp h; simpa using this
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem qb_fst : ∀ t : Fin cfg0.N, fst t.val → (qb t.val).val = t.val % 20 := by decide +kernel

/-- The three accumulators. -/
abbrev St (F : FTy → Type) [FloatOps F] := Vec F S512x256 .f32 × Vec F S512x128 .f32 × Vec F S4096x256 .f32

/-- What a point leaves in the accumulators. -/
def step (c : Dev nD) (t : Fin cfg0.N) (s : St F) : St F :=
  if diag t.val then
    if fst t.val then
     ((k0_pay19 (k0_pay9 (iblk m c 0 t)) (k0_pay12 (kw (grid0.coords t)) (qw (grid0.coords t)) (iblk m c 1 t) (iblk m c 2 t) (iblk m c 0 t) (iblk m c 6 t) (iblk m c 4 t) (iblk m c 5 t) (iblk m c 3 t)) (k0_pay13 (F := F))),
      (k0_pay18 (k0_pay10 (kw (grid0.coords t)) (qw (grid0.coords t)) (iblk m c 1 t) (iblk m c 2 t) (iblk m c 0 t) (iblk m c 6 t)) (k0_pay11 (iblk m c 4 t)) (k0_pay14 (F := F))),
      (putRows (putRows s.2.2 (qb t.val) (k0_pay15 (F := F))) (qb t.val) (k0_pay20 (k0_pay8 (iblk m c 1 t) (iblk m c 2 t)) (k0_pay12 (kw (grid0.coords t)) (qw (grid0.coords t)) (iblk m c 1 t) (iblk m c 2 t) (iblk m c 0 t) (iblk m c 6 t) (iblk m c 4 t) (iblk m c 5 t) (iblk m c 3 t)) (rows (putRows s.2.2 (qb t.val) (k0_pay15 (F := F))) (qb t.val)))))
    else
     ((k0_pay19 (k0_pay9 (iblk m c 0 t)) (k0_pay12 (kw (grid0.coords t)) (qw (grid0.coords t)) (iblk m c 1 t) (iblk m c 2 t) (iblk m c 0 t) (iblk m c 6 t) (iblk m c 4 t) (iblk m c 5 t) (iblk m c 3 t)) (k0_pay13 (F := F))),
      (k0_pay18 (k0_pay10 (kw (grid0.coords t)) (qw (grid0.coords t)) (iblk m c 1 t) (iblk m c 2 t) (iblk m c 0 t) (iblk m c 6 t)) (k0_pay11 (iblk m c 4 t)) (k0_pay14 (F := F))),
      (putRows s.2.2 (qb t.val) (k0_pay20 (k0_pay8 (iblk m c 1 t) (iblk m c 2 t)) (k0_pay12 (kw (grid0.coords t)) (qw (grid0.coords t)) (iblk m c 1 t) (iblk m c 2 t) (iblk m c 0 t) (iblk m c 6 t) (iblk m c 4 t) (iblk m c 5 t) (iblk m c 3 t)) (rows s.2.2 (qb t.val)))))
  else
    if fst t.val then
     ((k0_pay16 (k0_pay3 (iblk m c 0 t)) (k0_pay6 (iblk m c 1 t) (iblk m c 2 t) (iblk m c 0 t) (iblk m c 6 t) (iblk m c 4 t) (iblk m c 5 t) (iblk m c 3 t)) s.1),
      (k0_pay7 (iblk m c 1 t) (iblk m c 2 t) (iblk m c 0 t) (iblk m c 6 t) (iblk m c 4 t) s.2.1),
      (putRows (putRows s.2.2 (qb t.val) (k0_pay15 (F := F))) (qb t.val) (k0_pay17 (k0_pay2 (iblk m c 1 t) (iblk m c 2 t)) (k0_pay6 (iblk m c 1 t) (iblk m c 2 t) (iblk m c 0 t) (iblk m c 6 t) (iblk m c 4 t) (iblk m c 5 t) (iblk m c 3 t)) (rows (putRows s.2.2 (qb t.val) (k0_pay15 (F := F))) (qb t.val)))))
    else
     ((k0_pay16 (k0_pay3 (iblk m c 0 t)) (k0_pay6 (iblk m c 1 t) (iblk m c 2 t) (iblk m c 0 t) (iblk m c 6 t) (iblk m c 4 t) (iblk m c 5 t) (iblk m c 3 t)) s.1),
      (k0_pay7 (iblk m c 1 t) (iblk m c 2 t) (iblk m c 0 t) (iblk m c 6 t) (iblk m c 4 t) s.2.1),
      (putRows s.2.2 (qb t.val) (k0_pay17 (k0_pay2 (iblk m c 1 t) (iblk m c 2 t)) (k0_pay6 (iblk m c 1 t) (iblk m c 2 t) (iblk m c 0 t) (iblk m c 6 t) (iblk m c 4 t) (iblk m c 5 t) (iblk m c 3 t)) (rows s.2.2 (qb t.val)))))

theorem step_df (c : Dev nD) (t : Fin cfg0.N) (s : St F) (hd : diag t.val) (hf : fst t.val) : step m c t s =
     ((k0_pay19 (k0_pay9 (iblk m c 0 t)) (k0_pay12 (kw (grid0.coords t)) (qw (grid0.coords t)) (iblk m c 1 t) (iblk m c 2 t) (iblk m c 0 t) (iblk m c 6 t) (iblk m c 4 t) (iblk m c 5 t) (iblk m c 3 t)) (k0_pay13 (F := F))),
      (k0_pay18 (k0_pay10 (kw (grid0.coords t)) (qw (grid0.coords t)) (iblk m c 1 t) (iblk m c 2 t) (iblk m c 0 t) (iblk m c 6 t)) (k0_pay11 (iblk m c 4 t)) (k0_pay14 (F := F))),
      (putRows (putRows s.2.2 (qb t.val) (k0_pay15 (F := F))) (qb t.val) (k0_pay20 (k0_pay8 (iblk m c 1 t) (iblk m c 2 t)) (k0_pay12 (kw (grid0.coords t)) (qw (grid0.coords t)) (iblk m c 1 t) (iblk m c 2 t) (iblk m c 0 t) (iblk m c 6 t) (iblk m c 4 t) (iblk m c 5 t) (iblk m c 3 t)) (rows (putRows s.2.2 (qb t.val) (k0_pay15 (F := F))) (qb t.val))))) := (if_pos hd).trans (if_pos hf)
theorem step_do (c : Dev nD) (t : Fin cfg0.N) (s : St F) (hd : diag t.val) (hf : ¬fst t.val) : step m c t s =
     ((k0_pay19 (k0_pay9 (iblk m c 0 t)) (k0_pay12 (kw (grid0.coords t)) (qw (grid0.coords t)) (iblk m c 1 t) (iblk m c 2 t) (iblk m c 0 t) (iblk m c 6 t) (iblk m c 4 t) (iblk m c 5 t) (iblk m c 3 t)) (k0_pay13 (F := F))),
      (k0_pay18 (k0_pay10 (kw (grid0.coords t)) (qw (grid0.coords t)) (iblk m c 1 t) (iblk m c 2 t) (iblk m c 0 t) (iblk m c 6 t)) (k0_pay11 (iblk m c 4 t)) (k0_pay14 (F := F))),
      (putRows s.2.2 (qb t.val) (k0_pay20 (k0_pay8 (iblk m c 1 t) (iblk m c 2 t)) (k0_pay12 (kw (grid0.coords t)) (qw (grid0.coords t)) (iblk m c 1 t) (iblk m c 2 t) (iblk m c 0 t) (iblk m c 6 t) (iblk m c 4 t) (iblk m c 5 t) (iblk m c 3 t)) (rows s.2.2 (qb t.val))))) := (if_pos hd).trans (if_neg hf)
theorem step_nf (c : Dev nD) (t : Fin cfg0.N) (s : St F) (hd : ¬diag t.val) (hf : fst t.val) : step m c t s =
     ((k0_pay16 (k0_pay3 (iblk m c 0 t)) (k0_pay6 (iblk m c 1 t) (iblk m c 2 t) (iblk m c 0 t) (iblk m c 6 t) (iblk m c 4 t) (iblk m c 5 t) (iblk m c 3 t)) s.1),
      (k0_pay7 (iblk m c 1 t) (iblk m c 2 t) (iblk m c 0 t) (iblk m c 6 t) (iblk m c 4 t) s.2.1),
      (putRows (putRows s.2.2 (qb t.val) (k0_pay15 (F := F))) (qb t.val) (k0_pay17 (k0_pay2 (iblk m c 1 t) (iblk m c 2 t)) (k0_pay6 (iblk m c 1 t) (iblk m c 2 t) (iblk m c 0 t) (iblk m c 6 t) (iblk m c 4 t) (iblk m c 5 t) (iblk m c 3 t)) (rows (putRows s.2.2 (qb t.val) (k0_pay15 (F := F))) (qb t.val))))) := (if_neg hd).trans (if_pos hf)
theorem step_no (c : Dev nD) (t : Fin cfg0.N) (s : St F) (hd : ¬diag t.val) (hf : ¬fst t.val) : step m c t s =
     ((k0_pay16 (k0_pay3 (iblk m c 0 t)) (k0_pay6 (iblk m c 1 t) (iblk m c 2 t) (iblk m c 0 t) (iblk m c 6 t) (iblk m c 4 t) (iblk m c 5 t) (iblk m c 3 t)) s.1),
      (k0_pay7 (iblk m c 1 t) (iblk m c 2 t) (iblk m c 0 t) (iblk m c 6 t) (iblk m c 4 t) s.2.1),
      (putRows s.2.2 (qb t.val) (k0_pay17 (k0_pay2 (iblk m c 1 t) (iblk m c 2 t)) (k0_pay6 (iblk m c 1 t) (iblk m c 2 t) (iblk m c 0 t) (iblk m c 6 t) (iblk m c 4 t) (iblk m c 5 t) (iblk m c 3 t)) (rows s.2.2 (qb t.val))))) := (if_neg hd).trans (if_neg hf)

/-- Rows to start from; no result depends on them. -/
def rows0 : Vec F S4096x256 .f32 := fun y => k0_pay15 (F := F) (fun k => match k with
  | ⟨0, _⟩ => (⟨(y 0).val % 1024, Nat.mod_lt _ (by decide)⟩ : Fin 1024) | ⟨1, _⟩ => (y 1 : Fin 256))

/-- The state before point `n`. -/
def st (c : Dev nD) : ℕ → St F
  | 0 => (k0_pay13, k0_pay14, rows0)
  | n + 1 => if h : n < cfg0.N then step m c ⟨n, h⟩ (st c n) else st c n

theorem st_succ (c : Dev nD) (t : Fin cfg0.N) : st m c (t.val + 1) = step m c t (st m c t.val) := dif_pos t.isLt

/-- What a point would store of the key and value block's gradient, -/
def out9 (c : Dev nD) (t : Fin cfg0.N) : Vec F S512x256 .bf16 :=
  sides (k0_pay21 (left (st m c (t.val + 1)).1)) (k0_pay22 (st m c (t.val + 1)).2.1)
/-- of the rotated key block's, -/
def out10 (c : Dev nD) (t : Fin cfg0.N) : Vec F S512x128 .f32 := right (st m c (t.val + 1)).1
/-- and of the query block's. -/
def out11 (c : Dev nD) (t : Fin cfg0.N) : Vec F S1024x256 .bf16 :=
  k0_pay1 (rows (st m c (t.val + 1)).2.2 (qb t.val)) (iblk m c 7 t) (iblk m c 8 t)

/-! The query accumulator starts with unknown contents; before point `k` its first `1024 k` rows are known. -/

/-- The first `1024 k` rows agree. -/
def Agree {α : Type} (k : ℕ) (d x : S4096x256.Idx → α) : Prop := ∀ y, (y 0).val < 1024 * k → d y = x y

theorem agree_full {α : Type} {k : ℕ} (hk : 4 ≤ k) {d x : S4096x256.Idx → α} (h : Agree k d x) : d = x :=
  funext fun y => h y (by have : (y 0).val < 4096 := (y 0).isLt; omega)

theorem agree_zero {α : Type} {k : ℕ} {d x : S4096x256.Idx → α} (hz : k = 0) : Agree k d x := fun y h => by
  subst hz; exact absurd h (by omega)

theorem agree_put {α : Type} {k : ℕ} {n : Fin 4} (hn : n.val = k ∨ 4 ≤ k) {d x : S4096x256.Idx → α} (h : Agree k d x)
    (w : S1024x256.Idx → α) : Agree (k + 1) (putRows d n w) (putRows x n w) := fun y hy => by
  unfold putRows VecWindow.put
  split_ifs with hb
  · rfl
  · apply h
    have h4 : (y 0).val < 4096 := (y 0).isLt
    rcases hn with hn | hn
    · by_contra hlt
      apply hb
      intro a
      match a with
      | ⟨0, _⟩ => exact ⟨by show 1024 * n.val ≤ (y 0).val; omega, by show (y 0).val < 1024 * n.val + 1024; omega⟩
      | ⟨1, _⟩ => exact ⟨Nat.zero_le _, by have := (y 1).isLt; show (y 1).val < 0 + 256; simpa using this⟩
    · omega

theorem agree_mono {α : Type} {k : ℕ} {n : Fin 4} (hn : n.val = k ∨ 4 ≤ k) {d x : S4096x256.Idx → α}
    (h : Agree (k + 1) d x) (w : S1024x256.Idx → α) : Agree (k + 1) (putRows d n w) (putRows x n w) := fun y hy => by
  unfold putRows VecWindow.put
  split_ifs with hb
  · rfl
  · exact h y hy

/-- A point that clears its query block's rows and adds to them makes those rows known. -/
theorem agree_first {α : Type} {k : ℕ} {n : Fin 4} (hn : n.val = k ∨ 4 ≤ k) {d x : S4096x256.Idx → α} (h : Agree k d x)
    {z : S1024x256.Idx → α} {g : (S1024x256.Idx → α) → S1024x256.Idx → α} :
    Agree (k + 1) (putRows (putRows d n z) n (g (rows (putRows d n z) n))) (putRows (putRows x n z) n (g (rows (putRows x n z) n))) := by
  rw [rows_putRows, rows_putRows]
  exact agree_mono hn (agree_put hn h z) _

theorem four_le (t : Fin cfg0.N) (h : ¬fst t.val) : 4 ≤ t.val := by
  have := Nat.mod_le t.val 20
  omega

theorem qb_first (t : Fin cfg0.N) (h : fst t.val) : (qb t.val).val = t.val ∨ 4 ≤ t.val := by
  have := qb_fst t h
  by_cases h4 : 4 ≤ t.val
  · exact Or.inr h4
  · left; omega

/-! The proof data. -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .bf16 := win0_11.stage (cfg0.slots t 11)
abbrev hs0_11 (t : Fin cfg0.N) : (ms0_11 t).IsWhole := hstage0_11 ((cfg0.slots t 11).cast nbuf0_11)
abbrev scM0_0 : Memref sig .tc .vmem S512x256 .f32 := Memref.whole cc0_scratch0
abbrev scM0_1 : Memref sig .tc .vmem S512x128 .f32 := Memref.whole cc0_scratch1
abbrev scM0_2 : Memref sig .tc .vmem S4096x256 .f32 := Memref.whole cc0_scratch2

/-- Before the first point the accumulators hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before point `n`. -/
def PhiS (c : Dev nD) : ℕ → sProp 𝕄
  | 0 => Pipeline.ΦA spec0 c
  | n + 1 => iprop(iprop(owns (c : Thread nD τ) scM0_0 fullShare (st m c (n + 1)).1 ∗ owns (c : Thread nD τ) scM0_1 fullShare (st m c (n + 1)).2.1
      ∗ (∃ d, owns (c : Thread nD τ) scM0_2 fullShare d ∗ ⌜Agree (n + 1) d (st m c (n + 1)).2.2⌝)) ∗ (∃ r, prngReg c r))

theorem PhiS_zero (c : Dev nD) (n : ℕ) (hz : n = 0) : PhiS m c n = Pipeline.ΦA spec0 c := by subst hz; rfl

theorem PhiS_succ (c : Dev nD) (n : ℕ) : PhiS m c (n + 1) = iprop(iprop(owns (c : Thread nD τ) scM0_0 fullShare (st m c (n + 1)).1 ∗ owns (c : Thread nD τ) scM0_1 fullShare (st m c (n + 1)).2.1
      ∗ (∃ d, owns (c : Thread nD τ) scM0_2 fullShare d ∗ ⌜Agree (n + 1) d (st m c (n + 1)).2.2⌝)) ∗ (∃ r, prngReg c r)) := rfl

theorem PhiS_pos (c : Dev nD) (n : ℕ) (hz : n ≠ 0) : PhiS m c n = iprop(iprop(owns (c : Thread nD τ) scM0_0 fullShare (st m c n).1 ∗ owns (c : Thread nD τ) scM0_1 fullShare (st m c n).2.1
      ∗ (∃ d, owns (c : Thread nD τ) scM0_2 fullShare d ∗ ⌜Agree n d (st m c n).2.2⌝)) ∗ (∃ r, prngReg c r)) := by
  cases n with
  | zero => exact absurd rfl hz
  | succ n => rfl

/-- The arrays as the call finds them, what each point leaves in each block, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
    | ⟨11, _⟩ => out11 m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.FlashBwdIdeal.Hand

end
-- ==== Proof.FlashBwdRunA.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case A: the first key block meets the first query block. -/
theorem run_A (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : startW (kw i) (qw i) (Scalar.divsi (kw i) 2#32) = 1#1) (h2 : k0_cond2 i = 1#1) (h3 : ¬k0_cond3 i = 1#1) (h4 : k0_cond4 i = 1#1) (h5 : ¬k0_cond5 i = 1#1) (h6 : ¬k0_cond6 i = 1#1) (o2 : k0_off1 i = ![1024 * n.val, 0]) (o4 : k0_off3 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare (k0_pay19 (k0_pay9 x0) (k0_pay12 (kw i) (qw i) x1 x2 x0 x6 x4 x5 x3) (k0_pay13 (F := F))) ∗ owns (c : Thread nD τ) arg15 fullShare (k0_pay18 (k0_pay10 (kw i) (qw i) x1 x2 x0 x6) (k0_pay11 x4) (k0_pay14 (F := F))) ∗ owns (c : Thread nD τ) arg16 fullShare (putRows (putRows xq n (k0_pay15 (F := F))) n (k0_pay20 (k0_pay8 x1 x2) (k0_pay12 (kw i) (qw i) x1 x2 x0 x6 x4 x5 x3) (rows (putRows xq n (k0_pay15 (F := F))) n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  letI i2 : ClosedOff (k0_off1 i) := ⟨![1024 * n.val, 0], o2⟩
  letI i4 : ClosedOff (k0_off3 i) := ⟨![1024 * n.val, 0], o4⟩
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [SK]
  · iexists _; isplitr
    swap; · iexact SK
    ipureintro
    repeat (first | unfold run_A.sl.r | unfold run_A.sl.r_1 | unfold run_A.sl.r_2 | unfold run_A.sl.r_3 | unfold run_A.sl.r_4 | unfold run_A.sl.r_5 | unfold run_A.sl.v103 | unfold run_A.sl.v104 | unfold run_A.sl.v106 | unfold run_A.sl.v109 | unfold run_A.sl.v142 | unfold run_A.sl.v149 | unfold run_A.sl.v130 | unfold run_A.sl.v131 | unfold run_A.sl.v138 | unfold run_A.sl.v145 | unfold run_A.sl.v156 | unfold run_A.sl.SK | unfold run_A.sl.SK_1 | unfold run_A.sl.SK_2 | unfold run_A.sl.SK_3 | unfold run_A.sl.SV | unfold run_A.sl.SV_1 | unfold run_A.sl.SV_2 | unfold run_A.sl.SV_3 | unfold run_A.sl.SQ | unfold run_A.sl.SQ_1 | unfold run_A.sl.SQ_2 | unfold run_A.sl.SQ_3 | unfold run_A.sl.O9 | unfold run_A.sl.O9_1 | unfold run_A.sl.O9_2 | unfold run_A.sl.O9_3 | unfold run_A.sl.O10 | unfold run_A.sl.O10_1 | unfold run_A.sl.O10_2 | unfold run_A.sl.O10_3 | unfold run_A.sl.O11 | unfold run_A.sl.O11_1 | unfold run_A.sl.O11_2 | unfold run_A.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o4, store_rows _ _ _ _ _ n o4, rows_putRows]
    try rfl
  isplitl [SV]
  · iexists _; isplitr
    swap; · iexact SV
    ipureintro
    repeat (first | unfold run_A.sl.r | unfold run_A.sl.r_1 | unfold run_A.sl.r_2 | unfold run_A.sl.r_3 | unfold run_A.sl.r_4 | unfold run_A.sl.r_5 | unfold run_A.sl.v103 | unfold run_A.sl.v104 | unfold run_A.sl.v106 | unfold run_A.sl.v109 | unfold run_A.sl.v142 | unfold run_A.sl.v149 | unfold run_A.sl.v130 | unfold run_A.sl.v131 | unfold run_A.sl.v138 | unfold run_A.sl.v145 | unfold run_A.sl.v156 | unfold run_A.sl.SK | unfold run_A.sl.SK_1 | unfold run_A.sl.SK_2 | unfold run_A.sl.SK_3 | unfold run_A.sl.SV | unfold run_A.sl.SV_1 | unfold run_A.sl.SV_2 | unfold run_A.sl.SV_3 | unfold run_A.sl.SQ | unfold run_A.sl.SQ_1 | unfold run_A.sl.SQ_2 | unfold run_A.sl.SQ_3 | unfold run_A.sl.O9 | unfold run_A.sl.O9_1 | unfold run_A.sl.O9_2 | unfold run_A.sl.O9_3 | unfold run_A.sl.O10 | unfold run_A.sl.O10_1 | unfold run_A.sl.O10_2 | unfold run_A.sl.O10_3 | unfold run_A.sl.O11 | unfold run_A.sl.O11_1 | unfold run_A.sl.O11_2 | unfold run_A.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o4, store_rows _ _ _ _ _ n o4, rows_putRows]
    try rfl
  iexists _; isplitr
  swap; · iexact SQ
  · ipureintro
    repeat (first | unfold run_A.sl.r | unfold run_A.sl.r_1 | unfold run_A.sl.r_2 | unfold run_A.sl.r_3 | unfold run_A.sl.r_4 | unfold run_A.sl.r_5 | unfold run_A.sl.v103 | unfold run_A.sl.v104 | unfold run_A.sl.v106 | unfold run_A.sl.v109 | unfold run_A.sl.v142 | unfold run_A.sl.v149 | unfold run_A.sl.v130 | unfold run_A.sl.v131 | unfold run_A.sl.v138 | unfold run_A.sl.v145 | unfold run_A.sl.v156 | unfold run_A.sl.SK | unfold run_A.sl.SK_1 | unfold run_A.sl.SK_2 | unfold run_A.sl.SK_3 | unfold run_A.sl.SV | unfold run_A.sl.SV_1 | unfold run_A.sl.SV_2 | unfold run_A.sl.SV_3 | unfold run_A.sl.SQ | unfold run_A.sl.SQ_1 | unfold run_A.sl.SQ_2 | unfold run_A.sl.SQ_3 | unfold run_A.sl.O9 | unfold run_A.sl.O9_1 | unfold run_A.sl.O9_2 | unfold run_A.sl.O9_3 | unfold run_A.sl.O10 | unfold run_A.sl.O10_1 | unfold run_A.sl.O10_2 | unfold run_A.sl.O10_3 | unfold run_A.sl.O11 | unfold run_A.sl.O11_1 | unfold run_A.sl.O11_2 | unfold run_A.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o4, store_rows _ _ _ _ _ n o4, rows_putRows]
    try rfl

end Cert.FlashBwdIdeal.Hand

end
-- ==== Proof.FlashBwdBodyA.lean ====
module

public import proofs.«01_k».proof.Proof.FlashBwdData
public import proofs.«01_k».proof.Proof.FlashBwdRunA

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_A (c : Dev nD) (t : Fin cfg0.N) (hd : diag t.val) (hf : fst t.val) (hl : ¬lst t.val) (hi : ¬fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [Dat.leavesExact_idle (dats m 0 c) 9 t (idle9 t hl) (noFlush9 t hl)]
  rw [Dat.leavesExact_idle (dats m 0 c) 10 t (idle10 t hl) (noFlush10 t hl)]
  rw [Dat.leavesExact_idle (dats m 0 c) 11 t (idle11 t hi) (noFlush11 t hi)]
  simp only [st_succ m c t, step_df m c t _ hd hf]
  by_cases hz : t.val = 0
  · rw [PhiS_castSucc m c t, PhiS_zero m c _ hz, PhiA0_eq]
    iintro ⟨⟨⟨⟨%dk, HK⟩, ⟨%dv, HV⟩, ⟨%dq, HQ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_A c (grid0.coords t) (qb t.val) _ _ _ _ _ _ _ _ _ _ _ _ _ _ _ _ _ _ _ _ _ _ _ _ _ _ _ _ _ _ ((hc1 t).mpr hd) ((hc2 t).mpr hf) (fun h => (hc3 t).mp h hd) ((hc4 t).mpr hd) (fun h => hl ((hc5 t).mp h)) (fun h => hi ((hc6 t).mp h)) (ho1 t) (ho3 t) (iblk m c 0 t) (iblk m c 1 t) (iblk m c 2 t) (iblk m c 3 t) (iblk m c 4 t) (iblk m c 5 t) (iblk m c 6 t) (iblk m c 7 t) (iblk m c 8 t) dk dv dq Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HK]; · iexact HK
    isplitl [HV]; · iexact HV
    isplitl [HQ]; · iexact HQ
    iintro ⟨H0, H1, H2, H3, H4, H5, H6, H7, H8, HK, HV, HQ⟩
    isplitl [HK HV HQ Hg]
    · isplitl [HK HV HQ]
      · isplitl [HK]; · iexact HK
        isplitl [HV]; · iexact HV
        iexists _; isplitl [HQ]; · iexact HQ
        ipureintro
        exact agree_first (qb_first t hf) (agree_zero (hz := hz))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11
  · rw [PhiS_castSucc m c t, PhiS_pos m c _ hz]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_A c (grid0.coords t) (qb t.val) _ _ _ _ _ _ _ _ _ _ _ _ _ _ _ _ _ _ _ _ _ _ _ _ _ _ _ _ _ _ ((hc1 t).mpr hd) ((hc2 t).mpr hf) (fun h => (hc3 t).mp h hd) ((hc4 t).mpr hd) (fun h => hl ((hc5 t).mp h)) (fun h => hi ((hc6 t).mp h)) (ho1 t) (ho3 t) (iblk m c 0 t) (iblk m c 1 t) (iblk m c 2 t) (iblk m c 3 t) (iblk m c 4 t) (iblk m c 5 t) (iblk m c 6 t) (iblk m c 7 t) (iblk m c 8 t) (st m c t.val).1 (st m c t.val).2.1 dq Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HK]; · iexact HK
    isplitl [HV]; · iexact HV
    isplitl [HQ]; · iexact HQ
    iintro ⟨H0, H1, H2, H3, H4, H5, H6, H7, H8, HK, HV, HQ⟩
    isplitl [HK HV HQ Hg]
    · isplitl [HK HV HQ]
      · isplitl [HK]; · iexact HK
        isplitl [HV]; · iexact HV
        iexists _; isplitl [HQ]; · iexact HQ
        ipureintro
        exact agree_first (qb_first t hf) hq
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

end Cert.FlashBwdIdeal.Hand

end
-- ==== Proof.FlashBwdRunB.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case B: the first key block meets a later query block. -/
theorem run_B (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : ¬startW (kw i) (qw i) (Scalar.divsi (kw i) 2#32) = 1#1) (h2 : k0_cond2 i = 1#1) (h3 : k0_cond3 i = 1#1) (h4 : ¬k0_cond4 i = 1#1) (h5 : ¬k0_cond5 i = 1#1) (h6 : ¬k0_cond6 i = 1#1) (o2 : k0_off1 i = ![1024 * n.val, 0]) (o3 : k0_off2 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare (k0_pay16 (k0_pay3 x0) (k0_pay6 x1 x2 x0 x6 x4 x5 x3) xk) ∗ owns (c : Thread nD τ) arg15 fullShare (k0_pay7 x1 x2 x0 x6 x4 xv) ∗ owns (c : Thread nD τ) arg16 fullShare (putRows (putRows xq n (k0_pay15 (F := F))) n (k0_pay17 (k0_pay2 x1 x2) (k0_pay6 x1 x2 x0 x6 x4 x5 x3) (rows (putRows xq n (k0_pay15 (F := F))) n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  letI i2 : ClosedOff (k0_off1 i) := ⟨![1024 * n.val, 0], o2⟩
  letI i3 : ClosedOff (k0_off2 i) := ⟨![1024 * n.val, 0], o3⟩
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [SK]
  · iexists _; isplitr
    swap; · iexact SK
    ipureintro
    repeat (first | unfold run_B.sl.r | unfold run_B.sl.r_1 | unfold run_B.sl.r_2 | unfold run_B.sl.r_3 | unfold run_B.sl.r_4 | unfold run_B.sl.r_5 | unfold run_B.sl.v103 | unfold run_B.sl.v104 | unfold run_B.sl.v106 | unfold run_B.sl.v109 | unfold run_B.sl.v142 | unfold run_B.sl.v149 | unfold run_B.sl.v130 | unfold run_B.sl.v131 | unfold run_B.sl.v138 | unfold run_B.sl.v145 | unfold run_B.sl.v156 | unfold run_B.sl.SK | unfold run_B.sl.SK_1 | unfold run_B.sl.SK_2 | unfold run_B.sl.SK_3 | unfold run_B.sl.SV | unfold run_B.sl.SV_1 | unfold run_B.sl.SV_2 | unfold run_B.sl.SV_3 | unfold run_B.sl.SQ | unfold run_B.sl.SQ_1 | unfold run_B.sl.SQ_2 | unfold run_B.sl.SQ_3 | unfold run_B.sl.O9 | unfold run_B.sl.O9_1 | unfold run_B.sl.O9_2 | unfold run_B.sl.O9_3 | unfold run_B.sl.O10 | unfold run_B.sl.O10_1 | unfold run_B.sl.O10_2 | unfold run_B.sl.O10_3 | unfold run_B.sl.O11 | unfold run_B.sl.O11_1 | unfold run_B.sl.O11_2 | unfold run_B.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl
  isplitl [SV]
  · iexists _; isplitr
    swap; · iexact SV
    ipureintro
    repeat (first | unfold run_B.sl.r | unfold run_B.sl.r_1 | unfold run_B.sl.r_2 | unfold run_B.sl.r_3 | unfold run_B.sl.r_4 | unfold run_B.sl.r_5 | unfold run_B.sl.v103 | unfold run_B.sl.v104 | unfold run_B.sl.v106 | unfold run_B.sl.v109 | unfold run_B.sl.v142 | unfold run_B.sl.v149 | unfold run_B.sl.v130 | unfold run_B.sl.v131 | unfold run_B.sl.v138 | unfold run_B.sl.v145 | unfold run_B.sl.v156 | unfold run_B.sl.SK | unfold run_B.sl.SK_1 | unfold run_B.sl.SK_2 | unfold run_B.sl.SK_3 | unfold run_B.sl.SV | unfold run_B.sl.SV_1 | unfold run_B.sl.SV_2 | unfold run_B.sl.SV_3 | unfold run_B.sl.SQ | unfold run_B.sl.SQ_1 | unfold run_B.sl.SQ_2 | unfold run_B.sl.SQ_3 | unfold run_B.sl.O9 | unfold run_B.sl.O9_1 | unfold run_B.sl.O9_2 | unfold run_B.sl.O9_3 | unfold run_B.sl.O10 | unfold run_B.sl.O10_1 | unfold run_B.sl.O10_2 | unfold run_B.sl.O10_3 | unfold run_B.sl.O11 | unfold run_B.sl.O11_1 | unfold run_B.sl.O11_2 | unfold run_B.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl
  iexists _; isplitr
  swap; · iexact SQ
  · ipureintro
    repeat (first | unfold run_B.sl.r | unfold run_B.sl.r_1 | unfold run_B.sl.r_2 | unfold run_B.sl.r_3 | unfold run_B.sl.r_4 | unfold run_B.sl.r_5 | unfold run_B.sl.v103 | unfold run_B.sl.v104 | unfold run_B.sl.v106 | unfold run_B.sl.v109 | unfold run_B.sl.v142 | unfold run_B.sl.v149 | unfold run_B.sl.v130 | unfold run_B.sl.v131 | unfold run_B.sl.v138 | unfold run_B.sl.v145 | unfold run_B.sl.v156 | unfold run_B.sl.SK | unfold run_B.sl.SK_1 | unfold run_B.sl.SK_2 | unfold run_B.sl.SK_3 | unfold run_B.sl.SV | unfold run_B.sl.SV_1 | unfold run_B.sl.SV_2 | unfold run_B.sl.SV_3 | unfold run_B.sl.SQ | unfold run_B.sl.SQ_1 | unfold run_B.sl.SQ_2 | unfold run_B.sl.SQ_3 | unfold run_B.sl.O9 | unfold run_B.sl.O9_1 | unfold run_B.sl.O9_2 | unfold run_B.sl.O9_3 | unfold run_B.sl.O10 | unfold run_B.sl.O10_1 | unfold run_B.sl.O10_2 | unfold run_B.sl.O10_3 | unfold run_B.sl.O11 | unfold run_B.sl.O11_1 | unfold run_B.sl.O11_2 | unfold run_B.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl

end Cert.FlashBwdIdeal.Hand

end
-- ==== Proof.FlashBwdBodyB.lean ====
module

public import proofs.«01_k».proof.Proof.FlashBwdData
public import proofs.«01_k».proof.Proof.FlashBwdRunB

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_B (c : Dev nD) (t : Fin cfg0.N) (hd : ¬diag t.val) (hf : fst t.val) (hl : ¬lst t.val) (hi : ¬fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [Dat.leavesExact_idle (dats m 0 c) 9 t (idle9 t hl) (noFlush9 t hl)]
  rw [Dat.leavesExact_idle (dats m 0 c) 10 t (idle10 t hl) (noFlush10 t hl)]
  rw [Dat.leavesExact_idle (dats m 0 c) 11 t (idle11 t hi) (noFlush11 t hi)]
  simp only [st_succ m c t, step_nf m c t _ hd hf]
  · rw [PhiS_castSucc m c t, PhiS_pos m c _ (fun h => hd (by rw [h]; decide))]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_B c (grid0.coords t) (qb t.val) _ _ _ _ _ _ _ _ _ _ _ _ _ _ _ _ _ _ _ _ _ _ _ _ _ _ _ _ _ _ (fun h => hd ((hc1 t).mp h)) ((hc2 t).mpr hf) ((hc3 t).mpr hd) (fun h => hd ((hc4 t).mp h)) (fun h => hl ((hc5 t).mp h)) (fun h => hi ((hc6 t).mp h)) (ho1 t) (ho2 t) (iblk m c 0 t) (iblk m c 1 t) (iblk m c 2 t) (iblk m c 3 t) (iblk m c 4 t) (iblk m c 5 t) (iblk m c 6 t) (iblk m c 7 t) (iblk m c 8 t) (st m c t.val).1 (st m c t.val).2.1 dq Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HK]; · iexact HK
    isplitl [HV]; · iexact HV
    isplitl [HQ]; · iexact HQ
    iintro ⟨H0, H1, H2, H3, H4, H5, H6, H7, H8, HK, HV, HQ⟩
    isplitl [HK HV HQ Hg]
    · isplitl [HK HV HQ]
      · isplitl [HK]; · iexact HK
        isplitl [HV]; · iexact HV
        iexists _; isplitl [HQ]; · iexact HQ
        ipureintro
        exact agree_first (qb_first t hf) hq
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

end Cert.FlashBwdIdeal.Hand

end
-- ==== Proof.FlashBwdRunC.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case C: the first key block meets the last query block. -/
theorem run_C (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : ¬startW (kw i) (qw i) (Scalar.divsi (kw i) 2#32) = 1#1) (h2 : k0_cond2 i = 1#1) (h3 : k0_cond3 i = 1#1) (h4 : ¬k0_cond4 i = 1#1) (h5 : k0_cond5 i = 1#1) (h6 : ¬k0_cond6 i = 1#1) (o2 : k0_off1 i = ![1024 * n.val, 0]) (o3 : k0_off2 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (sides (k0_pay21 (left (k0_pay16 (k0_pay3 x0) (k0_pay6 x1 x2 x0 x6 x4 x5 x3) xk))) (k0_pay22 (k0_pay7 x1 x2 x0 x6 x4 xv))) ∗ owns (c : Thread nD τ) arg12 fullShare (right (k0_pay16 (k0_pay3 x0) (k0_pay6 x1 x2 x0 x6 x4 x5 x3) xk)) ∗ owns (c : Thread nD τ) arg14 fullShare (k0_pay16 (k0_pay3 x0) (k0_pay6 x1 x2 x0 x6 x4 x5 x3) xk) ∗ owns (c : Thread nD τ) arg15 fullShare (k0_pay7 x1 x2 x0 x6 x4 xv) ∗ owns (c : Thread nD τ) arg16 fullShare (putRows (putRows xq n (k0_pay15 (F := F))) n (k0_pay17 (k0_pay2 x1 x2) (k0_pay6 x1 x2 x0 x6 x4 x5 x3) (rows (putRows xq n (k0_pay15 (F := F))) n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO9, %fO9, -, O9⟩, ⟨%dO10, %fO10, -, O10⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  letI i2 : ClosedOff (k0_off1 i) := ⟨![1024 * n.val, 0], o2⟩
  letI i3 : ClosedOff (k0_off2 i) := ⟨![1024 * n.val, 0], o3⟩
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [O9]
  · iexists _; isplitr
    swap; · iexact O9
    ipureintro
    repeat (first | unfold run_C.sl.r | unfold run_C.sl.r_1 | unfold run_C.sl.r_2 | unfold run_C.sl.r_3 | unfold run_C.sl.r_4 | unfold run_C.sl.r_5 | unfold run_C.sl.v103 | unfold run_C.sl.v104 | unfold run_C.sl.v106 | unfold run_C.sl.v109 | unfold run_C.sl.v142 | unfold run_C.sl.v149 | unfold run_C.sl.v130 | unfold run_C.sl.v131 | unfold run_C.sl.v138 | unfold run_C.sl.v145 | unfold run_C.sl.v156 | unfold run_C.sl.SK | unfold run_C.sl.SK_1 | unfold run_C.sl.SK_2 | unfold run_C.sl.SK_3 | unfold run_C.sl.SV | unfold run_C.sl.SV_1 | unfold run_C.sl.SV_2 | unfold run_C.sl.SV_3 | unfold run_C.sl.SQ | unfold run_C.sl.SQ_1 | unfold run_C.sl.SQ_2 | unfold run_C.sl.SQ_3 | unfold run_C.sl.O9 | unfold run_C.sl.O9_1 | unfold run_C.sl.O9_2 | unfold run_C.sl.O9_3 | unfold run_C.sl.O10 | unfold run_C.sl.O10_1 | unfold run_C.sl.O10_2 | unfold run_C.sl.O10_3 | unfold run_C.sl.O11 | unfold run_C.sl.O11_1 | unfold run_C.sl.O11_2 | unfold run_C.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl
  isplitl [O10]
  · iexists _; isplitr
    swap; · iexact O10
    ipureintro
    repeat (first | unfold run_C.sl.r | unfold run_C.sl.r_1 | unfold run_C.sl.r_2 | unfold run_C.sl.r_3 | unfold run_C.sl.r_4 | unfold run_C.sl.r_5 | unfold run_C.sl.v103 | unfold run_C.sl.v104 | unfold run_C.sl.v106 | unfold run_C.sl.v109 | unfold run_C.sl.v142 | unfold run_C.sl.v149 | unfold run_C.sl.v130 | unfold run_C.sl.v131 | unfold run_C.sl.v138 | unfold run_C.sl.v145 | unfold run_C.sl.v156 | unfold run_C.sl.SK | unfold run_C.sl.SK_1 | unfold run_C.sl.SK_2 | unfold run_C.sl.SK_3 | unfold run_C.sl.SV | unfold run_C.sl.SV_1 | unfold run_C.sl.SV_2 | unfold run_C.sl.SV_3 | unfold run_C.sl.SQ | unfold run_C.sl.SQ_1 | unfold run_C.sl.SQ_2 | unfold run_C.sl.SQ_3 | unfold run_C.sl.O9 | unfold run_C.sl.O9_1 | unfold run_C.sl.O9_2 | unfold run_C.sl.O9_3 | unfold run_C.sl.O10 | unfold run_C.sl.O10_1 | unfold run_C.sl.O10_2 | unfold run_C.sl.O10_3 | unfold run_C.sl.O11 | unfold run_C.sl.O11_1 | unfold run_C.sl.O11_2 | unfold run_C.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl
  isplitl [SK]
  · iexists _; isplitr
    swap; · iexact SK
    ipureintro
    repeat (first | unfold run_C.sl.r | unfold run_C.sl.r_1 | unfold run_C.sl.r_2 | unfold run_C.sl.r_3 | unfold run_C.sl.r_4 | unfold run_C.sl.r_5 | unfold run_C.sl.v103 | unfold run_C.sl.v104 | unfold run_C.sl.v106 | unfold run_C.sl.v109 | unfold run_C.sl.v142 | unfold run_C.sl.v149 | unfold run_C.sl.v130 | unfold run_C.sl.v131 | unfold run_C.sl.v138 | unfold run_C.sl.v145 | unfold run_C.sl.v156 | unfold run_C.sl.SK | unfold run_C.sl.SK_1 | unfold run_C.sl.SK_2 | unfold run_C.sl.SK_3 | unfold run_C.sl.SV | unfold run_C.sl.SV_1 | unfold run_C.sl.SV_2 | unfold run_C.sl.SV_3 | unfold run_C.sl.SQ | unfold run_C.sl.SQ_1 | unfold run_C.sl.SQ_2 | unfold run_C.sl.SQ_3 | unfold run_C.sl.O9 | unfold run_C.sl.O9_1 | unfold run_C.sl.O9_2 | unfold run_C.sl.O9_3 | unfold run_C.sl.O10 | unfold run_C.sl.O10_1 | unfold run_C.sl.O10_2 | unfold run_C.sl.O10_3 | unfold run_C.sl.O11 | unfold run_C.sl.O11_1 | unfold run_C.sl.O11_2 | unfold run_C.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl
  isplitl [SV]
  · iexists _; isplitr
    swap; · iexact SV
    ipureintro
    repeat (first | unfold run_C.sl.r | unfold run_C.sl.r_1 | unfold run_C.sl.r_2 | unfold run_C.sl.r_3 | unfold run_C.sl.r_4 | unfold run_C.sl.r_5 | unfold run_C.sl.v103 | unfold run_C.sl.v104 | unfold run_C.sl.v106 | unfold run_C.sl.v109 | unfold run_C.sl.v142 | unfold run_C.sl.v149 | unfold run_C.sl.v130 | unfold run_C.sl.v131 | unfold run_C.sl.v138 | unfold run_C.sl.v145 | unfold run_C.sl.v156 | unfold run_C.sl.SK | unfold run_C.sl.SK_1 | unfold run_C.sl.SK_2 | unfold run_C.sl.SK_3 | unfold run_C.sl.SV | unfold run_C.sl.SV_1 | unfold run_C.sl.SV_2 | unfold run_C.sl.SV_3 | unfold run_C.sl.SQ | unfold run_C.sl.SQ_1 | unfold run_C.sl.SQ_2 | unfold run_C.sl.SQ_3 | unfold run_C.sl.O9 | unfold run_C.sl.O9_1 | unfold run_C.sl.O9_2 | unfold run_C.sl.O9_3 | unfold run_C.sl.O10 | unfold run_C.sl.O10_1 | unfold run_C.sl.O10_2 | unfold run_C.sl.O10_3 | unfold run_C.sl.O11 | unfold run_C.sl.O11_1 | unfold run_C.sl.O11_2 | unfold run_C.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl
  iexists _; isplitr
  swap; · iexact SQ
  · ipureintro
    repeat (first | unfold run_C.sl.r | unfold run_C.sl.r_1 | unfold run_C.sl.r_2 | unfold run_C.sl.r_3 | unfold run_C.sl.r_4 | unfold run_C.sl.r_5 | unfold run_C.sl.v103 | unfold run_C.sl.v104 | unfold run_C.sl.v106 | unfold run_C.sl.v109 | unfold run_C.sl.v142 | unfold run_C.sl.v149 | unfold run_C.sl.v130 | unfold run_C.sl.v131 | unfold run_C.sl.v138 | unfold run_C.sl.v145 | unfold run_C.sl.v156 | unfold run_C.sl.SK | unfold run_C.sl.SK_1 | unfold run_C.sl.SK_2 | unfold run_C.sl.SK_3 | unfold run_C.sl.SV | unfold run_C.sl.SV_1 | unfold run_C.sl.SV_2 | unfold run_C.sl.SV_3 | unfold run_C.sl.SQ | unfold run_C.sl.SQ_1 | unfold run_C.sl.SQ_2 | unfold run_C.sl.SQ_3 | unfold run_C.sl.O9 | unfold run_C.sl.O9_1 | unfold run_C.sl.O9_2 | unfold run_C.sl.O9_3 | unfold run_C.sl.O10 | unfold run_C.sl.O10_1 | unfold run_C.sl.O10_2 | unfold run_C.sl.O10_3 | unfold run_C.sl.O11 | unfold run_C.sl.O11_1 | unfold run_C.sl.O11_2 | unfold run_C.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o2, store_rows _ _ _ _ _ n o2, load_rows _ _ _ n o3, store_rows _ _ _ _ _ n o3, rows_putRows]
    try rfl

end Cert.FlashBwdIdeal.Hand

end
-- ==== Proof.FlashBwdBodyC.lean ====
module

public import proofs.«01_k».proof.Proof.FlashBwdData
public import proofs.«01_k».proof.Proof.FlashBwdRunC

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_C (c : Dev nD) (t : Fin cfg0.N) (hd : ¬diag t.val) (hf : fst t.val) (hl : lst t.val) (hi : ¬fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [show (dats m 0 c).leavesExact 9 t = owns (c : Thread nD τ) (ms0_9 t) fullShare ((dats m 0 c).after 9 t) from by unfold Dat.leavesExact; rw [live9 t hl], after0_9]
  rw [show (dats m 0 c).leavesExact 10 t = owns (c : Thread nD τ) (ms0_10 t) fullShare ((dats m 0 c).after 10 t) from by unfold Dat.leavesExact; rw [live10 t hl], after0_10]
  rw [Dat.leavesExact_idle (dats m 0 c) 11 t (idle11 t hi) (noFlush11 t hi)]
  simp only [out9, out10]
  simp only [st_succ m c t, step_nf m c t _ hd hf]
  · rw [PhiS_castSucc m c t, PhiS_pos m c _ (fun h => hd (by rw [h]; decide))]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_C c (grid0.coords t) (qb t.val) _ _ _ _ _ _ _ _ _ _ _ _ _ _ _ _ _ _ _ _ _ _ _ _ _ _ _ _ _ _ (fun h => hd ((hc1 t).mp h)) ((hc2 t).mpr hf) ((hc3 t).mpr hd) (fun h => hd ((hc4 t).mp h)) ((hc5 t).mpr hl) (fun h => hi ((hc6 t).mp h)) (ho1 t) (ho2 t) (iblk m c 0 t) (iblk m c 1 t) (iblk m c 2 t) (iblk m c 3 t) (iblk m c 4 t) (iblk m c 5 t) (iblk m c 6 t) (iblk m c 7 t) (iblk m c 8 t) (st m c t.val).1 (st m c t.val).2.1 dq Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HK]; · iexact HK
    isplitl [HV]; · iexact HV
    isplitl [HQ]; · iexact HQ
    iintro ⟨H0, H1, H2, H3, H4, H5, H6, H7, H8, H9, H10, HK, HV, HQ⟩
    isplitl [HK HV HQ Hg]
    · isplitl [HK HV HQ]
      · isplitl [HK]; · iexact HK
        isplitl [HV]; · iexact HV
        iexists _; isplitl [HQ]; · iexact HQ
        ipureintro
        exact agree_first (qb_first t hf) hq
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

end Cert.FlashBwdIdeal.Hand

end
-- ==== Proof.FlashBwdRunD.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case D: an even key block meets its first query block. -/
theorem run_D (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : startW (kw i) (qw i) (Scalar.divsi (kw i) 2#32) = 1#1) (h2 : ¬k0_cond2 i = 1#1) (h3 : ¬k0_cond3 i = 1#1) (h4 : k0_cond4 i = 1#1) (h5 : ¬k0_cond5 i = 1#1) (h6 : ¬k0_cond6 i = 1#1) (o4 : k0_off3 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare (k0_pay19 (k0_pay9 x0) (k0_pay12 (kw i) (qw i) x1 x2 x0 x6 x4 x5 x3) (k0_pay13 (F := F))) ∗ owns (c : Thread nD τ) arg15 fullShare (k0_pay18 (k0_pay10 (kw i) (qw i) x1 x2 x0 x6) (k0_pay11 x4) (k0_pay14 (F := F))) ∗ owns (c : Thread nD τ) arg16 fullShare (putRows xq n (k0_pay20 (k0_pay8 x1 x2) (k0_pay12 (kw i) (qw i) x1 x2 x0 x6 x4 x5 x3) (rows xq n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [SK]
  · iexists _; isplitr
    swap; · iexact SK
    ipureintro
    repeat (first | unfold run_D.sl.r | unfold run_D.sl.r_1 | unfold run_D.sl.r_2 | unfold run_D.sl.r_3 | unfold run_D.sl.r_4 | unfold run_D.sl.r_5 | unfold run_D.sl.v103 | unfold run_D.sl.v104 | unfold run_D.sl.v106 | unfold run_D.sl.v109 | unfold run_D.sl.v142 | unfold run_D.sl.v149 | unfold run_D.sl.v130 | unfold run_D.sl.v131 | unfold run_D.sl.v138 | unfold run_D.sl.v145 | unfold run_D.sl.v156 | unfold run_D.sl.SK | unfold run_D.sl.SK_1 | unfold run_D.sl.SK_2 | unfold run_D.sl.SK_3 | unfold run_D.sl.SV | unfold run_D.sl.SV_1 | unfold run_D.sl.SV_2 | unfold run_D.sl.SV_3 | unfold run_D.sl.SQ | unfold run_D.sl.SQ_1 | unfold run_D.sl.SQ_2 | unfold run_D.sl.SQ_3 | unfold run_D.sl.O9 | unfold run_D.sl.O9_1 | unfold run_D.sl.O9_2 | unfold run_D.sl.O9_3 | unfold run_D.sl.O10 | unfold run_D.sl.O10_1 | unfold run_D.sl.O10_2 | unfold run_D.sl.O10_3 | unfold run_D.sl.O11 | unfold run_D.sl.O11_1 | unfold run_D.sl.O11_2 | unfold run_D.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl
  isplitl [SV]
  · iexists _; isplitr
    swap; · iexact SV
    ipureintro
    repeat (first | unfold run_D.sl.r | unfold run_D.sl.r_1 | unfold run_D.sl.r_2 | unfold run_D.sl.r_3 | unfold run_D.sl.r_4 | unfold run_D.sl.r_5 | unfold run_D.sl.v103 | unfold run_D.sl.v104 | unfold run_D.sl.v106 | unfold run_D.sl.v109 | unfold run_D.sl.v142 | unfold run_D.sl.v149 | unfold run_D.sl.v130 | unfold run_D.sl.v131 | unfold run_D.sl.v138 | unfold run_D.sl.v145 | unfold run_D.sl.v156 | unfold run_D.sl.SK | unfold run_D.sl.SK_1 | unfold run_D.sl.SK_2 | unfold run_D.sl.SK_3 | unfold run_D.sl.SV | unfold run_D.sl.SV_1 | unfold run_D.sl.SV_2 | unfold run_D.sl.SV_3 | unfold run_D.sl.SQ | unfold run_D.sl.SQ_1 | unfold run_D.sl.SQ_2 | unfold run_D.sl.SQ_3 | unfold run_D.sl.O9 | unfold run_D.sl.O9_1 | unfold run_D.sl.O9_2 | unfold run_D.sl.O9_3 | unfold run_D.sl.O10 | unfold run_D.sl.O10_1 | unfold run_D.sl.O10_2 | unfold run_D.sl.O10_3 | unfold run_D.sl.O11 | unfold run_D.sl.O11_1 | unfold run_D.sl.O11_2 | unfold run_D.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl
  iexists _; isplitr
  swap; · iexact SQ
  · ipureintro
    repeat (first | unfold run_D.sl.r | unfold run_D.sl.r_1 | unfold run_D.sl.r_2 | unfold run_D.sl.r_3 | unfold run_D.sl.r_4 | unfold run_D.sl.r_5 | unfold run_D.sl.v103 | unfold run_D.sl.v104 | unfold run_D.sl.v106 | unfold run_D.sl.v109 | unfold run_D.sl.v142 | unfold run_D.sl.v149 | unfold run_D.sl.v130 | unfold run_D.sl.v131 | unfold run_D.sl.v138 | unfold run_D.sl.v145 | unfold run_D.sl.v156 | unfold run_D.sl.SK | unfold run_D.sl.SK_1 | unfold run_D.sl.SK_2 | unfold run_D.sl.SK_3 | unfold run_D.sl.SV | unfold run_D.sl.SV_1 | unfold run_D.sl.SV_2 | unfold run_D.sl.SV_3 | unfold run_D.sl.SQ | unfold run_D.sl.SQ_1 | unfold run_D.sl.SQ_2 | unfold run_D.sl.SQ_3 | unfold run_D.sl.O9 | unfold run_D.sl.O9_1 | unfold run_D.sl.O9_2 | unfold run_D.sl.O9_3 | unfold run_D.sl.O10 | unfold run_D.sl.O10_1 | unfold run_D.sl.O10_2 | unfold run_D.sl.O10_3 | unfold run_D.sl.O11 | unfold run_D.sl.O11_1 | unfold run_D.sl.O11_2 | unfold run_D.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl

end Cert.FlashBwdIdeal.Hand

end
-- ==== Proof.FlashBwdBodyD.lean ====
module

public import proofs.«01_k».proof.Proof.FlashBwdData
public import proofs.«01_k».proof.Proof.FlashBwdRunD

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_D (c : Dev nD) (t : Fin cfg0.N) (hd : diag t.val) (hf : ¬fst t.val) (hl : ¬lst t.val) (hi : ¬fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [Dat.leavesExact_idle (dats m 0 c) 9 t (idle9 t hl) (noFlush9 t hl)]
  rw [Dat.leavesExact_idle (dats m 0 c) 10 t (idle10 t hl) (noFlush10 t hl)]
  rw [Dat.leavesExact_idle (dats m 0 c) 11 t (idle11 t hi) (noFlush11 t hi)]
  simp only [st_succ m c t, step_do m c t _ hd hf]
  · rw [PhiS_castSucc m c t, PhiS_pos m c _ (by have := four_le t hf; omega)]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := agree_full (four_le t hf) hq
    iapply (run_D c (grid0.coords t) (qb t.val) _ _ _ _ _ _ _ _ _ _ _ _ _ _ _ _ _ _ _ _ _ _ _ _ _ _ _ _ _ _ ((hc1 t).mpr hd) (fun h => hf ((hc2 t).mp h)) (fun h => (hc3 t).mp h hd) ((hc4 t).mpr hd) (fun h => hl ((hc5 t).mp h)) (fun h => hi ((hc6 t).mp h)) (ho3 t) (iblk m c 0 t) (iblk m c 1 t) (iblk m c 2 t) (iblk m c 3 t) (iblk m c 4 t) (iblk m c 5 t) (iblk m c 6 t) (iblk m c 7 t) (iblk m c 8 t) (st m c t.val).1 (st m c t.val).2.1 (st m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HK]; · iexact HK
    isplitl [HV]; · iexact HV
    isplitl [HQ]; · iexact HQ
    iintro ⟨H0, H1, H2, H3, H4, H5, H6, H7, H8, HK, HV, HQ⟩
    isplitl [HK HV HQ Hg]
    · isplitl [HK HV HQ]
      · isplitl [HK]; · iexact HK
        isplitl [HV]; · iexact HV
        iexists _; isplitl [HQ]; · iexact HQ
        ipureintro
        exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

end Cert.FlashBwdIdeal.Hand

end
-- ==== Proof.FlashBwdRunE.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case E: an even key block meets its first query block, which is the last. -/
theorem run_E (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : startW (kw i) (qw i) (Scalar.divsi (kw i) 2#32) = 1#1) (h2 : ¬k0_cond2 i = 1#1) (h3 : ¬k0_cond3 i = 1#1) (h4 : k0_cond4 i = 1#1) (h5 : k0_cond5 i = 1#1) (h6 : ¬k0_cond6 i = 1#1) (o4 : k0_off3 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (sides (k0_pay21 (left (k0_pay19 (k0_pay9 x0) (k0_pay12 (kw i) (qw i) x1 x2 x0 x6 x4 x5 x3) (k0_pay13 (F := F))))) (k0_pay22 (k0_pay18 (k0_pay10 (kw i) (qw i) x1 x2 x0 x6) (k0_pay11 x4) (k0_pay14 (F := F))))) ∗ owns (c : Thread nD τ) arg12 fullShare (right (k0_pay19 (k0_pay9 x0) (k0_pay12 (kw i) (qw i) x1 x2 x0 x6 x4 x5 x3) (k0_pay13 (F := F)))) ∗ owns (c : Thread nD τ) arg14 fullShare (k0_pay19 (k0_pay9 x0) (k0_pay12 (kw i) (qw i) x1 x2 x0 x6 x4 x5 x3) (k0_pay13 (F := F))) ∗ owns (c : Thread nD τ) arg15 fullShare (k0_pay18 (k0_pay10 (kw i) (qw i) x1 x2 x0 x6) (k0_pay11 x4) (k0_pay14 (F := F))) ∗ owns (c : Thread nD τ) arg16 fullShare (putRows xq n (k0_pay20 (k0_pay8 x1 x2) (k0_pay12 (kw i) (qw i) x1 x2 x0 x6 x4 x5 x3) (rows xq n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO9, %fO9, -, O9⟩, ⟨%dO10, %fO10, -, O10⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [O9]
  · iexists _; isplitr
    swap; · iexact O9
    ipureintro
    repeat (first | unfold run_E.sl.r | unfold run_E.sl.r_1 | unfold run_E.sl.r_2 | unfold run_E.sl.r_3 | unfold run_E.sl.r_4 | unfold run_E.sl.r_5 | unfold run_E.sl.v103 | unfold run_E.sl.v104 | unfold run_E.sl.v106 | unfold run_E.sl.v109 | unfold run_E.sl.v142 | unfold run_E.sl.v149 | unfold run_E.sl.v130 | unfold run_E.sl.v131 | unfold run_E.sl.v138 | unfold run_E.sl.v145 | unfold run_E.sl.v156 | unfold run_E.sl.SK | unfold run_E.sl.SK_1 | unfold run_E.sl.SK_2 | unfold run_E.sl.SK_3 | unfold run_E.sl.SV | unfold run_E.sl.SV_1 | unfold run_E.sl.SV_2 | unfold run_E.sl.SV_3 | unfold run_E.sl.SQ | unfold run_E.sl.SQ_1 | unfold run_E.sl.SQ_2 | unfold run_E.sl.SQ_3 | unfold run_E.sl.O9 | unfold run_E.sl.O9_1 | unfold run_E.sl.O9_2 | unfold run_E.sl.O9_3 | unfold run_E.sl.O10 | unfold run_E.sl.O10_1 | unfold run_E.sl.O10_2 | unfold run_E.sl.O10_3 | unfold run_E.sl.O11 | unfold run_E.sl.O11_1 | unfold run_E.sl.O11_2 | unfold run_E.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl
  isplitl [O10]
  · iexists _; isplitr
    swap; · iexact O10
    ipureintro
    repeat (first | unfold run_E.sl.r | unfold run_E.sl.r_1 | unfold run_E.sl.r_2 | unfold run_E.sl.r_3 | unfold run_E.sl.r_4 | unfold run_E.sl.r_5 | unfold run_E.sl.v103 | unfold run_E.sl.v104 | unfold run_E.sl.v106 | unfold run_E.sl.v109 | unfold run_E.sl.v142 | unfold run_E.sl.v149 | unfold run_E.sl.v130 | unfold run_E.sl.v131 | unfold run_E.sl.v138 | unfold run_E.sl.v145 | unfold run_E.sl.v156 | unfold run_E.sl.SK | unfold run_E.sl.SK_1 | unfold run_E.sl.SK_2 | unfold run_E.sl.SK_3 | unfold run_E.sl.SV | unfold run_E.sl.SV_1 | unfold run_E.sl.SV_2 | unfold run_E.sl.SV_3 | unfold run_E.sl.SQ | unfold run_E.sl.SQ_1 | unfold run_E.sl.SQ_2 | unfold run_E.sl.SQ_3 | unfold run_E.sl.O9 | unfold run_E.sl.O9_1 | unfold run_E.sl.O9_2 | unfold run_E.sl.O9_3 | unfold run_E.sl.O10 | unfold run_E.sl.O10_1 | unfold run_E.sl.O10_2 | unfold run_E.sl.O10_3 | unfold run_E.sl.O11 | unfold run_E.sl.O11_1 | unfold run_E.sl.O11_2 | unfold run_E.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl
  isplitl [SK]
  · iexists _; isplitr
    swap; · iexact SK
    ipureintro
    repeat (first | unfold run_E.sl.r | unfold run_E.sl.r_1 | unfold run_E.sl.r_2 | unfold run_E.sl.r_3 | unfold run_E.sl.r_4 | unfold run_E.sl.r_5 | unfold run_E.sl.v103 | unfold run_E.sl.v104 | unfold run_E.sl.v106 | unfold run_E.sl.v109 | unfold run_E.sl.v142 | unfold run_E.sl.v149 | unfold run_E.sl.v130 | unfold run_E.sl.v131 | unfold run_E.sl.v138 | unfold run_E.sl.v145 | unfold run_E.sl.v156 | unfold run_E.sl.SK | unfold run_E.sl.SK_1 | unfold run_E.sl.SK_2 | unfold run_E.sl.SK_3 | unfold run_E.sl.SV | unfold run_E.sl.SV_1 | unfold run_E.sl.SV_2 | unfold run_E.sl.SV_3 | unfold run_E.sl.SQ | unfold run_E.sl.SQ_1 | unfold run_E.sl.SQ_2 | unfold run_E.sl.SQ_3 | unfold run_E.sl.O9 | unfold run_E.sl.O9_1 | unfold run_E.sl.O9_2 | unfold run_E.sl.O9_3 | unfold run_E.sl.O10 | unfold run_E.sl.O10_1 | unfold run_E.sl.O10_2 | unfold run_E.sl.O10_3 | unfold run_E.sl.O11 | unfold run_E.sl.O11_1 | unfold run_E.sl.O11_2 | unfold run_E.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl
  isplitl [SV]
  · iexists _; isplitr
    swap; · iexact SV
    ipureintro
    repeat (first | unfold run_E.sl.r | unfold run_E.sl.r_1 | unfold run_E.sl.r_2 | unfold run_E.sl.r_3 | unfold run_E.sl.r_4 | unfold run_E.sl.r_5 | unfold run_E.sl.v103 | unfold run_E.sl.v104 | unfold run_E.sl.v106 | unfold run_E.sl.v109 | unfold run_E.sl.v142 | unfold run_E.sl.v149 | unfold run_E.sl.v130 | unfold run_E.sl.v131 | unfold run_E.sl.v138 | unfold run_E.sl.v145 | unfold run_E.sl.v156 | unfold run_E.sl.SK | unfold run_E.sl.SK_1 | unfold run_E.sl.SK_2 | unfold run_E.sl.SK_3 | unfold run_E.sl.SV | unfold run_E.sl.SV_1 | unfold run_E.sl.SV_2 | unfold run_E.sl.SV_3 | unfold run_E.sl.SQ | unfold run_E.sl.SQ_1 | unfold run_E.sl.SQ_2 | unfold run_E.sl.SQ_3 | unfold run_E.sl.O9 | unfold run_E.sl.O9_1 | unfold run_E.sl.O9_2 | unfold run_E.sl.O9_3 | unfold run_E.sl.O10 | unfold run_E.sl.O10_1 | unfold run_E.sl.O10_2 | unfold run_E.sl.O10_3 | unfold run_E.sl.O11 | unfold run_E.sl.O11_1 | unfold run_E.sl.O11_2 | unfold run_E.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl
  iexists _; isplitr
  swap; · iexact SQ
  · ipureintro
    repeat (first | unfold run_E.sl.r | unfold run_E.sl.r_1 | unfold run_E.sl.r_2 | unfold run_E.sl.r_3 | unfold run_E.sl.r_4 | unfold run_E.sl.r_5 | unfold run_E.sl.v103 | unfold run_E.sl.v104 | unfold run_E.sl.v106 | unfold run_E.sl.v109 | unfold run_E.sl.v142 | unfold run_E.sl.v149 | unfold run_E.sl.v130 | unfold run_E.sl.v131 | unfold run_E.sl.v138 | unfold run_E.sl.v145 | unfold run_E.sl.v156 | unfold run_E.sl.SK | unfold run_E.sl.SK_1 | unfold run_E.sl.SK_2 | unfold run_E.sl.SK_3 | unfold run_E.sl.SV | unfold run_E.sl.SV_1 | unfold run_E.sl.SV_2 | unfold run_E.sl.SV_3 | unfold run_E.sl.SQ | unfold run_E.sl.SQ_1 | unfold run_E.sl.SQ_2 | unfold run_E.sl.SQ_3 | unfold run_E.sl.O9 | unfold run_E.sl.O9_1 | unfold run_E.sl.O9_2 | unfold run_E.sl.O9_3 | unfold run_E.sl.O10 | unfold run_E.sl.O10_1 | unfold run_E.sl.O10_2 | unfold run_E.sl.O10_3 | unfold run_E.sl.O11 | unfold run_E.sl.O11_1 | unfold run_E.sl.O11_2 | unfold run_E.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, rows_putRows]
    try rfl

end Cert.FlashBwdIdeal.Hand

end
-- ==== Proof.FlashBwdBodyE.lean ====
module

public import proofs.«01_k».proof.Proof.FlashBwdData
public import proofs.«01_k».proof.Proof.FlashBwdRunE

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_E (c : Dev nD) (t : Fin cfg0.N) (hd : diag t.val) (hf : ¬fst t.val) (hl : lst t.val) (hi : ¬fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [show (dats m 0 c).leavesExact 9 t = owns (c : Thread nD τ) (ms0_9 t) fullShare ((dats m 0 c).after 9 t) from by unfold Dat.leavesExact; rw [live9 t hl], after0_9]
  rw [show (dats m 0 c).leavesExact 10 t = owns (c : Thread nD τ) (ms0_10 t) fullShare ((dats m 0 c).after 10 t) from by unfold Dat.leavesExact; rw [live10 t hl], after0_10]
  rw [Dat.leavesExact_idle (dats m 0 c) 11 t (idle11 t hi) (noFlush11 t hi)]
  simp only [out9, out10]
  simp only [st_succ m c t, step_do m c t _ hd hf]
  · rw [PhiS_castSucc m c t, PhiS_pos m c _ (by have := four_le t hf; omega)]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := agree_full (four_le t hf) hq
    iapply (run_E c (grid0.coords t) (qb t.val) _ _ _ _ _ _ _ _ _ _ _ _ _ _ _ _ _ _ _ _ _ _ _ _ _ _ _ _ _ _ ((hc1 t).mpr hd) (fun h => hf ((hc2 t).mp h)) (fun h => (hc3 t).mp h hd) ((hc4 t).mpr hd) ((hc5 t).mpr hl) (fun h => hi ((hc6 t).mp h)) (ho3 t) (iblk m c 0 t) (iblk m c 1 t) (iblk m c 2 t) (iblk m c 3 t) (iblk m c 4 t) (iblk m c 5 t) (iblk m c 6 t) (iblk m c 7 t) (iblk m c 8 t) (st m c t.val).1 (st m c t.val).2.1 (st m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HK]; · iexact HK
    isplitl [HV]; · iexact HV
    isplitl [HQ]; · iexact HQ
    iintro ⟨H0, H1, H2, H3, H4, H5, H6, H7, H8, H9, H10, HK, HV, HQ⟩
    isplitl [HK HV HQ Hg]
    · isplitl [HK HV HQ]
      · isplitl [HK]; · iexact HK
        isplitl [HV]; · iexact HV
        iexists _; isplitl [HQ]; · iexact HQ
        ipureintro
        exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

end Cert.FlashBwdIdeal.Hand

end
-- ==== Proof.FlashBwdRunG.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case G: an odd key block meets its first query block, whose gradient is finished. -/
theorem run_G (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : startW (kw i) (qw i) (Scalar.divsi (kw i) 2#32) = 1#1) (h2 : ¬k0_cond2 i = 1#1) (h3 : ¬k0_cond3 i = 1#1) (h4 : k0_cond4 i = 1#1) (h5 : ¬k0_cond5 i = 1#1) (h6 : k0_cond6 i = 1#1) (o4 : k0_off3 i = ![1024 * n.val, 0]) (o6 : k0_off4 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg13 fullShare d) ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg13 fullShare (k0_pay1 (rows (putRows xq n (k0_pay20 (k0_pay8 x1 x2) (k0_pay12 (kw i) (qw i) x1 x2 x0 x6 x4 x5 x3) (rows xq n))) n) x7 x8) ∗ owns (c : Thread nD τ) arg14 fullShare (k0_pay19 (k0_pay9 x0) (k0_pay12 (kw i) (qw i) x1 x2 x0 x6 x4 x5 x3) (k0_pay13 (F := F))) ∗ owns (c : Thread nD τ) arg15 fullShare (k0_pay18 (k0_pay10 (kw i) (qw i) x1 x2 x0 x6) (k0_pay11 x4) (k0_pay14 (F := F))) ∗ owns (c : Thread nD τ) arg16 fullShare (putRows xq n (k0_pay20 (k0_pay8 x1 x2) (k0_pay12 (kw i) (qw i) x1 x2 x0 x6 x4 x5 x3) (rows xq n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO11, %fO11, -, O11⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  letI i4 : ClosedOff (k0_off3 i) := ⟨![1024 * n.val, 0], o4⟩
  letI i6 : ClosedOff (k0_off4 i) := ⟨![1024 * n.val, 0], o6⟩
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [O11]
  · iexists _; isplitr
    swap; · iexact O11
    ipureintro
    repeat (first | unfold run_G.sl.r | unfold run_G.sl.r_1 | unfold run_G.sl.r_2 | unfold run_G.sl.r_3 | unfold run_G.sl.r_4 | unfold run_G.sl.r_5 | unfold run_G.sl.v103 | unfold run_G.sl.v104 | unfold run_G.sl.v106 | unfold run_G.sl.v109 | unfold run_G.sl.v142 | unfold run_G.sl.v149 | unfold run_G.sl.v130 | unfold run_G.sl.v131 | unfold run_G.sl.v138 | unfold run_G.sl.v145 | unfold run_G.sl.v156 | unfold run_G.sl.SK | unfold run_G.sl.SK_1 | unfold run_G.sl.SK_2 | unfold run_G.sl.SK_3 | unfold run_G.sl.SV | unfold run_G.sl.SV_1 | unfold run_G.sl.SV_2 | unfold run_G.sl.SV_3 | unfold run_G.sl.SQ | unfold run_G.sl.SQ_1 | unfold run_G.sl.SQ_2 | unfold run_G.sl.SQ_3 | unfold run_G.sl.O9 | unfold run_G.sl.O9_1 | unfold run_G.sl.O9_2 | unfold run_G.sl.O9_3 | unfold run_G.sl.O10 | unfold run_G.sl.O10_1 | unfold run_G.sl.O10_2 | unfold run_G.sl.O10_3 | unfold run_G.sl.O11 | unfold run_G.sl.O11_1 | unfold run_G.sl.O11_2 | unfold run_G.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  isplitl [SK]
  · iexists _; isplitr
    swap; · iexact SK
    ipureintro
    repeat (first | unfold run_G.sl.r | unfold run_G.sl.r_1 | unfold run_G.sl.r_2 | unfold run_G.sl.r_3 | unfold run_G.sl.r_4 | unfold run_G.sl.r_5 | unfold run_G.sl.v103 | unfold run_G.sl.v104 | unfold run_G.sl.v106 | unfold run_G.sl.v109 | unfold run_G.sl.v142 | unfold run_G.sl.v149 | unfold run_G.sl.v130 | unfold run_G.sl.v131 | unfold run_G.sl.v138 | unfold run_G.sl.v145 | unfold run_G.sl.v156 | unfold run_G.sl.SK | unfold run_G.sl.SK_1 | unfold run_G.sl.SK_2 | unfold run_G.sl.SK_3 | unfold run_G.sl.SV | unfold run_G.sl.SV_1 | unfold run_G.sl.SV_2 | unfold run_G.sl.SV_3 | unfold run_G.sl.SQ | unfold run_G.sl.SQ_1 | unfold run_G.sl.SQ_2 | unfold run_G.sl.SQ_3 | unfold run_G.sl.O9 | unfold run_G.sl.O9_1 | unfold run_G.sl.O9_2 | unfold run_G.sl.O9_3 | unfold run_G.sl.O10 | unfold run_G.sl.O10_1 | unfold run_G.sl.O10_2 | unfold run_G.sl.O10_3 | unfold run_G.sl.O11 | unfold run_G.sl.O11_1 | unfold run_G.sl.O11_2 | unfold run_G.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  isplitl [SV]
  · iexists _; isplitr
    swap; · iexact SV
    ipureintro
    repeat (first | unfold run_G.sl.r | unfold run_G.sl.r_1 | unfold run_G.sl.r_2 | unfold run_G.sl.r_3 | unfold run_G.sl.r_4 | unfold run_G.sl.r_5 | unfold run_G.sl.v103 | unfold run_G.sl.v104 | unfold run_G.sl.v106 | unfold run_G.sl.v109 | unfold run_G.sl.v142 | unfold run_G.sl.v149 | unfold run_G.sl.v130 | unfold run_G.sl.v131 | unfold run_G.sl.v138 | unfold run_G.sl.v145 | unfold run_G.sl.v156 | unfold run_G.sl.SK | unfold run_G.sl.SK_1 | unfold run_G.sl.SK_2 | unfold run_G.sl.SK_3 | unfold run_G.sl.SV | unfold run_G.sl.SV_1 | unfold run_G.sl.SV_2 | unfold run_G.sl.SV_3 | unfold run_G.sl.SQ | unfold run_G.sl.SQ_1 | unfold run_G.sl.SQ_2 | unfold run_G.sl.SQ_3 | unfold run_G.sl.O9 | unfold run_G.sl.O9_1 | unfold run_G.sl.O9_2 | unfold run_G.sl.O9_3 | unfold run_G.sl.O10 | unfold run_G.sl.O10_1 | unfold run_G.sl.O10_2 | unfold run_G.sl.O10_3 | unfold run_G.sl.O11 | unfold run_G.sl.O11_1 | unfold run_G.sl.O11_2 | unfold run_G.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  iexists _; isplitr
  swap; · iexact SQ
  · ipureintro
    repeat (first | unfold run_G.sl.r | unfold run_G.sl.r_1 | unfold run_G.sl.r_2 | unfold run_G.sl.r_3 | unfold run_G.sl.r_4 | unfold run_G.sl.r_5 | unfold run_G.sl.v103 | unfold run_G.sl.v104 | unfold run_G.sl.v106 | unfold run_G.sl.v109 | unfold run_G.sl.v142 | unfold run_G.sl.v149 | unfold run_G.sl.v130 | unfold run_G.sl.v131 | unfold run_G.sl.v138 | unfold run_G.sl.v145 | unfold run_G.sl.v156 | unfold run_G.sl.SK | unfold run_G.sl.SK_1 | unfold run_G.sl.SK_2 | unfold run_G.sl.SK_3 | unfold run_G.sl.SV | unfold run_G.sl.SV_1 | unfold run_G.sl.SV_2 | unfold run_G.sl.SV_3 | unfold run_G.sl.SQ | unfold run_G.sl.SQ_1 | unfold run_G.sl.SQ_2 | unfold run_G.sl.SQ_3 | unfold run_G.sl.O9 | unfold run_G.sl.O9_1 | unfold run_G.sl.O9_2 | unfold run_G.sl.O9_3 | unfold run_G.sl.O10 | unfold run_G.sl.O10_1 | unfold run_G.sl.O10_2 | unfold run_G.sl.O10_3 | unfold run_G.sl.O11 | unfold run_G.sl.O11_1 | unfold run_G.sl.O11_2 | unfold run_G.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl

end Cert.FlashBwdIdeal.Hand

end
-- ==== Proof.FlashBwdBodyG.lean ====
module

public import proofs.«01_k».proof.Proof.FlashBwdData
public import proofs.«01_k».proof.Proof.FlashBwdRunG

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_G (c : Dev nD) (t : Fin cfg0.N) (hd : diag t.val) (hf : ¬fst t.val) (hl : ¬lst t.val) (hi : fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [Dat.leavesExact_idle (dats m 0 c) 9 t (idle9 t hl) (noFlush9 t hl)]
  rw [Dat.leavesExact_idle (dats m 0 c) 10 t (idle10 t hl) (noFlush10 t hl)]
  rw [show (dats m 0 c).leavesExact 11 t = owns (c : Thread nD τ) (ms0_11 t) fullShare ((dats m 0 c).after 11 t) from by unfold Dat.leavesExact; rw [live11 t hi], after0_11]
  simp only [out11]
  simp only [st_succ m c t, step_do m c t _ hd hf]
  · rw [PhiS_castSucc m c t, PhiS_pos m c _ (by have := four_le t hf; omega)]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := agree_full (four_le t hf) hq
    iapply (run_G c (grid0.coords t) (qb t.val) _ _ _ _ _ _ _ _ _ _ _ _ _ _ _ _ _ _ _ _ _ _ _ _ _ _ _ _ _ _ ((hc1 t).mpr hd) (fun h => hf ((hc2 t).mp h)) (fun h => (hc3 t).mp h hd) ((hc4 t).mpr hd) (fun h => hl ((hc5 t).mp h)) ((hc6 t).mpr hi) (ho3 t) (ho4 t) (iblk m c 0 t) (iblk m c 1 t) (iblk m c 2 t) (iblk m c 3 t) (iblk m c 4 t) (iblk m c 5 t) (iblk m c 6 t) (iblk m c 7 t) (iblk m c 8 t) (st m c t.val).1 (st m c t.val).2.1 (st m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexists _; iexact H11
    isplitl [HK]; · iexact HK
    isplitl [HV]; · iexact HV
    isplitl [HQ]; · iexact HQ
    iintro ⟨H0, H1, H2, H3, H4, H5, H6, H7, H8, H11, HK, HV, HQ⟩
    isplitl [HK HV HQ Hg]
    · isplitl [HK HV HQ]
      · isplitl [HK]; · iexact HK
        isplitl [HV]; · iexact HV
        iexists _; isplitl [HQ]; · iexact HQ
        ipureintro
        exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexact H11

end Cert.FlashBwdIdeal.Hand

end
-- ==== Proof.FlashBwdRunH.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case H: the last key block meets the last query block. -/
theorem run_H (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : startW (kw i) (qw i) (Scalar.divsi (kw i) 2#32) = 1#1) (h2 : ¬k0_cond2 i = 1#1) (h3 : ¬k0_cond3 i = 1#1) (h4 : k0_cond4 i = 1#1) (h5 : k0_cond5 i = 1#1) (h6 : k0_cond6 i = 1#1) (o4 : k0_off3 i = ![1024 * n.val, 0]) (o6 : k0_off4 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (sides (k0_pay21 (left (k0_pay19 (k0_pay9 x0) (k0_pay12 (kw i) (qw i) x1 x2 x0 x6 x4 x5 x3) (k0_pay13 (F := F))))) (k0_pay22 (k0_pay18 (k0_pay10 (kw i) (qw i) x1 x2 x0 x6) (k0_pay11 x4) (k0_pay14 (F := F))))) ∗ owns (c : Thread nD τ) arg12 fullShare (right (k0_pay19 (k0_pay9 x0) (k0_pay12 (kw i) (qw i) x1 x2 x0 x6 x4 x5 x3) (k0_pay13 (F := F)))) ∗ owns (c : Thread nD τ) arg13 fullShare (k0_pay1 (rows (putRows xq n (k0_pay20 (k0_pay8 x1 x2) (k0_pay12 (kw i) (qw i) x1 x2 x0 x6 x4 x5 x3) (rows xq n))) n) x7 x8) ∗ owns (c : Thread nD τ) arg14 fullShare (k0_pay19 (k0_pay9 x0) (k0_pay12 (kw i) (qw i) x1 x2 x0 x6 x4 x5 x3) (k0_pay13 (F := F))) ∗ owns (c : Thread nD τ) arg15 fullShare (k0_pay18 (k0_pay10 (kw i) (qw i) x1 x2 x0 x6) (k0_pay11 x4) (k0_pay14 (F := F))) ∗ owns (c : Thread nD τ) arg16 fullShare (putRows xq n (k0_pay20 (k0_pay8 x1 x2) (k0_pay12 (kw i) (qw i) x1 x2 x0 x6 x4 x5 x3) (rows xq n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO9, %fO9, -, O9⟩, ⟨%dO10, %fO10, -, O10⟩, ⟨%dO11, %fO11, -, O11⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  letI i4 : ClosedOff (k0_off3 i) := ⟨![1024 * n.val, 0], o4⟩
  letI i6 : ClosedOff (k0_off4 i) := ⟨![1024 * n.val, 0], o6⟩
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [O9]
  · iexists _; isplitr
    swap; · iexact O9
    ipureintro
    repeat (first | unfold run_H.sl.r | unfold run_H.sl.r_1 | unfold run_H.sl.r_2 | unfold run_H.sl.r_3 | unfold run_H.sl.r_4 | unfold run_H.sl.r_5 | unfold run_H.sl.v103 | unfold run_H.sl.v104 | unfold run_H.sl.v106 | unfold run_H.sl.v109 | unfold run_H.sl.v142 | unfold run_H.sl.v149 | unfold run_H.sl.v130 | unfold run_H.sl.v131 | unfold run_H.sl.v138 | unfold run_H.sl.v145 | unfold run_H.sl.v156 | unfold run_H.sl.SK | unfold run_H.sl.SK_1 | unfold run_H.sl.SK_2 | unfold run_H.sl.SK_3 | unfold run_H.sl.SV | unfold run_H.sl.SV_1 | unfold run_H.sl.SV_2 | unfold run_H.sl.SV_3 | unfold run_H.sl.SQ | unfold run_H.sl.SQ_1 | unfold run_H.sl.SQ_2 | unfold run_H.sl.SQ_3 | unfold run_H.sl.O9 | unfold run_H.sl.O9_1 | unfold run_H.sl.O9_2 | unfold run_H.sl.O9_3 | unfold run_H.sl.O10 | unfold run_H.sl.O10_1 | unfold run_H.sl.O10_2 | unfold run_H.sl.O10_3 | unfold run_H.sl.O11 | unfold run_H.sl.O11_1 | unfold run_H.sl.O11_2 | unfold run_H.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  isplitl [O10]
  · iexists _; isplitr
    swap; · iexact O10
    ipureintro
    repeat (first | unfold run_H.sl.r | unfold run_H.sl.r_1 | unfold run_H.sl.r_2 | unfold run_H.sl.r_3 | unfold run_H.sl.r_4 | unfold run_H.sl.r_5 | unfold run_H.sl.v103 | unfold run_H.sl.v104 | unfold run_H.sl.v106 | unfold run_H.sl.v109 | unfold run_H.sl.v142 | unfold run_H.sl.v149 | unfold run_H.sl.v130 | unfold run_H.sl.v131 | unfold run_H.sl.v138 | unfold run_H.sl.v145 | unfold run_H.sl.v156 | unfold run_H.sl.SK | unfold run_H.sl.SK_1 | unfold run_H.sl.SK_2 | unfold run_H.sl.SK_3 | unfold run_H.sl.SV | unfold run_H.sl.SV_1 | unfold run_H.sl.SV_2 | unfold run_H.sl.SV_3 | unfold run_H.sl.SQ | unfold run_H.sl.SQ_1 | unfold run_H.sl.SQ_2 | unfold run_H.sl.SQ_3 | unfold run_H.sl.O9 | unfold run_H.sl.O9_1 | unfold run_H.sl.O9_2 | unfold run_H.sl.O9_3 | unfold run_H.sl.O10 | unfold run_H.sl.O10_1 | unfold run_H.sl.O10_2 | unfold run_H.sl.O10_3 | unfold run_H.sl.O11 | unfold run_H.sl.O11_1 | unfold run_H.sl.O11_2 | unfold run_H.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  isplitl [O11]
  · iexists _; isplitr
    swap; · iexact O11
    ipureintro
    repeat (first | unfold run_H.sl.r | unfold run_H.sl.r_1 | unfold run_H.sl.r_2 | unfold run_H.sl.r_3 | unfold run_H.sl.r_4 | unfold run_H.sl.r_5 | unfold run_H.sl.v103 | unfold run_H.sl.v104 | unfold run_H.sl.v106 | unfold run_H.sl.v109 | unfold run_H.sl.v142 | unfold run_H.sl.v149 | unfold run_H.sl.v130 | unfold run_H.sl.v131 | unfold run_H.sl.v138 | unfold run_H.sl.v145 | unfold run_H.sl.v156 | unfold run_H.sl.SK | unfold run_H.sl.SK_1 | unfold run_H.sl.SK_2 | unfold run_H.sl.SK_3 | unfold run_H.sl.SV | unfold run_H.sl.SV_1 | unfold run_H.sl.SV_2 | unfold run_H.sl.SV_3 | unfold run_H.sl.SQ | unfold run_H.sl.SQ_1 | unfold run_H.sl.SQ_2 | unfold run_H.sl.SQ_3 | unfold run_H.sl.O9 | unfold run_H.sl.O9_1 | unfold run_H.sl.O9_2 | unfold run_H.sl.O9_3 | unfold run_H.sl.O10 | unfold run_H.sl.O10_1 | unfold run_H.sl.O10_2 | unfold run_H.sl.O10_3 | unfold run_H.sl.O11 | unfold run_H.sl.O11_1 | unfold run_H.sl.O11_2 | unfold run_H.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  isplitl [SK]
  · iexists _; isplitr
    swap; · iexact SK
    ipureintro
    repeat (first | unfold run_H.sl.r | unfold run_H.sl.r_1 | unfold run_H.sl.r_2 | unfold run_H.sl.r_3 | unfold run_H.sl.r_4 | unfold run_H.sl.r_5 | unfold run_H.sl.v103 | unfold run_H.sl.v104 | unfold run_H.sl.v106 | unfold run_H.sl.v109 | unfold run_H.sl.v142 | unfold run_H.sl.v149 | unfold run_H.sl.v130 | unfold run_H.sl.v131 | unfold run_H.sl.v138 | unfold run_H.sl.v145 | unfold run_H.sl.v156 | unfold run_H.sl.SK | unfold run_H.sl.SK_1 | unfold run_H.sl.SK_2 | unfold run_H.sl.SK_3 | unfold run_H.sl.SV | unfold run_H.sl.SV_1 | unfold run_H.sl.SV_2 | unfold run_H.sl.SV_3 | unfold run_H.sl.SQ | unfold run_H.sl.SQ_1 | unfold run_H.sl.SQ_2 | unfold run_H.sl.SQ_3 | unfold run_H.sl.O9 | unfold run_H.sl.O9_1 | unfold run_H.sl.O9_2 | unfold run_H.sl.O9_3 | unfold run_H.sl.O10 | unfold run_H.sl.O10_1 | unfold run_H.sl.O10_2 | unfold run_H.sl.O10_3 | unfold run_H.sl.O11 | unfold run_H.sl.O11_1 | unfold run_H.sl.O11_2 | unfold run_H.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  isplitl [SV]
  · iexists _; isplitr
    swap; · iexact SV
    ipureintro
    repeat (first | unfold run_H.sl.r | unfold run_H.sl.r_1 | unfold run_H.sl.r_2 | unfold run_H.sl.r_3 | unfold run_H.sl.r_4 | unfold run_H.sl.r_5 | unfold run_H.sl.v103 | unfold run_H.sl.v104 | unfold run_H.sl.v106 | unfold run_H.sl.v109 | unfold run_H.sl.v142 | unfold run_H.sl.v149 | unfold run_H.sl.v130 | unfold run_H.sl.v131 | unfold run_H.sl.v138 | unfold run_H.sl.v145 | unfold run_H.sl.v156 | unfold run_H.sl.SK | unfold run_H.sl.SK_1 | unfold run_H.sl.SK_2 | unfold run_H.sl.SK_3 | unfold run_H.sl.SV | unfold run_H.sl.SV_1 | unfold run_H.sl.SV_2 | unfold run_H.sl.SV_3 | unfold run_H.sl.SQ | unfold run_H.sl.SQ_1 | unfold run_H.sl.SQ_2 | unfold run_H.sl.SQ_3 | unfold run_H.sl.O9 | unfold run_H.sl.O9_1 | unfold run_H.sl.O9_2 | unfold run_H.sl.O9_3 | unfold run_H.sl.O10 | unfold run_H.sl.O10_1 | unfold run_H.sl.O10_2 | unfold run_H.sl.O10_3 | unfold run_H.sl.O11 | unfold run_H.sl.O11_1 | unfold run_H.sl.O11_2 | unfold run_H.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl
  iexists _; isplitr
  swap; · iexact SQ
  · ipureintro
    repeat (first | unfold run_H.sl.r | unfold run_H.sl.r_1 | unfold run_H.sl.r_2 | unfold run_H.sl.r_3 | unfold run_H.sl.r_4 | unfold run_H.sl.r_5 | unfold run_H.sl.v103 | unfold run_H.sl.v104 | unfold run_H.sl.v106 | unfold run_H.sl.v109 | unfold run_H.sl.v142 | unfold run_H.sl.v149 | unfold run_H.sl.v130 | unfold run_H.sl.v131 | unfold run_H.sl.v138 | unfold run_H.sl.v145 | unfold run_H.sl.v156 | unfold run_H.sl.SK | unfold run_H.sl.SK_1 | unfold run_H.sl.SK_2 | unfold run_H.sl.SK_3 | unfold run_H.sl.SV | unfold run_H.sl.SV_1 | unfold run_H.sl.SV_2 | unfold run_H.sl.SV_3 | unfold run_H.sl.SQ | unfold run_H.sl.SQ_1 | unfold run_H.sl.SQ_2 | unfold run_H.sl.SQ_3 | unfold run_H.sl.O9 | unfold run_H.sl.O9_1 | unfold run_H.sl.O9_2 | unfold run_H.sl.O9_3 | unfold run_H.sl.O10 | unfold run_H.sl.O10_1 | unfold run_H.sl.O10_2 | unfold run_H.sl.O10_3 | unfold run_H.sl.O11 | unfold run_H.sl.O11_1 | unfold run_H.sl.O11_2 | unfold run_H.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o4, store_rows _ _ _ _ _ n o4, load_rows _ _ _ n o6, store_rows _ _ _ _ _ n o6, rows_putRows]
    try rfl

end Cert.FlashBwdIdeal.Hand

end
-- ==== Proof.FlashBwdBodyH.lean ====
module

public import proofs.«01_k».proof.Proof.FlashBwdData
public import proofs.«01_k».proof.Proof.FlashBwdRunH

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_H (c : Dev nD) (t : Fin cfg0.N) (hd : diag t.val) (hf : ¬fst t.val) (hl : lst t.val) (hi : fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [show (dats m 0 c).leavesExact 9 t = owns (c : Thread nD τ) (ms0_9 t) fullShare ((dats m 0 c).after 9 t) from by unfold Dat.leavesExact; rw [live9 t hl], after0_9]
  rw [show (dats m 0 c).leavesExact 10 t = owns (c : Thread nD τ) (ms0_10 t) fullShare ((dats m 0 c).after 10 t) from by unfold Dat.leavesExact; rw [live10 t hl], after0_10]
  rw [show (dats m 0 c).leavesExact 11 t = owns (c : Thread nD τ) (ms0_11 t) fullShare ((dats m 0 c).after 11 t) from by unfold Dat.leavesExact; rw [live11 t hi], after0_11]
  simp only [out9, out10, out11]
  simp only [st_succ m c t, step_do m c t _ hd hf]
  · rw [PhiS_castSucc m c t, PhiS_pos m c _ (by have := four_le t hf; omega)]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := agree_full (four_le t hf) hq
    iapply (run_H c (grid0.coords t) (qb t.val) _ _ _ _ _ _ _ _ _ _ _ _ _ _ _ _ _ _ _ _ _ _ _ _ _ _ _ _ _ _ ((hc1 t).mpr hd) (fun h => hf ((hc2 t).mp h)) (fun h => (hc3 t).mp h hd) ((hc4 t).mpr hd) ((hc5 t).mpr hl) ((hc6 t).mpr hi) (ho3 t) (ho4 t) (iblk m c 0 t) (iblk m c 1 t) (iblk m c 2 t) (iblk m c 3 t) (iblk m c 4 t) (iblk m c 5 t) (iblk m c 6 t) (iblk m c 7 t) (iblk m c 8 t) (st m c t.val).1 (st m c t.val).2.1 (st m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HK]; · iexact HK
    isplitl [HV]; · iexact HV
    isplitl [HQ]; · iexact HQ
    iintro ⟨H0, H1, H2, H3, H4, H5, H6, H7, H8, H9, H10, H11, HK, HV, HQ⟩
    isplitl [HK HV HQ Hg]
    · isplitl [HK HV HQ]
      · isplitl [HK]; · iexact HK
        isplitl [HV]; · iexact HV
        iexists _; isplitl [HQ]; · iexact HQ
        ipureintro
        exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.FlashBwdIdeal.Hand

end
-- ==== Proof.FlashBwdRunI.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case I: a key block meets a later query block. -/
theorem run_I (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : ¬startW (kw i) (qw i) (Scalar.divsi (kw i) 2#32) = 1#1) (h2 : ¬k0_cond2 i = 1#1) (h3 : k0_cond3 i = 1#1) (h4 : ¬k0_cond4 i = 1#1) (h5 : ¬k0_cond5 i = 1#1) (h6 : ¬k0_cond6 i = 1#1) (o3 : k0_off2 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg14 fullShare (k0_pay16 (k0_pay3 x0) (k0_pay6 x1 x2 x0 x6 x4 x5 x3) xk) ∗ owns (c : Thread nD τ) arg15 fullShare (k0_pay7 x1 x2 x0 x6 x4 xv) ∗ owns (c : Thread nD τ) arg16 fullShare (putRows xq n (k0_pay17 (k0_pay2 x1 x2) (k0_pay6 x1 x2 x0 x6 x4 x5 x3) (rows xq n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [SK]
  · iexists _; isplitr
    swap; · iexact SK
    ipureintro
    repeat (first | unfold run_I.sl.r | unfold run_I.sl.r_1 | unfold run_I.sl.r_2 | unfold run_I.sl.r_3 | unfold run_I.sl.r_4 | unfold run_I.sl.r_5 | unfold run_I.sl.v103 | unfold run_I.sl.v104 | unfold run_I.sl.v106 | unfold run_I.sl.v109 | unfold run_I.sl.v142 | unfold run_I.sl.v149 | unfold run_I.sl.v130 | unfold run_I.sl.v131 | unfold run_I.sl.v138 | unfold run_I.sl.v145 | unfold run_I.sl.v156 | unfold run_I.sl.SK | unfold run_I.sl.SK_1 | unfold run_I.sl.SK_2 | unfold run_I.sl.SK_3 | unfold run_I.sl.SV | unfold run_I.sl.SV_1 | unfold run_I.sl.SV_2 | unfold run_I.sl.SV_3 | unfold run_I.sl.SQ | unfold run_I.sl.SQ_1 | unfold run_I.sl.SQ_2 | unfold run_I.sl.SQ_3 | unfold run_I.sl.O9 | unfold run_I.sl.O9_1 | unfold run_I.sl.O9_2 | unfold run_I.sl.O9_3 | unfold run_I.sl.O10 | unfold run_I.sl.O10_1 | unfold run_I.sl.O10_2 | unfold run_I.sl.O10_3 | unfold run_I.sl.O11 | unfold run_I.sl.O11_1 | unfold run_I.sl.O11_2 | unfold run_I.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl
  isplitl [SV]
  · iexists _; isplitr
    swap; · iexact SV
    ipureintro
    repeat (first | unfold run_I.sl.r | unfold run_I.sl.r_1 | unfold run_I.sl.r_2 | unfold run_I.sl.r_3 | unfold run_I.sl.r_4 | unfold run_I.sl.r_5 | unfold run_I.sl.v103 | unfold run_I.sl.v104 | unfold run_I.sl.v106 | unfold run_I.sl.v109 | unfold run_I.sl.v142 | unfold run_I.sl.v149 | unfold run_I.sl.v130 | unfold run_I.sl.v131 | unfold run_I.sl.v138 | unfold run_I.sl.v145 | unfold run_I.sl.v156 | unfold run_I.sl.SK | unfold run_I.sl.SK_1 | unfold run_I.sl.SK_2 | unfold run_I.sl.SK_3 | unfold run_I.sl.SV | unfold run_I.sl.SV_1 | unfold run_I.sl.SV_2 | unfold run_I.sl.SV_3 | unfold run_I.sl.SQ | unfold run_I.sl.SQ_1 | unfold run_I.sl.SQ_2 | unfold run_I.sl.SQ_3 | unfold run_I.sl.O9 | unfold run_I.sl.O9_1 | unfold run_I.sl.O9_2 | unfold run_I.sl.O9_3 | unfold run_I.sl.O10 | unfold run_I.sl.O10_1 | unfold run_I.sl.O10_2 | unfold run_I.sl.O10_3 | unfold run_I.sl.O11 | unfold run_I.sl.O11_1 | unfold run_I.sl.O11_2 | unfold run_I.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl
  iexists _; isplitr
  swap; · iexact SQ
  · ipureintro
    repeat (first | unfold run_I.sl.r | unfold run_I.sl.r_1 | unfold run_I.sl.r_2 | unfold run_I.sl.r_3 | unfold run_I.sl.r_4 | unfold run_I.sl.r_5 | unfold run_I.sl.v103 | unfold run_I.sl.v104 | unfold run_I.sl.v106 | unfold run_I.sl.v109 | unfold run_I.sl.v142 | unfold run_I.sl.v149 | unfold run_I.sl.v130 | unfold run_I.sl.v131 | unfold run_I.sl.v138 | unfold run_I.sl.v145 | unfold run_I.sl.v156 | unfold run_I.sl.SK | unfold run_I.sl.SK_1 | unfold run_I.sl.SK_2 | unfold run_I.sl.SK_3 | unfold run_I.sl.SV | unfold run_I.sl.SV_1 | unfold run_I.sl.SV_2 | unfold run_I.sl.SV_3 | unfold run_I.sl.SQ | unfold run_I.sl.SQ_1 | unfold run_I.sl.SQ_2 | unfold run_I.sl.SQ_3 | unfold run_I.sl.O9 | unfold run_I.sl.O9_1 | unfold run_I.sl.O9_2 | unfold run_I.sl.O9_3 | unfold run_I.sl.O10 | unfold run_I.sl.O10_1 | unfold run_I.sl.O10_2 | unfold run_I.sl.O10_3 | unfold run_I.sl.O11 | unfold run_I.sl.O11_1 | unfold run_I.sl.O11_2 | unfold run_I.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl

end Cert.FlashBwdIdeal.Hand

end
-- ==== Proof.FlashBwdBodyI.lean ====
module

public import proofs.«01_k».proof.Proof.FlashBwdData
public import proofs.«01_k».proof.Proof.FlashBwdRunI

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_I (c : Dev nD) (t : Fin cfg0.N) (hd : ¬diag t.val) (hf : ¬fst t.val) (hl : ¬lst t.val) (hi : ¬fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [Dat.leavesExact_idle (dats m 0 c) 9 t (idle9 t hl) (noFlush9 t hl)]
  rw [Dat.leavesExact_idle (dats m 0 c) 10 t (idle10 t hl) (noFlush10 t hl)]
  rw [Dat.leavesExact_idle (dats m 0 c) 11 t (idle11 t hi) (noFlush11 t hi)]
  simp only [st_succ m c t, step_no m c t _ hd hf]
  · rw [PhiS_castSucc m c t, PhiS_pos m c _ (by have := four_le t hf; omega)]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := agree_full (four_le t hf) hq
    iapply (run_I c (grid0.coords t) (qb t.val) _ _ _ _ _ _ _ _ _ _ _ _ _ _ _ _ _ _ _ _ _ _ _ _ _ _ _ _ _ _ (fun h => hd ((hc1 t).mp h)) (fun h => hf ((hc2 t).mp h)) ((hc3 t).mpr hd) (fun h => hd ((hc4 t).mp h)) (fun h => hl ((hc5 t).mp h)) (fun h => hi ((hc6 t).mp h)) (ho2 t) (iblk m c 0 t) (iblk m c 1 t) (iblk m c 2 t) (iblk m c 3 t) (iblk m c 4 t) (iblk m c 5 t) (iblk m c 6 t) (iblk m c 7 t) (iblk m c 8 t) (st m c t.val).1 (st m c t.val).2.1 (st m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HK]; · iexact HK
    isplitl [HV]; · iexact HV
    isplitl [HQ]; · iexact HQ
    iintro ⟨H0, H1, H2, H3, H4, H5, H6, H7, H8, HK, HV, HQ⟩
    isplitl [HK HV HQ Hg]
    · isplitl [HK HV HQ]
      · isplitl [HK]; · iexact HK
        isplitl [HV]; · iexact HV
        iexists _; isplitl [HQ]; · iexact HQ
        ipureintro
        exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

end Cert.FlashBwdIdeal.Hand

end
-- ==== Proof.FlashBwdRunJ.lean ====
module

public import proofs.«01_k».proof.Proof.FlashBwdStep
public import Idealize.ShloMosaic.Lib.Exec
public import Idealize.ShloMosaic.Lib.Pipeline.FrameBody

@[expose] public section

set_option maxRecDepth 16384

noncomputable section

/-! The body run at a point, case by case: what it leaves in the accumulators and in the blocks it stores. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

set_option maxHeartbeats 4000000 in
/-- Case J: a key block meets the last query block. -/
theorem run_J (c : Dev nD) (i : grid0.Coords) (n : Fin 4) (arg2 : Memref sig .tc .vmem S1024x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S512x256 .bf16) (harg11 : arg11.IsWhole) (arg12 : Memref sig .tc .vmem S512x128 .f32) (harg12 : arg12.IsWhole) (arg13 : Memref sig .tc .vmem S1024x256 .bf16) (harg13 : arg13.IsWhole) (arg14 : Memref sig .tc .vmem S512x256 .f32) (harg14 : arg14.IsWhole) (arg15 : Memref sig .tc .vmem S512x128 .f32) (harg15 : arg15.IsWhole) (arg16 : Memref sig .tc .vmem S4096x256 .f32) (harg16 : arg16.IsWhole)
    (h1 : ¬startW (kw i) (qw i) (Scalar.divsi (kw i) 2#32) = 1#1) (h2 : ¬k0_cond2 i = 1#1) (h3 : k0_cond3 i = 1#1) (h4 : ¬k0_cond4 i = 1#1) (h5 : k0_cond5 i = 1#1) (h6 : ¬k0_cond6 i = 1#1) (o3 : k0_off2 i = ![1024 * n.val, 0])
    (x0 : Vec F S1024x256 .bf16) (x1 : Vec F S512x128 .bf16) (x2 : Vec F S512x128 .bf16) (x3 : Vec F S512x128 .bf16) (x4 : Vec F S1024x128 .f32) (x5 : Vec F S1024x128 .bf16) (x6 : Vec F S1024x128 .f32) (x7 : Vec F S1024x256 .f32) (x8 : Vec F S1024x256 .f32) (xk : Vec F S512x256 .f32) (xv : Vec F S512x128 .f32) (xq : Vec F S4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg14 fullShare xk ∗ owns (c : Thread nD τ) arg15 fullShare xv ∗ owns (c : Thread nD τ) arg16 fullShare xq
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (sides (k0_pay21 (left (k0_pay16 (k0_pay3 x0) (k0_pay6 x1 x2 x0 x6 x4 x5 x3) xk))) (k0_pay22 (k0_pay7 x1 x2 x0 x6 x4 xv))) ∗ owns (c : Thread nD τ) arg12 fullShare (right (k0_pay16 (k0_pay3 x0) (k0_pay6 x1 x2 x0 x6 x4 x5 x3) xk)) ∗ owns (c : Thread nD τ) arg14 fullShare (k0_pay16 (k0_pay3 x0) (k0_pay6 x1 x2 x0 x6 x4 x5 x3) xk) ∗ owns (c : Thread nD τ) arg15 fullShare (k0_pay7 x1 x2 x0 x6 x4 xv) ∗ owns (c : Thread nD τ) arg16 fullShare (putRows xq n (k0_pay17 (k0_pay2 x1 x2) (k0_pay6 x1 x2 x0 x6 x4 x5 x3) (rows xq n)))) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_bwd_eq_skeleton]; unfold cc0_flash_bwd_skel
  simp only [part3_eq, part4_eq, k0_part5_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO9, %fO9, -, O9⟩, ⟨%dO10, %fO10, -, O10⟩, ⟨%fSK, %hfSK, SK⟩, ⟨%fSV, %hfSV, SV⟩, ⟨%fSQ, %hfSQ, SQ⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfSK; obtain rfl := harg15.eq_unread hfSV; obtain rfl := harg16.eq_unread hfSQ
  sl_exec (disch := first | sl_exact h1 | sl_exact h2 | sl_exact h3 | sl_exact h4 | sl_exact h5 | sl_exact h6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [O9]
  · iexists _; isplitr
    swap; · iexact O9
    ipureintro
    repeat (first | unfold run_J.sl.r | unfold run_J.sl.r_1 | unfold run_J.sl.r_2 | unfold run_J.sl.r_3 | unfold run_J.sl.r_4 | unfold run_J.sl.r_5 | unfold run_J.sl.v103 | unfold run_J.sl.v104 | unfold run_J.sl.v106 | unfold run_J.sl.v109 | unfold run_J.sl.v142 | unfold run_J.sl.v149 | unfold run_J.sl.v130 | unfold run_J.sl.v131 | unfold run_J.sl.v138 | unfold run_J.sl.v145 | unfold run_J.sl.v156 | unfold run_J.sl.SK | unfold run_J.sl.SK_1 | unfold run_J.sl.SK_2 | unfold run_J.sl.SK_3 | unfold run_J.sl.SV | unfold run_J.sl.SV_1 | unfold run_J.sl.SV_2 | unfold run_J.sl.SV_3 | unfold run_J.sl.SQ | unfold run_J.sl.SQ_1 | unfold run_J.sl.SQ_2 | unfold run_J.sl.SQ_3 | unfold run_J.sl.O9 | unfold run_J.sl.O9_1 | unfold run_J.sl.O9_2 | unfold run_J.sl.O9_3 | unfold run_J.sl.O10 | unfold run_J.sl.O10_1 | unfold run_J.sl.O10_2 | unfold run_J.sl.O10_3 | unfold run_J.sl.O11 | unfold run_J.sl.O11_1 | unfold run_J.sl.O11_2 | unfold run_J.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl
  isplitl [O10]
  · iexists _; isplitr
    swap; · iexact O10
    ipureintro
    repeat (first | unfold run_J.sl.r | unfold run_J.sl.r_1 | unfold run_J.sl.r_2 | unfold run_J.sl.r_3 | unfold run_J.sl.r_4 | unfold run_J.sl.r_5 | unfold run_J.sl.v103 | unfold run_J.sl.v104 | unfold run_J.sl.v106 | unfold run_J.sl.v109 | unfold run_J.sl.v142 | unfold run_J.sl.v149 | unfold run_J.sl.v130 | unfold run_J.sl.v131 | unfold run_J.sl.v138 | unfold run_J.sl.v145 | unfold run_J.sl.v156 | unfold run_J.sl.SK | unfold run_J.sl.SK_1 | unfold run_J.sl.SK_2 | unfold run_J.sl.SK_3 | unfold run_J.sl.SV | unfold run_J.sl.SV_1 | unfold run_J.sl.SV_2 | unfold run_J.sl.SV_3 | unfold run_J.sl.SQ | unfold run_J.sl.SQ_1 | unfold run_J.sl.SQ_2 | unfold run_J.sl.SQ_3 | unfold run_J.sl.O9 | unfold run_J.sl.O9_1 | unfold run_J.sl.O9_2 | unfold run_J.sl.O9_3 | unfold run_J.sl.O10 | unfold run_J.sl.O10_1 | unfold run_J.sl.O10_2 | unfold run_J.sl.O10_3 | unfold run_J.sl.O11 | unfold run_J.sl.O11_1 | unfold run_J.sl.O11_2 | unfold run_J.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl
  isplitl [SK]
  · iexists _; isplitr
    swap; · iexact SK
    ipureintro
    repeat (first | unfold run_J.sl.r | unfold run_J.sl.r_1 | unfold run_J.sl.r_2 | unfold run_J.sl.r_3 | unfold run_J.sl.r_4 | unfold run_J.sl.r_5 | unfold run_J.sl.v103 | unfold run_J.sl.v104 | unfold run_J.sl.v106 | unfold run_J.sl.v109 | unfold run_J.sl.v142 | unfold run_J.sl.v149 | unfold run_J.sl.v130 | unfold run_J.sl.v131 | unfold run_J.sl.v138 | unfold run_J.sl.v145 | unfold run_J.sl.v156 | unfold run_J.sl.SK | unfold run_J.sl.SK_1 | unfold run_J.sl.SK_2 | unfold run_J.sl.SK_3 | unfold run_J.sl.SV | unfold run_J.sl.SV_1 | unfold run_J.sl.SV_2 | unfold run_J.sl.SV_3 | unfold run_J.sl.SQ | unfold run_J.sl.SQ_1 | unfold run_J.sl.SQ_2 | unfold run_J.sl.SQ_3 | unfold run_J.sl.O9 | unfold run_J.sl.O9_1 | unfold run_J.sl.O9_2 | unfold run_J.sl.O9_3 | unfold run_J.sl.O10 | unfold run_J.sl.O10_1 | unfold run_J.sl.O10_2 | unfold run_J.sl.O10_3 | unfold run_J.sl.O11 | unfold run_J.sl.O11_1 | unfold run_J.sl.O11_2 | unfold run_J.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl
  isplitl [SV]
  · iexists _; isplitr
    swap; · iexact SV
    ipureintro
    repeat (first | unfold run_J.sl.r | unfold run_J.sl.r_1 | unfold run_J.sl.r_2 | unfold run_J.sl.r_3 | unfold run_J.sl.r_4 | unfold run_J.sl.r_5 | unfold run_J.sl.v103 | unfold run_J.sl.v104 | unfold run_J.sl.v106 | unfold run_J.sl.v109 | unfold run_J.sl.v142 | unfold run_J.sl.v149 | unfold run_J.sl.v130 | unfold run_J.sl.v131 | unfold run_J.sl.v138 | unfold run_J.sl.v145 | unfold run_J.sl.v156 | unfold run_J.sl.SK | unfold run_J.sl.SK_1 | unfold run_J.sl.SK_2 | unfold run_J.sl.SK_3 | unfold run_J.sl.SV | unfold run_J.sl.SV_1 | unfold run_J.sl.SV_2 | unfold run_J.sl.SV_3 | unfold run_J.sl.SQ | unfold run_J.sl.SQ_1 | unfold run_J.sl.SQ_2 | unfold run_J.sl.SQ_3 | unfold run_J.sl.O9 | unfold run_J.sl.O9_1 | unfold run_J.sl.O9_2 | unfold run_J.sl.O9_3 | unfold run_J.sl.O10 | unfold run_J.sl.O10_1 | unfold run_J.sl.O10_2 | unfold run_J.sl.O10_3 | unfold run_J.sl.O11 | unfold run_J.sl.O11_1 | unfold run_J.sl.O11_2 | unfold run_J.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl
  iexists _; isplitr
  swap; · iexact SQ
  · ipureintro
    repeat (first | unfold run_J.sl.r | unfold run_J.sl.r_1 | unfold run_J.sl.r_2 | unfold run_J.sl.r_3 | unfold run_J.sl.r_4 | unfold run_J.sl.r_5 | unfold run_J.sl.v103 | unfold run_J.sl.v104 | unfold run_J.sl.v106 | unfold run_J.sl.v109 | unfold run_J.sl.v142 | unfold run_J.sl.v149 | unfold run_J.sl.v130 | unfold run_J.sl.v131 | unfold run_J.sl.v138 | unfold run_J.sl.v145 | unfold run_J.sl.v156 | unfold run_J.sl.SK | unfold run_J.sl.SK_1 | unfold run_J.sl.SK_2 | unfold run_J.sl.SK_3 | unfold run_J.sl.SV | unfold run_J.sl.SV_1 | unfold run_J.sl.SV_2 | unfold run_J.sl.SV_3 | unfold run_J.sl.SQ | unfold run_J.sl.SQ_1 | unfold run_J.sl.SQ_2 | unfold run_J.sl.SQ_3 | unfold run_J.sl.O9 | unfold run_J.sl.O9_1 | unfold run_J.sl.O9_2 | unfold run_J.sl.O9_3 | unfold run_J.sl.O10 | unfold run_J.sl.O10_1 | unfold run_J.sl.O10_2 | unfold run_J.sl.O10_3 | unfold run_J.sl.O11 | unfold run_J.sl.O11_1 | unfold run_J.sl.O11_2 | unfold run_J.sl.O11_3)
    simp only [load_A, load_B, load_C, load_D, load_left, load_right, store_sides, store_A, store_B, store_D, View.readCov, View.writes_nil, harg2.read_unread, harg3.read_unread, harg4.read_unread, harg5.read_unread, harg6.read_unread, harg7.read_unread, harg8.read_unread, harg9.read_unread, harg10.read_unread, harg14.read_unread, harg15.read_unread, harg16.read_unread, load_rows _ _ _ n o3, store_rows _ _ _ _ _ n o3, rows_putRows]
    try rfl

end Cert.FlashBwdIdeal.Hand

end
-- ==== Proof.FlashBwdBodyJ.lean ====
module

public import proofs.«01_k».proof.Proof.FlashBwdData
public import proofs.«01_k».proof.Proof.FlashBwdRunJ

@[expose] public section

set_option maxRecDepth 16384

noncomputable section

/-! The body at a point meets its specification, kind of point by kind of point. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_J (c : Dev nD) (t : Fin cfg0.N) (hd : ¬diag t.val) (hf : ¬fst t.val) (hl : lst t.val) (hi : ¬fin t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by unfold Dat.leavesExact; rw [live0 t], after0_0]
  rw [show (dats m 0 c).leavesExact 1 t = owns (c : Thread nD τ) (ms0_1 t) fullShare ((dats m 0 c).after 1 t) from by unfold Dat.leavesExact; rw [live1 t], after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by unfold Dat.leavesExact; rw [live3 t], after0_3]
  rw [show (dats m 0 c).leavesExact 4 t = owns (c : Thread nD τ) (ms0_4 t) fullShare ((dats m 0 c).after 4 t) from by unfold Dat.leavesExact; rw [live4 t], after0_4]
  rw [show (dats m 0 c).leavesExact 5 t = owns (c : Thread nD τ) (ms0_5 t) fullShare ((dats m 0 c).after 5 t) from by unfold Dat.leavesExact; rw [live5 t], after0_5]
  rw [show (dats m 0 c).leavesExact 6 t = owns (c : Thread nD τ) (ms0_6 t) fullShare ((dats m 0 c).after 6 t) from by unfold Dat.leavesExact; rw [live6 t], after0_6]
  rw [show (dats m 0 c).leavesExact 7 t = owns (c : Thread nD τ) (ms0_7 t) fullShare ((dats m 0 c).after 7 t) from by unfold Dat.leavesExact; rw [live7 t], after0_7]
  rw [show (dats m 0 c).leavesExact 8 t = owns (c : Thread nD τ) (ms0_8 t) fullShare ((dats m 0 c).after 8 t) from by unfold Dat.leavesExact; rw [live8 t], after0_8]
  rw [show (dats m 0 c).leavesExact 9 t = owns (c : Thread nD τ) (ms0_9 t) fullShare ((dats m 0 c).after 9 t) from by unfold Dat.leavesExact; rw [live9 t hl], after0_9]
  rw [show (dats m 0 c).leavesExact 10 t = owns (c : Thread nD τ) (ms0_10 t) fullShare ((dats m 0 c).after 10 t) from by unfold Dat.leavesExact; rw [live10 t hl], after0_10]
  rw [Dat.leavesExact_idle (dats m 0 c) 11 t (idle11 t hi) (noFlush11 t hi)]
  simp only [out9, out10]
  simp only [st_succ m c t, step_no m c t _ hd hf]
  · rw [PhiS_castSucc m c t, PhiS_pos m c _ (by have := four_le t hf; omega)]
    iintro ⟨⟨⟨HK, HV, %dq, HQ, %hq⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := agree_full (four_le t hf) hq
    iapply (run_J c (grid0.coords t) (qb t.val) _ _ _ _ _ _ _ _ _ _ _ _ _ _ _ _ _ _ _ _ _ _ _ _ _ _ _ _ _ _ (fun h => hd ((hc1 t).mp h)) (fun h => hf ((hc2 t).mp h)) ((hc3 t).mpr hd) (fun h => hd ((hc4 t).mp h)) ((hc5 t).mpr hl) (fun h => hi ((hc6 t).mp h)) (ho2 t) (iblk m c 0 t) (iblk m c 1 t) (iblk m c 2 t) (iblk m c 3 t) (iblk m c 4 t) (iblk m c 5 t) (iblk m c 6 t) (iblk m c 7 t) (iblk m c 8 t) (st m c t.val).1 (st m c t.val).2.1 (st m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HK]; · iexact HK
    isplitl [HV]; · iexact HV
    isplitl [HQ]; · iexact HQ
    iintro ⟨H0, H1, H2, H3, H4, H5, H6, H7, H8, H9, H10, HK, HV, HQ⟩
    isplitl [HK HV HQ Hg]
    · isplitl [HK HV HQ]
      · isplitl [HK]; · iexact HK
        isplitl [HV]; · iexact HV
        iexists _; isplitl [HQ]; · iexact HQ
        ipureintro
        exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

end Cert.FlashBwdIdeal.Hand

end
-- ==== Proof.FlashBwdFrame.lean ====
module

public import Idealize.ShloMosaic.Lib.Claim
public import proofs.«01_k».proof.Proof.FlashBwdBodyA
public import proofs.«01_k».proof.Proof.FlashBwdBodyB
public import proofs.«01_k».proof.Proof.FlashBwdBodyC
public import proofs.«01_k».proof.Proof.FlashBwdBodyD
public import proofs.«01_k».proof.Proof.FlashBwdBodyE
public import proofs.«01_k».proof.Proof.FlashBwdBodyG
public import proofs.«01_k».proof.Proof.FlashBwdBodyH
public import proofs.«01_k».proof.Proof.FlashBwdBodyI
public import proofs.«01_k».proof.Proof.FlashBwdBodyJ

@[expose] public section

set_option maxRecDepth 16384

noncomputable section

/-! The attention's backward pass runs, and what it leaves. -/

namespace Cert.FlashBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem none_tttt : ∀ t : Fin cfg0.N, ¬(diag t.val ∧ fst t.val ∧ lst t.val ∧ fin t.val) := by decide +kernel
theorem none_tttf : ∀ t : Fin cfg0.N, ¬(diag t.val ∧ fst t.val ∧ lst t.val ∧ ¬fin t.val) := by decide +kernel
theorem none_ttft : ∀ t : Fin cfg0.N, ¬(diag t.val ∧ fst t.val ∧ ¬lst t.val ∧ fin t.val) := by decide +kernel
theorem none_fttt : ∀ t : Fin cfg0.N, ¬(¬diag t.val ∧ fst t.val ∧ lst t.val ∧ fin t.val) := by decide +kernel
theorem none_ftft : ∀ t : Fin cfg0.N, ¬(¬diag t.val ∧ fst t.val ∧ ¬lst t.val ∧ fin t.val) := by decide +kernel
theorem none_fftt : ∀ t : Fin cfg0.N, ¬(¬diag t.val ∧ ¬fst t.val ∧ lst t.val ∧ fin t.val) := by decide +kernel
theorem none_ffft : ∀ t : Fin cfg0.N, ¬(¬diag t.val ∧ ¬fst t.val ∧ ¬lst t.val ∧ fin t.val) := by decide +kernel

theorem sound_body (c : Dev nD) (t : Fin cfg0.N) :
    bodyPre m c t ⊢ wp frame (wpE (defs₀ (F := F)) Variants.none c none) Set.univ (bodyAt0 t) (fun _ => bodyPost m c t) := by
  by_cases hd : diag t.val <;> by_cases hf : fst t.val <;> by_cases hl : lst t.val <;> by_cases hi : fin t.val
  · exact absurd ⟨hd, hf, hl, hi⟩ (none_tttt t)
  · exact absurd ⟨hd, hf, hl, hi⟩ (none_tttf t)
  · exact absurd ⟨hd, hf, hl, hi⟩ (none_ttft t)
  · exact sound_A m c t hd hf hl hi
  · exact sound_H m c t hd hf hl hi
  · exact sound_E m c t hd hf hl hi
  · exact sound_G m c t hd hf hl hi
  · exact sound_D m c t hd hf hl hi
  · exact absurd ⟨hd, hf, hl, hi⟩ (none_fttt t)
  · exact sound_C m c t hd hf hl hi
  · exact absurd ⟨hd, hf, hl, hi⟩ (none_ftft t)
  · exact sound_B m c t hd hf hl hi
  · exact absurd ⟨hd, hf, hl, hi⟩ (none_fftt t)
  · exact sound_J m c t hd hf hl hi
  · exact absurd ⟨hd, hf, hl, hi⟩ (none_ffft t)
  · exact sound_I m c t hd hf hl hi

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 160 := N_0; omega
  rw [show (dats m 0 c).Φ (Fin.last cfg0.N) = PhiS m c (Fin.last cfg0.N).val from rfl, PhiS_pos m c _ hN, PhiA0_eq]
  iintro ⟨⟨HK, HV, %dq, HQ, -⟩, Hg⟩
  isplitl [HK HV HQ]
  · isplitl [HK]; · iexists _; iexact HK
    isplitl [HV]; · iexists _; iexact HV
    iexists _; iexact HQ
  iexact Hg

set_option backward.isDefEq.respectTransparency.types false in
/-- From any memory the program ends with every array at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FlashBwdIdeal.Hand

end
-- ==== Proof.FlashBwdHost.lean ====
module

public import proofs.«01_k».proof.Proof.Gen.FlashBwdIdeal.Frame
public import Idealize.ShloMosaic.Lib.Pipeline.ValueKit
public import Idealize.ShloMosaic.Lib.Pointwise
public import Idealize.ShloMosaic.Lib.Claim

/-! # The host's operations before the call, stretch by stretch

What each short stretch of the host's operations leaves in the buffer that later stretches read, as a formula in the
contents before it; and that a stretch leaves alone the buffers it does not write. -/

@[expose] public section
set_option maxRecDepth 16384
set_option maxHeartbeats 1000000
noncomputable section
open Idealize.ShloMosaic Idealize.ShloMosaic.TcCoe Idealize.SL.Sem
namespace Cert.FlashBwdIdeal.Host
open Cert.FlashBwdIdeal Cert.FlashBwdIdeal.Gen
open Idealize.ShloMosaic.StableHlo

/-- The stretch of `n` operations from the `a`-th on, of those after the mask. -/
abbrev part (a n : ℕ) : List (HloOp τ sig (Elt Ideal)) := (hostOps0_2.drop a).take n

/-- The buffers those operations write, in order. -/
abbrev written : List (Ref sig .tc) := [main_cst_1, main_v38, main_cst_2, main_v39, main_v40, main_v41, main_v42, main_v43, main_v44, main_cst_3, main_v45, main_v46, main_v47, main_v48, main_v49, main_v50, main_v51, main_v52, main_cst_4, main_v53, main_v54, main_v55, main_v56, main_v57, main_cst_5, main_v58, main_v59, main_v60, main_v61, main_v62, main_v63, main_v64, main_cst_6, main_v65, main_v66, main_cst_7, main_v67, main_v68, main_cst_8, main_v69, main_v70, main_cst_9, main_v71, main_v72, main_v73, main_v74, main_v75, main_v76, main_v77, main_v78, main_v79, main_v80, main_v81, main_v82, main_v83, main_v84, main_v85, main_v86, main_v87, main_v88, main_v89, main_v90, main_v91, main_cst_10, main_v92, main_v93, main_cst_11, main_v94, main_v95, main_v96, main_v97, main_c]

theorem written_eq : (hostOps0_2 : List (HloOp τ sig (Elt Ideal))).Forall₂ (fun op r => op.writes = {Proc.devRef .tc r}) written := by
  unfold hostOps0_2 written
  repeat (first | exact List.Forall₂.nil | refine List.Forall₂.cons rfl ?_)

theorem keep_of {L : List (HloOp τ sig (Elt Ideal))} {ws : List (Ref sig .tc)}
    (h : L.Forall₂ (fun op r => op.writes = {Proc.devRef .tc r}) ws) (W : Valuation τ sig (Elt Ideal)) (b : Ref sig .tc) (hb : b ∉ ws) :
    after L W (Proc.devRef .tc b) = W (Proc.devRef .tc b) := by
  induction h generalizing W with
  | nil => rfl
  | @cons op r L ws hr _ ih =>
    rw [after_cons, ih _ fun hm => hb (List.mem_cons_of_mem _ hm), op.result_of_not_mem W]
    rw [hr, Finset.mem_singleton]
    exact devRef_ne_of_ne fun e => hb (e ▸ List.mem_cons_self)

/-- A stretch leaves alone a buffer that it does not write. -/
theorem part_keep (a n : ℕ) (W : Valuation τ sig (Elt Ideal)) (b : Ref sig .tc) (hb : b ∉ (written.drop a).take n) :
    after (part a n) W (Proc.devRef .tc b) = W (Proc.devRef .tc b) :=
  keep_of (List.forall₂_take n (List.forall₂_drop a written_eq)) W b hb

/-- The contents after the first `a` operations. -/
abbrev upto (a : ℕ) (W : Valuation τ sig (Elt Ideal)) : Valuation τ sig (Elt Ideal) := after (hostOps0_2.take a) W

theorem upto_add (a n : ℕ) (W : Valuation τ sig (Elt Ideal)) : upto (a + n) W = after (part a n) (upto a W) := by
  rw [upto, List.take_add, after_append]

theorem upto_keep (a n : ℕ) (W : Valuation τ sig (Elt Ideal)) (b : Ref sig .tc) (hb : b ∉ (written.drop a).take n) :
    upto (a + n) W (Proc.devRef .tc b) = upto a W (Proc.devRef .tc b) := by
  rw [upto_add, part_keep a n _ b hb]

theorem upto_all (W : Valuation τ sig (Elt Ideal)) : upto 72 W = after hostOps0_2 W := by
  exact congrArg (after · W) (List.take_of_length_le (Nat.le_of_eq rfl))

/-- An entry of an array, as an extended real. -/
abbrev rd {s : Shape} (f : s.Idx → EReal) (x : s.Idx) : EReal := f x

variable (W : Valuation τ sig (Elt Ideal))

theorem read_v29 (h : Fin 8) (i j : Fin 4096) : after hostOps0 W (Proc.devRef .tc main_v29) (ix3 h i j) = (((∑ x : Fin 128, rd (s := S4096x1536) (W (Proc.devRef .tc main_arg0)) (ix2 i ⟨h.val * 192 + x.val, by omega⟩) * rd (s := S4096x2048) (W (Proc.devRef .tc main_arg1)) (ix2 j ⟨h.val * 256 + x.val, by omega⟩) +
        (∑ x : Fin 32, (rd (s := S4096x1536) (W (Proc.devRef .tc main_arg0)) (ix2 i ⟨h.val * 192 + (128 + x.val), by omega⟩) * rd (s := S4096x32) (W (Proc.devRef .tc main_arg4)) (ix2 i x) -
                rd (s := S4096x1536) (W (Proc.devRef .tc main_arg0)) (ix2 i ⟨h.val * 192 + (128 + (32 + x.val)), by omega⟩) * rd (s := S4096x32) (W (Proc.devRef .tc main_arg5)) (ix2 i x)) * rd (s := S4096x64) (W (Proc.devRef .tc main_arg2)) (ix2 j ⟨x.val, by omega⟩) +
          ∑ x : Fin 32, (rd (s := S4096x1536) (W (Proc.devRef .tc main_arg0)) (ix2 i ⟨h.val * 192 + (128 + (32 + x.val)), by omega⟩) * rd (s := S4096x32) (W (Proc.devRef .tc main_arg4)) (ix2 i x) +
                rd (s := S4096x1536) (W (Proc.devRef .tc main_arg0)) (ix2 i ⟨h.val * 192 + (128 + x.val), by omega⟩) * rd (s := S4096x32) (W (Proc.devRef .tc main_arg5)) (ix2 i x)) * rd (s := S4096x64) (W (Proc.devRef .tc main_arg2)) (ix2 j ⟨32 + x.val, by omega⟩))) *
      Ideal.ofBits FTy.f32 1033096506#32) : EReal) := by
  generalize hx : (ix3 h i j) = x
  simp only [hostOps0]
  after_results_simp
  after_results_loop
  subst hx
  pointwise []
  all_goals rfl

theorem read_v36 (i j : Fin 4096) : after hostOps0 W (Proc.devRef .tc main_v36) (ix2 i j) = ((IntOp.cmpi CmpIPredicate.sle (BitVec.ofNat 32 j.val) (BitVec.ofNat 32 i.val)) : BitVec 1) := by
  generalize hx : (ix2 i j) = x
  simp only [hostOps0]
  after_results_simp
  subst hx
  pointwise []
  all_goals rfl

theorem read_v6 (i : Fin 4096) (h : Fin 8) (d : Fin 256) : after hostOps0 W (Proc.devRef .tc main_v6) (ix3 i h d) = ((rd (s := S4096x2048) (W (Proc.devRef .tc main_arg1)) (ix2 i ⟨h.val * 256 + d.val, by omega⟩)) : EReal) := by
  generalize hx : (ix3 i h d) = x
  simp only [hostOps0]
  after_results_simp
  subst hx
  pointwise []
  all_goals rfl

theorem read_cst_0 : after hostOps0 W (Proc.devRef .tc main_cst_0) ix0 = (⊥ : EReal):= by
  generalize hx : ix0 = x
  simp only [hostOps0]
  after_results_simp
  subst hx
  simp [constant, Ideal.ofBits, Ideal.ieee]

theorem read_v37 (h : Fin 8) (i j : Fin 4096) : after hostOps0_1 W (Proc.devRef .tc main_v37) (ix3 h i j) = ((Scalar.select (W (Proc.devRef .tc main_v36) (ix2 i j)) (rd (s := S8x4096x4096) (W (Proc.devRef .tc main_v29)) (ix3 h i j)) (rd (s := S_) (W (Proc.devRef .tc main_cst_0)) ix0)) : EReal) := by
  generalize hx : (ix3 h i j) = x
  simp only [hostOps0_1, TRef.binary, TRef.unary, TRef.ternary, TRef.toBuf, TRef.ofBuf, cast_eq]
  after_results_simp
  subst hx
  pointwise []
  all_goals rfl

theorem read_v38 (h : Fin 8) (i : Fin 4096) : after (part 0 2) W (Proc.devRef .tc main_v38) (ix2 h i) = ((Finset.fold max (Ideal.ofBits FTy.f32 4286578688#32) (fun x => rd (s := S8x4096x4096) (W (Proc.devRef .tc main_v37)) (ix3 h i x)) Finset.univ) : EReal) := by
  generalize hx : (ix2 h i) = x
  simp only [part, hostOps0_2, List.take_succ_cons, List.take_zero, List.drop_succ_cons, List.drop_zero, List.take_nil, List.drop_nil]
  after_results_simp
  subst hx
  pointwise []
  all_goals rfl

theorem read_v40 (h : Fin 8) (i : Fin 4096) : after (part 2 3) W (Proc.devRef .tc main_v40) (ix2 h i) = ((max (Ideal.ofBits FTy.f32 4286578688#32) (rd (s := S8x4096) (W (Proc.devRef .tc main_v38)) (ix2 h i))) : EReal) := by
  generalize hx : (ix2 h i) = x
  simp only [part, hostOps0_2, List.take_succ_cons, List.take_zero, List.drop_succ_cons, List.drop_zero, List.take_nil, List.drop_nil]
  after_results_simp
  subst hx
  pointwise []
  all_goals rfl

theorem read_v44 (h : Fin 8) (i j : Fin 4096) : after (part 5 4) W (Proc.devRef .tc main_v44) (ix3 h i j) = ((Ideal.exp (rd (s := S8x4096x4096) (W (Proc.devRef .tc main_v37)) (ix3 h i j) - rd (s := S8x4096) (W (Proc.devRef .tc main_v40)) (ix2 h i))) : EReal) := by
  generalize hx : (ix3 h i j) = x
  simp only [part, hostOps0_2, List.take_succ_cons, List.take_zero, List.drop_succ_cons, List.drop_zero, List.take_nil, List.drop_nil]
  after_results_simp
  subst hx
  pointwise []
  all_goals rfl

theorem read_v48 (h : Fin 8) (i j : Fin 4096) : after (part 9 5) W (Proc.devRef .tc main_v48) (ix3 h i j) = ((Ideal.div (rd (s := S8x4096x4096) (W (Proc.devRef .tc main_v44)) (ix3 h i j)) (∑ x, rd (s := S8x4096x4096) (W (Proc.devRef .tc main_v44)) (ix3 h i x))) : EReal) := by
  generalize hx : (ix3 h i j) = x
  simp only [part, hostOps0_2, List.take_succ_cons, List.take_zero, List.drop_succ_cons, List.drop_zero, List.take_nil, List.drop_nil]
  after_results_simp
  subst hx
  pointwise []
  all_goals rfl

theorem read_v52 (i : Fin 4096) (h : Fin 8) (d : Fin 128) : after (part 14 4) W (Proc.devRef .tc main_v52) (ix2 i (⟨h.val * 128 + d.val, by omega⟩ : Fin 1024)) = ((∑ x, rd (s := S4096x8x256) (W (Proc.devRef .tc main_v6)) (ix3 x h ⟨128 + d.val, by omega⟩) * rd (s := S8x4096x4096) (W (Proc.devRef .tc main_v48)) (ix3 h i x)) : EReal) := by
  generalize hx : (ix2 i (⟨h.val * 128 + d.val, by omega⟩ : Fin 1024)) = x
  simp only [part, hostOps0_2, List.take_succ_cons, List.take_zero, List.drop_succ_cons, List.drop_zero, List.take_nil, List.drop_nil]
  after_results_simp
  subst hx
  pointwise []
  all_goals rfl

theorem read_v53 (h : Fin 8) (i : Fin 4096) : after (part 18 2) W (Proc.devRef .tc main_v53) (ix2 h i) = ((Finset.fold max (Ideal.ofBits FTy.f32 4286578688#32) (fun x => rd (s := S8x4096x4096) (W (Proc.devRef .tc main_v37)) (ix3 h i x)) Finset.univ) : EReal) := by
  generalize hx : (ix2 h i) = x
  simp only [part, hostOps0_2, List.take_succ_cons, List.take_zero, List.drop_succ_cons, List.drop_zero, List.take_nil, List.drop_nil]
  after_results_simp
  subst hx
  pointwise []
  all_goals rfl

theorem read_v57 (h : Fin 8) (i j : Fin 4096) : after (part 20 4) W (Proc.devRef .tc main_v57) (ix3 h i j) = ((Ideal.exp (rd (s := S8x4096x4096) (W (Proc.devRef .tc main_v37)) (ix3 h i j) - rd (s := S8x4096) (W (Proc.devRef .tc main_v53)) (ix2 h i))) : EReal) := by
  generalize hx : (ix3 h i j) = x
  simp only [part, hostOps0_2, List.take_succ_cons, List.take_zero, List.drop_succ_cons, List.drop_zero, List.take_nil, List.drop_nil]
  after_results_simp
  subst hx
  pointwise []
  all_goals rfl

theorem read_v64 (i : Fin 4096) (h : Fin 8) (d : Fin 128) : after (part 24 8) W (Proc.devRef .tc main_v64) (ix2 i (⟨h.val * 128 + d.val, by omega⟩ : Fin 1024)) = ((rd (s := S8x4096) (W (Proc.devRef .tc main_v53)) (ix2 h i) + Ideal.log (∑ x, rd (s := S8x4096x4096) (W (Proc.devRef .tc main_v57)) (ix3 h i x))) : EReal) := by
  generalize hx : (ix2 i (⟨h.val * 128 + d.val, by omega⟩ : Fin 1024)) = x
  simp only [part, hostOps0_2, List.take_succ_cons, List.take_zero, List.drop_succ_cons, List.drop_zero, List.take_nil, List.drop_nil]
  after_results_simp
  subst hx
  pointwise []
  all_goals rfl

theorem read_v74 (i : Fin 4096) (h : Fin 8) (d : Fin 192) : after (part 44 18) W (Proc.devRef .tc main_v74) (ix3 i h d) = ((rd (s := S4096x1536) (W (Proc.devRef .tc main_arg0)) (ix2 i ⟨h.val * 192 + d.val, by omega⟩)) : EReal) := by
  generalize hx : (ix3 i h d) = x
  simp only [part, hostOps0_2, List.take_succ_cons, List.take_zero, List.drop_succ_cons, List.drop_zero, List.take_nil, List.drop_nil]
  after_results_simp
  subst hx
  pointwise []
  all_goals rfl

theorem read_v90 (i : Fin 4096) (h : Fin 8) (d : Fin 64) : after (part 44 18) W (Proc.devRef .tc main_v90) (ix3 i h d) = ((if h_1 : d.val < 32 then
      rd (s := S4096x1536) (W (Proc.devRef .tc main_arg0)) (ix2 i ⟨h.val * 192 + (128 + d.val), by omega⟩) * rd (s := S4096x32) (W (Proc.devRef .tc main_arg4)) (ix2 i ⟨d.val, h_1⟩) - rd (s := S4096x1536) (W (Proc.devRef .tc main_arg0)) (ix2 i ⟨h.val * 192 + (128 + (32 + d.val)), by omega⟩) * rd (s := S4096x32) (W (Proc.devRef .tc main_arg5)) (ix2 i ⟨d.val, h_1⟩)
    else rd (s := S4096x1536) (W (Proc.devRef .tc main_arg0)) (ix2 i ⟨h.val * 192 + (128 + (32 + (d.val - 32))), by omega⟩) * rd (s := S4096x32) (W (Proc.devRef .tc main_arg4)) (ix2 i ⟨d.val - 32, by omega⟩) + rd (s := S4096x1536) (W (Proc.devRef .tc main_arg0)) (ix2 i ⟨h.val * 192 + (128 + (d.val - 32)), by omega⟩) * rd (s := S4096x32) (W (Proc.devRef .tc main_arg5)) (ix2 i ⟨d.val - 32, by omega⟩)) : EReal) := by
  generalize hx : (ix3 i h d) = x
  simp only [part, hostOps0_2, List.take_succ_cons, List.take_zero, List.drop_succ_cons, List.drop_zero, List.take_nil, List.drop_nil]
  after_results_simp
  subst hx
  pointwise []
  all_goals rfl

theorem read_v91 (i : Fin 4096) (h : Fin 8) (d : Fin 128) : after (part 62 3) W (Proc.devRef .tc main_v91) (ix3 i h d) = ((rd (s := S4096x8x192) (W (Proc.devRef .tc main_v74)) (ix3 i h ⟨d.val, by omega⟩)) : EReal) := by
  generalize hx : (ix3 i h d) = x
  simp only [part, hostOps0_2, List.take_succ_cons, List.take_zero, List.drop_succ_cons, List.drop_zero, List.take_nil, List.drop_nil]
  after_results_simp
  subst hx
  pointwise []
  all_goals rfl

theorem read_v92 (i : Fin 4096) (h : Fin 8) (d : Fin 64) : after (part 62 3) W (Proc.devRef .tc main_v92) (ix3 i h d) = ((0) : EReal) := by
  generalize hx : (ix3 i h d) = x
  simp only [part, hostOps0_2, List.take_succ_cons, List.take_zero, List.drop_succ_cons, List.drop_zero, List.take_nil, List.drop_nil]
  after_results_simp
  subst hx
  pointwise []
  all_goals rfl

theorem read_v93 (i : Fin 4096) (h : Fin 8) (d : Fin 256) : after (part 65 1) W (Proc.devRef .tc main_v93) (ix3 i h d) = ((if h_1 : d.val < 128 then rd (s := S4096x8x128) (W (Proc.devRef .tc main_v91)) (ix3 i h ⟨d.val, h_1⟩)
    else if h_2 : d.val - 128 < 64 then rd (s := S4096x8x64) (W (Proc.devRef .tc main_v90)) (ix3 i h ⟨d.val - 128, h_2⟩) else rd (s := S4096x8x64) (W (Proc.devRef .tc main_v92)) (ix3 i h ⟨d.val - 128 - 64, by omega⟩)) : EReal) := by
  generalize hx : (ix3 i h d) = x
  simp only [part, hostOps0_2, List.take_succ_cons, List.take_zero, List.drop_succ_cons, List.drop_zero, List.take_nil, List.drop_nil]
  simp only [after_cons, after_nil]
  rw [nary_result]
  subst hx
  pointwise []
  all_goals rfl

theorem read_v97 (i : Fin 4096) (h : Fin 8) (d : Fin 256) : after (part 66 6) W (Proc.devRef .tc main_v97) (ix2 i (⟨h.val * 256 + d.val, by omega⟩ : Fin 2048)) = ((rd (s := S4096x8x256) (W (Proc.devRef .tc main_v93)) (ix3 i (⟨(h.val * 256 + d.val) / 256, by omega⟩ : Fin 8) (⟨(h.val * 256 + d.val) % 256, by omega⟩ : Fin 256)) * Ideal.ofBits FTy.f32 1033096506#32) : EReal) := by
  generalize hx : (ix2 i (⟨h.val * 256 + d.val, by omega⟩ : Fin 2048)) = x
  simp only [part, hostOps0_2, List.take_succ_cons, List.take_zero, List.drop_succ_cons, List.drop_zero, List.take_nil, List.drop_nil]
  after_results_simp
  subst hx
  pointwise []
  all_goals rfl

end Cert.FlashBwdIdeal.Host
end
-- ==== Proof.FlashBwdTables.lean ====
module

public import proofs.«01_k».proof.Proof.FlashBwdHost
public import Idealize.ShloMosaic.Lib.Pipeline.ValueKit
public import Idealize.ShloMosaic.Lib.Pointwise
public import Idealize.ShloMosaic.Lib.Claim

/-! # The cosine and sine tables that the host widens to 256 lanes, and its padding of the keys -/

@[expose] public section
set_option maxRecDepth 16384
set_option maxHeartbeats 1000000
noncomputable section
open Idealize.ShloMosaic Idealize.ShloMosaic.TcCoe Idealize.SL.Sem
namespace Cert.FlashBwdIdeal.Host
open Cert.FlashBwdIdeal Cert.FlashBwdIdeal.Gen
open Idealize.ShloMosaic.StableHlo

variable (W : Valuation τ sig (Elt Ideal))

theorem read_v70 (i : Fin 4096) (d : Fin 256) : after (part 32 12) W (Proc.devRef .tc main_v70) (ix2 i d) = ((if h : d.val < 128 then 1 else if h_1 : d.val - 128 < 32 then rd (s := S4096x32) (W (Proc.devRef .tc main_arg4)) (ix2 i ⟨d.val - 128, h_1⟩)
    else if h_2 : d.val - 128 - 32 < 32 then rd (s := S4096x32) (W (Proc.devRef .tc main_arg4)) (ix2 i ⟨d.val - 128 - 32, h_2⟩) else 1) : EReal) := by
  simp only [part, hostOps0_2, List.take_succ_cons, List.take_zero, List.drop_succ_cons, List.drop_zero, List.take_nil, List.drop_nil]
  after_results_simp
  after_results_loop
  pointwise []
  after_results_simp
  after_results_loop
  pointwise []
  all_goals rfl

theorem read_v72 (i : Fin 4096) (d : Fin 256) : after (part 32 12) W (Proc.devRef .tc main_v72) (ix2 i d) = ((if h : d.val < 128 then 0 else if h_1 : d.val - 128 < 32 then rd (s := S4096x32) (W (Proc.devRef .tc main_arg5)) (ix2 i ⟨d.val - 128, h_1⟩)
    else if h_2 : d.val - 128 - 32 < 32 then rd (s := S4096x32) (W (Proc.devRef .tc main_arg5)) (ix2 i ⟨d.val - 128 - 32, h_2⟩) else 0) : EReal) := by
  simp only [part, hostOps0_2, List.take_succ_cons, List.take_zero, List.drop_succ_cons, List.drop_zero, List.take_nil, List.drop_nil]
  after_results_simp
  after_results_loop
  pointwise []
  after_results_simp
  after_results_loop
  pointwise []
  all_goals rfl

theorem read_v98 (i : Fin 4096) (d : Fin 128) (hc : ∀ x, W (Proc.devRef .tc main_c) x = 0#32) : after hostOps0_3 W (Proc.devRef .tc main_v98) (ix2 i d) = (if h : d.val < 64 then rd (s := S4096x64) (W (Proc.devRef .tc main_arg2)) (ix2 i ⟨d.val, h⟩) else 0 : EReal) := by
  generalize hx : (ix2 i d) = x
  simp only [hostOps0_3, TRef.binary, TRef.unary, TRef.ternary, TRef.toBuf, TRef.ofBuf, cast_eq]
  after_results_simp
  subst hx
  pointwise []
  simp only [hc]
  split
  · rfl
  · exact (by simp : (((0#32 : BitVec 32).toInt : ℝ) : EReal) = 0)

theorem read_c (x) : after (part 66 6) W (Proc.devRef .tc main_c) x = 0#32 := by
  simp only [part, hostOps0_2, List.take_succ_cons, List.take_zero, List.drop_succ_cons, List.drop_zero, List.take_nil, List.drop_nil]
  after_results_simp
  rfl

end Cert.FlashBwdIdeal.Host
end
-- ==== Proof.AttnMath.lean ====
module

public import Idealize.ShloMosaic.Lib.Pointwise
public import Idealize.ShloMosaic.Lib.Claim

/-! # The gradient of causal attention over the reals

The entries of the argument arrays as real numbers, and from them, head by head, the scores, the attention's
probabilities, and the gradients of queries, keys and values. Then the few facts by which a softmax computed with any
shift, or from a row's log-sum, is the same matrix of probabilities. -/

@[expose] public section

noncomputable section

open Idealize.ShloMosaic Idealize.ShloMosaic.TcCoe Idealize.SL.Sem

namespace Cert.Attn

/-- A sum of real numbers is the same among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The same, of terms known to be real. -/
theorem sum_coe {ι : Type} (s : Finset ι) (f : ι → EReal) (g : ι → ℝ) (h : ∀ k, f k = (g k : EReal)) :
    ∑ k ∈ s, f k = ((∑ k ∈ s, g k : ℝ) : EReal) :=
  (Finset.sum_congr rfl fun k _ => h k).trans (coe_sum s g)

/-- A sum of products of real numbers. -/
theorem sum_mul_coe {ι : Type} (s : Finset ι) (f g : ι → EReal) (f' g' : ι → ℝ) (h : ∀ k, f k = (f' k : EReal))
    (h' : ∀ k, g k = (g' k : EReal)) : ∑ k ∈ s, f k * g k = ((∑ k ∈ s, f' k * g' k : ℝ) : EReal) :=
  sum_coe s _ _ fun k => by rw [h, h', EReal.coe_mul]

/-- The greatest of finitely many extended reals, none `⊤` and one of them real, is a real number. -/
theorem fold_max_real {ι : Type} (s : Finset ι) (f : ι → EReal) (ht : ∀ x, f x ≠ ⊤) (a : ι) (ha : a ∈ s) (hb : f a ≠ ⊥) :
    ∃ t : ℝ, Finset.fold max ⊥ f s = (t : EReal) := by
  have e : Finset.fold max ⊥ f s = s.sup f := rfl
  have h1 : s.sup f ≠ ⊤ := ((Finset.sup_lt_iff (bot_lt_top)).mpr fun x _ => lt_top_iff_ne_top.mpr (ht x)).ne
  have h2 : s.sup f ≠ ⊥ := fun h => hb (le_bot_iff.mp (h ▸ Finset.le_sup ha))
  exact ⟨(s.sup f).toReal, by rw [e, EReal.coe_toReal h1 h2]⟩

/-- The entries of the argument arrays: the queries (the part without position, and the two halves of the part with),
    keys and values, the shared key with position, the gradient of the output, the cosines and sines, and the scale. -/
structure Arrs where
  qn : Fin 4096 → Fin 8 → Fin 128 → ℝ
  q1 : Fin 4096 → Fin 8 → Fin 32 → ℝ
  q2 : Fin 4096 → Fin 8 → Fin 32 → ℝ
  kn : Fin 4096 → Fin 8 → Fin 128 → ℝ
  v : Fin 4096 → Fin 8 → Fin 128 → ℝ
  kr : Fin 4096 → Fin 64 → ℝ
  g : Fin 4096 → Fin 8 → Fin 128 → ℝ
  co : Fin 4096 → Fin 32 → ℝ
  si : Fin 4096 → Fin 32 → ℝ
  sc : ℝ

namespace Arrs
variable (A : Arrs)

/-- The queries' part with position, rotated. -/
def qr (i : Fin 4096) (h : Fin 8) (d : Fin 64) : ℝ :=
  if hd : d.val < 32 then A.q1 i h ⟨d.val, hd⟩ * A.co i ⟨d.val, hd⟩ - A.q2 i h ⟨d.val, hd⟩ * A.si i ⟨d.val, hd⟩
  else A.q2 i h ⟨d.val - 32, by omega⟩ * A.co i ⟨d.val - 32, by omega⟩ + A.q1 i h ⟨d.val - 32, by omega⟩ * A.si i ⟨d.val - 32, by omega⟩

/-- The scores. -/
def s (h : Fin 8) (i j : Fin 4096) : ℝ := (∑ d, A.qn i h d * A.kn j h d + ∑ d, A.qr i h d * A.kr j d) * A.sc

/-- A row's sum of exponentials over the positions it may see. -/
def Z (h : Fin 8) (i : Fin 4096) : ℝ := ∑ j, if j ≤ i then Real.exp (A.s h i j) else 0

/-- The probabilities. -/
def P (h : Fin 8) (i j : Fin 4096) : ℝ := if j ≤ i then Real.exp (A.s h i j) / A.Z h i else 0

/-- The gradient of the probabilities. -/
def G (h : Fin 8) (i j : Fin 4096) : ℝ := ∑ d, A.g i h d * A.v j h d

/-- A row's mean of that gradient. -/
def D (h : Fin 8) (i : Fin 4096) : ℝ := ∑ j, A.P h i j * A.G h i j

/-- The gradient of the scores before the scale. -/
def ds (h : Fin 8) (i j : Fin 4096) : ℝ := A.P h i j * (A.G h i j - A.D h i)

/-- The gradient of the values. -/
def dv (h : Fin 8) (j : Fin 4096) (d : Fin 128) : ℝ := ∑ i, A.P h i j * A.g i h d

/-- The gradient of the keys. -/
def dkn (h : Fin 8) (j : Fin 4096) (d : Fin 128) : ℝ := (∑ i, A.ds h i j * A.qn i h d) * A.sc

/-- The gradient of the shared key with position, head by head. -/
def dkr (h : Fin 8) (j : Fin 4096) (d : Fin 64) : ℝ := (∑ i, A.ds h i j * A.qr i h d) * A.sc

/-- The gradient of the queries without position. -/
def dqn (h : Fin 8) (i : Fin 4096) (d : Fin 128) : ℝ := (∑ j, A.ds h i j * A.kn j h d) * A.sc

/-- The gradient of the rotated queries. -/
def dqr (h : Fin 8) (i : Fin 4096) (d : Fin 64) : ℝ := (∑ j, A.ds h i j * A.kr j d) * A.sc

/-- The same rotated back. -/
def dqb (h : Fin 8) (i : Fin 4096) (d : Fin 64) : ℝ :=
  if hd : d.val < 32 then A.dqr h i ⟨d.val, by omega⟩ * A.co i ⟨d.val, hd⟩ + A.dqr h i ⟨32 + d.val, by omega⟩ * A.si i ⟨d.val, hd⟩
  else A.dqr h i d * A.co i ⟨d.val - 32, by omega⟩ - A.dqr h i ⟨d.val - 32, by omega⟩ * A.si i ⟨d.val - 32, by omega⟩

theorem Z_pos (h : Fin 8) (i : Fin 4096) : 0 < A.Z h i := by
  refine Finset.sum_pos' (fun j _ => ?_) ⟨i, Finset.mem_univ _, ?_⟩
  · split
    · exact (Real.exp_pos _).le
    · exact le_rfl
  · rw [if_pos le_rfl]; exact Real.exp_pos _

/-- A shifted exponential, 0 at the positions that a row may not see. -/
def E (h : Fin 8) (t : ℝ) (i j : Fin 4096) : ℝ := if j ≤ i then Real.exp (A.s h i j - t) else 0

theorem E_eq (h : Fin 8) (t : ℝ) (i j : Fin 4096) : A.E h t i j = (if j ≤ i then Real.exp (A.s h i j) else 0) * Real.exp (-t) := by
  unfold E
  split
  · rw [← Real.exp_add]; rfl
  · rw [zero_mul]

theorem sum_E (h : Fin 8) (t : ℝ) (i : Fin 4096) : ∑ j, A.E h t i j = A.Z h i * Real.exp (-t) := by
  rw [Z, Finset.sum_mul]
  exact Finset.sum_congr rfl fun j _ => A.E_eq h t i j

theorem sum_E_pos (h : Fin 8) (t : ℝ) (i : Fin 4096) : 0 < ∑ j, A.E h t i j := by
  rw [sum_E]; exact mul_pos (A.Z_pos h i) (Real.exp_pos _)

/-- The shifted softmax. -/
theorem E_div (h : Fin 8) (t : ℝ) (i j : Fin 4096) : A.E h t i j / ∑ k, A.E h t i k = A.P h i j := by
  rw [sum_E, E_eq, mul_div_mul_right _ _ (Real.exp_pos _).ne', P]
  split
  · rfl
  · rw [zero_div]

/-- The probabilities from a row's log-sum. -/
theorem exp_sub_log (h : Fin 8) (t : ℝ) (i j : Fin 4096) (hij : j ≤ i) :
    Real.exp (A.s h i j - (t + Real.log (∑ k, A.E h t i k))) = A.P h i j := by
  rw [← E_div A h t i j, ← sub_sub, Real.exp_sub, Real.exp_log (A.sum_E_pos h t i), E, if_pos hij]

/-- The derivative of the softmax as the reference spells it. -/
theorem ds_ref (h : Fin 8) (t : ℝ) (i j : Fin 4096) :
    (A.G h i j / (∑ k, A.E h t i k) + -∑ k, A.G h i k * (1 / ((∑ k, A.E h t i k) * ∑ k, A.E h t i k)) * A.E h t i k) * A.E h t i j = A.ds h i j := by
  have hL := (A.sum_E_pos h t i).ne'
  have hD : ∑ k, A.G h i k * (1 / ((∑ k, A.E h t i k) * ∑ k, A.E h t i k)) * A.E h t i k = A.D h i / ∑ k, A.E h t i k := by
    rw [D, Finset.sum_div]
    refine Finset.sum_congr rfl fun k _ => ?_
    rw [← E_div A h t i k]
    field_simp
  rw [hD, ds, ← E_div A h t i j]
  field_simp
  ring

/-- A row's mean from the output's gradient and the output. -/
theorem delta (h : Fin 8) (i : Fin 4096) : ∑ d, A.g i h d * ∑ j, A.v j h d * A.P h i j = A.D h i := by
  simp only [D, G, Finset.mul_sum]
  rw [Finset.sum_comm]
  refine Finset.sum_congr rfl fun j _ => Finset.sum_congr rfl fun d _ => ?_
  ring

theorem P_of_lt (h : Fin 8) (i j : Fin 4096) (hij : ¬ j ≤ i) : A.P h i j = 0 := if_neg hij

theorem ds_of_lt (h : Fin 8) (i j : Fin 4096) (hij : ¬ j ≤ i) : A.ds h i j = 0 := by rw [ds, P_of_lt A h i j hij, zero_mul]

end Arrs

end Cert.Attn

end
-- ==== Proof.AttnReal.lean ====
module

public import proofs.«01_k».proof.Proof.AttnMath

/-! # The argument arrays as arrays of real numbers

When the six arrays hold the entries of `Arrs`; the scale as a real number; the scores summed the two ways in which
the programs sum them. -/

@[expose] public section

noncomputable section

open Idealize.ShloMosaic Idealize.ShloMosaic.TcCoe Idealize.SL.Sem

namespace Cert.Attn

/-- The scale of the scores, as the real number its word is. -/
def scale : ℝ := (Ideal.ofBits .f32 1033096506#32).toReal

theorem scale_eq : Ideal.ofBits .f32 1033096506#32 = ((scale : ℝ) : EReal) := by
  unfold scale
  simp [Ideal.ofBits, Ideal.ieee, -EReal.coe_mul]

theorem bot_eq : Ideal.ofBits .f32 4286578688#32 = (⊥ : EReal) := by
  simp [Ideal.ofBits, Ideal.ieee]

/-- The arrays hold the entries of `A`, whose scale is the scale. -/
structure Holds (A : Arrs) (q : Shape.Idx ⟨2, ![4096, 1536]⟩ → EReal) (kv : Shape.Idx ⟨2, ![4096, 2048]⟩ → EReal)
    (kr : Shape.Idx ⟨2, ![4096, 64]⟩ → EReal) (g : Shape.Idx ⟨2, ![4096, 2560]⟩ → EReal)
    (co si : Shape.Idx ⟨2, ![4096, 32]⟩ → EReal) : Prop where
  qn : ∀ (i : Fin 4096) (h : Fin 8) (d : Fin 128), q (ix2 i ⟨h.val * 192 + d.val, by omega⟩) = (A.qn i h d : EReal)
  q1 : ∀ (i : Fin 4096) (h : Fin 8) (d : Fin 32), q (ix2 i ⟨h.val * 192 + (128 + d.val), by omega⟩) = (A.q1 i h d : EReal)
  q2 : ∀ (i : Fin 4096) (h : Fin 8) (d : Fin 32), q (ix2 i ⟨h.val * 192 + (128 + (32 + d.val)), by omega⟩) = (A.q2 i h d : EReal)
  kn : ∀ (i : Fin 4096) (h : Fin 8) (d : Fin 128), kv (ix2 i ⟨h.val * 256 + d.val, by omega⟩) = (A.kn i h d : EReal)
  v : ∀ (i : Fin 4096) (h : Fin 8) (d : Fin 128), kv (ix2 i ⟨h.val * 256 + (128 + d.val), by omega⟩) = (A.v i h d : EReal)
  kr : ∀ (i : Fin 4096) (d : Fin 64), kr (ix2 i d) = (A.kr i d : EReal)
  g : ∀ (i : Fin 4096) (h : Fin 8) (d : Fin 128), g (ix2 i ⟨1536 + (h.val * 128 + d.val), by omega⟩) = (A.g i h d : EReal)
  co : ∀ (i : Fin 4096) (d : Fin 32), co (ix2 i d) = (A.co i d : EReal)
  si : ∀ (i : Fin 4096) (d : Fin 32), si (ix2 i d) = (A.si i d : EReal)
  sc : A.sc = scale

/-- Arrays of real numbers hold some such entries. -/
theorem exists_holds (q : Shape.Idx ⟨2, ![4096, 1536]⟩ → EReal) (kv : Shape.Idx ⟨2, ![4096, 2048]⟩ → EReal)
    (kr : Shape.Idx ⟨2, ![4096, 64]⟩ → EReal) (g : Shape.Idx ⟨2, ![4096, 2560]⟩ → EReal)
    (co si : Shape.Idx ⟨2, ![4096, 32]⟩ → EReal) (hq : ∀ x, q x ≠ ⊥ ∧ q x ≠ ⊤) (hkv : ∀ x, kv x ≠ ⊥ ∧ kv x ≠ ⊤)
    (hkr : ∀ x, kr x ≠ ⊥ ∧ kr x ≠ ⊤) (hg : ∀ x, g x ≠ ⊥ ∧ g x ≠ ⊤) (hco : ∀ x, co x ≠ ⊥ ∧ co x ≠ ⊤)
    (hsi : ∀ x, si x ≠ ⊥ ∧ si x ≠ ⊤) : ∃ A : Arrs, Holds A q kv kr g co si := by
  have e : ∀ x : EReal, x ≠ ⊥ ∧ x ≠ ⊤ → x = ((x.toReal : ℝ) : EReal) := fun x hx => (EReal.coe_toReal hx.2 hx.1).symm
  exact ⟨{ qn := fun i h d => (q (ix2 i ⟨h.val * 192 + d.val, by omega⟩)).toReal
           q1 := fun i h d => (q (ix2 i ⟨h.val * 192 + (128 + d.val), by omega⟩)).toReal
           q2 := fun i h d => (q (ix2 i ⟨h.val * 192 + (128 + (32 + d.val)), by omega⟩)).toReal
           kn := fun i h d => (kv (ix2 i ⟨h.val * 256 + d.val, by omega⟩)).toReal
           v := fun i h d => (kv (ix2 i ⟨h.val * 256 + (128 + d.val), by omega⟩)).toReal
           kr := fun i d => (kr (ix2 i d)).toReal
           g := fun i h d => (g (ix2 i ⟨1536 + (h.val * 128 + d.val), by omega⟩)).toReal
           co := fun i d => (co (ix2 i d)).toReal
           si := fun i d => (si (ix2 i d)).toReal
           sc := scale },
    ⟨fun _ _ _ => e _ (hq _), fun _ _ _ => e _ (hq _), fun _ _ _ => e _ (hq _), fun _ _ _ => e _ (hkv _),
      fun _ _ _ => e _ (hkv _), fun _ _ => e _ (hkr _), fun _ _ _ => e _ (hg _), fun _ _ => e _ (hco _), fun _ _ => e _ (hsi _), rfl⟩⟩

namespace Arrs
variable (A : Arrs)

/-- The scores with the rotation written out on each half. -/
theorem s_halves (h : Fin 8) (i j : Fin 4096) :
    A.s h i j = (∑ d, A.qn i h d * A.kn j h d + (∑ d : Fin 32, (A.q1 i h d * A.co i d - A.q2 i h d * A.si i d) * A.kr j ⟨d.val, by omega⟩
      + ∑ d : Fin 32, (A.q2 i h d * A.co i d + A.q1 i h d * A.si i d) * A.kr j ⟨32 + d.val, by omega⟩)) * A.sc := by
  unfold s
  congr 2
  refine (Fin.sum_univ_add (a := 32) (b := 32) fun d => A.qr i h d * A.kr j d).trans (congrArg₂ (· + ·) ?_ ?_)
  · refine Finset.sum_congr rfl fun d _ => ?_
    rw [qr, dif_pos (show (Fin.castAdd 32 d).val < 32 from d.isLt)]; rfl
  · refine Finset.sum_congr rfl fun d _ => ?_
    rw [qr, dif_neg (show ¬ (Fin.natAdd 32 d).val < 32 by simp)]
    have e : (⟨(Fin.natAdd 32 d).val - 32, by simp⟩ : Fin 32) = d := Fin.ext (by simp)
    rw [e]; rfl

/-- The queries scaled and padded to 256 lanes. -/
def qs (i : Fin 4096) (h : Fin 8) (d : Fin 256) : ℝ :=
  (if hd : d.val < 128 then A.qn i h ⟨d.val, hd⟩ else if hd : d.val - 128 < 64 then A.qr i h ⟨d.val - 128, hd⟩ else 0) * A.sc

/-- The keys, both parts, padded to 256 lanes. -/
def kc (j : Fin 4096) (h : Fin 8) (d : Fin 256) : ℝ :=
  if hd : d.val < 128 then A.kn j h ⟨d.val, hd⟩ else if hd : d.val - 128 < 64 then A.kr j ⟨d.val - 128, hd⟩ else 0

/-- The cosines over 256 lanes: 1 on the lanes without position. -/
def cq (i : Fin 4096) (d : Fin 256) : ℝ :=
  if d.val < 128 then 1 else if h : d.val - 128 < 32 then A.co i ⟨d.val - 128, h⟩ else if h : d.val - 128 - 32 < 32 then A.co i ⟨d.val - 128 - 32, h⟩ else 1

/-- The sines over 256 lanes: 0 on the lanes without position. -/
def sq (i : Fin 4096) (d : Fin 256) : ℝ :=
  if d.val < 128 then 0 else if h : d.val - 128 < 32 then A.si i ⟨d.val - 128, h⟩ else if h : d.val - 128 - 32 < 32 then A.si i ⟨d.val - 128 - 32, h⟩ else 0

theorem sum_lanes (f : Fin 256 → ℝ) : ∑ d, f d = (∑ d : Fin 128, f ⟨d.val, by omega⟩) + ((∑ d : Fin 64, f ⟨128 + d.val, by omega⟩) + ∑ d : Fin 64, f ⟨192 + d.val, by omega⟩) := by
  refine (Fin.sum_univ_add (a := 128) (b := 128) f).trans (congrArg₂ (· + ·) rfl ?_)
  refine (Fin.sum_univ_add (a := 64) (b := 64) fun d => f (Fin.natAdd 128 d)).trans (congrArg₂ (· + ·) rfl ?_)
  refine Finset.sum_congr rfl fun d _ => congrArg f (Fin.ext ?_)
  simp; omega

/-- The scores over 256 lanes. -/
theorem s_lanes (h : Fin 8) (i j : Fin 4096) : ∑ d, A.qs i h d * A.kc j h d = A.s h i j := by
  rw [sum_lanes, s, add_mul, Finset.sum_mul, Finset.sum_mul]
  have e0 : ∑ d : Fin 64, A.qs i h ⟨192 + d.val, by omega⟩ * A.kc j h ⟨192 + d.val, by omega⟩ = 0 :=
    Finset.sum_eq_zero fun d _ => by
      rw [kc, dif_neg (show ¬ 192 + d.val < 128 by omega), dif_neg (show ¬ 192 + d.val - 128 < 64 by omega), mul_zero]
  rw [e0, add_zero]
  refine congrArg₂ (· + ·) (Finset.sum_congr rfl fun d _ => ?_) (Finset.sum_congr rfl fun d _ => ?_)
  · rw [qs, kc, dif_pos d.isLt, dif_pos d.isLt]; ring
  · have h1 : ¬ 128 + d.val < 128 := by omega
    have h2 : 128 + d.val - 128 < 64 := by omega
    have e : (⟨128 + d.val - 128, h2⟩ : Fin 64) = d := Fin.ext (by simp)
    rw [qs, kc, dif_neg h1, dif_pos h2, dif_neg h1, dif_pos h2, e]; ring

end Arrs

end Cert.Attn

end
-- ==== Proof.AttnSoftmax.lean ====
module

public import proofs.«01_k».proof.Proof.AttnReal
public import Idealize.ShloMosaic.Lib.WordCmp

/-! # The masked softmax among the extended reals

A masked score is `⊥` where the row may not see the position. The exponential of a masked score less any real shift,
the quotient by its row's sum and the logarithm of that sum are then the real numbers that `Arrs` names. -/

@[expose] public section

noncomputable section

open Idealize.ShloMosaic Idealize.ShloMosaic.TcCoe Idealize.SL.Sem

namespace Cert.Attn

/-- The word comparison of two positions chooses as the positions compare. -/
theorem select_sle {α : Type} (a b : ℕ) (ha : a < 4096) (hb : b < 4096) (x y : α) :
    Scalar.select (IntOp.cmpi .sle (BitVec.ofNat 32 a) (BitVec.ofNat 32 b)) x y = if a ≤ b then x else y := by
  unfold Scalar.select
  refine if_congr ?_ rfl rfl
  exact WordCmp.cmpi_sle_ofNat_eq_one_iff (lt_of_lt_of_le ha (by norm_num)) (lt_of_lt_of_le hb (by norm_num))

namespace Arrs
variable (A : Arrs)

/-- The masked scores. -/
def ms (h : Fin 8) (i j : Fin 4096) : EReal := if j ≤ i then (A.s h i j : EReal) else ⊥

/-- A row's greatest masked score is a real number. -/
theorem max_real (h : Fin 8) (i : Fin 4096) : ∃ t : ℝ, Finset.fold max ⊥ (fun j => A.ms h i j) Finset.univ = (t : EReal) := by
  refine fold_max_real _ _ (fun j => ?_) i (Finset.mem_univ _) ?_
  · unfold ms; split
    · exact EReal.coe_ne_top _
    · exact bot_ne_top
  · unfold ms; rw [if_pos le_rfl]; exact EReal.coe_ne_bot _

theorem exp_ms (h : Fin 8) (t : ℝ) (i j : Fin 4096) : Ideal.exp (A.ms h i j - (t : EReal)) = (A.E h t i j : EReal) := by
  unfold ms E
  split
  · rw [← EReal.coe_sub]; rfl
  · rw [EReal.bot_sub]; rfl

theorem div_E_sum (h : Fin 8) (t : ℝ) (i j : Fin 4096) :
    Ideal.div (A.E h t i j : EReal) ((∑ k, A.E h t i k : ℝ) : EReal) = (A.P h i j : EReal) := by
  rw [Ideal.div_coe (A.sum_E_pos h t i).ne', ← EReal.coe_mul, ← A.E_div h t i j, mul_one_div]

theorem log_sum (h : Fin 8) (t : ℝ) (i : Fin 4096) :
    Ideal.log ((∑ k, A.E h t i k : ℝ) : EReal) = (Real.log (∑ k, A.E h t i k) : EReal) := by
  rw [Ideal.log_coe, if_neg (not_le.mpr (A.sum_E_pos h t i))]

/-- The probabilities from a row's log-sum, among the extended reals. -/
theorem exp_lse (h : Fin 8) (t : ℝ) (i j : Fin 4096) (hij : j ≤ i) :
    Ideal.exp ((A.s h i j : EReal) - ((t + Real.log (∑ k, A.E h t i k) : ℝ) : EReal)) = (A.P h i j : EReal) := by
  rw [← EReal.coe_sub]
  exact congrArg (fun r : ℝ => (r : EReal)) (A.exp_sub_log h t i j hij)

end Arrs

end Cert.Attn

end
-- ==== Proof.FlashBwdOps.lean ====
module

public import proofs.«01_k».proof.Proof.FlashBwdTables
public import proofs.«01_k».proof.Proof.AttnSoftmax

/-! # What the call's operands hold, as real numbers

From argument arrays that hold the entries of `A`: the scaled, rotated and padded queries, the padded keys, the
output of the attention, its rows' log-sums, and the tables. -/

@[expose] public section
set_option maxRecDepth 16384
set_option maxHeartbeats 1000000
noncomputable section
open Idealize.ShloMosaic Idealize.ShloMosaic.TcCoe Idealize.SL.Sem
namespace Cert.FlashBwdIdeal.Host
open Cert.FlashBwdIdeal Cert.FlashBwdIdeal.Gen Cert.Attn
open Idealize.ShloMosaic.StableHlo

abbrev written0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_cst, main_v28, main_v29, main_v30, main_v31, main_v32, main_v33, main_v34, main_v35, main_v36, main_cst_0]
theorem written0_eq : (hostOps0 : List (HloOp τ sig (Elt Ideal))).Forall₂ (fun op r => op.writes = {Proc.devRef .tc r}) written0 := by
  unfold hostOps0 written0
  repeat (first | exact List.Forall₂.nil | refine List.Forall₂.cons rfl ?_)
theorem written1_eq : (hostOps0_1 : List (HloOp τ sig (Elt Ideal))).Forall₂ (fun op r => op.writes = {Proc.devRef .tc r})
    [main_call0_v0, main_call0_v1, main_call0_v2, main_v37] := by
  unfold hostOps0_1
  repeat (first | exact List.Forall₂.nil | refine List.Forall₂.cons rfl ?_)
theorem written3_eq : (hostOps0_3 : List (HloOp τ sig (Elt Ideal))).Forall₂ (fun op r => op.writes = {Proc.devRef .tc r})
    [main_call1_v0, main_v98] := by
  unfold hostOps0_3
  repeat (first | exact List.Forall₂.nil | refine List.Forall₂.cons rfl ?_)
theorem written4_eq : (hostOps0_4 : List (HloOp τ sig (Elt Ideal))).Forall₂ (fun op r => op.writes = {Proc.devRef .tc r})
    [main_v99] := by
  unfold hostOps0_4
  repeat (first | exact List.Forall₂.nil | refine List.Forall₂.cons rfl ?_)

variable (W : Valuation τ sig (Elt Ideal))

/-- The contents after the scores and their mask. -/
abbrev masked : Valuation τ sig (Elt Ideal) := after hostOps0_1 (after hostOps0 W)
/-- The contents at the call. -/
def all : Valuation τ sig (Elt Ideal) := after hostOps0_4 (after hostOps0_3 (upto 72 (masked W)))

theorem after_five (a b d e f : List (HloOp τ sig (Elt Ideal))) :
    after (List.flatten [a, b, d, e, f]) W = after f (after e (after d (after b (after a W)))) := by
  show after (a ++ (b ++ (d ++ (e ++ (f ++ []))))) W = _
  rw [after_append, after_append, after_append, after_append, List.append_nil]

theorem all_eq : all W = after (List.flatten [hostOps0, hostOps0_1, hostOps0_2, hostOps0_3, hostOps0_4]) W :=
  (congrArg (fun X => after hostOps0_4 (after hostOps0_3 X)) (upto_all (masked W))).trans (after_five W hostOps0 hostOps0_1 hostOps0_2 hostOps0_3 hostOps0_4).symm

theorem V_eq (m : (ℓ : Loc nD τ sig) → Buf (Elt Ideal) ℓ) (c : Dev nD) (b : Ref sig .tc) :
    V m c b = all (fun b => m (c, b)) (Proc.devRef .tc b) :=
  (congrFun (all_eq fun b => m (c, b)) (Proc.devRef .tc b)).symm

theorem masked_keep (b : Ref sig .tc) (h0 : b ∉ written0) (h1 : b ∉ [main_call0_v0, main_call0_v1, main_call0_v2, main_v37]) :
    masked W (Proc.devRef .tc b) = W (Proc.devRef .tc b) :=
  (keep_of written1_eq _ b h1).trans (keep_of written0_eq _ b h0)

theorem all_keep (a n : ℕ) (hn : a + n = 72) (b : Ref sig .tc) (h : b ∉ (written.drop a).take n) (h3 : b ∉ [main_call1_v0, main_v98]) (h4 : b ∉ [main_v99]) :
    all W (Proc.devRef .tc b) = upto a (masked W) (Proc.devRef .tc b) := by
  rw [all, keep_of written4_eq _ b h4, keep_of written3_eq _ b h3, ← hn, upto_keep a n _ b h]

variable {A : Arrs} (hA : Holds A (W (Proc.devRef .tc main_arg0)) (W (Proc.devRef .tc main_arg1)) (W (Proc.devRef .tc main_arg2))
  (W (Proc.devRef .tc main_arg3)) (W (Proc.devRef .tc main_arg4)) (W (Proc.devRef .tc main_arg5)))
include hA

theorem val_v29 (h : Fin 8) (i j : Fin 4096) : after hostOps0 W (Proc.devRef .tc main_v29) (ix3 h i j) = (A.s h i j : EReal) := by
  rw [read_v29, A.s_halves, hA.sc, scale_eq]
  simp only [rd, hA.qn, hA.kn, hA.q1, hA.q2, hA.kr, hA.co, hA.si, ← EReal.coe_mul, ← EReal.coe_sub, ← EReal.coe_add, coe_sum]

theorem val_v37 (h : Fin 8) (i j : Fin 4096) : masked W (Proc.devRef .tc main_v37) (ix3 h i j) = A.ms h i j := by
  rw [masked, read_v37]
  simp only [rd]
  rw [val_v29 W hA, read_v36, read_cst_0, select_sle _ _ j.isLt i.isLt]
  rfl

theorem val_v38 (h : Fin 8) (i : Fin 4096) : ∃ t : ℝ, upto 2 (masked W) (Proc.devRef .tc main_v38) (ix2 h i) = ((t : ℝ) : EReal) := by
  obtain ⟨t, ht⟩ := A.max_real h i
  refine ⟨t, ?_⟩
  rw [show (2 : ℕ) = 0 + 2 from rfl, upto_add, read_v38, bot_eq, ← ht]
  exact congrArg (fun f : Fin 4096 → EReal => Finset.fold max ⊥ f Finset.univ) (funext fun j => val_v37 W hA h i j)

theorem val_v53 (h : Fin 8) (i : Fin 4096) : ∃ t : ℝ, upto 20 (masked W) (Proc.devRef .tc main_v53) (ix2 h i) = ((t : ℝ) : EReal) := by
  obtain ⟨t, ht⟩ := A.max_real h i
  refine ⟨t, ?_⟩
  rw [show (20 : ℕ) = 18 + 2 from rfl, upto_add, read_v53, bot_eq, ← ht]
  refine congrArg (fun f : Fin 4096 → EReal => Finset.fold max ⊥ f Finset.univ) (funext fun j => ?_)
  rw [rd, show (18 : ℕ) = 0 + 18 from rfl, upto_keep 0 18 _ main_v37 (by decide)]
  exact val_v37 W hA h i j

theorem val_v44 (h : Fin 8) (i : Fin 4096) : ∃ t : ℝ, ∀ j, upto 9 (masked W) (Proc.devRef .tc main_v44) (ix3 h i j) = (A.E h t i j : EReal) := by
  obtain ⟨t, ht⟩ := val_v38 W hA h i
  refine ⟨t, fun j => ?_⟩
  rw [show (9 : ℕ) = 5 + 4 from rfl, upto_add, read_v44]
  simp only [rd]
  rw [show upto 5 (masked W) = upto (2 + 3) (masked W) from rfl, upto_add 2 3, read_v40, part_keep 2 3 _ main_v37 (by decide)]
  simp only [rd]
  rw [ht, bot_eq, show upto 2 (masked W) = upto (0 + 2) (masked W) from rfl, upto_keep 0 2 _ main_v37 (by decide), max_bot_left]
  refine Eq.trans ?_ (A.exp_ms h t i j)
  exact congrArg (fun x : EReal => Ideal.exp (x - (t : EReal))) (val_v37 W hA h i j)

theorem val_v48 (h : Fin 8) (i j : Fin 4096) : upto 14 (masked W) (Proc.devRef .tc main_v48) (ix3 h i j) = (A.P h i j : EReal) := by
  obtain ⟨t, ht⟩ := val_v44 W hA h i
  rw [show (14 : ℕ) = 9 + 5 from rfl, upto_add, read_v48]
  simp only [rd, ht]
  rw [coe_sum, A.div_E_sum]

theorem val_v52 (i : Fin 4096) (h : Fin 8) (d : Fin 128) :
    upto 18 (masked W) (Proc.devRef .tc main_v52) (ix2 i (⟨h.val * 128 + d.val, by omega⟩ : Fin 1024)) = ((∑ j, A.v j h d * A.P h i j : ℝ) : EReal) := by
  rw [show (18 : ℕ) = 14 + 4 from rfl, upto_add, read_v52]
  refine sum_mul_coe _ _ _ _ _ (fun j => ?_) (fun j => val_v48 W hA h i j)
  rw [rd, show (14 : ℕ) = 0 + 14 from rfl, upto_keep 0 14 _ main_v6 (by decide)]
  show masked W (Proc.devRef .tc main_v6) _ = _
  rw [masked, keep_of written1_eq _ main_v6 (by decide), read_v6]
  exact hA.v j h d

theorem val_v64 (h : Fin 8) (i : Fin 4096) : ∃ t : ℝ, ∀ d : Fin 128,
    upto 32 (masked W) (Proc.devRef .tc main_v64) (ix2 i (⟨h.val * 128 + d.val, by omega⟩ : Fin 1024)) = ((t + Real.log (∑ k, A.E h t i k) : ℝ) : EReal) := by
  obtain ⟨t, ht⟩ := val_v53 W hA h i
  refine ⟨t, fun d => ?_⟩
  have e : ∀ j, upto 24 (masked W) (Proc.devRef .tc main_v57) (ix3 h i j) = (A.E h t i j : EReal) := fun j => by
    rw [show (24 : ℕ) = 20 + 4 from rfl, upto_add, read_v57]
    simp only [rd]
    rw [ht, show upto 20 (masked W) = upto (0 + 20) (masked W) from rfl, upto_keep 0 20 _ main_v37 (by decide)]
    refine Eq.trans ?_ (A.exp_ms h t i j)
    exact congrArg (fun x : EReal => Ideal.exp (x - (t : EReal))) (val_v37 W hA h i j)
  rw [show (32 : ℕ) = 24 + 8 from rfl, upto_add, read_v64]
  simp only [rd, e]
  rw [coe_sum, A.log_sum, EReal.coe_add, show upto 24 (masked W) = upto (20 + 4) (masked W) from rfl, upto_keep 20 4 _ main_v53 (by decide), ht]

theorem val_v97 (i : Fin 4096) (h : Fin 8) (d : Fin 256) :
    upto 72 (masked W) (Proc.devRef .tc main_v97) (ix2 i (⟨h.val * 256 + d.val, by omega⟩ : Fin 2048)) = (A.qs i h d : EReal) := by
  have k : ∀ b : Ref sig .tc, b ∉ (written.drop 0).take 44 → b ∉ written0 → b ∉ [main_call0_v0, main_call0_v1, main_call0_v2, main_v37] →
      upto 44 (masked W) (Proc.devRef .tc b) = W (Proc.devRef .tc b) := fun b h1 h2 h3 => (upto_keep 0 44 (masked W) b h1).trans (masked_keep W b h2 h3)
  have e74 : ∀ d : Fin 192, upto 62 (masked W) (Proc.devRef .tc main_v74) (ix3 i h d) = W (Proc.devRef .tc main_arg0) (ix2 i ⟨h.val * 192 + d.val, by omega⟩) := fun d => by
    rw [show (62 : ℕ) = 44 + 18 from rfl, upto_add, read_v74, rd, k main_arg0 (by decide) (by decide) (by decide)]
  have e90 : ∀ d : Fin 64, upto 65 (masked W) (Proc.devRef .tc main_v90) (ix3 i h d) = (A.qr i h d : EReal) := fun d => by
    rw [show (65 : ℕ) = 62 + 3 from rfl, upto_keep 62 3 _ main_v90 (by decide), show (62 : ℕ) = 44 + 18 from rfl, upto_add, read_v90, Arrs.qr]
    simp only [rd]
    rw [k main_arg0 (by decide) (by decide) (by decide), k main_arg4 (by decide) (by decide) (by decide), k main_arg5 (by decide) (by decide) (by decide)]
    split
    · rw [hA.q1 i h ⟨d.val, _⟩, hA.q2 i h ⟨d.val, _⟩, hA.co, hA.si, ← EReal.coe_mul, ← EReal.coe_mul, ← EReal.coe_sub]
    · rw [hA.q1 i h ⟨d.val - 32, _⟩, hA.q2 i h ⟨d.val - 32, _⟩, hA.co, hA.si, ← EReal.coe_mul, ← EReal.coe_mul, ← EReal.coe_add]
  have e93 : upto 66 (masked W) (Proc.devRef .tc main_v93) (ix3 i h d)
      = ((if hd : d.val < 128 then A.qn i h ⟨d.val, hd⟩ else if hd : d.val - 128 < 64 then A.qr i h ⟨d.val - 128, hd⟩ else 0 : ℝ) : EReal) := by
    rw [show (66 : ℕ) = 65 + 1 from rfl, upto_add, read_v93]
    simp only [rd]
    split
    · rw [show (65 : ℕ) = 62 + 3 from rfl, upto_add, read_v91, rd, e74]
      exact hA.qn i h ⟨d.val, _⟩
    · split
      · exact e90 _
      · rw [show (65 : ℕ) = 62 + 3 from rfl, upto_add, read_v92]; rfl
  rw [show (72 : ℕ) = 66 + 6 from rfl, upto_add, read_v97, scale_eq, ← hA.sc, Arrs.qs, EReal.coe_mul, ← e93, rd]
  have e1 : (⟨(h.val * 256 + d.val) / 256, by omega⟩ : Fin 8) = h := Fin.ext (by show (h.val * 256 + d.val) / 256 = h.val; omega)
  have e2 : (⟨(h.val * 256 + d.val) % 256, by omega⟩ : Fin 256) = d := Fin.ext (by show (h.val * 256 + d.val) % 256 = d.val; omega)
  rw [e1, e2]

omit hA in
theorem tables_keep (b : Ref sig .tc) (h1 : b ∉ (written.drop 0).take 32) (h2 : b ∉ written0) (h3 : b ∉ [main_call0_v0, main_call0_v1, main_call0_v2, main_v37]) :
    upto 32 (masked W) (Proc.devRef .tc b) = W (Proc.devRef .tc b) :=
  (upto_keep 0 32 (masked W) b h1).trans (masked_keep W b h2 h3)

theorem val_v70 (i : Fin 4096) (d : Fin 256) :
    upto 44 (masked W) (Proc.devRef .tc main_v70) (ix2 i d) = (A.cq i d : EReal) := by
  rw [show (44 : ℕ) = 32 + 12 from rfl, upto_add, read_v70, Arrs.cq]
  simp only [rd]
  rw [tables_keep W main_arg4 (by decide) (by decide) (by decide)]
  split
  · rfl
  · split
    · exact hA.co i _
    · split
      · exact hA.co i _
      · rfl

theorem val_v72 (i : Fin 4096) (d : Fin 256) :
    upto 44 (masked W) (Proc.devRef .tc main_v72) (ix2 i d) = (A.sq i d : EReal) := by
  rw [show (44 : ℕ) = 32 + 12 from rfl, upto_add, read_v72, Arrs.sq]
  simp only [rd]
  rw [tables_keep W main_arg5 (by decide) (by decide) (by decide)]
  split
  · rfl
  · split
    · exact hA.si i _
    · split
      · exact hA.si i _
      · rfl

omit hA in
theorem read_v99 (x : S4096x1024.Idx) : after hostOps0_4 W (Proc.devRef .tc main_v99) x = W (Proc.devRef .tc main_v52) x := by
  simp only [hostOps0_4]
  after_results_simp
  rfl

theorem op_q (i : Fin 4096) (h : Fin 8) (d : Fin 256) : all W (Proc.devRef .tc main_v97) (ix2 i (⟨h.val * 256 + d.val, by omega⟩ : Fin 2048)) = (A.qs i h d : EReal) := by
  rw [all_keep _ 72 0 rfl main_v97 (by decide) (by decide) (by decide)]
  exact val_v97 _ hA i h d

theorem op_kr (i : Fin 4096) (d : Fin 128) : all W (Proc.devRef .tc main_v98) (ix2 i d) = ((if h : d.val < 64 then A.kr i ⟨d.val, h⟩ else 0 : ℝ) : EReal) := by
  rw [all, keep_of written4_eq _ main_v98 (by decide), read_v98]
  · simp only [rd]
    rw [upto_keep 0 72 (masked _) main_arg2 (by decide), show upto 0 (masked W) = masked W from rfl, masked_keep _ main_arg2 (by decide) (by decide)]
    split
    · exact hA.kr i _
    · rfl
  · intro x
    rw [show (72 : ℕ) = 66 + 6 from rfl, upto_add]
    exact read_c _ x

theorem op_o (i : Fin 4096) (h : Fin 8) (d : Fin 128) : all W (Proc.devRef .tc main_v99) (ix2 i (⟨h.val * 128 + d.val, by omega⟩ : Fin 1024)) = ((∑ j, A.v j h d * A.P h i j : ℝ) : EReal) := by
  rw [all]
  rw [read_v99, keep_of written3_eq _ main_v52 (by decide), upto_keep 18 54 _ main_v52 (by decide)]
  exact val_v52 _ hA i h d

theorem op_lse (h : Fin 8) (i : Fin 4096) : ∃ t : ℝ, ∀ d : Fin 128,
    all W (Proc.devRef .tc main_v64) (ix2 i (⟨h.val * 128 + d.val, by omega⟩ : Fin 1024)) = ((t + Real.log (∑ k, A.E h t i k) : ℝ) : EReal) := by
  obtain ⟨t, ht⟩ := val_v64 _ hA h i
  refine ⟨t, fun d => ?_⟩
  rw [all_keep _ 32 40 rfl main_v64 (by decide) (by decide) (by decide)]
  exact ht d

theorem op_cq (i : Fin 4096) (d : Fin 256) : all W (Proc.devRef .tc main_v70) (ix2 i d) = (A.cq i d : EReal) := by
  rw [all_keep _ 44 28 rfl main_v70 (by decide) (by decide) (by decide)]
  exact val_v70 _ hA i d

theorem op_sq (i : Fin 4096) (d : Fin 256) : all W (Proc.devRef .tc main_v72) (ix2 i d) = (A.sq i d : EReal) := by
  rw [all_keep _ 44 28 rfl main_v72 (by decide) (by decide) (by decide)]
  exact val_v72 _ hA i d

end Cert.FlashBwdIdeal.Host
end
-- ==== Proof.FlashBwdBlocks.lean ====
module
public import proofs.«01_k».proof.Proof.FlashBwdData
public import Idealize.ShloMosaic.Lib.Pipeline.ValueKit
public import Idealize.ShloMosaic.Lib.Pointwise
public import Idealize.ShloMosaic.Lib.Claim
@[expose] public section
set_option maxRecDepth 16384

/-! # Where a point's blocks lie in their arrays -/

noncomputable section
open Idealize.ShloMosaic Idealize.ShloMosaic.TcCoe Idealize.SL.Sem
namespace Cert.FlashBwdIdeal.Hand
open Cert.FlashBwdIdeal.Gen
variable (m : (ℓ : Loc nD τ sig) → Buf (Elt Ideal) ℓ) (c : Dev nD) (t : Fin cfg0.N)
/-- The head of a point. -/
def hd (t : Fin cfg0.N) : Fin 8 := ⟨t.val / 20, by have : t.val < 160 := t.isLt; omega⟩

theorem idx0 : ∀ t : Fin cfg0.N, win0_0.index t = ![(qb t.val).val, t.val / 20] := (by decide +kernel : ∀ t : Fin grid0.N, _)
theorem idx1 : ∀ t : Fin cfg0.N, win0_1.index t = ![(kb t.val).val, 2 * (t.val / 20)] := (by decide +kernel : ∀ t : Fin grid0.N, _)
theorem idx2 : ∀ t : Fin cfg0.N, win0_2.index t = ![(kb t.val).val, 0] := (by decide +kernel : ∀ t : Fin grid0.N, _)
theorem idx3 : ∀ t : Fin cfg0.N, win0_3.index t = ![(kb t.val).val, 2 * (t.val / 20) + 1] := (by decide +kernel : ∀ t : Fin grid0.N, _)
theorem idx4 : ∀ t : Fin cfg0.N, win0_4.index t = ![(qb t.val).val, 12 + t.val / 20] := (by decide +kernel : ∀ t : Fin grid0.N, _)
theorem idx5 : ∀ t : Fin cfg0.N, win0_5.index t = ![(qb t.val).val, t.val / 20] := (by decide +kernel : ∀ t : Fin grid0.N, _)
theorem idx6 : ∀ t : Fin cfg0.N, win0_6.index t = ![(qb t.val).val, t.val / 20] := (by decide +kernel : ∀ t : Fin grid0.N, _)
theorem idx7 : ∀ t : Fin cfg0.N, fin t.val → win0_7.index t = ![(qb t.val).val, 0] := (by decide +kernel : ∀ t : Fin grid0.N, _)
theorem idx8 : ∀ t : Fin cfg0.N, fin t.val → win0_8.index t = ![(qb t.val).val, 0] := (by decide +kernel : ∀ t : Fin grid0.N, _)
theorem idx9 : ∀ t : Fin cfg0.N, win0_9.index t = ![(kb t.val).val, t.val / 20] := (by decide +kernel : ∀ t : Fin grid0.N, _)
theorem idx10 : ∀ t : Fin cfg0.N, win0_10.index t = ![(kb t.val).val, t.val / 20] := (by decide +kernel : ∀ t : Fin grid0.N, _)
theorem idx11 : ∀ t : Fin cfg0.N, fin t.val → win0_11.index t = ![(qb t.val).val, t.val / 20] := (by decide +kernel : ∀ t : Fin grid0.N, _)

theorem read0 (f : S4096x2048.Idx → EReal) (i : Fin 1024) (d : Fin 256) : ((cfg0.win 0).blk t).view.read (Elt Ideal) f (ix2 i d)
    = f (ix2 (⟨(qb t.val).val * 1024 + i.val, by have := (qb t.val).isLt; omega⟩ : Fin 4096) (⟨(t.val / 20) * 256 + d.val, by have : t.val < 160 := t.isLt; omega⟩ : Fin 2048)) := by
  blk_point [idx0 t]

theorem read1 (f : S4096x2048.Idx → EReal) (i : Fin 512) (d : Fin 128) : ((cfg0.win 1).blk t).view.read (Elt Ideal) f (ix2 i d)
    = f (ix2 (⟨(kb t.val).val * 512 + i.val, by have := (kb t.val).isLt; omega⟩ : Fin 4096) (⟨(2 * (t.val / 20)) * 128 + d.val, by have : t.val < 160 := t.isLt; omega⟩ : Fin 2048)) := by
  blk_point [idx1 t]

theorem read2 (f : S4096x128.Idx → EReal) (i : Fin 512) (d : Fin 128) : ((cfg0.win 2).blk t).view.read (Elt Ideal) f (ix2 i d)
    = f (ix2 (⟨(kb t.val).val * 512 + i.val, by have := (kb t.val).isLt; omega⟩ : Fin 4096) (⟨d.val, by have : t.val < 160 := t.isLt; omega⟩ : Fin 128)) := by
  blk_point [idx2 t]

theorem read3 (f : S4096x2048.Idx → EReal) (i : Fin 512) (d : Fin 128) : ((cfg0.win 3).blk t).view.read (Elt Ideal) f (ix2 i d)
    = f (ix2 (⟨(kb t.val).val * 512 + i.val, by have := (kb t.val).isLt; omega⟩ : Fin 4096) (⟨(2 * (t.val / 20) + 1) * 128 + d.val, by have : t.val < 160 := t.isLt; omega⟩ : Fin 2048)) := by
  blk_point [idx3 t]

theorem read4 (f : S4096x2560.Idx → EReal) (i : Fin 1024) (d : Fin 128) : ((cfg0.win 4).blk t).view.read (Elt Ideal) f (ix2 i d)
    = f (ix2 (⟨(qb t.val).val * 1024 + i.val, by have := (qb t.val).isLt; omega⟩ : Fin 4096) (⟨(12 + t.val / 20) * 128 + d.val, by have : t.val < 160 := t.isLt; omega⟩ : Fin 2560)) := by
  blk_point [idx4 t]

theorem read5 (f : S4096x1024.Idx → EReal) (i : Fin 1024) (d : Fin 128) : ((cfg0.win 5).blk t).view.read (Elt Ideal) f (ix2 i d)
    = f (ix2 (⟨(qb t.val).val * 1024 + i.val, by have := (qb t.val).isLt; omega⟩ : Fin 4096) (⟨(t.val / 20) * 128 + d.val, by have : t.val < 160 := t.isLt; omega⟩ : Fin 1024)) := by
  blk_point [idx5 t]

theorem read6 (f : S4096x1024.Idx → EReal) (i : Fin 1024) (d : Fin 128) : ((cfg0.win 6).blk t).view.read (Elt Ideal) f (ix2 i d)
    = f (ix2 (⟨(qb t.val).val * 1024 + i.val, by have := (qb t.val).isLt; omega⟩ : Fin 4096) (⟨(t.val / 20) * 128 + d.val, by have : t.val < 160 := t.isLt; omega⟩ : Fin 1024)) := by
  blk_point [idx6 t]

theorem read7 (hf : fin t.val) (f : S4096x256.Idx → EReal) (i : Fin 1024) (d : Fin 256) : ((cfg0.win 7).blk t).view.read (Elt Ideal) f (ix2 i d)
    = f (ix2 (⟨(qb t.val).val * 1024 + i.val, by have := (qb t.val).isLt; omega⟩ : Fin 4096) (⟨d.val, by have : t.val < 160 := t.isLt; omega⟩ : Fin 256)) := by
  blk_point [idx7 t hf]

theorem read8 (hf : fin t.val) (f : S4096x256.Idx → EReal) (i : Fin 1024) (d : Fin 256) : ((cfg0.win 8).blk t).view.read (Elt Ideal) f (ix2 i d)
    = f (ix2 (⟨(qb t.val).val * 1024 + i.val, by have := (qb t.val).isLt; omega⟩ : Fin 4096) (⟨d.val, by have : t.val < 160 := t.isLt; omega⟩ : Fin 256)) := by
  blk_point [idx8 t hf]
end Cert.FlashBwdIdeal.Hand
end
-- ==== Proof.FlashBwdPay.lean ====
module
public import proofs.«01_k».proof.Proof.FlashBwdBlocks
public import proofs.«01_k».proof.Proof.AttnSoftmax
public import Idealize.ShloMosaic.Lib.Pipeline.ValueKit
public import Idealize.ShloMosaic.Lib.Pointwise
public import Idealize.ShloMosaic.Lib.Claim
@[expose] public section
set_option maxRecDepth 16384

/-! # What one point adds

With a point's blocks holding real numbers, the probabilities and the scores' gradient on its tile, and what it adds
to the three accumulators. -/

set_option maxHeartbeats 1000000
open Idealize.ShloMosaic Idealize.ShloMosaic.TcCoe Idealize.SL.Sem
namespace Cert.FlashBwdIdeal.Hand
open Cert.FlashBwdIdeal.Gen Cert.Attn

theorem fold_max_const (f : Fin 128 → EReal) (a : EReal) (h : ∀ x, f x = a) : Finset.fold max ⊥ f Finset.univ = a := by
  have e : f = fun _ => a := funext h
  subst e
  exact Finset.sup_const ⟨0, Finset.mem_univ _⟩ a

/-- A row of a query block. -/
def qi (q : Fin 4) (i : Fin 1024) : Fin 4096 := ⟨q.val * 1024 + i.val, by omega⟩
/-- A row of a key block. -/
def kj (k : Fin 8) (j : Fin 512) : Fin 4096 := ⟨k.val * 512 + j.val, by omega⟩

/-- The blocks of head `h`, query block `q` and key block `k`. -/
structure Tile (A : Arrs) (h : Fin 8) (q : Fin 4) (k : Fin 8) (x0 : S1024x256.Idx → EReal) (x1 x2 x3 : S512x128.Idx → EReal)
    (x4 x5 x6 : S1024x128.Idx → EReal) : Prop where
  x0 : ∀ i d, x0 (ix2 i d) = (A.qs (qi q i) h d : EReal)
  x1 : ∀ j d, x1 (ix2 j d) = (A.kn (kj k j) h d : EReal)
  x2 : ∀ j (d : Fin 128), x2 (ix2 j d) = ((if hd : d.val < 64 then A.kr (kj k j) ⟨d.val, hd⟩ else 0 : ℝ) : EReal)
  x3 : ∀ j d, x3 (ix2 j d) = (A.v (kj k j) h d : EReal)
  x4 : ∀ i d, x4 (ix2 i d) = (A.g (qi q i) h d : EReal)
  x5 : ∀ i d, x5 (ix2 i d) = ((∑ j, A.v j h d * A.P h (qi q i) j : ℝ) : EReal)
  x6 : ∀ i, ∃ t : ℝ, ∀ d : Fin 128, x6 (ix2 i d) = ((t + Real.log (∑ j, A.E h t (qi q i) j) : ℝ) : EReal)

variable {A : Arrs} {h : Fin 8} {q : Fin 4} {k : Fin 8} {x0 : S1024x256.Idx → EReal} {x1 x2 x3 : S512x128.Idx → EReal} {x4 x5 x6 : S1024x128.Idx → EReal}
  (T : Tile A h q k x0 x1 x2 x3 x4 x5 x6)
include T

theorem Tile.keys (j : Fin 512) (d : Fin 256) :
    (if h : d.val < 128 then x1 (ix2 j ⟨d.val, h⟩) else x2 (ix2 j ⟨d.val - 128, by omega⟩)) = (A.kc (kj k j) h d : EReal) := by
  unfold Arrs.kc
  split
  · exact T.x1 j _
  · exact T.x2 j _

theorem keys8 (j : Fin 512) (d : Fin 256) : k0_pay8 (F := Ideal) x1 x2 (ix2 j d) = (A.kc (kj k j) h d : EReal) := by
  pointwise [k0_pay8]
  exact T.keys j d

theorem keys2 (j : Fin 512) (d : Fin 256) : k0_pay2 (F := Ideal) x1 x2 (ix2 j d) = (A.kc (kj k j) h d : EReal) := by
  pointwise [k0_pay2]
  exact T.keys j d

theorem Tile.score (f : Fin 256 → EReal) (j : Fin 512) (hf : ∀ d, f d = (A.kc (kj k j) h d : EReal)) (i : Fin 1024) :
    ∑ d, x0 (ix2 i d) * f d = (A.s h (qi q i) (kj k j) : EReal) := by
  rw [← A.s_lanes]
  exact sum_mul_coe _ _ _ _ _ (fun d => T.x0 i d) hf

theorem Tile.prob (i : Fin 1024) (j : Fin 512) (hij : kj k j ≤ qi q i) :
    Ideal.exp ((A.s h (qi q i) (kj k j) : EReal) - Finset.fold max (Ideal.ofBits FTy.f32 4286578688#32) (fun d => x6 (ix2 i d)) Finset.univ)
      = (A.P h (qi q i) (kj k j) : EReal) := by
  obtain ⟨t, ht⟩ := T.x6 i
  rw [bot_eq, fold_max_const _ _ ht]
  exact A.exp_lse h t _ _ hij

theorem Tile.delta (i : Fin 1024) : ∑ d, x4 (ix2 i d) * x5 (ix2 i d) = (A.D h (qi q i) : EReal) := by
  rw [← A.delta]
  exact sum_mul_coe _ _ _ _ _ (fun d => T.x4 i d) (fun d => T.x5 i d)

theorem Tile.gradP (i : Fin 1024) (j : Fin 512) : ∑ d, x4 (ix2 i d) * x3 (ix2 j d) = (A.G h (qi q i) (kj k j) : EReal) :=
  sum_mul_coe _ _ _ _ _ (fun d => T.x4 i d) (fun d => T.x3 j d)

/-- The probabilities below the diagonal. -/
theorem prob4 (i : Fin 1024) (j : Fin 512) (hij : kj k j ≤ qi q i) : k0_pay4 (F := Ideal) x1 x2 x0 x6 (ix2 i j) = (A.P h (qi q i) (kj k j) : EReal) := by
  pointwise [k0_pay4]
  rw [← T.prob i j hij, ← T.score _ j (keys2 T j) i]
  refine congrArg (fun x : EReal => Ideal.exp (x - _)) (Finset.sum_congr rfl fun d _ => ?_)
  pointwise [k0_pay3]

/-- The probabilities of a block with the diagonal. -/
theorem prob10 (kw qw : BitVec 32) (hk : kw = BitVec.ofNat 32 k.val) (hq : qw = BitVec.ofNat 32 q.val) (i : Fin 1024) (j : Fin 512) :
    k0_pay10 (F := Ideal) kw qw x1 x2 x0 x6 (ix2 i j) = (A.P h (qi q i) (kj k j) : EReal) := by
  pointwise [k0_pay10]
  subst hk hq
  have e1 : IntOp.addi (Scalar.muli (BitVec.ofNat 32 k.val) 512#32) (BitVec.ofNat 32 j.val) = BitVec.ofNat 32 (kj k j).val := by
    show BitVec.ofNat 32 k.val * BitVec.ofNat 32 512 + BitVec.ofNat 32 j.val = _
    rw [← BitVec.ofNat_mul, ← BitVec.ofNat_add]; rfl
  have e2 : IntOp.addi (Scalar.muli (BitVec.ofNat 32 q.val) 1024#32) (BitVec.ofNat 32 i.val) = BitVec.ofNat 32 (qi q i).val := by
    show BitVec.ofNat 32 q.val * BitVec.ofNat 32 1024 + BitVec.ofNat 32 i.val = _
    rw [← BitVec.ofNat_mul, ← BitVec.ofNat_add]; rfl
  rw [e1, e2, select_sle _ _ (kj k j).isLt (qi q i).isLt]
  by_cases hij : kj k j ≤ qi q i
  · rw [if_pos (show (kj k j).val ≤ (qi q i).val from hij), ← T.prob i j hij, ← T.score _ j (keys8 T j) i]
    refine congrArg (fun x : EReal => Ideal.exp (x - _)) (Finset.sum_congr rfl fun d _ => ?_)
    pointwise [k0_pay9]
  · rw [if_neg (show ¬ (kj k j).val ≤ (qi q i).val from hij), A.P_of_lt _ _ _ hij]; rfl

theorem ds6 (i : Fin 1024) (j : Fin 512) (hij : kj k j ≤ qi q i) : k0_pay6 (F := Ideal) x1 x2 x0 x6 x4 x5 x3 (ix2 i j) = (A.ds h (qi q i) (kj k j) : EReal) := by
  pointwise [k0_pay6]
  refine (congrArg₂ (fun a b : EReal => a * b) (prob4 T i j hij) (congrArg₂ (fun a b : EReal => a - b) (Eq.trans ?_ (T.gradP i j)) (T.delta i))).trans ?_
  · refine Finset.sum_congr rfl fun d _ => ?_
    pointwise [k0_pay5]
  · rw [← EReal.coe_sub, ← EReal.coe_mul]; rfl

theorem ds12 (kw qw : BitVec 32) (hk : kw = BitVec.ofNat 32 k.val) (hq : qw = BitVec.ofNat 32 q.val) (i : Fin 1024) (j : Fin 512) :
    k0_pay12 (F := Ideal) kw qw x1 x2 x0 x6 x4 x5 x3 (ix2 i j) = (A.ds h (qi q i) (kj k j) : EReal) := by
  pointwise [k0_pay12]
  refine (congrArg₂ (fun a b : EReal => a * b) (prob10 T kw qw hk hq i j) (congrArg₂ (fun a b : EReal => a - b) (Eq.trans ?_ (T.gradP i j)) (T.delta i))).trans ?_
  · refine Finset.sum_congr rfl fun d _ => ?_
    pointwise [k0_pay11]
  · rw [← EReal.coe_sub, ← EReal.coe_mul]; rfl

/-- What the point adds to the values' gradient. -/
theorem add7 (hij : ∀ i j, kj k j ≤ qi q i) (dv : S512x128.Idx → EReal) (j : Fin 512) (d : Fin 128) :
    k0_pay7 (F := Ideal) x1 x2 x0 x6 x4 dv (ix2 j d) = dv (ix2 j d) + ((∑ i, A.P h (qi q i) (kj k j) * A.g (qi q i) h d : ℝ) : EReal) := by
  pointwise [k0_pay7]
  refine congrArg (fun x : EReal => dv (ix2 j d) + x) (sum_mul_coe _ _ _ _ _ (fun i => prob4 T i j (hij i j)) (fun i => ?_))
  exact T.x4 i d

theorem add18 (kw qw : BitVec 32) (hk : kw = BitVec.ofNat 32 k.val) (hq : qw = BitVec.ofNat 32 q.val) (dv : S512x128.Idx → EReal) (j : Fin 512) (d : Fin 128) :
    k0_pay18 (F := Ideal) (k0_pay10 kw qw x1 x2 x0 x6) (k0_pay11 x4) dv (ix2 j d) = dv (ix2 j d) + ((∑ i, A.P h (qi q i) (kj k j) * A.g (qi q i) h d : ℝ) : EReal) := by
  pointwise [k0_pay18]
  refine congrArg (fun x : EReal => dv (ix2 j d) + x) (sum_mul_coe _ _ _ _ _ (fun i => prob10 T kw qw hk hq i j) (fun i => ?_))
  pointwise [k0_pay11]
  exact T.x4 i d

/-- What the point adds to the keys' gradient. -/
theorem add16 (w : S1024x512.Idx → EReal) (hw : ∀ i j, w (ix2 i j) = (A.ds h (qi q i) (kj k j) : EReal)) (dk : S512x256.Idx → EReal) (j : Fin 512) (d : Fin 256) :
    k0_pay16 (F := Ideal) (k0_pay3 x0) w dk (ix2 j d) = dk (ix2 j d) + ((∑ i, A.ds h (qi q i) (kj k j) * A.qs (qi q i) h d : ℝ) : EReal) := by
  pointwise [k0_pay16, k0_pay3]
  exact congrArg (fun x : EReal => dk (ix2 j d) + x) (sum_mul_coe _ _ _ _ _ (fun i => hw i j) (fun i => T.x0 i d))

theorem add19 (w : S1024x512.Idx → EReal) (hw : ∀ i j, w (ix2 i j) = (A.ds h (qi q i) (kj k j) : EReal)) (dk : S512x256.Idx → EReal) (j : Fin 512) (d : Fin 256) :
    k0_pay19 (F := Ideal) (k0_pay9 x0) w dk (ix2 j d) = dk (ix2 j d) + ((∑ i, A.ds h (qi q i) (kj k j) * A.qs (qi q i) h d : ℝ) : EReal) := by
  pointwise [k0_pay19, k0_pay9]
  exact congrArg (fun x : EReal => dk (ix2 j d) + x) (sum_mul_coe _ _ _ _ _ (fun i => hw i j) (fun i => T.x0 i d))

/-- What the point adds to the queries' gradient. -/
theorem add17 (w : S1024x512.Idx → EReal) (hw : ∀ i j, w (ix2 i j) = (A.ds h (qi q i) (kj k j) : EReal)) (r : S1024x256.Idx → EReal) (i : Fin 1024) (d : Fin 256) :
    k0_pay17 (F := Ideal) (k0_pay2 x1 x2) w r (ix2 i d) = r (ix2 i d) + ((∑ j, A.ds h (qi q i) (kj k j) * A.kc (kj k j) h d : ℝ) : EReal) := by
  pointwise [k0_pay17]
  exact congrArg (fun x : EReal => r (ix2 i d) + x) (sum_mul_coe _ _ _ _ _ (fun j => hw i j) (fun j => keys2 T j d))

theorem add20 (w : S1024x512.Idx → EReal) (hw : ∀ i j, w (ix2 i j) = (A.ds h (qi q i) (kj k j) : EReal)) (r : S1024x256.Idx → EReal) (i : Fin 1024) (d : Fin 256) :
    k0_pay20 (F := Ideal) (k0_pay8 x1 x2) w r (ix2 i d) = r (ix2 i d) + ((∑ j, A.ds h (qi q i) (kj k j) * A.kc (kj k j) h d : ℝ) : EReal) := by
  pointwise [k0_pay20]
  exact congrArg (fun x : EReal => r (ix2 i d) + x) (sum_mul_coe _ _ _ _ _ (fun j => hw i j) (fun j => keys8 T j d))

end Cert.FlashBwdIdeal.Hand
end
-- ==== Proof.FlashBwdTile.lean ====
module
public import proofs.«01_k».proof.Proof.FlashBwdOps
public import proofs.«01_k».proof.Proof.FlashBwdPay
public import Idealize.ShloMosaic.Lib.Pipeline.ValueKit
public import Idealize.ShloMosaic.Lib.Pointwise
public import Idealize.ShloMosaic.Lib.Claim
@[expose] public section
set_option maxRecDepth 16384

/-! # A point's blocks are a tile -/

set_option maxHeartbeats 1000000
open Idealize.ShloMosaic Idealize.ShloMosaic.TcCoe Idealize.SL.Sem
namespace Cert.FlashBwdIdeal.Hand
open Cert.FlashBwdIdeal.Gen Cert.Attn Cert.FlashBwdIdeal.Host

variable {m : (ℓ : Loc nD τ sig) → Buf (Elt Ideal) ℓ} {c : Dev nD} {A : Arrs}

/-- Core `c`'s argument arrays hold the entries of `A`. -/
abbrev HoldsAt (m : (ℓ : Loc nD τ sig) → Buf (Elt Ideal) ℓ) (c : Dev nD) (A : Arrs) : Prop :=
  Holds A (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

theorem iblk_read (m : (ℓ : Loc nD τ sig) → Buf (Elt Ideal) ℓ) (c : Dev nD) (w : Fin cfg0.W) (t : Fin cfg0.N) (y : ((cfg0.win w).xblock (cfg0.grid.coords t)).Idx) :
    iblk m c w t y = ((cfg0.win w).blk t).view.read (Elt Ideal) (all (fun b => m (c, b)) (Proc.devRef .tc (Pipeline.arrRef spec0 w))) y :=
  congrArg (fun f => ((cfg0.win w).blk t).view.read (Elt Ideal) f y) (V_eq m c (Pipeline.arrRef spec0 w))

theorem all_arg (W : Valuation τ sig (Elt Ideal)) (b : Ref sig .tc) (h : b ∉ (written.drop 0).take 72) (h3 : b ∉ [main_call1_v0, main_v98]) (h4 : b ∉ [main_v99])
    (h0 : b ∉ written0) (h1 : b ∉ [main_call0_v0, main_call0_v1, main_call0_v2, main_v37]) : all W (Proc.devRef .tc b) = W (Proc.devRef .tc b) :=
  (all_keep W 0 72 rfl b h h3 h4).trans (masked_keep W b h0 h1)

variable (hA : HoldsAt m c A)
include hA

theorem blk0 (t : Fin cfg0.N) (i : Fin 1024) (d : Fin 256) : iblk m c 0 t (ix2 i d) = (A.qs (qi (qb t.val) i) (hd t) d : EReal) := by
  refine (iblk_read m c 0 t (ix2 i d)).trans ((read0 t _ i d).trans ?_)
  exact op_q (fun b => m (c, b)) hA (qi (qb t.val) i) (hd t) d

theorem blk1 (t : Fin cfg0.N) (j : Fin 512) (d : Fin 128) : iblk m c 1 t (ix2 j d) = (A.kn (kj (kb t.val) j) (hd t) d : EReal) := by
  refine (iblk_read m c 1 t (ix2 j d)).trans ((read1 t _ j d).trans ?_)
  refine (congrFun (all_arg (fun b => m (c, b)) main_arg1 (by decide) (by decide) (by decide) (by decide) (by decide)) _).trans ?_
  refine Eq.trans (congrArg (m (c, Proc.devRef .tc main_arg1)) ?_) (hA.kn (kj (kb t.val) j) (hd t) d)
  exact congrArg (ix2 _) (Fin.ext (by show 2 * (t.val / 20) * 128 + d.val = t.val / 20 * 256 + d.val; omega))

theorem blk2 (t : Fin cfg0.N) (j : Fin 512) (d : Fin 128) : iblk m c 2 t (ix2 j d) = (((if h : d.val < 64 then A.kr (kj (kb t.val) j) ⟨d.val, h⟩ else 0 : ℝ) : EReal) : EReal) := by
  refine (iblk_read m c 2 t (ix2 j d)).trans ((read2 t _ j d).trans ?_)
  exact op_kr (fun b => m (c, b)) hA (kj (kb t.val) j) d

theorem blk3 (t : Fin cfg0.N) (j : Fin 512) (d : Fin 128) : iblk m c 3 t (ix2 j d) = (A.v (kj (kb t.val) j) (hd t) d : EReal) := by
  refine (iblk_read m c 3 t (ix2 j d)).trans ((read3 t _ j d).trans ?_)
  refine (congrFun (all_arg (fun b => m (c, b)) main_arg1 (by decide) (by decide) (by decide) (by decide) (by decide)) _).trans ?_
  refine Eq.trans (congrArg (m (c, Proc.devRef .tc main_arg1)) ?_) (hA.v (kj (kb t.val) j) (hd t) d)
  exact congrArg (ix2 _) (Fin.ext (by show (2 * (t.val / 20) + 1) * 128 + d.val = t.val / 20 * 256 + (128 + d.val); omega))

theorem blk4 (t : Fin cfg0.N) (i : Fin 1024) (d : Fin 128) : iblk m c 4 t (ix2 i d) = (A.g (qi (qb t.val) i) (hd t) d : EReal) := by
  refine (iblk_read m c 4 t (ix2 i d)).trans ((read4 t _ i d).trans ?_)
  refine (congrFun (all_arg (fun b => m (c, b)) main_arg3 (by decide) (by decide) (by decide) (by decide) (by decide)) _).trans ?_
  refine Eq.trans (congrArg (m (c, Proc.devRef .tc main_arg3)) ?_) (hA.g (qi (qb t.val) i) (hd t) d)
  exact congrArg (ix2 _) (Fin.ext (by show (12 + t.val / 20) * 128 + d.val = 1536 + (t.val / 20 * 128 + d.val); omega))

theorem blk5 (t : Fin cfg0.N) (i : Fin 1024) (d : Fin 128) : iblk m c 5 t (ix2 i d) = (((∑ j, A.v j (hd t) d * A.P (hd t) (qi (qb t.val) i) j : ℝ) : EReal) : EReal) := by
  refine (iblk_read m c 5 t (ix2 i d)).trans ((read5 t _ i d).trans ?_)
  exact op_o (fun b => m (c, b)) hA (qi (qb t.val) i) (hd t) d

theorem blk6 (t : Fin cfg0.N) (i : Fin 1024) : ∃ u : ℝ, ∀ d : Fin 128, iblk m c 6 t (ix2 i d) = ((u + Real.log (∑ j, A.E (hd t) u (qi (qb t.val) i) j) : ℝ) : EReal) := by
  obtain ⟨u, hu⟩ := op_lse (fun b => m (c, b)) hA (hd t) (qi (qb t.val) i)
  exact ⟨u, fun d => (iblk_read m c 6 t (ix2 i d)).trans ((read6 t _ i d).trans (hu d))⟩

theorem tile (t : Fin cfg0.N) : Tile A (hd t) (qb t.val) (kb t.val) (iblk m c 0 t) (iblk m c 1 t) (iblk m c 2 t) (iblk m c 3 t)
    (iblk m c 4 t) (iblk m c 5 t) (iblk m c 6 t) :=
  ⟨blk0 hA t, blk1 hA t, blk2 hA t, blk3 hA t, blk4 hA t, blk5 hA t, blk6 hA t⟩

end Cert.FlashBwdIdeal.Hand
end
-- ==== Proof.FlashBwdAcc.lean ====
module
public import proofs.«01_k».proof.Proof.FlashBwdTile
public import Idealize.ShloMosaic.Lib.Pipeline.ValueKit
public import Idealize.ShloMosaic.Lib.Pointwise
public import Idealize.ShloMosaic.Lib.Claim
@[expose] public section
set_option maxRecDepth 16384

/-! # What the accumulators hold

Each point's blocks are a tile of `Tile`; by induction over a head's twenty points, the sums that the three
accumulators have reached. -/

set_option maxHeartbeats 1000000
open Idealize.ShloMosaic Idealize.ShloMosaic.TcCoe Idealize.SL.Sem
namespace Cert.FlashBwdIdeal.Hand
open Cert.FlashBwdIdeal.Gen Cert.Attn Cert.FlashBwdIdeal.Host

variable {m : (ℓ : Loc nD τ sig) → Buf (Elt Ideal) ℓ} {c : Dev nD} {A : Arrs}

/-! ## The tables of points -/

theorem below : ∀ t : Fin cfg0.N, ¬diag t.val → (kb t.val).val * 512 + 511 ≤ (qb t.val).val * 1024 := by decide +kernel
theorem kw_eq : ∀ t : Fin cfg0.N, kw (grid0.coords t) = BitVec.ofNat 32 (kb t.val).val := by decide +kernel
theorem qw_eq : ∀ t : Fin cfg0.N, qw (grid0.coords t) = BitVec.ofNat 32 (qb t.val).val := by decide +kernel
theorem pred_nd : ∀ t : Fin cfg0.N, ¬diag t.val → t.val ≠ 0 ∧ (t.val - 1) / 20 = t.val / 20 ∧ kb (t.val - 1) = kb t.val ∧ (qb (t.val - 1)).val + 1 = (qb t.val).val := by decide +kernel
theorem diag_q : ∀ t : Fin cfg0.N, diag t.val → (qb t.val).val = (kb t.val).val / 2 := by decide +kernel
theorem lst_q : ∀ t : Fin cfg0.N, lst t.val → (qb t.val).val = 3 := by decide +kernel
theorem fin_k : ∀ t : Fin cfg0.N, fin t.val → (kb t.val).val = 2 * (qb t.val).val + 1 := by decide +kernel
theorem fst_k : ∀ t : Fin cfg0.N, fst t.val ↔ (kb t.val).val = 0 := by decide +kernel
theorem pred_nf : ∀ t : Fin cfg0.N, ¬fst t.val → t.val ≠ 0 ∧ (t.val - 1) / 20 = t.val / 20 ∧
    ((kb (t.val - 1) = kb t.val ∧ (qb (t.val - 1)).val + 1 = (qb t.val).val) ∨
     ((kb (t.val - 1)).val + 1 = (kb t.val).val ∧ (qb (t.val - 1)).val = 3 ∧ (qb t.val).val = (kb t.val).val / 2)) := by decide +kernel
theorem fst_q : ∀ t : Fin cfg0.N, fst t.val → (qb t.val).val ≠ 0 → t.val ≠ 0 ∧ (t.val - 1) / 20 = t.val / 20 ∧ fst (t.val - 1) ∧ (qb (t.val - 1)).val + 1 = (qb t.val).val := by decide +kernel

theorem le_of_nd (t : Fin cfg0.N) (h : ¬diag t.val) (i : Fin 1024) (j : Fin 512) : kj (kb t.val) j ≤ qi (qb t.val) i := by
  have := below t h
  show (kb t.val).val * 512 + j.val ≤ (qb t.val).val * 1024 + i.val
  omega

/-- What tile `(q, k)` of head `h` adds to the values' gradient, -/
noncomputable def cv (A : Arrs) (h : Fin 8) (q : Fin 4) (k : Fin 8) (j : Fin 512) (d : Fin 128) : ℝ := ∑ i, A.P h (qi q i) (kj k j) * A.g (qi q i) h d
/-- to the keys', -/
noncomputable def ck (A : Arrs) (h : Fin 8) (q : Fin 4) (k : Fin 8) (j : Fin 512) (d : Fin 256) : ℝ := ∑ i, A.ds h (qi q i) (kj k j) * A.qs (qi q i) h d
/-- and to the queries'. -/
noncomputable def cq (A : Arrs) (h : Fin 8) (q : Fin 4) (k : Fin 8) (i : Fin 1024) (d : Fin 256) : ℝ := ∑ j, A.ds h (qi q i) (kj k j) * A.kc (kj k j) h d

theorem above (q : Fin 4) (k : Fin 8) (hqk : q.val < k.val / 2) (i : Fin 1024) (j : Fin 512) : ¬ kj k j ≤ qi q i := by
  show ¬ (k.val * 512 + j.val ≤ q.val * 1024 + i.val)
  omega

theorem cv_zero (h : Fin 8) (q : Fin 4) (k : Fin 8) (hqk : q.val < k.val / 2) (j : Fin 512) (d : Fin 128) : cv A h q k j d = 0 :=
  Finset.sum_eq_zero fun i _ => by rw [A.P_of_lt _ _ _ (above q k hqk i j), zero_mul]
theorem ck_zero (h : Fin 8) (q : Fin 4) (k : Fin 8) (hqk : q.val < k.val / 2) (j : Fin 512) (d : Fin 256) : ck A h q k j d = 0 :=
  Finset.sum_eq_zero fun i _ => by rw [A.ds_of_lt _ _ _ (above q k hqk i j), zero_mul]
theorem cq_zero (h : Fin 8) (q : Fin 4) (k : Fin 8) (hqk : q.val < k.val / 2) (i : Fin 1024) (d : Fin 256) : cq A h q k i d = 0 :=
  Finset.sum_eq_zero fun j _ => by rw [A.ds_of_lt _ _ _ (above q k hqk i j), zero_mul]

/-- The terms up to `q`, where the first ones are 0. -/
theorem upto_first (f : Fin 4 → ℝ) (q : Fin 4) (h : ∀ p : Fin 4, p.val < q.val → f p = 0) : (∑ p, if p ≤ q then f p else 0) = f q := by
  refine (Finset.sum_eq_single q (fun p _ hp => ?_) (fun hq => absurd (Finset.mem_univ _) hq)).trans (if_pos le_rfl)
  split
  · rename_i hle; exact h p (lt_of_le_of_ne hle fun e => hp (Fin.ext e))
  · rfl

theorem upto_next (f : Fin 4 → ℝ) (q q' : Fin 4) (h : q'.val + 1 = q.val) :
    (∑ p, if p ≤ q then f p else 0) = (∑ p, if p ≤ q' then f p else 0) + f q := by
  have e : ∀ p, (if p ≤ q then f p else 0) = (if p ≤ q' then f p else 0) + (if p = q then f p else 0) := fun p => by
    by_cases h1 : p ≤ q'
    · have h2 : p ≤ q := by show p.val ≤ q.val; have : p.val ≤ q'.val := h1; omega
      have h3 : p ≠ q := fun e => by subst e; have : p.val ≤ q'.val := h1; omega
      rw [if_pos h1, if_pos h2, if_neg h3, add_zero]
    · by_cases h3 : p = q
      · subst h3; rw [if_pos le_rfl, if_neg h1, if_pos rfl, zero_add]
      · have h2 : ¬ p ≤ q := fun hle => h1 (by
          show p.val ≤ q'.val
          have : p.val ≤ q.val := hle
          have : p.val ≠ q.val := fun e => h3 (Fin.ext e)
          omega)
        rw [if_neg h1, if_neg h2, if_neg h3, add_zero]
  rw [Finset.sum_congr rfl fun p _ => e p, Finset.sum_add_distrib, Finset.sum_ite_eq' Finset.univ q f, if_pos (Finset.mem_univ _)]

variable (hA : HoldsAt m c A)
include hA

/-- The values' accumulator after point `n`. -/
theorem acc_v : ∀ (n : ℕ) (hn : n < cfg0.N) (j : Fin 512) (d : Fin 128),
    (st m c (n + 1)).2.1 (ix2 j d) = ((∑ q, if q ≤ qb n then cv A (hd ⟨n, hn⟩) q (kb n) j d else 0 : ℝ) : EReal) := by
  intro n
  induction n using Nat.strong_induction_on with
  | _ n ih =>
    intro hn j d
    rw [st_succ m c ⟨n, hn⟩]
    by_cases hd' : diag n
    · rw [upto_first _ _ fun p hp => cv_zero _ _ _ (by rw [← diag_q ⟨n, hn⟩ hd']; exact hp) j d]
      have e : (step m c ⟨n, hn⟩ (st m c n)).2.1 = k0_pay18 (k0_pay10 (kw (grid0.coords ⟨n, hn⟩)) (qw (grid0.coords ⟨n, hn⟩)) (iblk m c 1 ⟨n, hn⟩) (iblk m c 2 ⟨n, hn⟩) (iblk m c 0 ⟨n, hn⟩) (iblk m c 6 ⟨n, hn⟩)) (k0_pay11 (iblk m c 4 ⟨n, hn⟩)) (k0_pay14 (F := Ideal)) := by
        by_cases hf : fst n
        · rw [step_df m c ⟨n, hn⟩ _ hd' hf]
        · rw [step_do m c ⟨n, hn⟩ _ hd' hf]
      rw [e, add18 (tile hA ⟨n, hn⟩) _ _ (kw_eq ⟨n, hn⟩) (qw_eq ⟨n, hn⟩)]
      refine Eq.trans (congrArg (fun x : EReal => x + _) (?_ : k0_pay14 (F := Ideal) (ix2 j d) = (0 : EReal))) (zero_add _)
      pointwise [k0_pay14]
    · obtain ⟨h0, hh, hk, hq⟩ := pred_nd ⟨n, hn⟩ hd'
      have h0 : n ≠ 0 := h0
      have hh : (n - 1) / 20 = n / 20 := hh
      have hk : kb (n - 1) = kb n := hk
      have hq : (qb (n - 1)).val + 1 = (qb n).val := hq
      have e : (step m c ⟨n, hn⟩ (st m c n)).2.1 = k0_pay7 (iblk m c 1 ⟨n, hn⟩) (iblk m c 2 ⟨n, hn⟩) (iblk m c 0 ⟨n, hn⟩) (iblk m c 6 ⟨n, hn⟩) (iblk m c 4 ⟨n, hn⟩) (st m c n).2.1 := by
        by_cases hf : fst n
        · rw [step_nf m c ⟨n, hn⟩ _ hd' hf]
        · rw [step_no m c ⟨n, hn⟩ _ hd' hf]
      have i0 := ih (n - 1) (by omega) (by omega) j d
      rw [show n - 1 + 1 = n by omega, hk, show hd ⟨n - 1, by omega⟩ = hd ⟨n, hn⟩ from Fin.ext hh] at i0
      rw [e, add7 (tile hA ⟨n, hn⟩) (le_of_nd ⟨n, hn⟩ hd'), upto_next _ _ _ hq, EReal.coe_add]
      exact congrArg (fun x : EReal => x + _) i0

/-- The keys' accumulator after point `n`. -/
theorem acc_k : ∀ (n : ℕ) (hn : n < cfg0.N) (j : Fin 512) (d : Fin 256),
    (st m c (n + 1)).1 (ix2 j d) = ((∑ q, if q ≤ qb n then ck A (hd ⟨n, hn⟩) q (kb n) j d else 0 : ℝ) : EReal) := by
  intro n
  induction n using Nat.strong_induction_on with
  | _ n ih =>
    intro hn j d
    rw [st_succ m c ⟨n, hn⟩]
    have T := tile hA ⟨n, hn⟩
    by_cases hd' : diag n
    · rw [upto_first _ _ fun p hp => ck_zero _ _ _ (by rw [← diag_q ⟨n, hn⟩ hd']; exact hp) j d]
      have e : (step m c ⟨n, hn⟩ (st m c n)).1 = k0_pay19 (k0_pay9 (iblk m c 0 ⟨n, hn⟩)) (k0_pay12 (kw (grid0.coords ⟨n, hn⟩)) (qw (grid0.coords ⟨n, hn⟩)) (iblk m c 1 ⟨n, hn⟩) (iblk m c 2 ⟨n, hn⟩) (iblk m c 0 ⟨n, hn⟩) (iblk m c 6 ⟨n, hn⟩) (iblk m c 4 ⟨n, hn⟩) (iblk m c 5 ⟨n, hn⟩) (iblk m c 3 ⟨n, hn⟩)) (k0_pay13 (F := Ideal)) := by
        by_cases hf : fst n
        · rw [step_df m c ⟨n, hn⟩ _ hd' hf]
        · rw [step_do m c ⟨n, hn⟩ _ hd' hf]
      rw [e, add19 T _ (ds12 T _ _ (kw_eq ⟨n, hn⟩) (qw_eq ⟨n, hn⟩))]
      refine Eq.trans (congrArg (fun x : EReal => x + _) (?_ : k0_pay13 (F := Ideal) (ix2 j d) = (0 : EReal))) (zero_add _)
      pointwise [k0_pay13]
    · obtain ⟨h0, hh, hk, hq⟩ := pred_nd ⟨n, hn⟩ hd'
      have h0 : n ≠ 0 := h0
      have hh : (n - 1) / 20 = n / 20 := hh
      have hk : kb (n - 1) = kb n := hk
      have hq : (qb (n - 1)).val + 1 = (qb n).val := hq
      have e : (step m c ⟨n, hn⟩ (st m c n)).1 = k0_pay16 (k0_pay3 (iblk m c 0 ⟨n, hn⟩)) (k0_pay6 (iblk m c 1 ⟨n, hn⟩) (iblk m c 2 ⟨n, hn⟩) (iblk m c 0 ⟨n, hn⟩) (iblk m c 6 ⟨n, hn⟩) (iblk m c 4 ⟨n, hn⟩) (iblk m c 5 ⟨n, hn⟩) (iblk m c 3 ⟨n, hn⟩)) (st m c n).1 := by
        by_cases hf : fst n
        · rw [step_nf m c ⟨n, hn⟩ _ hd' hf]
        · rw [step_no m c ⟨n, hn⟩ _ hd' hf]
      have i0 := ih (n - 1) (by omega) (by omega) j d
      rw [show n - 1 + 1 = n by omega, hk, show hd ⟨n - 1, by omega⟩ = hd ⟨n, hn⟩ from Fin.ext hh] at i0
      rw [e, add16 T _ (fun i j => ds6 T i j (le_of_nd ⟨n, hn⟩ hd' i j)), upto_next _ _ _ hq, EReal.coe_add]
      exact congrArg (fun x : EReal => x + _) i0

end Cert.FlashBwdIdeal.Hand
end
-- ==== Proof.FlashBwdRows.lean ====
module
public import proofs.«01_k».proof.Proof.FlashBwdAcc
public import Idealize.ShloMosaic.Lib.Pipeline.ValueKit
public import Idealize.ShloMosaic.Lib.Pointwise
public import Idealize.ShloMosaic.Lib.Claim
@[expose] public section
set_option maxRecDepth 16384

/-! # What the queries' accumulator holds

It keeps the rows of every query block of a head. By induction over a head's points: the sum over the key blocks that
each query block has met so far. -/

set_option maxHeartbeats 1000000
open Idealize.ShloMosaic Idealize.ShloMosaic.TcCoe Idealize.SL.Sem
namespace Cert.FlashBwdIdeal.Hand
open Cert.FlashBwdIdeal.Gen Cert.Attn Cert.FlashBwdIdeal.Host

/-- Other blocks' rows keep what they hold. -/
theorem rows_putRows_ne {α : Type} (x : S4096x256.Idx → α) (n p : Fin 4) (w : S1024x256.Idx → α) (h : p ≠ n) : rows (putRows x n w) p = rows x p := by
  refine VecWindow.window_put_of_disjoint x _ _ _ _ (rows_inb p) w (0 : Fin 2) ?_
  have h' : p.val ≠ n.val := fun e => h (Fin.ext e)
  show 1024 * p.val + 1024 ≤ 1024 * n.val ∨ 1024 * n.val + 1024 ≤ 1024 * p.val
  omega

theorem sum_if_same (f : Fin 8 → ℝ) (C C' : Fin 8 → Prop) [DecidablePred C] [DecidablePred C'] (h : ∀ k, (C k ↔ C' k) ∨ f k = 0) :
    (∑ k, if C k then f k else 0) = ∑ k, if C' k then f k else 0 := by
  refine Finset.sum_congr rfl fun k _ => ?_
  rcases h k with h | h
  · exact if_congr h rfl rfl
  · rw [h, ite_self, ite_self]

theorem sum_if_more (f : Fin 8 → ℝ) (C C' : Fin 8 → Prop) [DecidablePred C] [DecidablePred C'] (k0 : Fin 8) (h0 : ¬C k0) (h : ∀ k, C' k ↔ C k ∨ k = k0) :
    (∑ k, if C' k then f k else 0) = (∑ k, if C k then f k else 0) + f k0 := by
  have e : ∀ k, (if C' k then f k else 0) = (if C k then f k else 0) + (if k = k0 then f k else 0) := fun k => by
    by_cases h1 : C k
    · have h3 : k ≠ k0 := fun e => h0 (e ▸ h1)
      rw [if_pos ((h k).2 (Or.inl h1)), if_pos h1, if_neg h3, add_zero]
    · by_cases h3 : k = k0
      · rw [if_pos ((h k).2 (Or.inr h3)), if_neg h1, if_pos h3, zero_add]
      · rw [if_neg fun hc => ((h k).1 hc).elim h1 h3, if_neg h1, if_neg h3, add_zero]
  rw [Finset.sum_congr rfl fun k _ => e k, Finset.sum_add_distrib, Finset.sum_ite_eq' Finset.univ k0 f, if_pos (Finset.mem_univ _)]

variable {m : (ℓ : Loc nD τ sig) → Buf (Elt Ideal) ℓ} {c : Dev nD} {A : Arrs}

theorem zero15 (y : S1024x256.Idx) : k0_pay15 (F := Ideal) y = (0 : EReal) := by
  pointwise [k0_pay15]

/-- A point leaves the rows of the other query blocks. -/
theorem step_other (t : Fin cfg0.N) (s : St Ideal) (p : Fin 4) (hp : p ≠ qb t.val) : rows (step m c t s).2.2 p = rows s.2.2 p := by
  by_cases hd' : diag t.val
  · by_cases hf : fst t.val
    · rw [step_df m c t s hd' hf, rows_putRows_ne _ _ _ _ hp, rows_putRows_ne _ _ _ _ hp]
    · rw [step_do m c t s hd' hf, rows_putRows_ne _ _ _ _ hp]
  · by_cases hf : fst t.val
    · rw [step_nf m c t s hd' hf, rows_putRows_ne _ _ _ _ hp, rows_putRows_ne _ _ _ _ hp]
    · rw [step_no m c t s hd' hf, rows_putRows_ne _ _ _ _ hp]

variable (hA : HoldsAt m c A)
include hA

/-- A head's first point on a query block sets its rows. -/
theorem step_first (t : Fin cfg0.N) (s : St Ideal) (hf : fst t.val) (i : Fin 1024) (d : Fin 256) :
    rows (step m c t s).2.2 (qb t.val) (ix2 i d) = (cq A (hd t) (qb t.val) (kb t.val) i d : EReal) := by
  have T := tile hA t
  by_cases hd' : diag t.val
  · rw [step_df m c t s hd' hf, rows_putRows, rows_putRows, add20 T _ (ds12 T _ _ (kw_eq t) (qw_eq t))]
    exact Eq.trans (congrArg (fun x : EReal => x + _) (zero15 (ix2 i d))) (zero_add _)
  · rw [step_nf m c t s hd' hf, rows_putRows, rows_putRows, add17 T _ (fun i j => ds6 T i j (le_of_nd t hd' i j))]
    exact Eq.trans (congrArg (fun x : EReal => x + _) (zero15 (ix2 i d))) (zero_add _)

/-- A later point adds to them. -/
theorem step_later (t : Fin cfg0.N) (s : St Ideal) (hf : ¬fst t.val) (i : Fin 1024) (d : Fin 256) :
    rows (step m c t s).2.2 (qb t.val) (ix2 i d) = rows s.2.2 (qb t.val) (ix2 i d) + (cq A (hd t) (qb t.val) (kb t.val) i d : EReal) := by
  have T := tile hA t
  by_cases hd' : diag t.val
  · rw [step_do m c t s hd' hf, rows_putRows, add20 T _ (ds12 T _ _ (kw_eq t) (qw_eq t))]
    rfl
  · rw [step_no m c t s hd' hf, rows_putRows, add17 T _ (fun i j => ds6 T i j (le_of_nd t hd' i j))]
    rfl

/-- The rows of query block `p` after point `n`. -/
theorem acc_q : ∀ (n : ℕ) (hn : n < cfg0.N) (p : Fin 4) (_ : 0 < (kb n).val ∨ p.val ≤ (qb n).val) (i : Fin 1024) (d : Fin 256),
    rows (st m c (n + 1)).2.2 p (ix2 i d)
      = ((∑ k : Fin 8, if k.val < (kb n).val ∨ (k.val = (kb n).val ∧ p.val ≤ (qb n).val) then cq A (hd ⟨n, hn⟩) p k i d else 0 : ℝ) : EReal) := by
  intro n
  induction n using Nat.strong_induction_on with
  | _ n ih =>
    intro hn p hp i d
    rw [st_succ m c ⟨n, hn⟩]
    by_cases hf : fst n
    · have hk : (kb n).val = 0 := (fst_k ⟨n, hn⟩).1 hf
      by_cases hpq : p = qb n
      · subst hpq
        rw [step_first hA ⟨n, hn⟩ _ hf]
        refine congrArg (fun r : ℝ => (r : EReal)) ?_
        refine Eq.trans (zero_add _).symm (Eq.trans ?_ (sum_if_more (fun k => cq A (hd ⟨n, hn⟩) (qb n) k i d) (fun _ => False) _ (kb n) (fun h => h) ?_).symm)
        · simp
        · intro k
          constructor
          · rintro (h | h)
            · omega
            · exact Or.inr (Fin.ext h.1)
          · rintro (h | h)
            · exact h.elim
            · exact Or.inr ⟨congrArg Fin.val h, le_rfl⟩
      · have hlt : p.val < (qb n).val := by
          have : p.val ≠ (qb n).val := fun e => hpq (Fin.ext e)
          omega
        obtain ⟨h0, hh, hf', hq⟩ := fst_q ⟨n, hn⟩ hf (show (qb n).val ≠ 0 by omega)
        have h0 : n ≠ 0 := h0
        have hh : (n - 1) / 20 = n / 20 := hh
        have hq : (qb (n - 1)).val + 1 = (qb n).val := hq
        have hk' : (kb (n - 1)).val = 0 := (fst_k ⟨n - 1, by omega⟩).1 hf'
        have i0 := ih (n - 1) (by omega) (by omega) p (by omega) i d
        rw [show n - 1 + 1 = n by omega, show hd ⟨n - 1, by omega⟩ = hd ⟨n, hn⟩ from Fin.ext hh] at i0
        rw [step_other ⟨n, hn⟩ _ p hpq, i0]
        refine congrArg (fun r : ℝ => (r : EReal)) (sum_if_same _ _ _ fun k => Or.inl ?_)
        omega
    · have hk : (kb n).val ≠ 0 := fun e => hf ((fst_k ⟨n, hn⟩).2 e)
      obtain ⟨h0, hh, hor⟩ := pred_nf ⟨n, hn⟩ hf
      have h0 : n ≠ 0 := h0
      have hh : (n - 1) / 20 = n / 20 := hh
      have hor : (kb (n - 1) = kb n ∧ (qb (n - 1)).val + 1 = (qb n).val) ∨
        ((kb (n - 1)).val + 1 = (kb n).val ∧ (qb (n - 1)).val = 3 ∧ (qb n).val = (kb n).val / 2) := hor
      have hor' : ((kb (n - 1)).val = (kb n).val ∧ (qb (n - 1)).val + 1 = (qb n).val) ∨
        ((kb (n - 1)).val + 1 = (kb n).val ∧ (qb (n - 1)).val = 3 ∧ (qb n).val = (kb n).val / 2) :=
        hor.imp (fun h => ⟨congrArg Fin.val h.1, h.2⟩) id
      have hp3 := p.isLt
      have i0 := ih (n - 1) (by omega) (by omega) p (by omega) i d
      rw [show n - 1 + 1 = n by omega, show hd ⟨n - 1, by omega⟩ = hd ⟨n, hn⟩ from Fin.ext hh] at i0
      by_cases hpq : p = qb n
      · subst hpq
        rw [step_later hA ⟨n, hn⟩ _ hf, sum_if_more (fun k => cq A (hd ⟨n, hn⟩) (qb n) k i d) (fun k => k.val < (kb (n - 1)).val ∨ (k.val = (kb (n - 1)).val ∧ (qb n).val ≤ (qb (n - 1)).val)) _ (kb n) (by omega) ?_, EReal.coe_add]
        · exact congrArg (fun x : EReal => x + _) i0
        · intro k
          rw [Fin.ext_iff]
          omega
      · have hne : p.val ≠ (qb n).val := fun e => hpq (Fin.ext e)
        rw [step_other ⟨n, hn⟩ _ p hpq, i0]
        refine congrArg (fun r : ℝ => (r : EReal)) (sum_if_same _ _ _ fun k => ?_)
        by_cases hz : p.val < k.val / 2
        · exact Or.inr (cq_zero _ _ _ hz i d)
        · refine Or.inl ?_
          omega

/-- A query block's last point has met every key block that its rows see. -/
theorem acc_q_fin (t : Fin cfg0.N) (hf : fin t.val) (i : Fin 1024) (d : Fin 256) :
    rows (st m c (t.val + 1)).2.2 (qb t.val) (ix2 i d) = ((∑ k : Fin 8, cq A (hd t) (qb t.val) k i d : ℝ) : EReal) := by
  rw [acc_q hA t.val t.isLt (qb t.val) (Or.inr le_rfl) i d]
  refine congrArg (fun r : ℝ => (r : EReal)) (Finset.sum_congr rfl fun k _ => ?_)
  have hk := fin_k t hf
  split
  · rfl
  · rename_i hn
    refine (cq_zero _ _ _ ?_ i d).symm
    omega

/-- At a key block's last point, -/
theorem acc_v_lst (t : Fin cfg0.N) (hl : lst t.val) (j : Fin 512) (d : Fin 128) :
    (st m c (t.val + 1)).2.1 (ix2 j d) = ((∑ q : Fin 4, cv A (hd t) q (kb t.val) j d : ℝ) : EReal) := by
  rw [acc_v hA t.val t.isLt j d]
  refine congrArg (fun r : ℝ => (r : EReal)) (Finset.sum_congr rfl fun q _ => if_pos ?_)
  have := lst_q t hl
  have := q.isLt
  show q.val ≤ (qb t.val).val
  omega

/-- the sums are over every query block. -/
theorem acc_k_lst (t : Fin cfg0.N) (hl : lst t.val) (j : Fin 512) (d : Fin 256) :
    (st m c (t.val + 1)).1 (ix2 j d) = ((∑ q : Fin 4, ck A (hd t) q (kb t.val) j d : ℝ) : EReal) := by
  rw [acc_k hA t.val t.isLt j d]
  refine congrArg (fun r : ℝ => (r : EReal)) (Finset.sum_congr rfl fun q _ => if_pos ?_)
  have := lst_q t hl
  have := q.isLt
  show q.val ≤ (qb t.val).val
  omega

end Cert.FlashBwdIdeal.Hand
end
-- ==== Proof.AttnOut.lean ====
module

public import proofs.«01_k».proof.Proof.AttnReal

/-! # The results as arrays

The gradients of the keys and values side by side, head by head; of the shared key with position, padded; and of the
queries, padded. -/

@[expose] public section

noncomputable section

open Idealize.ShloMosaic Idealize.ShloMosaic.TcCoe Idealize.SL.Sem

namespace Cert.Attn.Arrs
variable (A : Arrs)

/-- The keys' and values' gradient of head `h`, over 256 lanes. -/
def dkv (h : Fin 8) (j : Fin 4096) (d : Fin 256) : ℝ :=
  if hd : d.val < 128 then A.dkn h j ⟨d.val, hd⟩ else A.dv h j ⟨d.val - 128, by omega⟩

/-- The shared key's, over 128 lanes. -/
def dkp (h : Fin 8) (j : Fin 4096) (d : Fin 128) : ℝ := if hd : d.val < 64 then A.dkr h j ⟨d.val, hd⟩ else 0

/-- The queries', over 256 lanes. -/
def dqp (h : Fin 8) (i : Fin 4096) (d : Fin 256) : ℝ :=
  if hd : d.val < 128 then A.dqn h i ⟨d.val, hd⟩ else if hd : d.val - 128 < 64 then A.dqb h i ⟨d.val - 128, hd⟩ else 0

/-- A lane's head and its place within the head. -/
def hd256 (l : Fin 2048) : Fin 8 := ⟨l.val / 256, by omega⟩
def ln256 (l : Fin 2048) : Fin 256 := ⟨l.val % 256, by omega⟩
def hd128 (l : Fin 1024) : Fin 8 := ⟨l.val / 128, by omega⟩
def ln128 (l : Fin 1024) : Fin 128 := ⟨l.val % 128, by omega⟩

/-- The three results. -/
def out9 : Shape.Idx ⟨2, ![4096, 2048]⟩ → EReal := fun y =>
  (A.dkv (hd256 (y 1)) (y 0) (ln256 (y 1)) : EReal)
def out10 : Shape.Idx ⟨2, ![4096, 1024]⟩ → EReal := fun y =>
  (A.dkp (hd128 (y 1)) (y 0) (ln128 (y 1)) : EReal)
def out11 : Shape.Idx ⟨2, ![4096, 2048]⟩ → EReal := fun y =>
  (A.dqp (hd256 (y 1)) (y 0) (ln256 (y 1)) : EReal)

theorem out9_at (h : Fin 8) (j : Fin 4096) (d : Fin 256) : A.out9 (ix2 j ⟨h.val * 256 + d.val, by omega⟩) = (A.dkv h j d : EReal) := by
  have e1 : hd256 ⟨h.val * 256 + d.val, by omega⟩ = h := Fin.ext (by show (h.val * 256 + d.val) / 256 = h.val; omega)
  have e2 : ln256 ⟨h.val * 256 + d.val, by omega⟩ = d := Fin.ext (by show (h.val * 256 + d.val) % 256 = d.val; omega)
  exact congrArg₂ (fun a b => (A.dkv a j b : EReal)) e1 e2
theorem out10_at (h : Fin 8) (j : Fin 4096) (d : Fin 128) : A.out10 (ix2 j ⟨h.val * 128 + d.val, by omega⟩) = (A.dkp h j d : EReal) := by
  have e1 : hd128 ⟨h.val * 128 + d.val, by omega⟩ = h := Fin.ext (by show (h.val * 128 + d.val) / 128 = h.val; omega)
  have e2 : ln128 ⟨h.val * 128 + d.val, by omega⟩ = d := Fin.ext (by show (h.val * 128 + d.val) % 128 = d.val; omega)
  exact congrArg₂ (fun a b => (A.dkp a j b : EReal)) e1 e2
theorem out11_at (h : Fin 8) (j : Fin 4096) (d : Fin 256) : A.out11 (ix2 j ⟨h.val * 256 + d.val, by omega⟩) = (A.dqp h j d : EReal) := by
  have e1 : hd256 ⟨h.val * 256 + d.val, by omega⟩ = h := Fin.ext (by show (h.val * 256 + d.val) / 256 = h.val; omega)
  have e2 : ln256 ⟨h.val * 256 + d.val, by omega⟩ = d := Fin.ext (by show (h.val * 256 + d.val) % 256 = d.val; omega)
  exact congrArg₂ (fun a b => (A.dqp a j b : EReal)) e1 e2

end Cert.Attn.Arrs

end
-- ==== Proof.FlashBwdFinal.lean ====
module
public import proofs.«01_k».proof.Proof.FlashBwdRows
public import proofs.«01_k».proof.Proof.AttnOut
public import Idealize.ShloMosaic.Lib.Pipeline.ValueKit
public import Idealize.ShloMosaic.Lib.Pointwise
public import Idealize.ShloMosaic.Lib.Claim
@[expose] public section
set_option maxRecDepth 16384

/-! # What the call leaves

At a block's last point its accumulators hold sums over all positions: the three results as arrays of real numbers. -/

set_option maxHeartbeats 1000000
open Idealize.ShloMosaic Idealize.ShloMosaic.TcCoe Idealize.SL.Sem
namespace Cert.FlashBwdIdeal.Hand
open Cert.FlashBwdIdeal.Gen Cert.Attn Cert.FlashBwdIdeal.Host

/-- A sum over the rows, query block by query block. -/
theorem sum_qi (f : Fin 4096 → ℝ) : ∑ q : Fin 4, ∑ i : Fin 1024, f (qi q i) = ∑ i, f i := by
  rw [← Fintype.sum_prod_type']
  refine Fintype.sum_equiv (finProdFinEquiv : Fin 4 × Fin 1024 ≃ Fin (4 * 1024)) _ _ fun x => congrArg f (Fin.ext ?_)
  show x.1.val * 1024 + x.2.val = x.2.val + 1024 * x.1.val
  omega

/-- A sum over the positions, key block by key block. -/
theorem sum_kj (f : Fin 4096 → ℝ) : ∑ k : Fin 8, ∑ j : Fin 512, f (kj k j) = ∑ j, f j := by
  rw [← Fintype.sum_prod_type']
  refine Fintype.sum_equiv (finProdFinEquiv : Fin 8 × Fin 512 ≃ Fin (8 * 512)) _ _ fun x => congrArg f (Fin.ext ?_)
  show x.1.val * 512 + x.2.val = x.2.val + 512 * x.1.val
  omega

theorem sum_cv (A : Arrs) (h : Fin 8) (k : Fin 8) (j : Fin 512) (d : Fin 128) : ∑ q, cv A h q k j d = A.dv h (kj k j) d :=
  sum_qi fun i => A.P h i (kj k j) * A.g i h d

/-- The keys' sum, lane by lane. -/
theorem sum_ck (A : Arrs) (h : Fin 8) (k : Fin 8) (j : Fin 512) (d : Fin 256) :
    ∑ q, ck A h q k j d = if hd : d.val < 128 then A.dkn h (kj k j) ⟨d.val, hd⟩ else A.dkp h (kj k j) ⟨d.val - 128, by omega⟩ := by
  refine (sum_qi fun i => A.ds h i (kj k j) * A.qs i h d).trans ?_
  simp only [Arrs.qs, ← mul_assoc]
  rw [← Finset.sum_mul]
  by_cases h1 : d.val < 128
  · simp only [dif_pos h1]; rfl
  · simp only [dif_neg h1, Arrs.dkp]
    by_cases h2 : d.val - 128 < 64
    · simp only [dif_pos h2]; rfl
    · simp only [dif_neg h2, mul_zero, Finset.sum_const_zero, zero_mul]

/-- The queries' sum before the scale. -/
noncomputable def dqs (A : Arrs) (h : Fin 8) (i : Fin 4096) (d : Fin 256) : ℝ := ∑ j, A.ds h i j * A.kc j h d

theorem sum_cq (A : Arrs) (h : Fin 8) (q : Fin 4) (i : Fin 1024) (d : Fin 256) : ∑ k, cq A h q k i d = dqs A h (qi q i) d :=
  sum_kj fun j => A.ds h (qi q i) j * A.kc j h d

theorem dqs_n (A : Arrs) (h : Fin 8) (i : Fin 4096) (d : Fin 256) (hd : d.val < 128) : dqs A h i d * A.sc = A.dqn h i ⟨d.val, hd⟩ := by
  simp only [dqs, Arrs.kc, dif_pos hd]; rfl

theorem dqs_r (A : Arrs) (h : Fin 8) (i : Fin 4096) (d : Fin 256) (hd : ¬d.val < 128) (hd' : d.val - 128 < 64) : dqs A h i d * A.sc = A.dqr h i ⟨d.val - 128, hd'⟩ := by
  simp only [dqs, Arrs.kc, dif_neg hd, dif_pos hd']; rfl

theorem dqs_z (A : Arrs) (h : Fin 8) (i : Fin 4096) (d : Fin 256) (hd : ¬d.val < 128) (hd' : ¬d.val - 128 < 64) : dqs A h i d = 0 := by
  simp only [dqs, Arrs.kc, dif_neg hd, dif_neg hd', mul_zero, Finset.sum_const_zero]

/-- The queries' sum scaled and rotated back. -/
theorem dqs_back (A : Arrs) (h : Fin 8) (i : Fin 4096) (d : Fin 256) :
    dqs A h i d * A.sc * A.cq i d - (if d.val < 160 then 0 - dqs A h i ⟨(d.val + 256 - 224) % 256, by omega⟩ * A.sc else dqs A h i ⟨(d.val + 256 - 32) % 256, by omega⟩ * A.sc) * A.sq i d
      = A.dqp h i d := by
  by_cases h1 : d.val < 128
  · rw [Arrs.cq, Arrs.sq, if_pos h1, if_pos h1, mul_one, mul_zero, sub_zero, dqs_n A h i d h1, Arrs.dqp, dif_pos h1]
  · by_cases h2 : d.val - 128 < 32
    · have e : (d.val + 256 - 224) % 256 = d.val + 32 := by omega
      rw [Arrs.cq, Arrs.sq, if_neg h1, if_neg h1, dif_pos h2, dif_pos h2, if_pos (by omega), Arrs.dqp, dif_neg h1, dif_pos (show d.val - 128 < 64 by omega), Arrs.dqb,
        dif_pos (show d.val - 128 < 32 from h2), dqs_r A h i d h1 (by omega), dqs_r A h i _ (by show ¬ (d.val + 256 - 224) % 256 < 128; omega) (by show (d.val + 256 - 224) % 256 - 128 < 64; omega)]
      have e3 : (⟨(d.val + 256 - 224) % 256 - 128, by omega⟩ : Fin 64) = ⟨32 + (d.val - 128), by omega⟩ := Fin.ext (by show (d.val + 256 - 224) % 256 - 128 = 32 + (d.val - 128); omega)
      rw [e3]
      ring
    · by_cases h3 : d.val - 128 - 32 < 32
      · rw [Arrs.cq, Arrs.sq, if_neg h1, if_neg h1, dif_neg h2, dif_neg h2, dif_pos h3, dif_pos h3, if_neg (by omega), Arrs.dqp, dif_neg h1, dif_pos (show d.val - 128 < 64 by omega), Arrs.dqb,
          dif_neg (show ¬ d.val - 128 < 32 from h2), dqs_r A h i d h1 (by omega), dqs_r A h i _ (by show ¬ (d.val + 256 - 32) % 256 < 128; omega) (by show (d.val + 256 - 32) % 256 - 128 < 64; omega)]
        have e3 : (⟨(d.val + 256 - 32) % 256 - 128, by omega⟩ : Fin 64) = ⟨d.val - 128 - 32, by omega⟩ := Fin.ext (by show (d.val + 256 - 32) % 256 - 128 = d.val - 128 - 32; omega)
        rw [e3]
      · rw [Arrs.sq, if_neg h1, dif_neg h2, dif_neg h3, mul_zero, sub_zero, dqs_z A h i d h1 (by omega), zero_mul, zero_mul, Arrs.dqp, dif_neg h1, dif_neg (by omega)]

/-- The lane's word comparison. -/
theorem lane (d : Fin 256) : (IntOp.cmpi CmpIPredicate.slt
            (IntOp.subi
              (Scalar.select
                (IntOp.andi
                  (IntOp.xori
                    (IntOp.cmpi CmpIPredicate.slt
                      (IntOp.remsi ArithUnit.vector (BitVec.ofNat 32 d.val)
                        (Scalar.select (Scalar.cmpi CmpIPredicate.eq 256#32 0#32) 1#32 256#32))
                      0#32)
                    (Scalar.cmpi CmpIPredicate.slt
                      (Scalar.select (Scalar.cmpi CmpIPredicate.eq 256#32 0#32) 1#32 256#32) 0#32))
                  (IntOp.cmpi CmpIPredicate.ne
                    (IntOp.remsi ArithUnit.vector (BitVec.ofNat 32 d.val)
                      (Scalar.select (Scalar.cmpi CmpIPredicate.eq 256#32 0#32) 1#32 256#32))
                    0#32))
                (IntOp.addi
                  (IntOp.remsi ArithUnit.vector (BitVec.ofNat 32 d.val)
                    (Scalar.select (Scalar.cmpi CmpIPredicate.eq 256#32 0#32) 1#32 256#32))
                  (Scalar.select (Scalar.cmpi CmpIPredicate.eq 256#32 0#32) 1#32 256#32))
                (IntOp.remsi ArithUnit.vector (BitVec.ofNat 32 d.val)
                  (Scalar.select (Scalar.cmpi CmpIPredicate.eq 256#32 0#32) 1#32 256#32)))
              128#32)
            32#32) = if d.val < 160 then 1#1 else 0#1 := by
  revert d
  decide +kernel

/-- What the call writes of its queries' rows. -/
theorem pay1 (r a b : S1024x256.Idx → EReal) (i : Fin 1024) (r' a' b' : Fin 256 → ℝ) (hr : ∀ d, r (ix2 i d) = (r' d : EReal)) (ha : ∀ d, a (ix2 i d) = (a' d : EReal))
    (hb : ∀ d, b (ix2 i d) = (b' d : EReal)) (d : Fin 256) : k0_pay1 (F := Ideal) r a b (ix2 i d)
      = ((r' d * scale * a' d - (if d.val < 160 then 0 - r' ⟨(d.val + 256 - 224) % 256, by omega⟩ * scale else r' ⟨(d.val + 256 - 32) % 256, by omega⟩ * scale) * b' d : ℝ) : EReal) := by
  pointwise [k0_pay1]
  rw [lane, hr, ha, hb, hr, hr, scale_eq]
  by_cases hd : d.val < 160
  · rw [if_pos hd, if_pos hd]
    simp only [EReal.coe_sub, EReal.coe_mul, EReal.coe_zero]
    rfl
  · rw [if_neg hd, if_neg hd]
    simp only [EReal.coe_sub, EReal.coe_mul]
    rfl

variable {m : (ℓ : Loc nD τ sig) → Buf (Elt Ideal) ℓ} {c : Dev nD} {A : Arrs} (hA : HoldsAt m c A)
include hA

theorem blk7 (t : Fin cfg0.N) (hf : fin t.val) (i : Fin 1024) (d : Fin 256) : iblk m c 7 t (ix2 i d) = (A.cq (qi (qb t.val) i) d : EReal) := by
  refine (iblk_read m c 7 t (ix2 i d)).trans ((read7 t hf _ i d).trans ?_)
  exact op_cq (fun b => m (c, b)) hA (qi (qb t.val) i) d

theorem blk8 (t : Fin cfg0.N) (hf : fin t.val) (i : Fin 1024) (d : Fin 256) : iblk m c 8 t (ix2 i d) = (A.sq (qi (qb t.val) i) d : EReal) := by
  refine (iblk_read m c 8 t (ix2 i d)).trans ((read8 t hf _ i d).trans ?_)
  exact op_sq (fun b => m (c, b)) hA (qi (qb t.val) i) d

/-- The queries' block. -/
theorem out11_eq (t : Fin cfg0.N) (hf : fin t.val) (i : Fin 1024) (d : Fin 256) : out11 m c t (ix2 i d) = (A.dqp (hd t) (qi (qb t.val) i) d : EReal) := by
  unfold out11
  rw [pay1 _ _ _ i (dqs A (hd t) (qi (qb t.val) i)) _ _ (fun d => (acc_q_fin hA t hf i d).trans (congrArg (fun r : ℝ => (r : EReal)) (sum_cq A _ _ i d)))
    (fun d => blk7 hA t hf i d) (fun d => blk8 hA t hf i d) d, ← hA.sc, dqs_back]

theorem right_at {α : Type} (x : S512x256.Idx → α) (j : Fin 512) (d : Fin 128) : right x (ix2 j d) = x (ix2 j ⟨128 + d.val, by omega⟩) := by
  refine congrArg x ?_
  funext k; match k with | ⟨0, _⟩ => exact Fin.ext (by show 0 + 1 * j.val = j.val; omega) | ⟨1, _⟩ => exact Fin.ext (by show 128 + 1 * d.val = 128 + d.val; omega)

theorem left_at {α : Type} (x : S512x256.Idx → α) (j : Fin 512) (d : Fin 128) : left x (ix2 j d) = x (ix2 j ⟨d.val, by omega⟩) := by
  refine congrArg x ?_
  funext k; match k with | ⟨0, _⟩ => exact Fin.ext (by show 0 + 1 * j.val = j.val; omega) | ⟨1, _⟩ => exact Fin.ext (by show 0 + 1 * d.val = d.val; omega)

/-- The shared key's block. -/
theorem out10_eq (t : Fin cfg0.N) (hl : lst t.val) (j : Fin 512) (d : Fin 128) : out10 m c t (ix2 j d) = (A.dkp (hd t) (kj (kb t.val) j) d : EReal) := by
  unfold out10
  rw [right_at hA, acc_k_lst hA t hl, sum_ck, dif_neg (show ¬ 128 + d.val < 128 by omega)]
  have e : (⟨128 + d.val - 128, by omega⟩ : Fin 128) = d := Fin.ext (by show 128 + d.val - 128 = d.val; omega)
  rw [e]

theorem pay21 (x : S512x128.Idx → EReal) (y : S512x128.Idx) : k0_pay21 (F := Ideal) x y = x y := by
  have e : y = ix2 (y 0 : Fin 512) (y 1 : Fin 128) := by funext k; match k with | ⟨0, _⟩ => rfl | ⟨1, _⟩ => rfl
  generalize (y 0 : Fin 512) = a at e
  generalize (y 1 : Fin 128) = b at e
  subst e
  pointwise [k0_pay21]
theorem pay22 (x : S512x128.Idx → EReal) (y : S512x128.Idx) : k0_pay22 (F := Ideal) x y = x y := by
  have e : y = ix2 (y 0 : Fin 512) (y 1 : Fin 128) := by funext k; match k with | ⟨0, _⟩ => rfl | ⟨1, _⟩ => rfl
  generalize (y 0 : Fin 512) = a at e
  generalize (y 1 : Fin 128) = b at e
  subst e
  pointwise [k0_pay22]

/-- The keys' and values' block. -/
theorem out9_eq (t : Fin cfg0.N) (hl : lst t.val) (j : Fin 512) (d : Fin 256) : out9 m c t (ix2 j d) = (A.dkv (hd t) (kj (kb t.val) j) d : EReal) := by
  unfold out9 sides Arrs.dkv
  by_cases h1 : d.val < 128
  · rw [dif_pos (show ((ix2 j d : S512x256.Idx) 1).val < 128 from h1), dif_pos h1]
    refine Eq.trans (b := left (st m c (t.val + 1)).1 (ix2 j ⟨d.val, h1⟩)) ?_ ?_
    · refine (pay21 hA _ _).trans (congrArg (left (st m c (t.val + 1)).1) ?_)
      funext k; match k with | ⟨0, _⟩ => rfl | ⟨1, _⟩ => rfl
    · rw [left_at hA, acc_k_lst hA t hl, sum_ck, dif_pos h1]
  · rw [dif_neg (show ¬((ix2 j d : S512x256.Idx) 1).val < 128 from h1), dif_neg h1]
    refine Eq.trans (b := (st m c (t.val + 1)).2.1 (ix2 j ⟨d.val - 128, by omega⟩)) ?_ ?_
    · refine (pay22 hA _ _).trans (congrArg (st m c (t.val + 1)).2.1 ?_)
      funext k; match k with | ⟨0, _⟩ => rfl | ⟨1, _⟩ => rfl
    · rw [acc_v_lst hA t hl, sum_cv]

theorem write9 (t : Fin cfg0.N) (f : S4096x2048.Idx → EReal) (i : Fin 512) (d : Fin 256) : ((cfg0.win 9).blk t).view.read (Elt Ideal) f (ix2 i d)
    = f (ix2 (kj (kb t.val) i) (⟨(hd t).val * 256 + d.val, by omega⟩ : Fin 2048)) := by
  unfold kj hd
  blk_point [idx9 t]
theorem write10 (t : Fin cfg0.N) (f : S4096x1024.Idx → EReal) (i : Fin 512) (d : Fin 128) : ((cfg0.win 10).blk t).view.read (Elt Ideal) f (ix2 i d)
    = f (ix2 (kj (kb t.val) i) (⟨(hd t).val * 128 + d.val, by omega⟩ : Fin 1024)) := by
  unfold kj hd
  blk_point [idx10 t]
theorem write11 (t : Fin cfg0.N) (hf : fin t.val) (f : S4096x2048.Idx → EReal) (i : Fin 1024) (d : Fin 256) : ((cfg0.win 11).blk t).view.read (Elt Ideal) f (ix2 i d)
    = f (ix2 (qi (qb t.val) i) (⟨(hd t).val * 256 + d.val, by omega⟩ : Fin 2048)) := by
  unfold qi hd
  blk_point [idx11 t hf]

theorem final9 : (dats m 0 c).arrAt 9 (cfgs 0).N = A.out9 := by
  refine (dats m 0 c).arrAt_eq_of_covers 9 _ (by decide +kernel) fun t hf y => ?_
  have hl : lst t.val := (flush9 t).mp hf
  blk_simp
  rw [after0_9]
  have e : y = ix2 (y 0 : Fin 512) (y 1 : Fin 256) := by funext k; match k with | ⟨0, _⟩ => rfl | ⟨1, _⟩ => rfl
  refine Eq.trans (congrArg (out9 m c t) e) ((out9_eq hA t hl _ _).trans (Eq.trans ?_ (congrArg (fun z => A.out9 ((win0_9.blk t).view.emb z)) e.symm)))
  exact ((write9 hA t A.out9 (y 0) (y 1)).trans (A.out9_at _ _ _)).symm

theorem final10 : (dats m 0 c).arrAt 10 (cfgs 0).N = A.out10 := by
  refine (dats m 0 c).arrAt_eq_of_covers 10 _ (by decide +kernel) fun t hf y => ?_
  have hl : lst t.val := (flush10 t).mp hf
  blk_simp
  rw [after0_10]
  have e : y = ix2 (y 0 : Fin 512) (y 1 : Fin 128) := by funext k; match k with | ⟨0, _⟩ => rfl | ⟨1, _⟩ => rfl
  refine Eq.trans (congrArg (out10 m c t) e) ((out10_eq hA t hl _ _).trans (Eq.trans ?_ (congrArg (fun z => A.out10 ((win0_10.blk t).view.emb z)) e.symm)))
  exact ((write10 hA t A.out10 (y 0) (y 1)).trans (A.out10_at _ _ _)).symm

theorem final11 : (dats m 0 c).arrAt 11 (cfgs 0).N = A.out11 := by
  refine (dats m 0 c).arrAt_eq_of_covers 11 _ (by decide +kernel) fun t hf y => ?_
  have hl : fin t.val := (flush11 t).mp hf
  blk_simp
  rw [after0_11]
  have e : y = ix2 (y 0 : Fin 1024) (y 1 : Fin 256) := by funext k; match k with | ⟨0, _⟩ => rfl | ⟨1, _⟩ => rfl
  refine Eq.trans (congrArg (out11 m c t) e) ((out11_eq hA t hl _ _).trans (Eq.trans ?_ (congrArg (fun z => A.out11 ((win0_11.blk t).view.emb z)) e.symm)))
  exact ((write11 hA t hl A.out11 (y 0) (y 1)).trans (A.out11_at _ _ _)).symm

end Cert.FlashBwdIdeal.Hand
end
-- ==== Proof.FlashBwdRefValue.lean ====
module
public import proofs.«01_k».proof.Proof.Gen.FlashBwdRefIdeal.Run
public import proofs.«01_k».proof.Proof.AttnSoftmax
public import Idealize.ShloMosaic.Lib.Pipeline.ValueKit
public import Idealize.ShloMosaic.Lib.Pointwise
public import Idealize.ShloMosaic.Lib.Claim
@[expose] public section
set_option maxRecDepth 16384

/-! # What the reference computes, as real numbers

From argument arrays that hold the entries of `A`: the masked scores, their exponentials, the probabilities and the
gradient of the scores. -/

set_option maxHeartbeats 1000000
noncomputable section
open Idealize.ShloMosaic Idealize.ShloMosaic.TcCoe Idealize.SL.Sem
namespace Cert.FlashBwdRefIdeal.RefValue
open Cert.FlashBwdRefIdeal Cert.FlashBwdRefIdeal.Value Cert.Attn

variable {V : Valuation τ sig (Elt Ideal)} {A : Arrs}

/-- The argument arrays hold the entries of `A`. -/
abbrev HoldsIn (V : Valuation τ sig (Elt Ideal)) (A : Arrs) : Prop :=
  Holds A (V (Proc.devRef .tc main_arg0)) (V (Proc.devRef .tc main_arg1)) (V (Proc.devRef .tc main_arg2))
    (V (Proc.devRef .tc main_arg3)) (V (Proc.devRef .tc main_arg4)) (V (Proc.devRef .tc main_arg5))

/-- A shifted exponential's entry. -/
theorem exp_shift (a : FVec Ideal S8x4096x4096 .f32) (b : FVec Ideal S8x4096 .f32) (h : Fin 8) (i j : Fin 4096) :
    Host.exp (subf a (broadcastInDim S8x4096x4096 ![0, 1, 2] Gen.bcast_S8x4096x1_S8x4096x4096_0_1_2 (broadcastInDim S8x4096x1 ![0, 1] Gen.bcast_S8x4096_S8x4096x1_0_1 (maximumf (broadcastInDim S8x4096 ![] Gen.bcast_S_S8x4096 (constant S_ .f32 0xFF800000#32)) b)))) (ix3 h i j)
      = Ideal.exp ((a (ix3 h i j) : EReal) - max (Ideal.ofBits .f32 0xFF800000#32) (b (ix2 h i))) := by
  pointwise []

variable (hA : HoldsIn V A)
include hA

theorem v23 (i : Fin 4096) (h : Fin 8) (d : Fin 128) : res_main_v23 V (ix3 i h d) = (A.qn i h d : EReal) := by
  rw [← hA.qn]
  pointwise [res_main_v23, res_main_v5]

theorem v24 (i : Fin 4096) (h : Fin 8) (d : Fin 128) : res_main_v24 V (ix3 i h d) = (A.kn i h d : EReal) := by
  rw [← hA.kn]
  pointwise [res_main_v24, res_main_v6]

theorem v66 (i : Fin 4096) (h : Fin 8) (d : Fin 128) : res_main_v66 V (ix3 i h d) = (A.v i h d : EReal) := by
  rw [← hA.v]
  pointwise [res_main_v66, res_main_v6]

theorem v4 (i : Fin 4096) (h : Fin 8) (d : Fin 64) : res_main_v4 V (ix3 i h d) = (A.kr i d : EReal) := by
  rw [← hA.kr]
  pointwise [res_main_v4]

theorem v72 (h : Fin 8) (d : Fin 128) (i : Fin 4096) : res_main_v72 V (ix3 h d i) = (A.g i h d : EReal) := by
  rw [← hA.g]
  pointwise [res_main_v72]

theorem v10 (i : Fin 4096) (h : Fin 8) (d : Fin 32) : res_main_v10 V (ix3 i h d) = (A.q1 i h d : EReal) := by
  rw [← hA.q1]
  pointwise [res_main_v10, res_main_v7, res_main_v5]

theorem v11 (i : Fin 4096) (h : Fin 8) (d : Fin 32) : res_main_v11 V (ix3 i h d) = (A.q2 i h d : EReal) := by
  rw [← hA.q2]
  pointwise [res_main_v11, res_main_v7, res_main_v5]

theorem v8 (i : Fin 4096) (z : Fin 1) (d : Fin 32) : res_main_v8 V (ix3 i z d) = (A.co i d : EReal) := by
  rw [← hA.co]
  pointwise [res_main_v8]

theorem v9 (i : Fin 4096) (z : Fin 1) (d : Fin 32) : res_main_v9 V (ix3 i z d) = (A.si i d : EReal) := by
  rw [← hA.si]
  pointwise [res_main_v9]

theorem v22 (i : Fin 4096) (h : Fin 8) (d : Fin 64) : res_main_v22 V (ix3 i h d) = (A.qr i h d : EReal) := by
  pointwise [res_main_v22]
  unfold Arrs.qr
  split
  · rename_i hd
    rw [EReal.coe_sub, EReal.coe_mul, EReal.coe_mul, ← v10 hA, ← v11 hA, ← v8 hA i 0, ← v9 hA i 0]
  · rename_i hd
    rw [EReal.coe_add, EReal.coe_mul, EReal.coe_mul, ← v10 hA, ← v11 hA, ← v8 hA i 0, ← v9 hA i 0]

/-- The masked scores. -/
theorem v37 (h : Fin 8) (i j : Fin 4096) : res_main_v37_0 V (ix3 h i j) = A.ms h i j := by
  pointwise [res_main_v37_0, res_main_v37_1]
  rw [select_sle _ _ j.isLt i.isLt]
  refine if_congr Iff.rfl ?_ bot_eq
  rw [Arrs.s, EReal.coe_mul, EReal.coe_add, hA.sc, ← scale_eq]
  refine congrArg₂ (fun a b : EReal => (a + b) * Ideal.ofBits .f32 1033096506#32) ?_ ?_
  · exact sum_mul_coe _ _ _ _ _ (fun d => v23 hA i h d) (fun d => v24 hA j h d)
  · exact sum_mul_coe _ _ _ _ _ (fun d => v22 hA i h d) (fun d => v4 hA j h d)

/-- An entry of an array of extended reals. -/
abbrev rd {s : Shape} (f : s.Idx → EReal) (y : s.Idx) : EReal := f y

theorem ms_ne_top (x : S8x4096x4096.Idx) : rd (s := S8x4096x4096) (res_main_v37_0 V) x ≠ ⊤ := by
  have e : x = ix3 (x 0) (x 1) (x 2) := by funext k; match k with | ⟨0, _⟩ => rfl | ⟨1, _⟩ => rfl | ⟨2, _⟩ => rfl
  have e2 : rd (s := S8x4096x4096) (res_main_v37_0 V) x = A.ms (x 0) (x 1) (x 2) := (congrArg (res_main_v37_0 V) e).trans (v37 hA (x 0) (x 1) (x 2))
  rw [e2]
  unfold Arrs.ms
  split
  · exact EReal.coe_ne_top _
  · exact bot_ne_top

/-- A row's greatest score is a real number. -/
theorem v38 (h : Fin 8) (i : Fin 4096) : ∃ t : ℝ, res_main_v38 V (ix2 h i) = (t : EReal) := by
  obtain ⟨t, ht⟩ := fold_max_real {x | Gen.reducesTo_S8x4096x4096_S8x4096_d2.drop x = ix2 h i} (fun x : S8x4096x4096.Idx => rd (s := S8x4096x4096) (res_main_v37_0 V) x)
    (fun x => ms_ne_top hA x) (ix3 h i i) (by
      refine Finset.mem_filter.mpr ⟨Finset.mem_univ _, ?_⟩
      funext k; match k with | ⟨0, _⟩ => rfl | ⟨1, _⟩ => rfl) (by
      refine (congrArg (fun y : EReal => y ≠ ⊥) (v37 hA h i i)).mpr ?_
      unfold Arrs.ms
      rw [if_pos le_rfl]
      exact EReal.coe_ne_bot _)
  refine ⟨t, ?_⟩
  pointwise [res_main_v38]
  rw [bot_eq]
  exact ht

/-- The exponentials, shifted by some real number. -/
theorem v58 (h : Fin 8) (i : Fin 4096) : ∃ t : ℝ, ∀ j, res_main_v58 V (ix3 h i j) = (A.E h t i j : EReal) := by
  obtain ⟨t, ht⟩ := v38 hA h i
  refine ⟨t, fun j => ?_⟩
  refine (exp_shift (res_main_v37_0 V) (res_main_v38 V) h i j).trans ?_
  refine (congrArg₂ (fun a b : EReal => Ideal.exp (a - b)) (v37 hA h i j) (?_ : _ = (t : EReal))).trans (A.exp_ms h t i j)
  refine (congrArg₂ (fun a b : EReal => max a b) bot_eq ht).trans ?_
  exact max_eq_right bot_le

/-- The probabilities. -/
theorem v62 (h : Fin 8) (i j : Fin 4096) : res_main_v62 V (ix3 h i j) = (A.P h i j : EReal) := by
  obtain ⟨t, ht⟩ := v58 hA h i
  pointwise [res_main_v62, res_main_v60]
  exact (congrArg₂ (fun a b : EReal => Ideal.div a b) (ht j) (sum_coe _ _ _ ht)).trans (A.div_E_sum h t i j)

theorem v73 (h : Fin 8) (i j : Fin 4096) : res_main_v73 V (ix3 h i j) = (A.G h i j : EReal) := by
  pointwise [res_main_v73]
  exact sum_mul_coe _ _ _ _ _ (fun d => v72 hA h d i) (fun d => v66 hA j h d)

/-- The gradient of the scores, scaled. -/
theorem v91 (h : Fin 8) (i j : Fin 4096) : res_main_v91 V (ix3 h i j) = ((A.ds h i j * A.sc : ℝ) : EReal) := by
  obtain ⟨t, ht⟩ := v58 hA h i
  have hs : ∑ x, rd (s := S8x4096x4096) (res_main_v58 V) (ix3 h i x) = ((∑ x, A.E h t i x : ℝ) : EReal) := sum_coe _ _ _ ht
  have hn := (A.sum_E_pos h t i).ne'
  pointwise [res_main_v91, res_main_v60, res_main_v37_1]
  rw [select_sle _ _ j.isLt i.isLt]
  by_cases hij : j ≤ i
  · rw [if_pos (show j.val ≤ i.val from hij)]
    rw [← A.ds_ref h t i j]
    refine Eq.trans (congrArg₂ (fun a b : EReal => a * b) (?_ : _ = (((A.G h i j / (∑ k, A.E h t i k) + -∑ k, A.G h i k * (1 / ((∑ k, A.E h t i k) * ∑ k, A.E h t i k)) * A.E h t i k) * A.E h t i j : ℝ) : EReal)) (scale_eq.trans (congrArg (fun r : ℝ => (r : EReal)) hA.sc.symm))) (EReal.coe_mul _ _).symm
    refine Eq.trans (congrArg₂ (fun a b : EReal => a * b) (?_ : _ = ((A.G h i j / (∑ k, A.E h t i k) + -∑ k, A.G h i k * (1 / ((∑ k, A.E h t i k) * ∑ k, A.E h t i k)) * A.E h t i k : ℝ) : EReal)) (ht j)) (EReal.coe_mul _ _).symm
    refine Eq.trans (congrArg₂ (fun a b : EReal => a + b) (?_ : _ = ((A.G h i j / (∑ k, A.E h t i k) : ℝ) : EReal)) (?_ : _ = ((-∑ k, A.G h i k * (1 / ((∑ k, A.E h t i k) * ∑ k, A.E h t i k)) * A.E h t i k : ℝ) : EReal))) (EReal.coe_add _ _).symm
    · refine (congrArg₂ (fun a b : EReal => Ideal.div a b) (v73 hA h i j) hs).trans ?_
      rw [Ideal.div_coe hn, ← EReal.coe_mul, mul_one_div]
    · refine (Fintype.sum_unique (ι := Fin 1) (M := EReal) _).trans ?_
      rw [EReal.coe_neg]
      refine congrArg (fun x : EReal => -x) (sum_coe _ _ _ fun k => ?_)
      refine Eq.trans (congrArg₂ (fun a b : EReal => a * b) (congrArg₂ (fun a b : EReal => a * b) (v73 hA h i k) (?_ : _ = ((1 / ((∑ k, A.E h t i k) * ∑ k, A.E h t i k) : ℝ) : EReal))) (ht k)) ?_
      · refine (congrArg₂ (fun a b : EReal => Ideal.div 1 (a * b)) hs hs).trans ?_
        rw [← EReal.coe_mul, Ideal.div_coe (mul_ne_zero hn hn), one_mul]
      · rw [← EReal.coe_mul, ← EReal.coe_mul]
  · rw [if_neg (show ¬ j.val ≤ i.val from hij), A.ds_of_lt h i j hij, zero_mul]
    rfl

theorem v95 (i : Fin 4096) (h : Fin 8) (d : Fin 64) : res_main_v95 V (ix3 i h d) = (A.dqr h i d : EReal) := by
  pointwise [res_main_v95]
  refine (sum_mul_coe _ _ _ _ _ (fun j => v91 hA h i j) (fun j => v4 hA j h d)).trans ?_
  rw [Arrs.dqr, Finset.sum_mul]
  exact congrArg (fun r : ℝ => (r : EReal)) (Finset.sum_congr rfl fun j _ => by ring)

theorem v103 (i : Fin 4096) (h : Fin 8) (d : Fin 32) : res_main_v103 V (ix3 i h d) = (A.dqr h i ⟨d.val, by omega⟩ : EReal) := by
  rw [← v95 hA]
  pointwise [res_main_v103]

theorem v104 (i : Fin 4096) (h : Fin 8) (d : Fin 32) : res_main_v104 V (ix3 i h d) = (A.dqr h i ⟨32 + d.val, by omega⟩ : EReal) := by
  rw [← v95 hA]
  pointwise [res_main_v104]

end Cert.FlashBwdRefIdeal.RefValue
end
end
-- ==== Proof.FlashBwdRefOut.lean ====
module
public import proofs.«01_k».proof.Proof.FlashBwdRefValue
public import proofs.«01_k».proof.Proof.AttnOut
public import Idealize.ShloMosaic.Lib.Pipeline.ValueKit
public import Idealize.ShloMosaic.Lib.Pointwise
public import Idealize.ShloMosaic.Lib.Claim
@[expose] public section
set_option maxRecDepth 16384

/-! # The reference's results, entry by entry -/
set_option maxHeartbeats 1000000
noncomputable section
open Idealize.ShloMosaic Idealize.ShloMosaic.TcCoe Idealize.SL.Sem
namespace Cert.FlashBwdRefIdeal.RefValue
open Cert.FlashBwdRefIdeal Cert.FlashBwdRefIdeal.Value Cert.FlashBwdRefIdeal.Gen Cert.Attn

variable (V : Valuation τ sig (Elt Ideal))

/-- The three results as terms of the arguments. -/
def res124 : S4096x2048.Idx → EReal := (truncf .bf16 (shapeCast _ (addf (pad S4096x8x256 ![0, 0, 128] ![0, 0, 0] ![0, 0, 0] (transpose S4096x8x128 [2, 0, 1] (Host.dotGeneral (φ₁ := .f32) (φ₂ := .f32) dot_S8x128x4096_S8x4096x4096_S8x128x4096_2_1_1_2_0_0 none (res_main_v72 V) (res_main_v62 V)) transposes_S8x128x4096_S4096x8x128_2_0_1) (constant S_ .f32 0x00000000#32) pads_S4096x8x128_S4096x8x256_000_000_12800 h_S_) (pad S4096x8x256 ![0, 0, 0] ![0, 0, 128] ![0, 0, 0] (transpose S4096x8x128 [1, 0, 2] (Host.dotGeneral (φ₁ := .f32) (φ₂ := .f32) dot_S8x4096x4096_S4096x8x128_S8x4096x128_1_0_2_2_0_1 none (res_main_v91 V) (res_main_v23 V)) transposes_S8x4096x128_S4096x8x128_1_0_2) (constant S_ .f32 0x00000000#32) pads_S4096x8x128_S4096x8x256_000_000_01280 h_S_)) shapeCasts_S4096x8x256_S4096x2048) bitsLt_bf16_f32 : FVec Ideal S4096x2048 .bf16)
def res125 : S4096x1024.Idx → EReal := (shapeCast _ (pad S4096x8x128 ![0, 0, 0] ![0, 0, 64] ![0, 0, 0] (transpose S4096x8x64 [1, 0, 2] (Host.dotGeneral (φ₁ := .f32) (φ₂ := .f32) dot_S8x4096x4096_S4096x8x64_S8x4096x64_1_0_2_2_0_1 none (res_main_v91 V) (res_main_v22 V)) transposes_S8x4096x64_S4096x8x64_1_0_2) (sitofp .f32 (constantI S_ 32 0#32)) pads_S4096x8x64_S4096x8x128_000_000_0640 h_S_) shapeCasts_S4096x8x128_S4096x1024 : FVec Ideal S4096x1024 .f32)
def res127 : S4096x2048.Idx → EReal := (truncf .bf16 (shapeCast _ (pad S4096x8x256 ![0, 0, 0] ![0, 0, 64] ![0, 0, 0] (shapeCast _ (shapeCast _ (addf (pad S4096x8x192 ![0, 0, 0] ![0, 0, 64] ![0, 0, 0] (transpose S4096x8x128 [1, 0, 2] (Host.dotGeneral (φ₁ := .f32) (φ₂ := .f32) dot_S8x4096x4096_S4096x8x128_S8x4096x128_2_0_1_2_0_1 none (res_main_v91 V) (res_main_v24 V)) transposes_S8x4096x128_S4096x8x128_1_0_2) (constant S_ .f32 0x00000000#32) pads_S4096x8x128_S4096x8x192_000_000_0640 h_S_) (pad S4096x8x192 ![0, 0, 128] ![0, 0, 0] ![0, 0, 0] (concatenate S4096x8x64 2 [⟨S4096x8x32, (addf (mulf (res_main_v104 V) (broadcastInDim S4096x8x32 ![0, 1, 2] bcast_S4096x1x32_S4096x8x32_0_1_2 (res_main_v9 V))) (mulf (res_main_v103 V) (broadcastInDim S4096x8x32 ![0, 1, 2] bcast_S4096x1x32_S4096x8x32_0_1_2 (res_main_v8 V))))⟩, ⟨S4096x8x32, (addf (mulf (res_main_v104 V) (broadcastInDim S4096x8x32 ![0, 1, 2] bcast_S4096x1x32_S4096x8x32_0_1_2 (res_main_v8 V))) (mulf (Host.negf (res_main_v103 V)) (broadcastInDim S4096x8x32 ![0, 1, 2] bcast_S4096x1x32_S4096x8x32_0_1_2 (res_main_v9 V))))⟩] concatenates_S4096x8x32_S4096x8x32_S4096x8x64_d2) (constant S_ .f32 0x00000000#32) pads_S4096x8x64_S4096x8x192_000_000_12800 h_S_)) shapeCasts_S4096x8x192_S4096x1536) shapeCasts_S4096x1536_S4096x8x192) (sitofp .f32 (constantI S_ 32 0#32)) pads_S4096x8x192_S4096x8x256_000_000_0640 h_S_) shapeCasts_S4096x8x256_S4096x2048) bitsLt_bf16_f32 : FVec Ideal S4096x2048 .bf16)

theorem cases127 (d : Fin 256) (f : d.val < 192 → d.val < 128 → EReal)
    (g1 : d.val < 192 → (128 ≤ d.val ∧ d.val - 128 < 64) → d.val - 128 < 32 → EReal)
    (g2 : d.val < 192 → (128 ≤ d.val ∧ d.val - 128 < 64) → ¬d.val - 128 < 32 → EReal) (z : ¬d.val < 192 → EReal) (r : EReal)
    (hz : ∀ a, z a = r) (hf : ∀ a h, f a h = r)
    (h1 : ¬d.val < 128 → ∀ a h k, g1 a h k = r) (h2 : ¬d.val < 128 → ∀ a h k, g2 a h k = r) :
    (if a : d.val < 192 then (if h : d.val < 128 then f a h else 0) + (if h : 128 ≤ d.val ∧ d.val - 128 < 64 then
      (if k : d.val - 128 < 32 then g1 a h k else g2 a h k) else 0) else z a) = r := by
  by_cases a : d.val < 192
  · by_cases b : d.val < 128
    · rw [dif_pos a, dif_pos b, dif_neg (by omega), add_zero, hf]
    · rw [dif_pos a, dif_neg b, dif_pos (by omega), zero_add]
      by_cases k : d.val - 128 < 32
      · rw [dif_pos k, h1 b]
      · rw [dif_neg k, h2 b]
  · rw [dif_neg a, hz a]

theorem ext256 (f g : S4096x2048.Idx → EReal) (e : ∀ (h : Fin 8) (i : Fin 4096) (d : Fin 256), f (ix2 i ⟨h.val * 256 + d.val, by omega⟩) = g (ix2 i ⟨h.val * 256 + d.val, by omega⟩)) : f = g := by
  funext y
  have hy : (y 1).val < 2048 := (y 1).isLt
  have k := e ⟨(y 1).val / 256, by omega⟩ (y 0) ⟨(y 1).val % 256, by omega⟩
  have q : (ix2 (y 0 : Fin 4096) (⟨(y 1).val / 256 * 256 + (y 1).val % 256, by omega⟩ : Fin 2048) : S4096x2048.Idx) = y := by
    funext k
    match k with
    | ⟨0, _⟩ => rfl
    | ⟨1, _⟩ => exact Fin.ext (by show (y 1).val / 256 * 256 + (y 1).val % 256 = (y 1).val; omega)
  exact (congrArg f q).symm.trans (k.trans (congrArg g q))

theorem ext128 (f g : S4096x1024.Idx → EReal) (e : ∀ (h : Fin 8) (i : Fin 4096) (d : Fin 128), f (ix2 i ⟨h.val * 128 + d.val, by omega⟩) = g (ix2 i ⟨h.val * 128 + d.val, by omega⟩)) : f = g := by
  funext y
  have hy : (y 1).val < 1024 := (y 1).isLt
  have k := e ⟨(y 1).val / 128, by omega⟩ (y 0) ⟨(y 1).val % 128, by omega⟩
  have q : (ix2 (y 0 : Fin 4096) (⟨(y 1).val / 128 * 128 + (y 1).val % 128, by omega⟩ : Fin 1024) : S4096x1024.Idx) = y := by
    funext k
    match k with
    | ⟨0, _⟩ => rfl
    | ⟨1, _⟩ => exact Fin.ext (by show (y 1).val / 128 * 128 + (y 1).val % 128 = (y 1).val; omega)
  exact (congrArg f q).symm.trans (k.trans (congrArg g q))

variable {V} {A : Arrs} (hA : HoldsIn V A)

theorem sitofp0 : (FloatOps.sitofp (F := Ideal) FTy.f32 (0#32) : EReal) = 0 := by
  show (((0#32 : BitVec 32).toInt : ℝ) : EReal) = 0
  simp

include hA

theorem at124 (h : Fin 8) (i : Fin 4096) (d : Fin 256) : res124 V (ix2 i ⟨h.val * 256 + d.val, by omega⟩) = (A.dkv h i d : EReal) := by
  pointwise [res124]
  unfold Arrs.dkv
  by_cases h1 : d.val < 128
  · rw [dif_neg (show ¬(128 ≤ d.val ∧ d.val - 128 < 128) by omega), dif_pos h1, dif_pos h1]
    refine (zero_add (M := EReal) _).trans ((sum_mul_coe _ _ _ _ _ (fun x => v91 hA h x i) (fun x => v23 hA x h ⟨d.val, h1⟩)).trans ?_)
    rw [Arrs.dkn, Finset.sum_mul]
    exact congrArg (fun r : ℝ => (r : EReal)) (Finset.sum_congr rfl fun x _ => by ring)
  · rw [dif_pos (show 128 ≤ d.val ∧ d.val - 128 < 128 by omega), dif_neg h1, dif_neg h1]
    refine (add_zero (M := EReal) _).trans ((sum_mul_coe _ _ _ _ _ (fun x => v72 hA h ⟨d.val - 128, by omega⟩ x) (fun x => v62 hA h x i)).trans ?_)
    rw [Arrs.dv]
    exact congrArg (fun r : ℝ => (r : EReal)) (Finset.sum_congr rfl fun x _ => by ring)

theorem at125 (h : Fin 8) (i : Fin 4096) (d : Fin 128) : res125 V (ix2 i ⟨h.val * 128 + d.val, by omega⟩) = (A.dkp h i d : EReal) := by
  pointwise [res125]
  unfold Arrs.dkp
  by_cases h1 : d.val < 64
  · rw [dif_pos h1, dif_pos h1]
    refine (sum_mul_coe _ _ _ _ _ (fun x => v91 hA h x i) (fun x => v22 hA x h ⟨d.val, h1⟩)).trans ?_
    rw [Arrs.dkr, Finset.sum_mul]
    exact congrArg (fun r : ℝ => (r : EReal)) (Finset.sum_congr rfl fun x _ => by ring)
  · rw [dif_neg h1, dif_neg h1]
    exact sitofp0

theorem at127 (h : Fin 8) (i : Fin 4096) (d : Fin 256) : res127 V (ix2 i ⟨h.val * 256 + d.val, by omega⟩) = (A.dqp h i d : EReal) := by
  pointwise [res127]
  refine cases127 d _ _ _ _ (A.dqp h i d : EReal) ?_ ?_ ?_ ?_
  · intro a
    unfold Arrs.dqp
    rw [dif_neg (by omega), dif_neg (by omega)]
    exact sitofp0
  · intro h0 h1
    unfold Arrs.dqp
    rw [dif_pos h1]
    refine (sum_mul_coe _ _ _ _ _ (fun x => v91 hA h i x) (fun x => v24 hA x h ⟨d.val, h1⟩)).trans ?_
    rw [Arrs.dqn, Finset.sum_mul]
    exact congrArg (fun r : ℝ => (r : EReal)) (Finset.sum_congr rfl fun x _ => by ring)
  · intro h1 h0 ⟨_, h2⟩ h3
    have e : (A.dqp h i d : EReal) = (A.dqr h i ⟨32 + (d.val - 128), by omega⟩ : EReal) * (A.si i ⟨d.val - 128, h3⟩ : EReal) + (A.dqr h i ⟨d.val - 128, by omega⟩ : EReal) * (A.co i ⟨d.val - 128, h3⟩ : EReal) := by
      unfold Arrs.dqp Arrs.dqb
      rw [dif_neg h1, dif_pos h2, dif_pos (show (⟨d.val - 128, h2⟩ : Fin 64).val < 32 from h3), EReal.coe_add, EReal.coe_mul, EReal.coe_mul]
      exact add_comm (G := EReal) _ _
    refine Eq.trans ?_ e.symm
    exact congrArg₂ (fun a b : EReal => a + b)
      (congrArg₂ (fun a b : EReal => a * b) (v104 hA i h ⟨d.val - 128, h3⟩) (v9 hA i 0 ⟨d.val - 128, h3⟩))
      (congrArg₂ (fun a b : EReal => a * b) (v103 hA i h ⟨d.val - 128, h3⟩) (v8 hA i 0 ⟨d.val - 128, h3⟩))
  · intro h1 h0 ⟨_, h2⟩ h3
    have h4 : d.val - 128 - 32 < 32 := by omega
    have e0 : (⟨32 + (d.val - 128 - 32), by omega⟩ : Fin 64) = ⟨d.val - 128, h2⟩ := Fin.ext (by show 32 + (d.val - 128 - 32) = d.val - 128; omega)
    have e : (A.dqp h i d : EReal) = (A.dqr h i ⟨32 + (d.val - 128 - 32), by omega⟩ : EReal) * (A.co i ⟨d.val - 128 - 32, h4⟩ : EReal) + -(A.dqr h i ⟨d.val - 128 - 32, by omega⟩ : EReal) * (A.si i ⟨d.val - 128 - 32, h4⟩ : EReal) := by
      unfold Arrs.dqp Arrs.dqb
      rw [e0, dif_neg h1, dif_pos h2, dif_neg (show ¬(⟨d.val - 128, h2⟩ : Fin 64).val < 32 from h3), sub_eq_add_neg, EReal.coe_add, EReal.coe_mul, ← neg_mul, EReal.coe_mul, EReal.coe_neg]
    refine Eq.trans ?_ e.symm
    exact congrArg₂ (fun a b : EReal => a + b)
      (congrArg₂ (fun a b : EReal => a * b) (v104 hA i h ⟨d.val - 128 - 32, h4⟩) (v8 hA i 0 ⟨d.val - 128 - 32, h4⟩))
      (congrArg₂ (fun a b : EReal => -a * b) (v103 hA i h ⟨d.val - 128 - 32, h4⟩) (v9 hA i 0 ⟨d.val - 128 - 32, h4⟩))

/-- The keys' and values' gradient, -/
theorem res124_eq : res124 V = A.out9 := ext256 (res124 V) A.out9 fun h i d => (at124 hA h i d).trans (A.out9_at h i d).symm
/-- the shared key's, -/
theorem res125_eq : res125 V = A.out10 := ext128 (res125 V) A.out10 fun h i d => (at125 hA h i d).trans (A.out10_at h i d).symm
/-- and the queries'. -/
theorem res127_eq : res127 V = A.out11 := ext256 (res127 V) A.out11 fun h i d => (at127 hA h i d).trans (A.out11_at h i d).symm

end Cert.FlashBwdRefIdeal.RefValue
end
end
-- ==== Proof.FlashBwdPre.lean ====
module
public import proofs.«01_k».proof.Defs
public import proofs.«01_k».proof.Proof.AttnReal
public import Idealize.ShloMosaic.Lib.ReduceAll
public import Idealize.ShloMosaic.Lib.Pointwise
@[expose] public section
set_option maxRecDepth 16384

/-! # What the precondition says

Every entry of the six argument arrays is a real number. -/

set_option maxHeartbeats 1000000
open Idealize.ShloMosaic Idealize.ShloMosaic.TcCoe Idealize.SL.Sem
namespace Cert.Pre_finite_inputs

theorem and1 {x y : BitVec 1} (h : IntOp.andi x y = 1#1) : x = 1#1 ∧ y = 1#1 := by
  revert h; revert x y; decide

theorem hi_eq : Ideal.ofBits .f32 0x7F800000#32 = (⊤ : EReal) := by
  simp [Ideal.ofBits, Ideal.ieee]

theorem of_cmp {a b : EReal} (p : CmpFPredicate) (h : Ideal.cmp p a b = 1#1) : (p = .ogt → b < a) ∧ (p = .olt → a < b) := by
  refine ⟨fun e => ?_, fun e => ?_⟩ <;> subst e <;> by_contra hn <;> simp [Ideal.cmp, hn] at h

/-- An array whose entries all lie between the two infinities. -/
theorem all_real {s : Shape} {axes : List (Fin s.rank)} {t u : Shape} [Subsingleton t.Idx] (x lo hi : FVec Ideal s .f32)
    (hlo : ∀ i, lo i = Ideal.ofBits .f32 0xFF800000#32) (hhi : ∀ i, hi i = Ideal.ofBits .f32 0x7F800000#32)
    (init : u.Idx → BitVec 1) (h : s.ReducesTo axes t) (hu : 0 < u.numel) (j : t.Idx)
    (e : Host.reduce IntOp.andi (andi (cmpf .ogt x lo) (cmpf .olt x hi)) init h hu j = 1#1) (i : s.Idx) : (x i : EReal) ≠ ⊥ ∧ (x i : EReal) ≠ ⊤ := by
  have h1 := Host.reduce_andi_all _ init h hu j e i
  have h2 := and1 h1
  have a : Ideal.cmp .ogt (x i : EReal) (lo i : EReal) = 1#1 := h2.1
  have b : Ideal.cmp .olt (x i : EReal) (hi i : EReal) = 1#1 := h2.2
  have a' := (of_cmp _ a).1 rfl
  have b' := (of_cmp _ b).2 rfl
  exact ⟨(lt_of_le_of_lt bot_le a').ne', (lt_of_lt_of_le b' le_top).ne⟩

variable [Facts]

instance : Subsingleton S_.Idx := ⟨fun a b => funext fun k => k.elim0⟩

/-- The precondition gives real entries. -/
theorem real_entries (a0 : S4096x1536.Idx → EReal) (a1 : S4096x2048.Idx → EReal) (a2 : S4096x64.Idx → EReal) (a3 : S4096x2560.Idx → EReal) (a4 a5 : S4096x32.Idx → EReal)
    (h : fn (F := Ideal) a0 a1 a2 a3 a4 a5 = fun _ => 1#1) :
    (∀ x, a0 x ≠ ⊥ ∧ a0 x ≠ ⊤) ∧ (∀ x, a1 x ≠ ⊥ ∧ a1 x ≠ ⊤) ∧ (∀ x, a2 x ≠ ⊥ ∧ a2 x ≠ ⊤) ∧ (∀ x, a3 x ≠ ⊥ ∧ a3 x ≠ ⊤)
      ∧ (∀ x, a4 x ≠ ⊥ ∧ a4 x ≠ ⊤) ∧ (∀ x, a5 x ≠ ⊥ ∧ a5 x ≠ ⊤) := by
  have h0 := congrFun h (fun k => k.elim0)
  dsimp only [fn, fn_part1, fn_part2] at h0
  obtain ⟨h0, h5⟩ := and1 h0
  obtain ⟨h0, h4⟩ := and1 h0
  obtain ⟨h0, h3⟩ := and1 h0
  obtain ⟨h0, h2⟩ := and1 h0
  obtain ⟨h0, h1⟩ := and1 h0
  exact ⟨all_real _ _ _ (fun _ => rfl) (fun _ => rfl) _ _ _ _ h0, all_real _ _ _ (fun _ => rfl) (fun _ => rfl) _ _ _ _ h1,
    all_real _ _ _ (fun _ => rfl) (fun _ => rfl) _ _ _ _ h2, all_real _ _ _ (fun _ => rfl) (fun _ => rfl) _ _ _ _ h3,
    all_real _ _ _ (fun _ => rfl) (fun _ => rfl) _ _ _ _ h4, all_real _ _ _ (fun _ => rfl) (fun _ => rfl) _ _ _ _ h5⟩

/-- The function's side conditions hold. -/
instance facts : Facts where
  bitsLt_bf16_f32 := by decide
  bcast_S_S4096x1536 := by decide
  reducesTo_S4096x1536_S_d0_1 := by decide
  h_S_ := by decide
  bcast_S_S4096x2048 := by decide
  reducesTo_S4096x2048_S_d0_1 := by decide
  bcast_S_S4096x64 := by decide
  reducesTo_S4096x64_S_d0_1 := by decide
  bcast_S_S4096x2560 := by decide
  reducesTo_S4096x2560_S_d0_1 := by decide
  bcast_S_S4096x32 := by decide
  reducesTo_S4096x32_S_d0_1 := by decide

end Cert.Pre_finite_inputs
end
-- ==== Proof.FlashBwdClaim.lean ====
module

public import proofs.«01_k».proof.Defs
public import proofs.«01_k».proof.Proof.FlashBwdFrame
public import proofs.«01_k».proof.Proof.FlashBwdFinal
public import proofs.«01_k».proof.Proof.FlashBwdRefOut
public import proofs.«01_k».proof.Proof.FlashBwdPre
public import Idealize.ShloMosaic.Lib.Quiescent

/-! # The claims about one call: the gradient of the attention -/

@[expose] public section

set_option maxRecDepth 16384
set_option maxHeartbeats 1000000

noncomputable section

namespace Cert.Proof

open Idealize.ShloMosaic Idealize.SL.Sem

/-- The kernel runs and leaves its arguments, at the reals. -/
theorem flashBwd_ideal_frame : Cert.quiescent_FlashBwdIdeal := fun m ρ _ => Cert.FlashBwdIdeal.Hand.frame (F := Ideal) m ρ

/-- The same, from arguments that are real numbers. -/
theorem flashBwd_ideal_frame_pre : Cert.quiescent_FlashBwdIdeal_pre_finite_inputs := fun m ρ _ => Cert.FlashBwdIdeal.Hand.frame (F := Ideal) m ρ

/-- The reference runs and leaves its arguments. -/
theorem flashBwd_ref_frame : Cert.quiescent_FlashBwdRefIdeal := fun m ρ _ =>
  (θ_run Cert.FlashBwdRefIdeal.defs _ _).mono
    (fun r h => ⟨fun c => (h c).2.2.2, sem_eq_zero_of_no_sems (by decide) r.2⟩)
    (Cert.FlashBwdRefIdeal.Value.run (F := Ideal) m ρ)

/-- The same, from arguments that are real numbers. -/
theorem flashBwd_ref_frame_pre : Cert.quiescent_FlashBwdRefIdeal_pre_finite_inputs := fun m ρ _ =>
  (θ_run Cert.FlashBwdRefIdeal.defs _ _).mono
    (fun r h => ⟨fun c => (h c).2.2.2, sem_eq_zero_of_no_sems (by decide) r.2⟩)
    (Cert.FlashBwdRefIdeal.Value.run (F := Ideal) m ρ)

/-- Wherever the arguments are real numbers, what the kernel leaves is what the reference computes. -/
theorem flashBwd_algebraic : Cert.algebraic_FlashBwdIdeal_FlashBwdRefIdeal_pre_finite_inputs := by
  intro m g m' g' hpre hagree
  have hex : ∀ c : Dev Cert.FlashBwdIdeal.nD, ∃ A : Cert.Attn.Arrs, Cert.FlashBwdIdeal.Hand.HoldsAt m c A := fun c => by
    obtain ⟨h0, h1, h2, h3, h4, h5⟩ := Cert.Pre_finite_inputs.real_entries _ _ _ _ _ _ (hpre c)
    exact Cert.Attn.exists_holds _ _ _ _ _ _ h0 h1 h2 h3 h4 h5
  choose A hA using hex
  refine ⟨fun c => (A c).out9, fun c => (A c).out10, fun c => (A c).out11, ?_, ?_⟩
  · exact (θ_run _ _ _).mono (fun r h c =>
      ⟨((h.1 c).1 9).trans (Cert.FlashBwdIdeal.Hand.final9 (hA c)), ((h.1 c).1 10).trans (Cert.FlashBwdIdeal.Hand.final10 (hA c)),
        ((h.1 c).1 11).trans (Cert.FlashBwdIdeal.Hand.final11 (hA c)), h.2 c⟩)
      (θ_run_and (Cert.FlashBwdIdeal.Hand.run_main m g) (Cert.FlashBwdIdeal.Hand.unchanged m g))
  · refine (θ_run _ _ _).mono (fun r h c => ?_) (Cert.FlashBwdRefIdeal.Value.run (F := Ideal) m' g')
    obtain ⟨e0, e1, e2, e3, e4, e5⟩ := hagree c
    have hV : Cert.FlashBwdRefIdeal.RefValue.HoldsIn (StableHlo.launchContents m' c) (A c) := by
      have k := hA c
      unfold Cert.FlashBwdIdeal.Hand.HoldsAt at k
      show Cert.Attn.Holds (A c) (m' ((c.tc : Thread Cert.FlashBwdRefIdeal.nD Cert.FlashBwdRefIdeal.τ).loc Cert.FlashBwdRefIdeal.main_arg0))
        (m' ((c.tc : Thread Cert.FlashBwdRefIdeal.nD Cert.FlashBwdRefIdeal.τ).loc Cert.FlashBwdRefIdeal.main_arg1))
        (m' ((c.tc : Thread Cert.FlashBwdRefIdeal.nD Cert.FlashBwdRefIdeal.τ).loc Cert.FlashBwdRefIdeal.main_arg2))
        (m' ((c.tc : Thread Cert.FlashBwdRefIdeal.nD Cert.FlashBwdRefIdeal.τ).loc Cert.FlashBwdRefIdeal.main_arg3))
        (m' ((c.tc : Thread Cert.FlashBwdRefIdeal.nD Cert.FlashBwdRefIdeal.τ).loc Cert.FlashBwdRefIdeal.main_arg4))
        (m' ((c.tc : Thread Cert.FlashBwdRefIdeal.nD Cert.FlashBwdRefIdeal.τ).loc Cert.FlashBwdRefIdeal.main_arg5))
      rw [e0, e1, e2, e3, e4, e5]
      exact k
    obtain ⟨r0, r1, r2, rest⟩ := h c
    exact ⟨r0.trans (Cert.FlashBwdRefIdeal.RefValue.res124_eq hV), r1.trans (Cert.FlashBwdRefIdeal.RefValue.res125_eq hV),
      r2.trans (Cert.FlashBwdRefIdeal.RefValue.res127_eq hV), rest⟩

end Cert.Proof

end

end
-- ==== Proof.FlashBwdMainText.lean ====
module

public import proofs.«01_k».proof.Proof.Gen.FlashBwd
public import proofs.«01_k».proof.Proof.Gen.FlashBwdIdeal

/-! # The attention's gradient: the text at the words and the text at the reals are one, `main` -/

@[expose] public section

set_option maxRecDepth 65536
set_option maxHeartbeats 0

noncomputable section

namespace Cert.Proof

open Idealize.ShloMosaic Idealize.SL.Sem
variable {F : FTy → Type} [FloatOps F]

/-- The two printed texts of `main` are one. -/
theorem flashBwd_main_text : Cert.FlashBwd.main (F := F) = Cert.FlashBwdIdeal.main (F := F) := rfl

end Cert.Proof
end
end
-- ==== Proof.FlashBwdBodyText.lean ====
module

public import proofs.«01_k».proof.Proof.Gen.FlashBwd
public import proofs.«01_k».proof.Proof.Gen.FlashBwdIdeal

/-! # The attention's gradient: the text at the words and the text at the reals are one, the kernel's body -/

@[expose] public section

set_option maxRecDepth 65536
set_option maxHeartbeats 0

noncomputable section

namespace Cert.Proof

open Idealize.ShloMosaic Idealize.SL.Sem
variable {F : FTy → Type} [FloatOps F]

/-- The two printed texts of the kernel's body are one, -/
theorem flashBwd_body_text (l : Cert.FlashBwd.Λ₀.Label) (a : Cert.FlashBwd.Λ₀.Args l) :
    Cert.FlashBwd.defs₀ (F := F) .tc l a = Cert.FlashBwdIdeal.defs₀ (F := F) .tc l a := by
  match l, a with
  | ⟨0, _⟩, (t, s) => rfl
  | ⟨n + 1, h⟩, _ => exact absurd h (Nat.not_lt.2 (Nat.le_add_left _ _))

/-- so are the tables of bodies, -/
theorem flashBwd_defs₀_text : Cert.FlashBwd.defs₀ (F := F) = Cert.FlashBwdIdeal.defs₀ (F := F) := by
  funext p
  match p with
  | .tc => exact funext fun l => funext fun a => flashBwd_body_text l a
  | .scScalar _ => rfl
  | .scVector _ _ => rfl

/-- and the pipelines over them. -/
theorem flashBwd_defs_text : Cert.FlashBwd.defs (F := F) = Cert.FlashBwdIdeal.defs (F := F) :=
  congrArg (fun d => Pipeline.defs Cert.FlashBwd.pcfgs d) flashBwd_defs₀_text

end Cert.Proof
end
end
-- ==== Proof.FlashBwdWords.lean ====
module

public import proofs.«01_k».proof.Defs
public import proofs.«01_k».proof.Proof.FlashBwdFrame
public import proofs.«01_k».proof.Proof.FlashBwdMainText
public import proofs.«01_k».proof.Proof.FlashBwdBodyText

/-! # The attention's gradient at the words: its text is the one read at the reals -/

@[expose] public section

set_option maxRecDepth 65536
set_option maxHeartbeats 0

noncomputable section

namespace Cert.Proof

open Idealize.ShloMosaic Idealize.SL.Sem

/-- The kernel runs and leaves its arguments, at the words. -/
theorem flashBwd_frame : Cert.quiescent_FlashBwd := by
  intro m ρ _
  have swap : ∀ d p Q, Cert.FlashBwd.defs (F := Bits) = d → Cert.FlashBwd.main (F := Bits) = p →
      θ_run d (onTc (τ := Cert.FlashBwd.τ) p) ⟨m, fun _ => 0, ρ⟩ Q →
      θ_run (Cert.FlashBwd.defs (F := Bits)) (onTc (τ := Cert.FlashBwd.τ) (Cert.FlashBwd.main (F := Bits))) ⟨m, fun _ => 0, ρ⟩ Q := by
    intro d p Q hd hp h
    subst hd hp
    exact h
  exact swap _ _ _ flashBwd_defs_text flashBwd_main_text (Cert.FlashBwdIdeal.Hand.frame (F := Bits) m ρ)

end Cert.Proof
end
end
-- ==== Proof.lean ====
module

public import proofs.«01_k».proof.Defs
public import proofs.«01_k».proof.Proof.Gen.Merge
public import proofs.«01_k».proof.Proof.Gen.MergeIdeal.Value
public import proofs.«01_k».proof.Proof.Gen.MergeRefIdeal.Run
public import proofs.«01_k».proof.Proof.MergeClaim
public import proofs.«01_k».proof.Proof.Gen.Dup
public import proofs.«01_k».proof.Proof.Gen.DupIdeal.Value
public import proofs.«01_k».proof.Proof.Gen.DupRefIdeal.Run
public import proofs.«01_k».proof.Proof.DupClaim
public import proofs.«01_k».proof.Proof.Gen.DwDown
public import proofs.«01_k».proof.Proof.Gen.DwDownIdeal.Value
public import proofs.«01_k».proof.Proof.Gen.DwDownRefIdeal.Run
public import proofs.«01_k».proof.Proof.DwDownClaim
public import proofs.«01_k».proof.Proof.Gen.DwUp
public import proofs.«01_k».proof.Proof.Gen.DwUpIdeal.Value
public import proofs.«01_k».proof.Proof.Gen.DwUpRefIdeal.Run
public import proofs.«01_k».proof.Proof.DwUpClaim
public import proofs.«01_k».proof.Proof.Gen.Dh2
public import proofs.«01_k».proof.Proof.Gen.Dh2Ideal.Value
public import proofs.«01_k».proof.Proof.Gen.Dh2RefIdeal.Run
public import proofs.«01_k».proof.Proof.Dh2Claim
public import proofs.«01_k».proof.Proof.Gen.DwOut
public import proofs.«01_k».proof.Proof.Gen.DwOutIdeal.Value
public import proofs.«01_k».proof.Proof.Gen.DwOutRefIdeal.Run
public import proofs.«01_k».proof.Proof.DwOutClaim
public import proofs.«01_k».proof.Proof.Gen.Dmerged
public import proofs.«01_k».proof.Proof.Gen.DmergedIdeal.Value
public import proofs.«01_k».proof.Proof.Gen.DmergedRefIdeal.Run
public import proofs.«01_k».proof.Proof.DmergedClaim
public import proofs.«01_k».proof.Proof.Gen.DwProj
public import proofs.«01_k».proof.Proof.Gen.DwProjIdeal.Value
public import proofs.«01_k».proof.Proof.Gen.DwProjRefIdeal.Run
public import proofs.«01_k».proof.Proof.DwProjClaim
public import proofs.«01_k».proof.Proof.Gen.Dact
public import proofs.«01_k».proof.Proof.Gen.DactIdeal.Value
public import proofs.«01_k».proof.Proof.Gen.DactRefIdeal.Run
public import proofs.«01_k».proof.Proof.DactClaim
public import proofs.«01_k».proof.Proof.Gen.DwUq
public import proofs.«01_k».proof.Proof.Gen.DwUqIdeal.Value
public import proofs.«01_k».proof.Proof.Gen.DwUqRefIdeal.Run
public import proofs.«01_k».proof.Proof.DwUqClaim
public import proofs.«01_k».proof.Proof.Gen.Dqn
public import proofs.«01_k».proof.Proof.Gen.DqnIdeal.Value
public import proofs.«01_k».proof.Proof.Gen.DqnRefIdeal.Run
public import proofs.«01_k».proof.Proof.DqnClaim
public import proofs.«01_k».proof.Proof.Gen.DwUkv
public import proofs.«01_k».proof.Proof.Gen.DwUkvIdeal.Value
public import proofs.«01_k».proof.Proof.Gen.DwUkvRefIdeal.Run
public import proofs.«01_k».proof.Proof.DwUkvClaim
public import proofs.«01_k».proof.Proof.Gen.Dkvn
public import proofs.«01_k».proof.Proof.Gen.DkvnIdeal.Value
public import proofs.«01_k».proof.Proof.Gen.DkvnRefIdeal.Run
public import proofs.«01_k».proof.Proof.DkvnClaim
public import proofs.«01_k».proof.Proof.Gen.DwA
public import proofs.«01_k».proof.Proof.Gen.DwAIdeal.Value
public import proofs.«01_k».proof.Proof.Gen.DwARefIdeal.Run
public import proofs.«01_k».proof.Proof.DwAClaim
public import proofs.«01_k».proof.Proof.Gen.DwG
public import proofs.«01_k».proof.Proof.Gen.DwGIdeal.Value
public import proofs.«01_k».proof.Proof.Gen.DwGRefIdeal.Run
public import proofs.«01_k».proof.Proof.DwGClaim
public import proofs.«01_k».proof.Proof.Gen.Dh1A
public import proofs.«01_k».proof.Proof.Gen.Dh1AIdeal.Value
public import proofs.«01_k».proof.Proof.Gen.Dh1ARefIdeal.Run
public import proofs.«01_k».proof.Proof.Dh1AClaim
public import proofs.«01_k».proof.Proof.Gen.Dh1G
public import proofs.«01_k».proof.Proof.Gen.Dh1GIdeal.Value
public import proofs.«01_k».proof.Proof.Gen.Dh1GRefIdeal.Run
public import proofs.«01_k».proof.Proof.Dh1GClaim
public import proofs.«01_k».proof.Proof.Gen.Za
public import proofs.«01_k».proof.Proof.Gen.ZaIdeal.Value
public import proofs.«01_k».proof.Proof.Gen.ZaRefIdeal.Run
public import proofs.«01_k».proof.Proof.ZaClaim
public import proofs.«01_k».proof.Proof.Gen.Zg
public import proofs.«01_k».proof.Proof.Gen.ZgIdeal.Value
public import proofs.«01_k».proof.Proof.Gen.ZgRefIdeal.Run
public import proofs.«01_k».proof.Proof.ZgClaim
public import proofs.«01_k».proof.Proof.Gen.Kv
public import proofs.«01_k».proof.Proof.Gen.KvIdeal.Value
public import proofs.«01_k».proof.Proof.Gen.KvRefIdeal.Run
public import proofs.«01_k».proof.Proof.KvClaim
public import proofs.«01_k».proof.Proof.Gen.Out
public import proofs.«01_k».proof.Proof.Gen.OutIdeal.Value
public import proofs.«01_k».proof.Proof.Gen.OutRefIdeal.Run
public import proofs.«01_k».proof.Proof.OutClaim
public import proofs.«01_k».proof.Proof.Gen.Down
public import proofs.«01_k».proof.Proof.Gen.DownIdeal.Value
public import proofs.«01_k».proof.Proof.Gen.DownRefIdeal.Run
public import proofs.«01_k».proof.Proof.DownClaim
public import proofs.«01_k».proof.Proof.Gen.Up
public import proofs.«01_k».proof.Proof.Gen.UpIdeal.Value
public import proofs.«01_k».proof.Proof.Gen.UpRefIdeal.Run
public import proofs.«01_k».proof.Proof.UpClaim
public import proofs.«01_k».proof.Proof.Gen.FlashBwdIdeal.Frame
public import proofs.«01_k».proof.Proof.Gen.FlashBwdRefIdeal.Run
public import proofs.«01_k».proof.Proof.FlashBwdClaim
public import proofs.«01_k».proof.Proof.FlashBwdWords
public import proofs.«01_k».proof.Proof.Gen.FlashBwd

/-! # The claims, assembled -/

@[expose] public section

noncomputable section

namespace Cert.Proof

/-- Every claim of the statement. -/
theorem claim : Cert.Claim :=
  ⟨Cert.Merge.Gen.facts,
    Cert.MergeIdeal.Gen.facts,
    Cert.MergeRefIdeal.Gen.facts,
    Cert.Dup.Gen.facts,
    Cert.DupIdeal.Gen.facts,
    Cert.DupRefIdeal.Gen.facts,
    Cert.DwDown.Gen.facts,
    Cert.DwDownIdeal.Gen.facts,
    Cert.DwDownRefIdeal.Gen.facts,
    Cert.DwUp.Gen.facts,
    Cert.DwUpIdeal.Gen.facts,
    Cert.DwUpRefIdeal.Gen.facts,
    Cert.Dh2.Gen.facts,
    Cert.Dh2Ideal.Gen.facts,
    Cert.Dh2RefIdeal.Gen.facts,
    Cert.DwOut.Gen.facts,
    Cert.DwOutIdeal.Gen.facts,
    Cert.DwOutRefIdeal.Gen.facts,
    Cert.Dmerged.Gen.facts,
    Cert.DmergedIdeal.Gen.facts,
    Cert.DmergedRefIdeal.Gen.facts,
    Cert.DwProj.Gen.facts,
    Cert.DwProjIdeal.Gen.facts,
    Cert.DwProjRefIdeal.Gen.facts,
    Cert.Dact.Gen.facts,
    Cert.DactIdeal.Gen.facts,
    Cert.DactRefIdeal.Gen.facts,
    Cert.DwUq.Gen.facts,
    Cert.DwUqIdeal.Gen.facts,
    Cert.DwUqRefIdeal.Gen.facts,
    Cert.Dqn.Gen.facts,
    Cert.DqnIdeal.Gen.facts,
    Cert.DqnRefIdeal.Gen.facts,
    Cert.DwUkv.Gen.facts,
    Cert.DwUkvIdeal.Gen.facts,
    Cert.DwUkvRefIdeal.Gen.facts,
    Cert.Dkvn.Gen.facts,
    Cert.DkvnIdeal.Gen.facts,
    Cert.DkvnRefIdeal.Gen.facts,
    Cert.DwA.Gen.facts,
    Cert.DwAIdeal.Gen.facts,
    Cert.DwARefIdeal.Gen.facts,
    Cert.DwG.Gen.facts,
    Cert.DwGIdeal.Gen.facts,
    Cert.DwGRefIdeal.Gen.facts,
    Cert.Dh1A.Gen.facts,
    Cert.Dh1AIdeal.Gen.facts,
    Cert.Dh1ARefIdeal.Gen.facts,
    Cert.Dh1G.Gen.facts,
    Cert.Dh1GIdeal.Gen.facts,
    Cert.Dh1GRefIdeal.Gen.facts,
    Cert.Za.Gen.facts,
    Cert.ZaIdeal.Gen.facts,
    Cert.ZaRefIdeal.Gen.facts,
    Cert.Zg.Gen.facts,
    Cert.ZgIdeal.Gen.facts,
    Cert.ZgRefIdeal.Gen.facts,
    Cert.Kv.Gen.facts,
    Cert.KvIdeal.Gen.facts,
    Cert.KvRefIdeal.Gen.facts,
    Cert.Out.Gen.facts,
    Cert.OutIdeal.Gen.facts,
    Cert.OutRefIdeal.Gen.facts,
    Cert.Down.Gen.facts,
    Cert.DownIdeal.Gen.facts,
    Cert.DownRefIdeal.Gen.facts,
    Cert.Up.Gen.facts,
    Cert.UpIdeal.Gen.facts,
    Cert.UpRefIdeal.Gen.facts,
    Cert.FlashBwd.Gen.facts,
    Cert.FlashBwdIdeal.Gen.facts,
    Cert.FlashBwdRefIdeal.Gen.facts,
    Cert.Pre_finite_inputs.facts,
    Cert.Proof.merge_frame,
    Cert.Proof.merge_ideal_frame,
    Cert.Proof.merge_ref_frame,
    Cert.Proof.dup_frame,
    Cert.Proof.dup_ideal_frame,
    Cert.Proof.dup_ref_frame,
    Cert.Proof.dwDown_frame,
    Cert.Proof.dwDown_ideal_frame,
    Cert.Proof.dwDown_ref_frame,
    Cert.Proof.dwUp_frame,
    Cert.Proof.dwUp_ideal_frame,
    Cert.Proof.dwUp_ref_frame,
    Cert.Proof.dh2_frame,
    Cert.Proof.dh2_ideal_frame,
    Cert.Proof.dh2_ref_frame,
    Cert.Proof.dwOut_frame,
    Cert.Proof.dwOut_ideal_frame,
    Cert.Proof.dwOut_ref_frame,
    Cert.Proof.dmerged_frame,
    Cert.Proof.dmerged_ideal_frame,
    Cert.Proof.dmerged_ref_frame,
    Cert.Proof.dwProj_frame,
    Cert.Proof.dwProj_ideal_frame,
    Cert.Proof.dwProj_ref_frame,
    Cert.Proof.dact_frame,
    Cert.Proof.dact_ideal_frame,
    Cert.Proof.dact_ref_frame,
    Cert.Proof.dwUq_frame,
    Cert.Proof.dwUq_ideal_frame,
    Cert.Proof.dwUq_ref_frame,
    Cert.Proof.dqn_frame,
    Cert.Proof.dqn_ideal_frame,
    Cert.Proof.dqn_ref_frame,
    Cert.Proof.dwUkv_frame,
    Cert.Proof.dwUkv_ideal_frame,
    Cert.Proof.dwUkv_ref_frame,
    Cert.Proof.dkvn_frame,
    Cert.Proof.dkvn_ideal_frame,
    Cert.Proof.dkvn_ref_frame,
    Cert.Proof.dwA_frame,
    Cert.Proof.dwA_ideal_frame,
    Cert.Proof.dwA_ref_frame,
    Cert.Proof.dwG_frame,
    Cert.Proof.dwG_ideal_frame,
    Cert.Proof.dwG_ref_frame,
    Cert.Proof.dh1A_frame,
    Cert.Proof.dh1A_ideal_frame,
    Cert.Proof.dh1A_ref_frame,
    Cert.Proof.dh1G_frame,
    Cert.Proof.dh1G_ideal_frame,
    Cert.Proof.dh1G_ref_frame,
    Cert.Proof.za_frame,
    Cert.Proof.za_ideal_frame,
    Cert.Proof.za_ref_frame,
    Cert.Proof.zg_frame,
    Cert.Proof.zg_ideal_frame,
    Cert.Proof.zg_ref_frame,
    Cert.Proof.kv_frame,
    Cert.Proof.kv_ideal_frame,
    Cert.Proof.kv_ref_frame,
    Cert.Proof.out_frame,
    Cert.Proof.out_ideal_frame,
    Cert.Proof.out_ref_frame,
    Cert.Proof.down_frame,
    Cert.Proof.down_ideal_frame,
    Cert.Proof.down_ref_frame,
    Cert.Proof.up_frame,
    Cert.Proof.up_ideal_frame,
    Cert.Proof.up_ref_frame,
    Cert.Proof.flashBwd_frame,
    Cert.Proof.flashBwd_ideal_frame,
    Cert.Proof.flashBwd_ideal_frame_pre,
    Cert.Proof.flashBwd_ref_frame,
    Cert.Proof.flashBwd_ref_frame_pre,
    trivial,
    Cert.Proof.merge_algebraic,
    trivial,
    Cert.Proof.dup_algebraic,
    trivial,
    Cert.Proof.dwDown_algebraic,
    trivial,
    Cert.Proof.dwUp_algebraic,
    trivial,
    Cert.Proof.dh2_algebraic,
    trivial,
    Cert.Proof.dwOut_algebraic,
    trivial,
    Cert.Proof.dmerged_algebraic,
    trivial,
    Cert.Proof.dwProj_algebraic,
    trivial,
    Cert.Proof.dact_algebraic,
    trivial,
    Cert.Proof.dwUq_algebraic,
    trivial,
    Cert.Proof.dqn_algebraic,
    trivial,
    Cert.Proof.dwUkv_algebraic,
    trivial,
    Cert.Proof.dkvn_algebraic,
    trivial,
    Cert.Proof.dwA_algebraic,
    trivial,
    Cert.Proof.dwG_algebraic,
    trivial,
    Cert.Proof.dh1A_algebraic,
    trivial,
    Cert.Proof.dh1G_algebraic,
    trivial,
    Cert.Proof.za_algebraic,
    trivial,
    Cert.Proof.zg_algebraic,
    trivial,
    Cert.Proof.kv_algebraic,
    trivial,
    Cert.Proof.out_algebraic,
    trivial,
    Cert.Proof.down_algebraic,
    trivial,
    Cert.Proof.up_algebraic,
    trivial,
    Cert.Proof.flashBwd_algebraic⟩

end Cert.Proof

end

end
